-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_WeightIn (m : (ℓ : Loc Cert.WeightIn.nD Cert.WeightIn.τ Cert.WeightIn.sig) → Buf (Elt Bits) ℓ) : Prop :=
  True

def Pre_WeightInIdeal (m : (ℓ : Loc Cert.WeightInIdeal.nD Cert.WeightInIdeal.τ Cert.WeightInIdeal.sig) → Buf (Elt Ideal) ℓ) : Prop :=
  True

def Pre_WeightInReferenceIdeal (m : (ℓ : Loc Cert.WeightInReferenceIdeal.nD Cert.WeightInReferenceIdeal.τ Cert.WeightInReferenceIdeal.sig) → Buf (Elt Ideal) ℓ) : Prop :=
  True

def Pre_WeightOut (m : (ℓ : Loc Cert.WeightOut.nD Cert.WeightOut.τ Cert.WeightOut.sig) → Buf (Elt Bits) ℓ) : Prop :=
  True

def Pre_WeightOutIdeal (m : (ℓ : Loc Cert.WeightOutIdeal.nD Cert.WeightOutIdeal.τ Cert.WeightOutIdeal.sig) → Buf (Elt Ideal) ℓ) : Prop :=
  True

def Pre_WeightOutReferenceIdeal (m : (ℓ : Loc Cert.WeightOutReferenceIdeal.nD Cert.WeightOutReferenceIdeal.τ Cert.WeightOutReferenceIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedReferenceIdeal (m : (ℓ : Loc Cert.MergedReferenceIdeal.nD Cert.MergedReferenceIdeal.τ Cert.MergedReferenceIdeal.sig) → Buf (Elt Ideal) ℓ) : Prop :=
  True

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInReferenceIdeal (m : (ℓ : Loc Cert.BackInReferenceIdeal.nD Cert.BackInReferenceIdeal.τ Cert.BackInReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownReferenceIdeal (m : (ℓ : Loc Cert.MmDownReferenceIdeal.nD Cert.MmDownReferenceIdeal.τ Cert.MmDownReferenceIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInReferenceIdeal (m : (ℓ : Loc Cert.MmInReferenceIdeal.nD Cert.MmInReferenceIdeal.τ Cert.MmInReferenceIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutReferenceIdeal (m : (ℓ : Loc Cert.MmOutReferenceIdeal.nD Cert.MmOutReferenceIdeal.τ Cert.MmOutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormRes (m : (ℓ : Loc Cert.NormRes.nD Cert.NormRes.τ Cert.NormRes.sig) → Buf (Elt Bits) ℓ) : Prop :=
  True

def Pre_NormResIdeal (m : (ℓ : Loc Cert.NormResIdeal.nD Cert.NormResIdeal.τ Cert.NormResIdeal.sig) → Buf (Elt Ideal) ℓ) : Prop :=
  True

def Pre_NormResReferenceIdeal (m : (ℓ : Loc Cert.NormResReferenceIdeal.nD Cert.NormResReferenceIdeal.τ Cert.NormResReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_WeightIn [hWeightIn : Cert.WeightIn.Facts] : Prop :=
  ∀ (m : (ℓ : Loc Cert.WeightIn.nD Cert.WeightIn.τ Cert.WeightIn.sig) → Buf (Elt Bits) ℓ) (g : Dev Cert.WeightIn.nD → PrngReg), Pre_WeightIn m →
    θ_run (Cert.WeightIn.defs (F := Bits)) (onTc (τ := Cert.WeightIn.τ) (Cert.WeightIn.main (F := Bits))) ⟨m, fun _ => 0, g⟩ (fun r => (∀ c : Dev Cert.WeightIn.nD,
      r.2.mem ((c.tc : Thread Cert.WeightIn.nD Cert.WeightIn.τ).loc Cert.WeightIn.main_arg0) = m ((c.tc : Thread Cert.WeightIn.nD Cert.WeightIn.τ).loc Cert.WeightIn.main_arg0)
      ∧ r.2.mem ((c.tc : Thread Cert.WeightIn.nD Cert.WeightIn.τ).loc Cert.WeightIn.main_arg1) = m ((c.tc : Thread Cert.WeightIn.nD Cert.WeightIn.τ).loc Cert.WeightIn.main_arg1))
      ∧ r.2.sem = fun _ => 0)

def quiescent_WeightInIdeal [hWeightInIdeal : Cert.WeightInIdeal.Facts] : Prop :=
  ∀ (m : (ℓ : Loc Cert.WeightInIdeal.nD Cert.WeightInIdeal.τ Cert.WeightInIdeal.sig) → Buf (Elt Ideal) ℓ) (g : Dev Cert.WeightInIdeal.nD → PrngReg), Pre_WeightInIdeal m →
    θ_run (Cert.WeightInIdeal.defs (F := Ideal)) (onTc (τ := Cert.WeightInIdeal.τ) (Cert.WeightInIdeal.main (F := Ideal))) ⟨m, fun _ => 0, g⟩ (fun r => (∀ c : Dev Cert.WeightInIdeal.nD,
      r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
      ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ r.2.sem = fun _ => 0)

def quiescent_WeightInReferenceIdeal [hWeightInReferenceIdeal : Cert.WeightInReferenceIdeal.Facts] : Prop :=
  ∀ (m : (ℓ : Loc Cert.WeightInReferenceIdeal.nD Cert.WeightInReferenceIdeal.τ Cert.WeightInReferenceIdeal.sig) → Buf (Elt Ideal) ℓ) (g : Dev Cert.WeightInReferenceIdeal.nD → PrngReg), Pre_WeightInReferenceIdeal m →
    θ_run (Cert.WeightInReferenceIdeal.defs (F := Ideal)) (onTc (τ := Cert.WeightInReferenceIdeal.τ) (Cert.WeightInReferenceIdeal.main (F := Ideal))) ⟨m, fun _ => 0, g⟩ (fun r => (∀ c : Dev Cert.WeightInReferenceIdeal.nD,
      r.2.mem ((c.tc : Thread Cert.WeightInReferenceIdeal.nD Cert.WeightInReferenceIdeal.τ).loc Cert.WeightInReferenceIdeal.main_arg0) = m ((c.tc : Thread Cert.WeightInReferenceIdeal.nD Cert.WeightInReferenceIdeal.τ).loc Cert.WeightInReferenceIdeal.main_arg0)
      ∧ r.2.mem ((c.tc : Thread Cert.WeightInReferenceIdeal.nD Cert.WeightInReferenceIdeal.τ).loc Cert.WeightInReferenceIdeal.main_arg1) = m ((c.tc : Thread Cert.WeightInReferenceIdeal.nD Cert.WeightInReferenceIdeal.τ).loc Cert.WeightInReferenceIdeal.main_arg1))
      ∧ r.2.sem = fun _ => 0)

def quiescent_WeightOut [hWeightOut : Cert.WeightOut.Facts] : Prop :=
  ∀ (m : (ℓ : Loc Cert.WeightOut.nD Cert.WeightOut.τ Cert.WeightOut.sig) → Buf (Elt Bits) ℓ) (g : Dev Cert.WeightOut.nD → PrngReg), Pre_WeightOut m →
    θ_run (Cert.WeightOut.defs (F := Bits)) (onTc (τ := Cert.WeightOut.τ) (Cert.WeightOut.main (F := Bits))) ⟨m, fun _ => 0, g⟩ (fun r => (∀ c : Dev Cert.WeightOut.nD,
      r.2.mem ((c.tc : Thread Cert.WeightOut.nD Cert.WeightOut.τ).loc Cert.WeightOut.main_arg0) = m ((c.tc : Thread Cert.WeightOut.nD Cert.WeightOut.τ).loc Cert.WeightOut.main_arg0)
      ∧ r.2.mem ((c.tc : Thread Cert.WeightOut.nD Cert.WeightOut.τ).loc Cert.WeightOut.main_arg1) = m ((c.tc : Thread Cert.WeightOut.nD Cert.WeightOut.τ).loc Cert.WeightOut.main_arg1))
      ∧ r.2.sem = fun _ => 0)

def quiescent_WeightOutIdeal [hWeightOutIdeal : Cert.WeightOutIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg), Pre_WeightOutIdeal m →
    θ_run (Cert.WeightOutIdeal.defs (F := Ideal)) (onTc (τ := Cert.WeightOutIdeal.τ) (Cert.WeightOutIdeal.main (F := Ideal))) ⟨m, fun _ => 0, g⟩ (fun r => (∀ c : Dev Cert.WeightOutIdeal.nD,
      r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
      ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ r.2.sem = fun _ => 0)

def quiescent_WeightOutReferenceIdeal [hWeightOutReferenceIdeal : Cert.WeightOutReferenceIdeal.Facts] : Prop :=
  ∀ (m : (ℓ : Loc Cert.WeightOutReferenceIdeal.nD Cert.WeightOutReferenceIdeal.τ Cert.WeightOutReferenceIdeal.sig) → Buf (Elt Ideal) ℓ) (g : Dev Cert.WeightOutReferenceIdeal.nD → PrngReg), Pre_WeightOutReferenceIdeal m →
    θ_run (Cert.WeightOutReferenceIdeal.defs (F := Ideal)) (onTc (τ := Cert.WeightOutReferenceIdeal.τ) (Cert.WeightOutReferenceIdeal.main (F := Ideal))) ⟨m, fun _ => 0, g⟩ (fun r => (∀ c : Dev Cert.WeightOutReferenceIdeal.nD,
      r.2.mem ((c.tc : Thread Cert.WeightOutReferenceIdeal.nD Cert.WeightOutReferenceIdeal.τ).loc Cert.WeightOutReferenceIdeal.main_arg0) = m ((c.tc : Thread Cert.WeightOutReferenceIdeal.nD Cert.WeightOutReferenceIdeal.τ).loc Cert.WeightOutReferenceIdeal.main_arg0)
      ∧ r.2.mem ((c.tc : Thread Cert.WeightOutReferenceIdeal.nD Cert.WeightOutReferenceIdeal.τ).loc Cert.WeightOutReferenceIdeal.main_arg1) = m ((c.tc : Thread Cert.WeightOutReferenceIdeal.nD Cert.WeightOutReferenceIdeal.τ).loc Cert.WeightOutReferenceIdeal.main_arg1))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1))
      ∧ r.2.sem = fun _ => 0)

def quiescent_MergedReferenceIdeal [hMergedReferenceIdeal : Cert.MergedReferenceIdeal.Facts] : Prop :=
  ∀ (m : (ℓ : Loc Cert.MergedReferenceIdeal.nD Cert.MergedReferenceIdeal.τ Cert.MergedReferenceIdeal.sig) → Buf (Elt Ideal) ℓ) (g : Dev Cert.MergedReferenceIdeal.nD → PrngReg), Pre_MergedReferenceIdeal m →
    θ_run (Cert.MergedReferenceIdeal.defs (F := Ideal)) (onTc (τ := Cert.MergedReferenceIdeal.τ) (Cert.MergedReferenceIdeal.main (F := Ideal))) ⟨m, fun _ => 0, g⟩ (fun r => (∀ c : Dev Cert.MergedReferenceIdeal.nD,
      r.2.mem ((c.tc : Thread Cert.MergedReferenceIdeal.nD Cert.MergedReferenceIdeal.τ).loc Cert.MergedReferenceIdeal.main_arg0) = m ((c.tc : Thread Cert.MergedReferenceIdeal.nD Cert.MergedReferenceIdeal.τ).loc Cert.MergedReferenceIdeal.main_arg0)
      ∧ r.2.mem ((c.tc : Thread Cert.MergedReferenceIdeal.nD Cert.MergedReferenceIdeal.τ).loc Cert.MergedReferenceIdeal.main_arg1) = m ((c.tc : Thread Cert.MergedReferenceIdeal.nD Cert.MergedReferenceIdeal.τ).loc Cert.MergedReferenceIdeal.main_arg1))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ r.2.sem = fun _ => 0)

def quiescent_BackInReferenceIdeal [hBackInReferenceIdeal : Cert.BackInReferenceIdeal.Facts] : Prop :=
  ∀ (m : (ℓ : Loc Cert.BackInReferenceIdeal.nD Cert.BackInReferenceIdeal.τ Cert.BackInReferenceIdeal.sig) → Buf (Elt Ideal) ℓ) (g : Dev Cert.BackInReferenceIdeal.nD → PrngReg), Pre_BackInReferenceIdeal m →
    θ_run (Cert.BackInReferenceIdeal.defs (F := Ideal)) (onTc (τ := Cert.BackInReferenceIdeal.τ) (Cert.BackInReferenceIdeal.main (F := Ideal))) ⟨m, fun _ => 0, g⟩ (fun r => (∀ c : Dev Cert.BackInReferenceIdeal.nD,
      r.2.mem ((c.tc : Thread Cert.BackInReferenceIdeal.nD Cert.BackInReferenceIdeal.τ).loc Cert.BackInReferenceIdeal.main_arg0) = m ((c.tc : Thread Cert.BackInReferenceIdeal.nD Cert.BackInReferenceIdeal.τ).loc Cert.BackInReferenceIdeal.main_arg0)
      ∧ r.2.mem ((c.tc : Thread Cert.BackInReferenceIdeal.nD Cert.BackInReferenceIdeal.τ).loc Cert.BackInReferenceIdeal.main_arg1) = m ((c.tc : Thread Cert.BackInReferenceIdeal.nD Cert.BackInReferenceIdeal.τ).loc Cert.BackInReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownReferenceIdeal [hMmDownReferenceIdeal : Cert.MmDownReferenceIdeal.Facts] : Prop :=
  ∀ (m : (ℓ : Loc Cert.MmDownReferenceIdeal.nD Cert.MmDownReferenceIdeal.τ Cert.MmDownReferenceIdeal.sig) → Buf (Elt Ideal) ℓ) (g : Dev Cert.MmDownReferenceIdeal.nD → PrngReg), Pre_MmDownReferenceIdeal m →
    θ_run (Cert.MmDownReferenceIdeal.defs (F := Ideal)) (onTc (τ := Cert.MmDownReferenceIdeal.τ) (Cert.MmDownReferenceIdeal.main (F := Ideal))) ⟨m, fun _ => 0, g⟩ (fun r => (∀ c : Dev Cert.MmDownReferenceIdeal.nD,
      r.2.mem ((c.tc : Thread Cert.MmDownReferenceIdeal.nD Cert.MmDownReferenceIdeal.τ).loc Cert.MmDownReferenceIdeal.main_arg0) = m ((c.tc : Thread Cert.MmDownReferenceIdeal.nD Cert.MmDownReferenceIdeal.τ).loc Cert.MmDownReferenceIdeal.main_arg0)
      ∧ r.2.mem ((c.tc : Thread Cert.MmDownReferenceIdeal.nD Cert.MmDownReferenceIdeal.τ).loc Cert.MmDownReferenceIdeal.main_arg1) = m ((c.tc : Thread Cert.MmDownReferenceIdeal.nD Cert.MmDownReferenceIdeal.τ).loc Cert.MmDownReferenceIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInReferenceIdeal [hMmInReferenceIdeal : Cert.MmInReferenceIdeal.Facts] : Prop :=
  ∀ (m : (ℓ : Loc Cert.MmInReferenceIdeal.nD Cert.MmInReferenceIdeal.τ Cert.MmInReferenceIdeal.sig) → Buf (Elt Ideal) ℓ) (g : Dev Cert.MmInReferenceIdeal.nD → PrngReg), Pre_MmInReferenceIdeal m →
    θ_run (Cert.MmInReferenceIdeal.defs (F := Ideal)) (onTc (τ := Cert.MmInReferenceIdeal.τ) (Cert.MmInReferenceIdeal.main (F := Ideal))) ⟨m, fun _ => 0, g⟩ (fun r => (∀ c : Dev Cert.MmInReferenceIdeal.nD,
      r.2.mem ((c.tc : Thread Cert.MmInReferenceIdeal.nD Cert.MmInReferenceIdeal.τ).loc Cert.MmInReferenceIdeal.main_arg0) = m ((c.tc : Thread Cert.MmInReferenceIdeal.nD Cert.MmInReferenceIdeal.τ).loc Cert.MmInReferenceIdeal.main_arg0)
      ∧ r.2.mem ((c.tc : Thread Cert.MmInReferenceIdeal.nD Cert.MmInReferenceIdeal.τ).loc Cert.MmInReferenceIdeal.main_arg1) = m ((c.tc : Thread Cert.MmInReferenceIdeal.nD Cert.MmInReferenceIdeal.τ).loc Cert.MmInReferenceIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutReferenceIdeal [hMmOutReferenceIdeal : Cert.MmOutReferenceIdeal.Facts] : Prop :=
  ∀ (m : (ℓ : Loc Cert.MmOutReferenceIdeal.nD Cert.MmOutReferenceIdeal.τ Cert.MmOutReferenceIdeal.sig) → Buf (Elt Ideal) ℓ) (g : Dev Cert.MmOutReferenceIdeal.nD → PrngReg), Pre_MmOutReferenceIdeal m →
    θ_run (Cert.MmOutReferenceIdeal.defs (F := Ideal)) (onTc (τ := Cert.MmOutReferenceIdeal.τ) (Cert.MmOutReferenceIdeal.main (F := Ideal))) ⟨m, fun _ => 0, g⟩ (fun r => (∀ c : Dev Cert.MmOutReferenceIdeal.nD,
      r.2.mem ((c.tc : Thread Cert.MmOutReferenceIdeal.nD Cert.MmOutReferenceIdeal.τ).loc Cert.MmOutReferenceIdeal.main_arg0) = m ((c.tc : Thread Cert.MmOutReferenceIdeal.nD Cert.MmOutReferenceIdeal.τ).loc Cert.MmOutReferenceIdeal.main_arg0)
      ∧ r.2.mem ((c.tc : Thread Cert.MmOutReferenceIdeal.nD Cert.MmOutReferenceIdeal.τ).loc Cert.MmOutReferenceIdeal.main_arg1) = m ((c.tc : Thread Cert.MmOutReferenceIdeal.nD Cert.MmOutReferenceIdeal.τ).loc Cert.MmOutReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_NormRes [hNormRes : Cert.NormRes.Facts] : Prop :=
  ∀ (m : (ℓ : Loc Cert.NormRes.nD Cert.NormRes.τ Cert.NormRes.sig) → Buf (Elt Bits) ℓ) (g : Dev Cert.NormRes.nD → PrngReg), Pre_NormRes m →
    θ_run (Cert.NormRes.defs (F := Bits)) (onTc (τ := Cert.NormRes.τ) (Cert.NormRes.main (F := Bits))) ⟨m, fun _ => 0, g⟩ (fun r => (∀ c : Dev Cert.NormRes.nD,
      r.2.mem ((c.tc : Thread Cert.NormRes.nD Cert.NormRes.τ).loc Cert.NormRes.main_arg0) = m ((c.tc : Thread Cert.NormRes.nD Cert.NormRes.τ).loc Cert.NormRes.main_arg0)
      ∧ r.2.mem ((c.tc : Thread Cert.NormRes.nD Cert.NormRes.τ).loc Cert.NormRes.main_arg1) = m ((c.tc : Thread Cert.NormRes.nD Cert.NormRes.τ).loc Cert.NormRes.main_arg1)
      ∧ r.2.mem ((c.tc : Thread Cert.NormRes.nD Cert.NormRes.τ).loc Cert.NormRes.main_arg2) = m ((c.tc : Thread Cert.NormRes.nD Cert.NormRes.τ).loc Cert.NormRes.main_arg2)
      ∧ r.2.mem ((c.tc : Thread Cert.NormRes.nD Cert.NormRes.τ).loc Cert.NormRes.main_arg3) = m ((c.tc : Thread Cert.NormRes.nD Cert.NormRes.τ).loc Cert.NormRes.main_arg3))
      ∧ r.2.sem = fun _ => 0)

def quiescent_NormResIdeal [hNormResIdeal : Cert.NormResIdeal.Facts] : Prop :=
  ∀ (m : (ℓ : Loc Cert.NormResIdeal.nD Cert.NormResIdeal.τ Cert.NormResIdeal.sig) → Buf (Elt Ideal) ℓ) (g : Dev Cert.NormResIdeal.nD → PrngReg), Pre_NormResIdeal m →
    θ_run (Cert.NormResIdeal.defs (F := Ideal)) (onTc (τ := Cert.NormResIdeal.τ) (Cert.NormResIdeal.main (F := Ideal))) ⟨m, fun _ => 0, g⟩ (fun r => (∀ c : Dev Cert.NormResIdeal.nD,
      r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
      ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
      ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
      ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ r.2.sem = fun _ => 0)

def quiescent_NormResReferenceIdeal [hNormResReferenceIdeal : Cert.NormResReferenceIdeal.Facts] : Prop :=
  ∀ (m : (ℓ : Loc Cert.NormResReferenceIdeal.nD Cert.NormResReferenceIdeal.τ Cert.NormResReferenceIdeal.sig) → Buf (Elt Ideal) ℓ) (g : Dev Cert.NormResReferenceIdeal.nD → PrngReg), Pre_NormResReferenceIdeal m →
    θ_run (Cert.NormResReferenceIdeal.defs (F := Ideal)) (onTc (τ := Cert.NormResReferenceIdeal.τ) (Cert.NormResReferenceIdeal.main (F := Ideal))) ⟨m, fun _ => 0, g⟩ (fun r => (∀ c : Dev Cert.NormResReferenceIdeal.nD,
      r.2.mem ((c.tc : Thread Cert.NormResReferenceIdeal.nD Cert.NormResReferenceIdeal.τ).loc Cert.NormResReferenceIdeal.main_arg0) = m ((c.tc : Thread Cert.NormResReferenceIdeal.nD Cert.NormResReferenceIdeal.τ).loc Cert.NormResReferenceIdeal.main_arg0)
      ∧ r.2.mem ((c.tc : Thread Cert.NormResReferenceIdeal.nD Cert.NormResReferenceIdeal.τ).loc Cert.NormResReferenceIdeal.main_arg1) = m ((c.tc : Thread Cert.NormResReferenceIdeal.nD Cert.NormResReferenceIdeal.τ).loc Cert.NormResReferenceIdeal.main_arg1)
      ∧ r.2.mem ((c.tc : Thread Cert.NormResReferenceIdeal.nD Cert.NormResReferenceIdeal.τ).loc Cert.NormResReferenceIdeal.main_arg2) = m ((c.tc : Thread Cert.NormResReferenceIdeal.nD Cert.NormResReferenceIdeal.τ).loc Cert.NormResReferenceIdeal.main_arg2)
      ∧ r.2.mem ((c.tc : Thread Cert.NormResReferenceIdeal.nD Cert.NormResReferenceIdeal.τ).loc Cert.NormResReferenceIdeal.main_arg3) = m ((c.tc : Thread Cert.NormResReferenceIdeal.nD Cert.NormResReferenceIdeal.τ).loc Cert.NormResReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateReferenceIdeal_pre_finite_gate [hGateIdeal : Cert.GateIdeal.Facts] [hGateReferenceIdeal : Cert.GateReferenceIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite_gate m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v7) = v0 c
          ∧ r.2.mem ((c.tc : Thread Cert.GateReferenceIdeal.nD Cert.GateReferenceIdeal.τ).loc Cert.GateReferenceIdeal.main_v8) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v2)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v2) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v6) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1))

def algebraic_WeightIdeal_DownReferenceIdeal [hWeightIdeal : Cert.WeightIdeal.Facts] [hDownReferenceIdeal : Cert.DownReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_WeightIdeal m →
    (∀ c : Dev Cert.WeightIdeal.nD,
      m' ((c.tc : Thread Cert.DownReferenceIdeal.nD Cert.DownReferenceIdeal.τ).loc Cert.DownReferenceIdeal.main_arg0) = m ((c.tc : Thread Cert.WeightIdeal.nD Cert.WeightIdeal.τ).loc Cert.WeightIdeal.main_arg0)
      ∧ m' ((c.tc : Thread Cert.DownReferenceIdeal.nD Cert.DownReferenceIdeal.τ).loc Cert.DownReferenceIdeal.main_arg1) = m ((c.tc : Thread Cert.WeightIdeal.nD Cert.WeightIdeal.τ).loc Cert.WeightIdeal.main_arg1)) →
    ∃ (v0 : (c : Dev Cert.WeightIdeal.nD) → Buf (Elt Ideal) ((c.tc : Thread Cert.WeightIdeal.nD Cert.WeightIdeal.τ).loc Cert.WeightIdeal.main_v2)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v2) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_WeightIn_WeightInIdeal : Prop :=
  True

def algebraic_WeightInIdeal_WeightInReferenceIdeal [hWeightInIdeal : Cert.WeightInIdeal.Facts] [hWeightInReferenceIdeal : Cert.WeightInReferenceIdeal.Facts] : Prop :=
  ∀ (m : (ℓ : Loc Cert.WeightInIdeal.nD Cert.WeightInIdeal.τ Cert.WeightInIdeal.sig) → Buf (Elt Ideal) ℓ) (g : Dev Cert.WeightInIdeal.nD → PrngReg)
    (m' : (ℓ : Loc Cert.WeightInReferenceIdeal.nD Cert.WeightInReferenceIdeal.τ Cert.WeightInReferenceIdeal.sig) → Buf (Elt Ideal) ℓ) (g' : Dev Cert.WeightInReferenceIdeal.nD → PrngReg), Pre_WeightInIdeal m →
    (∀ c : Dev Cert.WeightInIdeal.nD,
      m' ((c.tc : Thread Cert.WeightInReferenceIdeal.nD Cert.WeightInReferenceIdeal.τ).loc Cert.WeightInReferenceIdeal.main_arg0) = m ((c.tc : Thread Cert.WeightInIdeal.nD Cert.WeightInIdeal.τ).loc Cert.WeightInIdeal.main_arg0)
      ∧ m' ((c.tc : Thread Cert.WeightInReferenceIdeal.nD Cert.WeightInReferenceIdeal.τ).loc Cert.WeightInReferenceIdeal.main_arg1) = m ((c.tc : Thread Cert.WeightInIdeal.nD Cert.WeightInIdeal.τ).loc Cert.WeightInIdeal.main_arg1)) →
    ∃ (v0 : (c : Dev Cert.WeightInIdeal.nD) → Buf (Elt Ideal) ((c.tc : Thread Cert.WeightInIdeal.nD Cert.WeightInIdeal.τ).loc Cert.WeightInIdeal.main_v2)),
      θ_run (Cert.WeightInIdeal.defs (F := Ideal)) (onTc (τ := Cert.WeightInIdeal.τ) (Cert.WeightInIdeal.main (F := Ideal))) ⟨m, fun _ => 0, g⟩ (fun r => ∀ c : Dev Cert.WeightInIdeal.nD,
          r.2.mem ((c.tc : Thread Cert.WeightInIdeal.nD Cert.WeightInIdeal.τ).loc Cert.WeightInIdeal.main_v2) = v0 c
          ∧ r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
          ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ θ_run (Cert.WeightInReferenceIdeal.defs (F := Ideal)) (onTc (τ := Cert.WeightInReferenceIdeal.τ) (Cert.WeightInReferenceIdeal.main (F := Ideal))) ⟨m', fun _ => 0, g'⟩ (fun r => ∀ c : Dev Cert.WeightInReferenceIdeal.nD,
          r.2.mem ((c.tc : Thread Cert.WeightInReferenceIdeal.nD Cert.WeightInReferenceIdeal.τ).loc Cert.WeightInReferenceIdeal.main_v6) = v0 c
          ∧ r.2.mem ((c.tc : Thread Cert.WeightInReferenceIdeal.nD Cert.WeightInReferenceIdeal.τ).loc Cert.WeightInReferenceIdeal.main_arg0) = m' ((c.tc : Thread Cert.WeightInReferenceIdeal.nD Cert.WeightInReferenceIdeal.τ).loc Cert.WeightInReferenceIdeal.main_arg0)
          ∧ r.2.mem ((c.tc : Thread Cert.WeightInReferenceIdeal.nD Cert.WeightInReferenceIdeal.τ).loc Cert.WeightInReferenceIdeal.main_arg1) = m' ((c.tc : Thread Cert.WeightInReferenceIdeal.nD Cert.WeightInReferenceIdeal.τ).loc Cert.WeightInReferenceIdeal.main_arg1))

def preserves_WeightOut_WeightOutIdeal : Prop :=
  True

def algebraic_WeightOutIdeal_WeightOutReferenceIdeal [hWeightOutIdeal : Cert.WeightOutIdeal.Facts] [hWeightOutReferenceIdeal : Cert.WeightOutReferenceIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg)
    (m' : (ℓ : Loc Cert.WeightOutReferenceIdeal.nD Cert.WeightOutReferenceIdeal.τ Cert.WeightOutReferenceIdeal.sig) → Buf (Elt Ideal) ℓ) (g' : Dev Cert.WeightOutReferenceIdeal.nD → PrngReg), Pre_WeightOutIdeal m →
    (∀ c : Dev Cert.WeightOutIdeal.nD,
      m' ((c.tc : Thread Cert.WeightOutReferenceIdeal.nD Cert.WeightOutReferenceIdeal.τ).loc Cert.WeightOutReferenceIdeal.main_arg0) = m ((c.tc : Thread Cert.WeightOutIdeal.nD Cert.WeightOutIdeal.τ).loc Cert.WeightOutIdeal.main_arg0)
      ∧ m' ((c.tc : Thread Cert.WeightOutReferenceIdeal.nD Cert.WeightOutReferenceIdeal.τ).loc Cert.WeightOutReferenceIdeal.main_arg1) = m ((c.tc : Thread Cert.WeightOutIdeal.nD Cert.WeightOutIdeal.τ).loc Cert.WeightOutIdeal.main_arg1)) →
    ∃ (v0 : (c : Dev Cert.WeightOutIdeal.nD) → Buf (Elt Ideal) ((c.tc : Thread Cert.WeightOutIdeal.nD Cert.WeightOutIdeal.τ).loc Cert.WeightOutIdeal.main_v2)),
      θ_run (Cert.WeightOutIdeal.defs (F := Ideal)) (onTc (τ := Cert.WeightOutIdeal.τ) (Cert.WeightOutIdeal.main (F := Ideal))) ⟨m, fun _ => 0, g⟩ (fun r => ∀ c : Dev Cert.WeightOutIdeal.nD,
          r.2.mem ((c.tc : Thread Cert.WeightOutIdeal.nD Cert.WeightOutIdeal.τ).loc Cert.WeightOutIdeal.main_v2) = v0 c
          ∧ r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
          ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ θ_run (Cert.WeightOutReferenceIdeal.defs (F := Ideal)) (onTc (τ := Cert.WeightOutReferenceIdeal.τ) (Cert.WeightOutReferenceIdeal.main (F := Ideal))) ⟨m', fun _ => 0, g'⟩ (fun r => ∀ c : Dev Cert.WeightOutReferenceIdeal.nD,
          r.2.mem ((c.tc : Thread Cert.WeightOutReferenceIdeal.nD Cert.WeightOutReferenceIdeal.τ).loc Cert.WeightOutReferenceIdeal.main_v4) = v0 c
          ∧ r.2.mem ((c.tc : Thread Cert.WeightOutReferenceIdeal.nD Cert.WeightOutReferenceIdeal.τ).loc Cert.WeightOutReferenceIdeal.main_arg0) = m' ((c.tc : Thread Cert.WeightOutReferenceIdeal.nD Cert.WeightOutReferenceIdeal.τ).loc Cert.WeightOutReferenceIdeal.main_arg0)
          ∧ r.2.mem ((c.tc : Thread Cert.WeightOutReferenceIdeal.nD Cert.WeightOutReferenceIdeal.τ).loc Cert.WeightOutReferenceIdeal.main_arg1) = m' ((c.tc : Thread Cert.WeightOutReferenceIdeal.nD Cert.WeightOutReferenceIdeal.τ).loc Cert.WeightOutReferenceIdeal.main_arg1))

def preserves_Merged_MergedIdeal : Prop :=
  True

def algebraic_MergedIdeal_MergedReferenceIdeal [hMergedIdeal : Cert.MergedIdeal.Facts] [hMergedReferenceIdeal : Cert.MergedReferenceIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedReferenceIdeal.nD Cert.MergedReferenceIdeal.τ Cert.MergedReferenceIdeal.sig) → Buf (Elt Ideal) ℓ) (g' : Dev Cert.MergedReferenceIdeal.nD → PrngReg), Pre_MergedIdeal m →
    (∀ c : Dev Cert.MergedIdeal.nD,
      m' ((c.tc : Thread Cert.MergedReferenceIdeal.nD Cert.MergedReferenceIdeal.τ).loc Cert.MergedReferenceIdeal.main_arg0) = m ((c.tc : Thread Cert.MergedIdeal.nD Cert.MergedIdeal.τ).loc Cert.MergedIdeal.main_arg0)
      ∧ m' ((c.tc : Thread Cert.MergedReferenceIdeal.nD Cert.MergedReferenceIdeal.τ).loc Cert.MergedReferenceIdeal.main_arg1) = m ((c.tc : Thread Cert.MergedIdeal.nD Cert.MergedIdeal.τ).loc Cert.MergedIdeal.main_arg1)) →
    ∃ (v0 : (c : Dev Cert.MergedIdeal.nD) → Buf (Elt Ideal) ((c.tc : Thread Cert.MergedIdeal.nD Cert.MergedIdeal.τ).loc Cert.MergedIdeal.main_v2)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v2) = v0 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1))
      ∧ θ_run (Cert.MergedReferenceIdeal.defs (F := Ideal)) (onTc (τ := Cert.MergedReferenceIdeal.τ) (Cert.MergedReferenceIdeal.main (F := Ideal))) ⟨m', fun _ => 0, g'⟩ (fun r => ∀ c : Dev Cert.MergedReferenceIdeal.nD,
          r.2.mem ((c.tc : Thread Cert.MergedReferenceIdeal.nD Cert.MergedReferenceIdeal.τ).loc Cert.MergedReferenceIdeal.main_v2) = v0 c
          ∧ r.2.mem ((c.tc : Thread Cert.MergedReferenceIdeal.nD Cert.MergedReferenceIdeal.τ).loc Cert.MergedReferenceIdeal.main_arg0) = m' ((c.tc : Thread Cert.MergedReferenceIdeal.nD Cert.MergedReferenceIdeal.τ).loc Cert.MergedReferenceIdeal.main_arg0)
          ∧ r.2.mem ((c.tc : Thread Cert.MergedReferenceIdeal.nD Cert.MergedReferenceIdeal.τ).loc Cert.MergedReferenceIdeal.main_arg1) = m' ((c.tc : Thread Cert.MergedReferenceIdeal.nD Cert.MergedReferenceIdeal.τ).loc Cert.MergedReferenceIdeal.main_arg1))

def preserves_BackIn_BackInIdeal : Prop :=
  True

def algebraic_BackInIdeal_BackInReferenceIdeal [hBackInIdeal : Cert.BackInIdeal.Facts] [hBackInReferenceIdeal : Cert.BackInReferenceIdeal.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.BackInReferenceIdeal.nD Cert.BackInReferenceIdeal.τ Cert.BackInReferenceIdeal.sig) → Buf (Elt Ideal) ℓ) (g' : Dev Cert.BackInReferenceIdeal.nD → PrngReg), Pre_BackInIdeal m →
    (∀ c : Dev Cert.BackInIdeal.nD,
      m' ((c.tc : Thread Cert.BackInReferenceIdeal.nD Cert.BackInReferenceIdeal.τ).loc Cert.BackInReferenceIdeal.main_arg0) = m ((c.tc : Thread Cert.BackInIdeal.nD Cert.BackInIdeal.τ).loc Cert.BackInIdeal.main_arg0)
      ∧ m' ((c.tc : Thread Cert.BackInReferenceIdeal.nD Cert.BackInReferenceIdeal.τ).loc Cert.BackInReferenceIdeal.main_arg1) = m ((c.tc : Thread Cert.BackInIdeal.nD Cert.BackInIdeal.τ).loc Cert.BackInIdeal.main_arg1)) →
    ∃ (v0 : (c : Dev Cert.BackInIdeal.nD) → Buf (Elt Ideal) ((c.tc : Thread Cert.BackInIdeal.nD Cert.BackInIdeal.τ).loc Cert.BackInIdeal.main_v2)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v2) = v0 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ θ_run (Cert.BackInReferenceIdeal.defs (F := Ideal)) (onTc (τ := Cert.BackInReferenceIdeal.τ) (Cert.BackInReferenceIdeal.main (F := Ideal))) ⟨m', fun _ => 0, g'⟩ (fun r => ∀ c : Dev Cert.BackInReferenceIdeal.nD,
          r.2.mem ((c.tc : Thread Cert.BackInReferenceIdeal.nD Cert.BackInReferenceIdeal.τ).loc Cert.BackInReferenceIdeal.main_v3) = v0 c
          ∧ r.2.mem ((c.tc : Thread Cert.BackInReferenceIdeal.nD Cert.BackInReferenceIdeal.τ).loc Cert.BackInReferenceIdeal.main_arg0) = m' ((c.tc : Thread Cert.BackInReferenceIdeal.nD Cert.BackInReferenceIdeal.τ).loc Cert.BackInReferenceIdeal.main_arg0)
          ∧ r.2.mem ((c.tc : Thread Cert.BackInReferenceIdeal.nD Cert.BackInReferenceIdeal.τ).loc Cert.BackInReferenceIdeal.main_arg1) = m' ((c.tc : Thread Cert.BackInReferenceIdeal.nD Cert.BackInReferenceIdeal.τ).loc Cert.BackInReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v3_0)) (v1 : (c : Dev Cert.GluIdeal.nD) → Buf (Elt Ideal) ((c.tc : Thread Cert.GluIdeal.nD Cert.GluIdeal.τ).loc Cert.GluIdeal.main_v3_1)) (v2 : (c : Dev Cert.GluIdeal.nD) → Buf (Elt Ideal) ((c.tc : Thread Cert.GluIdeal.nD Cert.GluIdeal.τ).loc Cert.GluIdeal.main_v3_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3_0) = v0 c
          ∧ r.2.mem ((c.tc : Thread Cert.GluIdeal.nD Cert.GluIdeal.τ).loc Cert.GluIdeal.main_v3_1) = v1 c
          ∧ r.2.mem ((c.tc : Thread Cert.GluIdeal.nD Cert.GluIdeal.τ).loc Cert.GluIdeal.main_v3_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v1) = v0 c
          ∧ r.2.mem ((c.tc : Thread Cert.GluReferenceIdeal.nD Cert.GluReferenceIdeal.τ).loc Cert.GluReferenceIdeal.main_v3) = v1 c
          ∧ r.2.mem ((c.tc : Thread Cert.GluReferenceIdeal.nD Cert.GluReferenceIdeal.τ).loc Cert.GluReferenceIdeal.main_v6) = v2 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_MmDown_MmDownIdeal : Prop :=
  True

def algebraic_MmDownIdeal_MmDownReferenceIdeal [hMmDownIdeal : Cert.MmDownIdeal.Facts] [hMmDownReferenceIdeal : Cert.MmDownReferenceIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownReferenceIdeal.nD Cert.MmDownReferenceIdeal.τ Cert.MmDownReferenceIdeal.sig) → Buf (Elt Ideal) ℓ) (g' : Dev Cert.MmDownReferenceIdeal.nD → PrngReg), Pre_MmDownIdeal m →
    (∀ c : Dev Cert.MmDownIdeal.nD,
      m' ((c.tc : Thread Cert.MmDownReferenceIdeal.nD Cert.MmDownReferenceIdeal.τ).loc Cert.MmDownReferenceIdeal.main_arg0) = m ((c.tc : Thread Cert.MmDownIdeal.nD Cert.MmDownIdeal.τ).loc Cert.MmDownIdeal.main_arg0)
      ∧ m' ((c.tc : Thread Cert.MmDownReferenceIdeal.nD Cert.MmDownReferenceIdeal.τ).loc Cert.MmDownReferenceIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v2)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v2) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownReferenceIdeal.defs (F := Ideal)) (onTc (τ := Cert.MmDownReferenceIdeal.τ) (Cert.MmDownReferenceIdeal.main (F := Ideal))) ⟨m', fun _ => 0, g'⟩ (fun r => ∀ c : Dev Cert.MmDownReferenceIdeal.nD,
          r.2.mem ((c.tc : Thread Cert.MmDownReferenceIdeal.nD Cert.MmDownReferenceIdeal.τ).loc Cert.MmDownReferenceIdeal.main_v0) = v0 c
          ∧ r.2.mem ((c.tc : Thread Cert.MmDownReferenceIdeal.nD Cert.MmDownReferenceIdeal.τ).loc Cert.MmDownReferenceIdeal.main_arg0) = m' ((c.tc : Thread Cert.MmDownReferenceIdeal.nD Cert.MmDownReferenceIdeal.τ).loc Cert.MmDownReferenceIdeal.main_arg0)
          ∧ r.2.mem ((c.tc : Thread Cert.MmDownReferenceIdeal.nD Cert.MmDownReferenceIdeal.τ).loc Cert.MmDownReferenceIdeal.main_arg1) = m' ((c.tc : Thread Cert.MmDownReferenceIdeal.nD Cert.MmDownReferenceIdeal.τ).loc Cert.MmDownReferenceIdeal.main_arg1))

def preserves_MmIn_MmInIdeal : Prop :=
  True

def algebraic_MmInIdeal_MmInReferenceIdeal [hMmInIdeal : Cert.MmInIdeal.Facts] [hMmInReferenceIdeal : Cert.MmInReferenceIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInReferenceIdeal.nD Cert.MmInReferenceIdeal.τ Cert.MmInReferenceIdeal.sig) → Buf (Elt Ideal) ℓ) (g' : Dev Cert.MmInReferenceIdeal.nD → PrngReg), Pre_MmInIdeal m →
    (∀ c : Dev Cert.MmInIdeal.nD,
      m' ((c.tc : Thread Cert.MmInReferenceIdeal.nD Cert.MmInReferenceIdeal.τ).loc Cert.MmInReferenceIdeal.main_arg0) = m ((c.tc : Thread Cert.MmInIdeal.nD Cert.MmInIdeal.τ).loc Cert.MmInIdeal.main_arg0)
      ∧ m' ((c.tc : Thread Cert.MmInReferenceIdeal.nD Cert.MmInReferenceIdeal.τ).loc Cert.MmInReferenceIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v2)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v2) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInReferenceIdeal.defs (F := Ideal)) (onTc (τ := Cert.MmInReferenceIdeal.τ) (Cert.MmInReferenceIdeal.main (F := Ideal))) ⟨m', fun _ => 0, g'⟩ (fun r => ∀ c : Dev Cert.MmInReferenceIdeal.nD,
          r.2.mem ((c.tc : Thread Cert.MmInReferenceIdeal.nD Cert.MmInReferenceIdeal.τ).loc Cert.MmInReferenceIdeal.main_v1) = v0 c
          ∧ r.2.mem ((c.tc : Thread Cert.MmInReferenceIdeal.nD Cert.MmInReferenceIdeal.τ).loc Cert.MmInReferenceIdeal.main_arg0) = m' ((c.tc : Thread Cert.MmInReferenceIdeal.nD Cert.MmInReferenceIdeal.τ).loc Cert.MmInReferenceIdeal.main_arg0)
          ∧ r.2.mem ((c.tc : Thread Cert.MmInReferenceIdeal.nD Cert.MmInReferenceIdeal.τ).loc Cert.MmInReferenceIdeal.main_arg1) = m' ((c.tc : Thread Cert.MmInReferenceIdeal.nD Cert.MmInReferenceIdeal.τ).loc Cert.MmInReferenceIdeal.main_arg1))

def preserves_MmOut_MmOutIdeal : Prop :=
  True

def algebraic_MmOutIdeal_MmOutReferenceIdeal [hMmOutIdeal : Cert.MmOutIdeal.Facts] [hMmOutReferenceIdeal : Cert.MmOutReferenceIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutReferenceIdeal.nD Cert.MmOutReferenceIdeal.τ Cert.MmOutReferenceIdeal.sig) → Buf (Elt Ideal) ℓ) (g' : Dev Cert.MmOutReferenceIdeal.nD → PrngReg), Pre_MmOutIdeal m →
    (∀ c : Dev Cert.MmOutIdeal.nD,
      m' ((c.tc : Thread Cert.MmOutReferenceIdeal.nD Cert.MmOutReferenceIdeal.τ).loc Cert.MmOutReferenceIdeal.main_arg0) = m ((c.tc : Thread Cert.MmOutIdeal.nD Cert.MmOutIdeal.τ).loc Cert.MmOutIdeal.main_arg0)
      ∧ m' ((c.tc : Thread Cert.MmOutReferenceIdeal.nD Cert.MmOutReferenceIdeal.τ).loc Cert.MmOutReferenceIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v2)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v2) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutReferenceIdeal.defs (F := Ideal)) (onTc (τ := Cert.MmOutReferenceIdeal.τ) (Cert.MmOutReferenceIdeal.main (F := Ideal))) ⟨m', fun _ => 0, g'⟩ (fun r => ∀ c : Dev Cert.MmOutReferenceIdeal.nD,
          r.2.mem ((c.tc : Thread Cert.MmOutReferenceIdeal.nD Cert.MmOutReferenceIdeal.τ).loc Cert.MmOutReferenceIdeal.main_v0) = v0 c
          ∧ r.2.mem ((c.tc : Thread Cert.MmOutReferenceIdeal.nD Cert.MmOutReferenceIdeal.τ).loc Cert.MmOutReferenceIdeal.main_arg0) = m' ((c.tc : Thread Cert.MmOutReferenceIdeal.nD Cert.MmOutReferenceIdeal.τ).loc Cert.MmOutReferenceIdeal.main_arg0)
          ∧ r.2.mem ((c.tc : Thread Cert.MmOutReferenceIdeal.nD Cert.MmOutReferenceIdeal.τ).loc Cert.MmOutReferenceIdeal.main_arg1) = m' ((c.tc : Thread Cert.MmOutReferenceIdeal.nD Cert.MmOutReferenceIdeal.τ).loc Cert.MmOutReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v34) = v0 c
          ∧ r.2.mem ((c.tc : Thread Cert.NormReferenceIdeal.nD Cert.NormReferenceIdeal.τ).loc Cert.NormReferenceIdeal.main_v17) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_NormRes_NormResIdeal : Prop :=
  True

def algebraic_NormResIdeal_NormResReferenceIdeal [hNormResIdeal : Cert.NormResIdeal.Facts] [hNormResReferenceIdeal : Cert.NormResReferenceIdeal.Facts] : Prop :=
  ∀ (m : (ℓ : Loc Cert.NormResIdeal.nD Cert.NormResIdeal.τ Cert.NormResIdeal.sig) → Buf (Elt Ideal) ℓ) (g : Dev Cert.NormResIdeal.nD → PrngReg)
    (m' : (ℓ : Loc Cert.NormResReferenceIdeal.nD Cert.NormResReferenceIdeal.τ Cert.NormResReferenceIdeal.sig) → Buf (Elt Ideal) ℓ) (g' : Dev Cert.NormResReferenceIdeal.nD → PrngReg), Pre_NormResIdeal m →
    (∀ c : Dev Cert.NormResIdeal.nD,
      m' ((c.tc : Thread Cert.NormResReferenceIdeal.nD Cert.NormResReferenceIdeal.τ).loc Cert.NormResReferenceIdeal.main_arg0) = m ((c.tc : Thread Cert.NormResIdeal.nD Cert.NormResIdeal.τ).loc Cert.NormResIdeal.main_arg0)
      ∧ m' ((c.tc : Thread Cert.NormResReferenceIdeal.nD Cert.NormResReferenceIdeal.τ).loc Cert.NormResReferenceIdeal.main_arg1) = m ((c.tc : Thread Cert.NormResIdeal.nD Cert.NormResIdeal.τ).loc Cert.NormResIdeal.main_arg1)
      ∧ m' ((c.tc : Thread Cert.NormResReferenceIdeal.nD Cert.NormResReferenceIdeal.τ).loc Cert.NormResReferenceIdeal.main_arg2) = m ((c.tc : Thread Cert.NormResIdeal.nD Cert.NormResIdeal.τ).loc Cert.NormResIdeal.main_arg2)
      ∧ m' ((c.tc : Thread Cert.NormResReferenceIdeal.nD Cert.NormResReferenceIdeal.τ).loc Cert.NormResReferenceIdeal.main_arg3) = m ((c.tc : Thread Cert.NormResIdeal.nD Cert.NormResIdeal.τ).loc Cert.NormResIdeal.main_arg3)) →
    ∃ (v0 : (c : Dev Cert.NormResIdeal.nD) → Buf (Elt Ideal) ((c.tc : Thread Cert.NormResIdeal.nD Cert.NormResIdeal.τ).loc Cert.NormResIdeal.main_v0_0)) (v1 : (c : Dev Cert.NormResIdeal.nD) → Buf (Elt Ideal) ((c.tc : Thread Cert.NormResIdeal.nD Cert.NormResIdeal.τ).loc Cert.NormResIdeal.main_v0_1)),
      θ_run (Cert.NormResIdeal.defs (F := Ideal)) (onTc (τ := Cert.NormResIdeal.τ) (Cert.NormResIdeal.main (F := Ideal))) ⟨m, fun _ => 0, g⟩ (fun r => ∀ c : Dev Cert.NormResIdeal.nD,
          r.2.mem ((c.tc : Thread Cert.NormResIdeal.nD Cert.NormResIdeal.τ).loc Cert.NormResIdeal.main_v0_0) = v0 c
          ∧ r.2.mem ((c.tc : Thread Cert.NormResIdeal.nD Cert.NormResIdeal.τ).loc Cert.NormResIdeal.main_v0_1) = v1 c
          ∧ r.2.mem ((c.tc : Thread Cert.NormResIdeal.nD Cert.NormResIdeal.τ).loc Cert.NormResIdeal.main_arg0) = m ((c.tc : Thread Cert.NormResIdeal.nD Cert.NormResIdeal.τ).loc Cert.NormResIdeal.main_arg0)
          ∧ r.2.mem ((c.tc : Thread Cert.NormResIdeal.nD Cert.NormResIdeal.τ).loc Cert.NormResIdeal.main_arg1) = m ((c.tc : Thread Cert.NormResIdeal.nD Cert.NormResIdeal.τ).loc Cert.NormResIdeal.main_arg1)
          ∧ r.2.mem ((c.tc : Thread Cert.NormResIdeal.nD Cert.NormResIdeal.τ).loc Cert.NormResIdeal.main_arg2) = m ((c.tc : Thread Cert.NormResIdeal.nD Cert.NormResIdeal.τ).loc Cert.NormResIdeal.main_arg2)
          ∧ r.2.mem ((c.tc : Thread Cert.NormResIdeal.nD Cert.NormResIdeal.τ).loc Cert.NormResIdeal.main_arg3) = m ((c.tc : Thread Cert.NormResIdeal.nD Cert.NormResIdeal.τ).loc Cert.NormResIdeal.main_arg3))
      ∧ θ_run (Cert.NormResReferenceIdeal.defs (F := Ideal)) (onTc (τ := Cert.NormResReferenceIdeal.τ) (Cert.NormResReferenceIdeal.main (F := Ideal))) ⟨m', fun _ => 0, g'⟩ (fun r => ∀ c : Dev Cert.NormResReferenceIdeal.nD,
          r.2.mem ((c.tc : Thread Cert.NormResReferenceIdeal.nD Cert.NormResReferenceIdeal.τ).loc Cert.NormResReferenceIdeal.main_v34) = v0 c
          ∧ r.2.mem ((c.tc : Thread Cert.NormResReferenceIdeal.nD Cert.NormResReferenceIdeal.τ).loc Cert.NormResReferenceIdeal.main_v17) = v1 c
          ∧ r.2.mem ((c.tc : Thread Cert.NormResReferenceIdeal.nD Cert.NormResReferenceIdeal.τ).loc Cert.NormResReferenceIdeal.main_arg0) = m' ((c.tc : Thread Cert.NormResReferenceIdeal.nD Cert.NormResReferenceIdeal.τ).loc Cert.NormResReferenceIdeal.main_arg0)
          ∧ r.2.mem ((c.tc : Thread Cert.NormResReferenceIdeal.nD Cert.NormResReferenceIdeal.τ).loc Cert.NormResReferenceIdeal.main_arg1) = m' ((c.tc : Thread Cert.NormResReferenceIdeal.nD Cert.NormResReferenceIdeal.τ).loc Cert.NormResReferenceIdeal.main_arg1)
          ∧ r.2.mem ((c.tc : Thread Cert.NormResReferenceIdeal.nD Cert.NormResReferenceIdeal.τ).loc Cert.NormResReferenceIdeal.main_arg2) = m' ((c.tc : Thread Cert.NormResReferenceIdeal.nD Cert.NormResReferenceIdeal.τ).loc Cert.NormResReferenceIdeal.main_arg2)
          ∧ r.2.mem ((c.tc : Thread Cert.NormResReferenceIdeal.nD Cert.NormResReferenceIdeal.τ).loc Cert.NormResReferenceIdeal.main_arg3) = m' ((c.tc : Thread Cert.NormResReferenceIdeal.nD Cert.NormResReferenceIdeal.τ).loc Cert.NormResReferenceIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hUp : Cert.Up.Facts) (hUpIdeal : Cert.UpIdeal.Facts) (hUpReferenceIdeal : Cert.UpReferenceIdeal.Facts) (hWeight : Cert.Weight.Facts) (hWeightIdeal : Cert.WeightIdeal.Facts) (hWeightReferenceIdeal : Cert.WeightReferenceIdeal.Facts) (hDownReferenceIdeal : Cert.DownReferenceIdeal.Facts) (hWeightIn : Cert.WeightIn.Facts) (hWeightInIdeal : Cert.WeightInIdeal.Facts) (hWeightInReferenceIdeal : Cert.WeightInReferenceIdeal.Facts) (hWeightOut : Cert.WeightOut.Facts) (hWeightOutIdeal : Cert.WeightOutIdeal.Facts) (hWeightOutReferenceIdeal : Cert.WeightOutReferenceIdeal.Facts) (hMerged : Cert.Merged.Facts) (hMergedIdeal : Cert.MergedIdeal.Facts) (hMergedReferenceIdeal : Cert.MergedReferenceIdeal.Facts) (hBackIn : Cert.BackIn.Facts) (hBackInIdeal : Cert.BackInIdeal.Facts) (hBackInReferenceIdeal : Cert.BackInReferenceIdeal.Facts) (hGlu : Cert.Glu.Facts) (hGluIdeal : Cert.GluIdeal.Facts) (hGluReferenceIdeal : Cert.GluReferenceIdeal.Facts) (hMmDown : Cert.MmDown.Facts) (hMmDownIdeal : Cert.MmDownIdeal.Facts) (hMmDownReferenceIdeal : Cert.MmDownReferenceIdeal.Facts) (hMmIn : Cert.MmIn.Facts) (hMmInIdeal : Cert.MmInIdeal.Facts) (hMmInReferenceIdeal : Cert.MmInReferenceIdeal.Facts) (hMmOut : Cert.MmOut.Facts) (hMmOutIdeal : Cert.MmOutIdeal.Facts) (hMmOutReferenceIdeal : Cert.MmOutReferenceIdeal.Facts) (hNorm : Cert.Norm.Facts) (hNormIdeal : Cert.NormIdeal.Facts) (hNormReferenceIdeal : Cert.NormReferenceIdeal.Facts) (hNormRes : Cert.NormRes.Facts) (hNormResIdeal : Cert.NormResIdeal.Facts) (hNormResReferenceIdeal : Cert.NormResReferenceIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_Up (hUp := hUp)
    ∧ quiescent_UpIdeal (hUpIdeal := hUpIdeal)
    ∧ quiescent_UpReferenceIdeal (hUpReferenceIdeal := hUpReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_DownReferenceIdeal (hDownReferenceIdeal := hDownReferenceIdeal)
    ∧ quiescent_WeightIn (hWeightIn := hWeightIn)
    ∧ quiescent_WeightInIdeal (hWeightInIdeal := hWeightInIdeal)
    ∧ quiescent_WeightInReferenceIdeal (hWeightInReferenceIdeal := hWeightInReferenceIdeal)
    ∧ quiescent_WeightOut (hWeightOut := hWeightOut)
    ∧ quiescent_WeightOutIdeal (hWeightOutIdeal := hWeightOutIdeal)
    ∧ quiescent_WeightOutReferenceIdeal (hWeightOutReferenceIdeal := hWeightOutReferenceIdeal)
    ∧ quiescent_Merged (hMerged := hMerged)
    ∧ quiescent_MergedIdeal (hMergedIdeal := hMergedIdeal)
    ∧ quiescent_MergedReferenceIdeal (hMergedReferenceIdeal := hMergedReferenceIdeal)
    ∧ quiescent_BackIn (hBackIn := hBackIn)
    ∧ quiescent_BackInIdeal (hBackInIdeal := hBackInIdeal)
    ∧ quiescent_BackInReferenceIdeal (hBackInReferenceIdeal := hBackInReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_MmDown (hMmDown := hMmDown)
    ∧ quiescent_MmDownIdeal (hMmDownIdeal := hMmDownIdeal)
    ∧ quiescent_MmDownReferenceIdeal (hMmDownReferenceIdeal := hMmDownReferenceIdeal)
    ∧ quiescent_MmIn (hMmIn := hMmIn)
    ∧ quiescent_MmInIdeal (hMmInIdeal := hMmInIdeal)
    ∧ quiescent_MmInReferenceIdeal (hMmInReferenceIdeal := hMmInReferenceIdeal)
    ∧ quiescent_MmOut (hMmOut := hMmOut)
    ∧ quiescent_MmOutIdeal (hMmOutIdeal := hMmOutIdeal)
    ∧ quiescent_MmOutReferenceIdeal (hMmOutReferenceIdeal := hMmOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_NormRes (hNormRes := hNormRes)
    ∧ quiescent_NormResIdeal (hNormResIdeal := hNormResIdeal)
    ∧ quiescent_NormResReferenceIdeal (hNormResReferenceIdeal := hNormResReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateReferenceIdeal_pre_finite_gate (hGateIdeal := hGateIdeal) (hGateReferenceIdeal := hGateReferenceIdeal) (hPre_finite_gate := hPre_finite_gate)
    ∧ preserves_Up_UpIdeal
    ∧ algebraic_UpIdeal_UpReferenceIdeal (hUpIdeal := hUpIdeal) (hUpReferenceIdeal := hUpReferenceIdeal)
    ∧ preserves_Weight_WeightIdeal
    ∧ algebraic_WeightIdeal_WeightReferenceIdeal (hWeightIdeal := hWeightIdeal) (hWeightReferenceIdeal := hWeightReferenceIdeal)
    ∧ algebraic_WeightIdeal_DownReferenceIdeal (hWeightIdeal := hWeightIdeal) (hDownReferenceIdeal := hDownReferenceIdeal)
    ∧ preserves_WeightIn_WeightInIdeal
    ∧ algebraic_WeightInIdeal_WeightInReferenceIdeal (hWeightInIdeal := hWeightInIdeal) (hWeightInReferenceIdeal := hWeightInReferenceIdeal)
    ∧ preserves_WeightOut_WeightOutIdeal
    ∧ algebraic_WeightOutIdeal_WeightOutReferenceIdeal (hWeightOutIdeal := hWeightOutIdeal) (hWeightOutReferenceIdeal := hWeightOutReferenceIdeal)
    ∧ preserves_Merged_MergedIdeal
    ∧ algebraic_MergedIdeal_MergedReferenceIdeal (hMergedIdeal := hMergedIdeal) (hMergedReferenceIdeal := hMergedReferenceIdeal)
    ∧ preserves_BackIn_BackInIdeal
    ∧ algebraic_BackInIdeal_BackInReferenceIdeal (hBackInIdeal := hBackInIdeal) (hBackInReferenceIdeal := hBackInReferenceIdeal)
    ∧ preserves_Glu_GluIdeal
    ∧ algebraic_GluIdeal_GluReferenceIdeal (hGluIdeal := hGluIdeal) (hGluReferenceIdeal := hGluReferenceIdeal)
    ∧ preserves_MmDown_MmDownIdeal
    ∧ algebraic_MmDownIdeal_MmDownReferenceIdeal (hMmDownIdeal := hMmDownIdeal) (hMmDownReferenceIdeal := hMmDownReferenceIdeal)
    ∧ preserves_MmIn_MmInIdeal
    ∧ algebraic_MmInIdeal_MmInReferenceIdeal (hMmInIdeal := hMmInIdeal) (hMmInReferenceIdeal := hMmInReferenceIdeal)
    ∧ preserves_MmOut_MmOutIdeal
    ∧ algebraic_MmOutIdeal_MmOutReferenceIdeal (hMmOutIdeal := hMmOutIdeal) (hMmOutReferenceIdeal := hMmOutReferenceIdeal)
    ∧ preserves_Norm_NormIdeal
    ∧ algebraic_NormIdeal_NormReferenceIdeal (hNormIdeal := hNormIdeal) (hNormReferenceIdeal := hNormReferenceIdeal)
    ∧ preserves_NormRes_NormResIdeal
    ∧ algebraic_NormResIdeal_NormResReferenceIdeal (hNormResIdeal := hNormResIdeal) (hNormResReferenceIdeal := hNormResReferenceIdeal)
-- ==== Pre_finite.lean ====
abbrev S16x4224x64 : Shape := ⟨3, ![16, 4224, 64]⟩
abbrev S_ : Shape := ⟨0, ![]⟩

class Facts : Prop where
  bcast_S_S16x4224x64 : S_.BroadcastsInDim S16x4224x64 (![] : Fin 0 → Fin S16x4224x64.rank)
  reducesTo_S16x4224x64_S_d0_1_2 : S16x4224x64.ReducesTo [0, 1, 2] S_
  h_S_ : 0 < S_.numel

variable [Facts]

def fn_part1 {F : FTy → Type} [FloatOps F] (main_v13 : IVec S_ 1) (main_v16 : IVec S16x4224x64 1) : IVec S_ 1 :=
  let main_c_5 : IVec S_ 1 := constantI S_ 1 1#1
  let main_v17 : IVec S_ 1 := (fun x v => Host.reduce IntOp.andi x v reducesTo_S16x4224x64_S_d0_1_2 h_S_) main_v16 main_c_5
  let main_v18 : IVec S_ 1 := andi main_v13 main_v17
  main_v18

def fn {F : FTy → Type} [FloatOps F] (main_arg0 : FVec F S16x4224x64 .f32) (main_arg1 : FVec F S16x4224x64 .f32) (main_arg2 : FVec F S16x4224x64 .f32) (main_arg3 : FVec F S16x4224x64 .f32) : IVec S_ 1 :=
  let main_v0 : FVec F S16x4224x64 .f32 := Host.absf main_arg0
  let main_cst : FVec F S_ .f32 := constant S_ .f32 0x7F800000#32
  let main_v1 : FVec F S16x4224x64 .f32 := broadcastInDim S16x4224x64 ![] bcast_S_S16x4224x64 main_cst
  let main_v2 : IVec S16x4224x64 1 := cmpf .olt main_v0 main_v1
  let main_c : IVec S_ 1 := constantI S_ 1 1#1
  let main_v3 : IVec S_ 1 := (fun x v => Host.reduce IntOp.andi x v reducesTo_S16x4224x64_S_d0_1_2 h_S_) main_v2 main_c
  let main_v4 : FVec F S16x4224x64 .f32 := Host.absf main_arg1
  let main_cst_0 : FVec F S_ .f32 := constant S_ .f32 0x7F800000#32
  let main_v5 : FVec F S16x4224x64 .f32 := broadcastInDim S16x4224x64 ![] bcast_S_S16x4224x64 main_cst_0
  let main_v6 : IVec S16x4224x64 1 := cmpf .olt main_v4 main_v5
  let main_c_1 : IVec S_ 1 := constantI S_ 1 1#1
  let main_v7 : IVec S_ 1 := (fun x v => Host.reduce IntOp.andi x v reducesTo_S16x4224x64_S_d0_1_2 h_S_) main_v6 main_c_1
  let main_v8 : IVec S_ 1 := andi main_v3 main_v7
  let main_v9 : FVec F S16x4224x64 .f32 := Host.absf main_arg2
  let main_cst_2 : FVec F S_ .f32 := constant S_ .f32 0x7F800000#32
  let main_v10 : FVec F S16x4224x64 .f32 := broadcastInDim S16x4224x64 ![] bcast_S_S16x4224x64 main_cst_2
  let main_v11 : IVec S16x4224x64 1 := cmpf .olt main_v9 main_v10
  let main_c_3 : IVec S_ 1 := constantI S_ 1 1#1
  let main_v12 : IVec S_ 1 := (fun x v => Host.reduce IntOp.andi x v reducesTo_S16x4224x64_S_d0_1_2 h_S_) main_v11 main_c_3
  let main_v13 : IVec S_ 1 := andi main_v8 main_v12
  let main_v14 : FVec F S16x4224x64 .f32 := Host.absf main_arg3
  let main_cst_4 : FVec F S_ .f32 := constant S_ .f32 0x7F800000#32
  let main_v15 : FVec F S16x4224x64 .f32 := broadcastInDim S16x4224x64 ![] bcast_S_S16x4224x64 main_cst_4
  let main_v16 : IVec S16x4224x64 1 := cmpf .olt main_v14 main_v15
  fn_part1 (F := F) main_v13 main_v16
-- ==== Pre_finite_gate.lean ====
abbrev S4224x2048 : Shape := ⟨2, ![4224, 2048]⟩
abbrev S5632x2048 : Shape := ⟨2, ![5632, 2048]⟩
abbrev S4224x5632 : Shape := ⟨2, ![4224, 5632]⟩
abbrev S_ : Shape := ⟨0, ![]⟩

class Facts : Prop where
  bcast_S_S4224x2048 : S_.BroadcastsInDim S4224x2048 (![] : Fin 0 → Fin S4224x2048.rank)
  reducesTo_S4224x2048_S_d0_1 : S4224x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4224x5632 : S_.BroadcastsInDim S4224x5632 (![] : Fin 0 → Fin S4224x5632.rank)
  reducesTo_S4224x5632_S_d0_1 : S4224x5632.ReducesTo [0, 1] S_

variable [Facts]

def fn {F : FTy → Type} [FloatOps F] (main_arg0 : FVec F S4224x2048 .f32) (main_arg1 : FVec F S5632x2048 .f32) (main_arg2 : FVec F S4224x5632 .f32) (main_arg3 : FVec F S4224x5632 .f32) : IVec S_ 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_c : IVec S_ 1 := constantI S_ 1 1#1
  let main_v3 : IVec S_ 1 := (fun x v => Host.reduce IntOp.andi x v reducesTo_S4224x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4224x5632 .f32 := Host.absf main_arg3
  let main_cst_2 : FVec F S_ .f32 := constant S_ .f32 0x7F800000#32
  let main_v10 : FVec F S4224x5632 .f32 := broadcastInDim S4224x5632 ![] bcast_S_S4224x5632 main_cst_2
  let main_v11 : IVec S4224x5632 1 := cmpf .olt main_v9 main_v10
  let main_c_3 : IVec S_ 1 := constantI S_ 1 1#1
  let main_v12 : IVec S_ 1 := (fun x v => Host.reduce IntOp.andi x v reducesTo_S4224x5632_S_d0_1 h_S_) main_v11 main_c_3
  let main_v13 : IVec S_ 1 := andi main_v8 main_v12
  main_v13
-- ==== Kernel.lean ====
abbrev S16x4224x64 : Shape := ⟨3, ![16, 4224, 64]⟩
abbrev S_ : Shape := ⟨0, ![]⟩
abbrev S16x4224x4224 : Shape := ⟨3, ![16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x4224x4224 : Shape := ⟨3, ![1, 4224, 4224]⟩
abbrev S16x4224 : Shape := ⟨2, ![16, 4224]⟩
abbrev S16x4224x1 : Shape := ⟨3, ![16, 4224, 1]⟩
abbrev S16x4224x128 : Shape := ⟨3, ![16, 4224, 128]⟩
abbrev S11 : Shape := ⟨1, ![11]⟩
abbrev S1x11 : Shape := ⟨2, ![1, 11]⟩
abbrev S16x11 : Shape := ⟨2, ![16, 11]⟩
abbrev S16x64x4224 : Shape := ⟨3, ![16, 64, 4224]⟩
abbrev S16x33x64x128 : Shape := ⟨4, ![16, 33, 64, 128]⟩
abbrev S1x384x64 : Shape := ⟨3, ![1, 384, 64]⟩
abbrev S1x64x384 : Shape := ⟨3, ![1, 64, 384]⟩
abbrev S1x4224x64 : Shape := ⟨3, ![1, 4224, 64]⟩
abbrev S1x384x128 : Shape := ⟨3, ![1, 384, 128]⟩
abbrev S1x33x64x128 : Shape := ⟨4, ![1, 33, 64, 128]⟩
abbrev S384x128 : Shape := ⟨2, ![384, 128]⟩
abbrev S33x64x128 : Shape := ⟨3, ![33, 64, 128]⟩
abbrev S384x64 : Shape := ⟨2, ![384, 64]⟩
abbrev S64x384 : Shape := ⟨2, ![64, 384]⟩
abbrev S128x256 : Shape := ⟨2, ![128, 256]⟩
abbrev S1x1 : Shape := ⟨2, ![1, 1]⟩
abbrev S1x128x64 : Shape := ⟨3, ![1, 128, 64]⟩
abbrev S128x64 : Shape := ⟨2, ![128, 64]⟩
abbrev S384x256 : Shape := ⟨2, ![384, 256]⟩
abbrev S1x1x64x128 : Shape := ⟨4, ![1, 1, 64, 128]⟩
abbrev S64x128 : Shape := ⟨2, ![64, 128]⟩
abbrev S256x64 : Shape := ⟨2, ![256, 64]⟩
abbrev S256x128 : Shape := ⟨2, ![256, 128]⟩
abbrev S256x256 : Shape := ⟨2, ![256, 256]⟩
abbrev S128x128 : Shape := ⟨2, ![128, 128]⟩
abbrev S1x256x64 : Shape := ⟨3, ![1, 256, 64]⟩
abbrev S64x256 : Shape := ⟨2, ![64, 256]⟩

abbrev nBuf : Space → Nat
  | .hbm => 52
  | .vmem => 22
  | .smem => 1
  | _ => 0

abbrev bufTy : (tb : Table) → Fin (tcTables nBuf tb) → BufTy
  | .hbm, ⟨0, _⟩ => ⟨S16x4224x64, .f32⟩
  | .hbm, ⟨1, _⟩ => ⟨S16x4224x64, .f32⟩
  | .hbm, ⟨2, _⟩ => ⟨S16x4224x64, .f32⟩
  | .hbm, ⟨3, _⟩ => ⟨S16x4224x64, .f32⟩
  | .hbm, ⟨4, _⟩ => ⟨S_, .f32⟩
  | .hbm, ⟨5, _⟩ => ⟨S16x4224x64, .f32⟩
  | .hbm, ⟨6, _⟩ => ⟨S16x4224x64, .f32⟩
  | .hbm, ⟨7, _⟩ => ⟨S16x4224x4224, .f32⟩
  | .hbm, ⟨8, _⟩ => ⟨S4224, .i32⟩
  | .hbm, ⟨9, _⟩ => ⟨S1x4224, .i32⟩
  | .hbm, ⟨10, _⟩ => ⟨S4224x1, .i32⟩
  | .hbm, ⟨11, _⟩ => ⟨S4224x4224, .i32⟩
  | .hbm, ⟨12, _⟩ => ⟨S4224x4224, .i32⟩
  | .hbm, ⟨13, _⟩ => ⟨S4224x4224, .i1⟩
  | .hbm, ⟨14, _⟩ => ⟨S1x4224x4224, .i1⟩
  | .hbm, ⟨15, _⟩ => ⟨S_, .f32⟩
  | .hbm, ⟨16, _⟩ => ⟨S16x4224x4224, .f32⟩
  | .hbm, ⟨17, _⟩ => ⟨S16x4224x4224, .f32⟩
  | .hbm, ⟨18, _⟩ => ⟨S16x4224x4224, .f32⟩
  | .hbm, ⟨19, _⟩ => ⟨S16x4224x4224, .f32⟩
  | .hbm, ⟨20, _⟩ => ⟨S16x4224x4224, .i1⟩
  | .hbm, ⟨21, _⟩ => ⟨S16x4224x4224, .f32⟩
  | .hbm, ⟨22, _⟩ => ⟨S16x4224x4224, .f32⟩
  | .hbm, ⟨23, _⟩ => ⟨S16x4224x4224, .f32⟩
  | .hbm, ⟨24, _⟩ => ⟨S16x4224x4224, .f32⟩
  | .hbm, ⟨25, _⟩ => ⟨S16x4224x4224, .f32⟩
  | .hbm, ⟨26, _⟩ => ⟨S16x4224x4224, .f32⟩
  | .hbm, ⟨27, _⟩ => ⟨S16x4224x4224, .f32⟩
  | .hbm, ⟨28, _⟩ => ⟨S16x4224x4224, .f32⟩
  | .hbm, ⟨29, _⟩ => ⟨S16x4224x4224, .f32⟩
  | .hbm, ⟨30, _⟩ => ⟨S_, .f32⟩
  | .hbm, ⟨31, _⟩ => ⟨S_, .f32⟩
  | .hbm, ⟨32, _⟩ => ⟨S16x4224x4224, .i1⟩
  | .hbm, ⟨33, _⟩ => ⟨S16x4224x4224, .f32⟩
  | .hbm, ⟨34, _⟩ => ⟨S16x4224x4224, .f32⟩
  | .hbm, ⟨35, _⟩ => ⟨S_, .f32⟩
  | .hbm, ⟨36, _⟩ => ⟨S16x4224, .f32⟩
  | .hbm, ⟨37, _⟩ => ⟨S16x4224x1, .f32⟩
  | .hbm, ⟨38, _⟩ => ⟨S16x4224x128, .f32⟩
  | .hbm, ⟨39, _⟩ => ⟨S11, .i32⟩
  | .hbm, ⟨40, _⟩ => ⟨S11, .f32⟩
  | .hbm, ⟨41, _⟩ => ⟨S1x11, .f32⟩
  | .hbm, ⟨42, _⟩ => ⟨S16x11, .f32⟩
  | .hbm, ⟨43, _⟩ => ⟨S16x4224x64, .bf16⟩
  | .hbm, ⟨44, _⟩ => ⟨S16x4224x64, .bf16⟩
  | .hbm, ⟨45, _⟩ => ⟨S16x4224x64, .bf16⟩
  | .hbm, ⟨46, _⟩ => ⟨S16x4224x64, .bf16⟩
  | .hbm, ⟨47, _⟩ => ⟨S16x64x4224, .bf16⟩
  | .hbm, ⟨48, _⟩ => ⟨S16x64x4224, .bf16⟩
  | .hbm, ⟨49, _⟩ => ⟨S16x4224x64, .f32⟩
  | .hbm, ⟨50, _⟩ => ⟨S16x33x64x128, .f32⟩
  | .hbm, ⟨51, _⟩ => ⟨S16x33x64x128, .f32⟩
  | .local _ .vmem, ⟨0, _⟩ => ⟨S1x384x64, .bf16⟩
  | .local _ .vmem, ⟨1, _⟩ => ⟨S1x384x64, .bf16⟩
  | .local _ .vmem, ⟨2, _⟩ => ⟨S1x64x384, .bf16⟩
  | .local _ .vmem, ⟨3, _⟩ => ⟨S1x64x384, .bf16⟩
  | .local _ .vmem, ⟨4, _⟩ => ⟨S1x4224x64, .bf16⟩
  | .local _ .vmem, ⟨5, _⟩ => ⟨S1x4224x64, .bf16⟩
  | .local _ .vmem, ⟨6, _⟩ => ⟨S1x4224x64, .bf16⟩
  | .local _ .vmem, ⟨7, _⟩ => ⟨S1x4224x64, .bf16⟩
  | .local _ .vmem, ⟨8, _⟩ => ⟨S1x384x64, .bf16⟩
  | .local _ .vmem, ⟨9, _⟩ => ⟨S1x384x64, .bf16⟩
  | .local _ .vmem, ⟨10, _⟩ => ⟨S1x64x384, .bf16⟩
  | .local _ .vmem, ⟨11, _⟩ => ⟨S1x64x384, .bf16⟩
  | .local _ .vmem, ⟨12, _⟩ => ⟨S1x384x128, .f32⟩
  | .local _ .vmem, ⟨13, _⟩ => ⟨S1x384x128, .f32⟩
  | .local _ .vmem, ⟨14, _⟩ => ⟨S1x384x64, .f32⟩
  | .local _ .vmem, ⟨15, _⟩ => ⟨S1x384x64, .f32⟩
  | .local _ .vmem, ⟨16, _⟩ => ⟨S1x33x64x128, .f32⟩
  | .local _ .vmem, ⟨17, _⟩ => ⟨S1x33x64x128, .f32⟩
  | .local _ .vmem, ⟨18, _⟩ => ⟨S1x33x64x128, .f32⟩
  | .local _ .vmem, ⟨19, _⟩ => ⟨S1x33x64x128, .f32⟩
  | .local _ .vmem, ⟨20, _⟩ => ⟨S384x128, .f32⟩
  | .local _ .vmem, ⟨21, _⟩ => ⟨S384x128, .f32⟩
  | .local _ .smem, ⟨0, _⟩ => ⟨S16x11, .f32⟩
  | _, _ => ⟨S16x4224x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v26_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 11], ![false, false]⟩

def k0_off1 (i : grid0.Coords) : Fin 2 → Nat :=
  let arg0 : BitVec 32 := BitVec.ofNat 32 (i 0).val
  let v52 : Index := Scalar.indexCast arg0
  let arg1 : BitVec 32 := BitVec.ofNat 32 (i 1).val
  let v53 : Index := Scalar.indexCast arg1
  ![v52.toNat, v53.toNat]
@[reducible] def k0_t1_loop (i : grid0.Coords) (v55 : BitVec 32) : Scf.Loop 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let c1_i32_29 : BitVec 32 := 1#32
  ⟨v58, v63, c1_i32_29⟩

def k0_mult1 (i : grid0.Coords) (v55 : BitVec 32) (k0_t1 : Fin (k0_t1_loop i v55).trips) : BitVec 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let c1_i32_29 : BitVec 32 := 1#32
  let arg15 : BitVec 32 := Scf.iv v58 c1_i32_29 k0_t1
  let c3_i32_176 : BitVec 32 := 3#32
  let v358 : BitVec 32 := Scalar.muli arg15 c3_i32_176
  let c0_i32_177 : BitVec 32 := 0#32
  let v359 : BitVec 32 := Scalar.addi v358 c0_i32_177
  let c128_i32_178 : BitVec 32 := 128#32
  let v360 : BitVec 32 := Scalar.muli v359 c128_i32_178
  v360
def k0_off2 (i : grid0.Coords) (v55 : BitVec 32) (k0_t1 : Fin (k0_t1_loop i v55).trips) (c0_i32_177 : BitVec 32) : Fin 3 → Nat :=
  let c0_179 : Index := 0#32
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let c1_i32_29 : BitVec 32 := 1#32
  let arg15 : BitVec 32 := Scf.iv v58 c1_i32_29 k0_t1
  let c3_i32_176 : BitVec 32 := 3#32
  let v358 : BitVec 32 := Scalar.muli arg15 c3_i32_176
  let v359 : BitVec 32 := Scalar.addi v358 c0_i32_177
  let c128_i32_178 : BitVec 32 := 128#32
  let v360 : BitVec 32 := Scalar.muli v359 c128_i32_178
  let v361 : BitVec 32 := v360
  let v362 : Index := Scalar.indexCast v361
  let c0_180 : Index := 0#32
  ![0, v362.toNat, 0]
def k0_mult2 (i : grid0.Coords) (v55 : BitVec 32) (k0_t1 : Fin (k0_t1_loop i v55).trips) : BitVec 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let c1_i32_29 : BitVec 32 := 1#32
  let arg15 : BitVec 32 := Scf.iv v58 c1_i32_29 k0_t1
  let c3_i32_176 : BitVec 32 := 3#32
  let v358 : BitVec 32 := Scalar.muli arg15 c3_i32_176
  let c1_i32_191 : BitVec 32 := 1#32
  let v392 : BitVec 32 := Scalar.addi v358 c1_i32_191
  let c128_i32_192 : BitVec 32 := 128#32
  let v393 : BitVec 32 := Scalar.muli v392 c128_i32_192
  v393
def k0_mult3 (i : grid0.Coords) (v55 : BitVec 32) (k0_t1 : Fin (k0_t1_loop i v55).trips) : BitVec 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let c1_i32_29 : BitVec 32 := 1#32
  let arg15 : BitVec 32 := Scf.iv v58 c1_i32_29 k0_t1
  let c3_i32_176 : BitVec 32 := 3#32
  let v358 : BitVec 32 := Scalar.muli arg15 c3_i32_176
  let c2_i32_205 : BitVec 32 := 2#32
  let v425 : BitVec 32 := Scalar.addi v358 c2_i32_205
  let c128_i32_206 : BitVec 32 := 128#32
  let v426 : BitVec 32 := Scalar.muli v425 c128_i32_206
  v426
def k0_off3 (i : grid0.Coords) (v55 : BitVec 32) (k0_t1 : Fin (k0_t1_loop i v55).trips) (c0_i32_177 : BitVec 32) : Fin 4 → Nat :=
  let c0_235 : Index := 0#32
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let c1_i32_29 : BitVec 32 := 1#32
  let arg15 : BitVec 32 := Scf.iv v58 c1_i32_29 k0_t1
  let c3_i32_176 : BitVec 32 := 3#32
  let v358 : BitVec 32 := Scalar.muli arg15 c3_i32_176
  let v359 : BitVec 32 := Scalar.addi v358 c0_i32_177
  let v490 : Index := Scalar.indexCast v359
  let c0_236 : Index := 0#32
  let c0_237 : Index := 0#32
  ![0, v490.toNat, 0, 0]
@[reducible] def k0_t2_loop (i : grid0.Coords) (v55 : BitVec 32) : Scf.Loop 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let v60 : BitVec 32 := Scalar.addi v58 v59
  let c1_i32_30 : BitVec 32 := 1#32
  ⟨v63, v60, c1_i32_30⟩
def k0_mult4 (i : grid0.Coords) (v55 : BitVec 32) (k0_t2 : Fin (k0_t2_loop i v55).trips) : BitVec 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let c1_i32_30 : BitVec 32 := 1#32
  let arg15 : BitVec 32 := Scf.iv v63 c1_i32_30 k0_t2
  let c3_i32_176 : BitVec 32 := 3#32
  let v358 : BitVec 32 := Scalar.muli arg15 c3_i32_176
  let c0_i32_177 : BitVec 32 := 0#32
  let v359 : BitVec 32 := Scalar.addi v358 c0_i32_177
  let c128_i32_178 : BitVec 32 := 128#32
  let v360 : BitVec 32 := Scalar.muli v359 c128_i32_178
  v360
def k0_off4 (i : grid0.Coords) (v55 : BitVec 32) (k0_t2 : Fin (k0_t2_loop i v55).trips) (c0_i32_177 : BitVec 32) : Fin 3 → Nat :=
  let c0_179 : Index := 0#32
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let c1_i32_30 : BitVec 32 := 1#32
  let arg15 : BitVec 32 := Scf.iv v63 c1_i32_30 k0_t2
  let c3_i32_176 : BitVec 32 := 3#32
  let v358 : BitVec 32 := Scalar.muli arg15 c3_i32_176
  let v359 : BitVec 32 := Scalar.addi v358 c0_i32_177
  let c128_i32_178 : BitVec 32 := 128#32
  let v360 : BitVec 32 := Scalar.muli v359 c128_i32_178
  let v361 : BitVec 32 := v360
  let v362 : Index := Scalar.indexCast v361
  let c0_180 : Index := 0#32
  ![0, v362.toNat, 0]
def k0_mult5 (i : grid0.Coords) (v55 : BitVec 32) (k0_t2 : Fin (k0_t2_loop i v55).trips) : BitVec 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let c1_i32_30 : BitVec 32 := 1#32
  let arg15 : BitVec 32 := Scf.iv v63 c1_i32_30 k0_t2
  let c3_i32_176 : BitVec 32 := 3#32
  let v358 : BitVec 32 := Scalar.muli arg15 c3_i32_176
  let c1_i32_191 : BitVec 32 := 1#32
  let v392 : BitVec 32 := Scalar.addi v358 c1_i32_191
  let c128_i32_192 : BitVec 32 := 128#32
  let v393 : BitVec 32 := Scalar.muli v392 c128_i32_192
  v393
def k0_mult6 (i : grid0.Coords) (v55 : BitVec 32) (k0_t2 : Fin (k0_t2_loop i v55).trips) : BitVec 32 :=
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let c1_i32_30 : BitVec 32 := 1#32
  let arg15 : BitVec 32 := Scf.iv v63 c1_i32_30 k0_t2
  let c3_i32_176 : BitVec 32 := 3#32
  let v358 : BitVec 32 := Scalar.muli arg15 c3_i32_176
  let c2_i32_205 : BitVec 32 := 2#32
  let v425 : BitVec 32 := Scalar.addi v358 c2_i32_205
  let c128_i32_206 : BitVec 32 := 128#32
  let v426 : BitVec 32 := Scalar.muli v425 c128_i32_206
  v426
def k0_off5 (i : grid0.Coords) (v55 : BitVec 32) (k0_t2 : Fin (k0_t2_loop i v55).trips) (c0_i32_177 : BitVec 32) : Fin 4 → Nat :=
  let c0_235 : Index := 0#32
  let arg1 : BitVec 32 := BitVec.ofNat 32 (i 1).val
  let c0_i32_27 : BitVec 32 := 0#32
  let v56 : BitVec 32 := Scalar.maxsi c0_i32_27 v55
  let v57 : BitVec 32 := Scalar.minsi arg1 v56
  let v58 : BitVec 32 := Scalar.subi arg1 v57
  let v59 : BitVec 32 := Scalar.subi arg1 v58
  let c1_i32 : BitVec 32 := 1#32
  let v61 : BitVec 32 := Scalar.divsi v59 c1_i32
  let v62 : BitVec 32 := Scalar.muli v61 c1_i32
  let v63 : BitVec 32 := Scalar.addi v58 v62
  let c1_i32_30 : BitVec 32 := 1#32
  let arg15 : BitVec 32 := Scf.iv v63 c1_i32_30 k0_t2
  let c3_i32_176 : BitVec 32 := 3#32
  let v358 : BitVec 32 := Scalar.muli arg15 c3_i32_176
  let v359 : BitVec 32 := Scalar.addi v358 c0_i32_177
  let v490 : Index := Scalar.indexCast v359
  let c0_236 : Index := 0#32
  let c0_237 : Index := 0#32
  ![0, v490.toNat, 0, 0]

def k0_chk1 (i : grid0.Coords) (v55 : BitVec 32) : Prop :=
  ((k0_t1_loop i v55).OK) ∧
  (∀ k0_t1 : Fin (k0_t1_loop i v55).trips, 128 ∣ (k0_mult1 i v55 k0_t1).toNat) ∧
  (∀ k0_t1 : Fin (k0_t1_loop i v55).trips, ∀ (r : Fin 3), ∀ a, (k0_off2 i v55 k0_t1 (BitVec.ofNat 32 r.val)) a + S1x128x64.size a ≤ S1x4224x64.size a) ∧
  (∀ k0_t1 : Fin (k0_t1_loop i v55).trips, 128 ∣ (k0_mult2 i v55 k0_t1).toNat) ∧
  (∀ k0_t1 : Fin (k0_t1_loop i v55).trips, 128 ∣ (k0_mult3 i v55 k0_t1).toNat) ∧
  (∀ k0_t1 : Fin (k0_t1_loop i v55).trips, ∀ (r : Fin 3), ∀ a, (k0_off3 i v55 k0_t1 (BitVec.ofNat 32 r.val)) a + S1x1x64x128.size a ≤ S1x33x64x128.size a) ∧
  ((k0_t2_loop i v55).OK) ∧
  (∀ k0_t2 : Fin (k0_t2_loop i v55).trips, 128 ∣ (k0_mult4 i v55 k0_t2).toNat) ∧
  (∀ k0_t2 : Fin (k0_t2_loop i v55).trips, ∀ (r : Fin 3), ∀ a, (k0_off4 i v55 k0_t2 (BitVec.ofNat 32 r.val)) a + S1x128x64.size a ≤ S1x4224x64.size a) ∧
  (∀ k0_t2 : Fin (k0_t2_loop i v55).trips, 128 ∣ (k0_mult5 i v55 k0_t2).toNat) ∧
  (∀ k0_t2 : Fin (k0_t2_loop i v55).trips, 128 ∣ (k0_mult6 i v55 k0_t2).toNat) ∧
  (∀ k0_t2 : Fin (k0_t2_loop i v55).trips, ∀ (r : Fin 3), ∀ a, (k0_off5 i v55 k0_t2 (BitVec.ofNat 32 r.val)) a + S1x1x64x128.size a ≤ S1x33x64x128.size a)
theorem k0_t1_ok : ∀ (i : grid0.Coords) (v55 : BitVec 32) (k0_hw1 : k0_chk1 i v55), (k0_t1_loop i v55).OK := fun i v55 k0_hw1 => k0_hw1.1
theorem k0_mult1_dvd : ∀ (i : grid0.Coords) (v55 : BitVec 32) (k0_hw1 : k0_chk1 i v55) (k0_t1 : Fin (k0_t1_loop i v55).trips), 128 ∣ (k0_mult1 i v55 k0_t1).toNat := fun i v55 k0_hw1 k0_t1 => k0_hw1.2.1 k0_t1
theorem k0_off2_inb : ∀ (i : grid0.Coords) (v55 : BitVec 32) (k0_hw1 : k0_chk1 i v55) (k0_t1 : Fin (k0_t1_loop i v55).trips), ∀ (r : Fin 3), ∀ a, (k0_off2 i v55 k0_t1 (BitVec.ofNat 32 r.val)) a + S1x128x64.size a ≤ S1x4224x64.size a := fun i v55 k0_hw1 k0_t1 r => k0_hw1.2.2.1 k0_t1 r
theorem k0_mult2_dvd : ∀ (i : grid0.Coords) (v55 : BitVec 32) (k0_hw1 : k0_chk1 i v55) (k0_t1 : Fin (k0_t1_loop i v55).trips), 128 ∣ (k0_mult2 i v55 k0_t1).toNat := fun i v55 k0_hw1 k0_t1 => k0_hw1.2.2.2.1 k0_t1
theorem k0_mult3_dvd : ∀ (i : grid0.Coords) (v55 : BitVec 32) (k0_hw1 : k0_chk1 i v55) (k0_t1 : Fin (k0_t1_loop i v55).trips), 128 ∣ (k0_mult3 i v55 k0_t1).toNat := fun i v55 k0_hw1 k0_t1 => k0_hw1.2.2.2.2.1 k0_t1
theorem k0_off3_inb : ∀ (i : grid0.Coords) (v55 : BitVec 32) (k0_hw1 : k0_chk1 i v55) (k0_t1 : Fin (k0_t1_loop i v55).trips), ∀ (r : Fin 3), ∀ a, (k0_off3 i v55 k0_t1 (BitVec.ofNat 32 r.val)) a + S1x1x64x128.size a ≤ S1x33x64x128.size a := fun i v55 k0_hw1 k0_t1 r => k0_hw1.2.2.2.2.2.1 k0_t1 r
theorem k0_t2_ok : ∀ (i : grid0.Coords) (v55 : BitVec 32) (k0_hw1 : k0_chk1 i v55), (k0_t2_loop i v55).OK := fun i v55 k0_hw1 => k0_hw1.2.2.2.2.2.2.1
theorem k0_mult4_dvd : ∀ (i : grid0.Coords) (v55 : BitVec 32) (k0_hw1 : k0_chk1 i v55) (k0_t2 : Fin (k0_t2_loop i v55).trips), 128 ∣ (k0_mult4 i v55 k0_t2).toNat := fun i v55 k0_hw1 k0_t2 => k0_hw1.2.2.2.2.2.2.2.1 k0_t2
theorem k0_off4_inb : ∀ (i : grid0.Coords) (v55 : BitVec 32) (k0_hw1 : k0_chk1 i v55) (k0_t2 : Fin (k0_t2_loop i v55).trips), ∀ (r : Fin 3), ∀ a, (k0_off4 i v55 k0_t2 (BitVec.ofNat 32 r.val)) a + S1x128x64.size a ≤ S1x4224x64.size a := fun i v55 k0_hw1 k0_t2 r => k0_hw1.2.2.2.2.2.2.2.2.1 k0_t2 r
theorem k0_mult5_dvd : ∀ (i : grid0.Coords) (v55 : BitVec 32) (k0_hw1 : k0_chk1 i v55) (k0_t2 : Fin (k0_t2_loop i v55).trips), 128 ∣ (k0_mult5 i v55 k0_t2).toNat := fun i v55 k0_hw1 k0_t2 => k0_hw1.2.2.2.2.2.2.2.2.2.1 k0_t2
theorem k0_mult6_dvd : ∀ (i : grid0.Coords) (v55 : BitVec 32) (k0_hw1 : k0_chk1 i v55) (k0_t2 : Fin (k0_t2_loop i v55).trips), 128 ∣ (k0_mult6 i v55 k0_t2).toNat := fun i v55 k0_hw1 k0_t2 => k0_hw1.2.2.2.2.2.2.2.2.2.2.1 k0_t2
theorem k0_off5_inb : ∀ (i : grid0.Coords) (v55 : BitVec 32) (k0_hw1 : k0_chk1 i v55) (k0_t2 : Fin (k0_t2_loop i v55).trips), ∀ (r : Fin 3), ∀ a, (k0_off5 i v55 k0_t2 (BitVec.ofNat 32 r.val)) a + S1x1x64x128.size a ≤ S1x33x64x128.size a := fun i v55 k0_hw1 k0_t2 r => k0_hw1.2.2.2.2.2.2.2.2.2.2.2 k0_t2 r

def k0_mult7 (i : grid0.Coords) : BitVec 32 :=
  let arg1 : BitVec 32 := BitVec.ofNat 32 (i 1).val
  let c3_i32 : BitVec 32 := 3#32
  let v64 : BitVec 32 := Scalar.muli arg1 c3_i32
  let c0_i32_31 : BitVec 32 := 0#32
  let v65 : BitVec 32 := Scalar.addi v64 c0_i32_31
  let c128_i32_32 : BitVec 32 := 128#32
  let v66 : BitVec 32 := Scalar.muli v65 c128_i32_32
  v66
def k0_off6 (i : grid0.Coords) (c0_i32_31 : BitVec 32) : Fin 3 → Nat :=
  let c0_33 : Index := 0#32
  let arg1 : BitVec 32 := BitVec.ofNat 32 (i 1).val
  let c3_i32 : BitVec 32 := 3#32
  let v64 : BitVec 32 := Scalar.muli arg1 c3_i32
  let v65 : BitVec 32 := Scalar.addi v64 c0_i32_31
  let c128_i32_32 : BitVec 32 := 128#32
  let v66 : BitVec 32 := Scalar.muli v65 c128_i32_32
  let v67 : BitVec 32 := v66
  let v68 : Index := Scalar.indexCast v67
  let c0_34 : Index := 0#32
  ![0, v68.toNat, 0]
def k0_mult8 (i : grid0.Coords) : BitVec 32 :=
  let arg1 : BitVec 32 := BitVec.ofNat 32 (i 1).val
  let c3_i32 : BitVec 32 := 3#32
  let v64 : BitVec 32 := Scalar.muli arg1 c3_i32
  let c1_i32_46 : BitVec 32 := 1#32
  let v100 : BitVec 32 := Scalar.addi v64 c1_i32_46
  let c128_i32_47 : BitVec 32 := 128#32
  let v101 : BitVec 32 := Scalar.muli v100 c128_i32_47
  v101
def k0_mult9 (i : grid0.Coords) : BitVec 32 :=
  let arg1 : BitVec 32 := BitVec.ofNat 32 (i 1).val
  let c3_i32 : BitVec 32 := 3#32
  let v64 : BitVec 32 := Scalar.muli arg1 c3_i32
  let c2_i32 : BitVec 32 := 2#32
  let v138 : BitVec 32 := Scalar.addi v64 c2_i32
  let c128_i32_61 : BitVec 32 := 128#32
  let v139 : BitVec 32 := Scalar.muli v138 c128_i32_61
  v139
def k0_off7 (i : grid0.Coords) (c0_i32_31 : BitVec 32) : Fin 4 → Nat :=
  let c0_93 : Index := 0#32
  let arg1 : BitVec 32 := BitVec.ofNat 32 (i 1).val
  let c3_i32 : BitVec 32 := 3#32
  let v64 : BitVec 32 := Scalar.muli arg1 c3_i32
  let v65 : BitVec 32 := Scalar.addi v64 c0_i32_31
  let v212 : Index := Scalar.indexCast v65
  let c0_94 : Index := 0#32
  let c0_95 : Index := 0#32
  ![0, v212.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x384x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4224x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4224x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S16x11 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x384x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x33x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x33x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16x4224x64 : Shape := ⟨3, ![16, 4224, 64]⟩
abbrev S_ : Shape := ⟨0, ![]⟩
abbrev S16x4224x4224 : Shape := ⟨3, ![16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x4224x4224 : Shape := ⟨3, ![1, 4224, 4224]⟩
abbrev S16x64x4224 : Shape := ⟨3, ![16, 64, 4224]⟩
abbrev S16x33x128x64 : Shape := ⟨4, ![16, 33, 128, 64]⟩
abbrev S16x33x64x128 : Shape := ⟨4, ![16, 33, 64, 128]⟩

abbrev nBuf : Space → Nat
  | .hbm => 161
  | .vmem => 0
  | .smem => 0
  | _ => 0

abbrev hbmTy0_0 (i : Nat) : BufTy := match i % 128 with
  | 0 => ⟨S16x4224x64, .f32⟩
  | 1 => ⟨S16x4224x64, .f32⟩
  | 2 => ⟨S16x4224x64, .f32⟩
  | 3 => ⟨S16x4224x64, .f32⟩
  | 4 => ⟨S_, .f32⟩
  | 5 => ⟨S16x4224x64, .f32⟩
  | 6 => ⟨S16x4224x64, .f32⟩
  | 7 => ⟨S16x4224x4224, .f32⟩
  | 8 => ⟨S4224, .i32⟩
  | 9 => ⟨S1x4224, .i32⟩
  | 10 => ⟨S4224x1, .i32⟩
  | 11 => ⟨S4224x4224, .i32⟩
  | 12 => ⟨S4224x4224, .i32⟩
  | 13 => ⟨S4224x4224, .i1⟩
  | 14 => ⟨S1x4224x4224, .i1⟩
  | 15 => ⟨S_, .f32⟩
  | 16 => ⟨S16x4224x4224, .f32⟩
  | 17 => ⟨S16x4224x4224, .f32⟩
  | 18 => ⟨S16x4224x4224, .f32⟩
  | 19 => ⟨S16x4224x4224, .f32⟩
  | 20 => ⟨S16x4224x4224, .i1⟩
  | 21 => ⟨S16x4224x4224, .f32⟩
  | 22 => ⟨S16x4224x4224, .f32⟩
  | 23 => ⟨S16x4224x4224, .f32⟩
  | 24 => ⟨S16x4224x4224, .f32⟩
  | 25 => ⟨S16x4224x4224, .f32⟩
  | 26 => ⟨S16x4224x4224, .f32⟩
  | 27 => ⟨S16x4224x4224, .f32⟩
  | 28 => ⟨S16x4224x4224, .f32⟩
  | 29 => ⟨S_, .f32⟩
  | 30 => ⟨S16x4224x4224, .f32⟩
  | 31 => ⟨S16x4224x4224, .i1⟩
  | 32 => ⟨S_, .f32⟩
  | 33 => ⟨S16x4224x4224, .f32⟩
  | 34 => ⟨S16x4224x4224, .f32⟩
  | 35 => ⟨S_, .f32⟩
  | 36 => ⟨S16x4224x4224, .f32⟩
  | 37 => ⟨S16x4224x4224, .i1⟩
  | 38 => ⟨S_, .f32⟩
  | 39 => ⟨S16x4224x4224, .f32⟩
  | 40 => ⟨S16x4224x4224, .f32⟩
  | 41 => ⟨S16x4224x4224, .f32⟩
  | 42 => ⟨S16x4224x4224, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S16x4224x4224, .f32⟩
  | 51 => ⟨S16x4224x4224, .i1⟩
  | 52 => ⟨S_, .f32⟩
  | 53 => ⟨S16x4224x4224, .f32⟩
  | 54 => ⟨S16x4224x4224, .f32⟩
  | 55 => ⟨S16x4224x4224, .f32⟩
  | 56 => ⟨S16x4224x4224, .f32⟩
  | 57 => ⟨S16x4224x4224, .f32⟩
  | 58 => ⟨S_, .f32⟩
  | 59 => ⟨S16x4224x4224, .f32⟩
  | 60 => ⟨S16x4224x4224, .f32⟩
  | 61 => ⟨S16x4224x4224, .f32⟩
  | 62 => ⟨S_, .f32⟩
  | 63 => ⟨S_, .f32⟩
  | 64 => ⟨S16x4224x4224, .i1⟩
  | 65 => ⟨S16x4224x4224, .f32⟩
  | 66 => ⟨S16x4224x4224, .f32⟩
  | 67 => ⟨S_, .f32⟩
  | 68 => ⟨S16x4224x4224, .f32⟩
  | 69 => ⟨S_, .f32⟩
  | 70 => ⟨S_, .f32⟩
  | 71 => ⟨S16x4224x4224, .f32⟩
  | 72 => ⟨S16x4224x4224, .f32⟩
  | 73 => ⟨S16x4224x4224, .f32⟩
  | 74 => ⟨S_, .f32⟩
  | 75 => ⟨S16x4224x4224, .f32⟩
  | 76 => ⟨S16x4224x4224, .f32⟩
  | 77 => ⟨S16x4224x4224, .f32⟩
  | 78 => ⟨S16x4224x4224, .f32⟩
  | 79 => ⟨S16x4224x4224, .i1⟩
  | 80 => ⟨S16x4224x4224, .f32⟩
  | 81 => ⟨S16x4224x4224, .f32⟩
  | 82 => ⟨S16x4224x4224, .f32⟩
  | 83 => ⟨S16x4224x4224, .f32⟩
  | 84 => ⟨S16x4224x4224, .f32⟩
  | 85 => ⟨S16x4224x4224, .f32⟩
  | 86 => ⟨S16x4224x4224, .f32⟩
  | 87 => ⟨S16x4224x4224, .f32⟩
  | 88 => ⟨S_, .f32⟩
  | 89 => ⟨S16x4224x4224, .f32⟩
  | 90 => ⟨S16x4224x4224, .i1⟩
  | 91 => ⟨S_, .f32⟩
  | 92 => ⟨S16x4224x4224, .f32⟩
  | 93 => ⟨S16x4224x4224, .f32⟩
  | 94 => ⟨S_, .f32⟩
  | 95 => ⟨S16x4224x4224, .f32⟩
  | 96 => ⟨S16x4224x4224, .i1⟩
  | 97 => ⟨S_, .f32⟩
  | 98 => ⟨S16x4224x4224, .f32⟩
  | 99 => ⟨S16x4224x4224, .f32⟩
  | 100 => ⟨S16x4224x4224, .f32⟩
  | 101 => ⟨S16x4224x4224, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S16x4224x4224, .f32⟩
  | 110 => ⟨S16x4224x4224, .i1⟩
  | 111 => ⟨S_, .f32⟩
  | 112 => ⟨S16x4224x4224, .f32⟩
  | 113 => ⟨S16x4224x4224, .f32⟩
  | 114 => ⟨S16x4224x4224, .f32⟩
  | 115 => ⟨S16x4224x4224, .f32⟩
  | 116 => ⟨S16x4224x4224, .f32⟩
  | 117 => ⟨S_, .f32⟩
  | 118 => ⟨S16x4224x4224, .f32⟩
  | 119 => ⟨S16x4224x4224, .f32⟩
  | 120 => ⟨S16x4224x4224, .f32⟩
  | 121 => ⟨S16x4224x4224, .f32⟩
  | 122 => ⟨S16x4224x4224, .f32⟩
  | 123 => ⟨S_, .f32⟩
  | 124 => ⟨S_, .f32⟩
  | 125 => ⟨S16x4224x4224, .i1⟩
  | 126 => ⟨S16x4224x4224, .f32⟩
  | 127 => ⟨S16x4224x4224, .f32⟩
  | _ => ⟨S16x4224x64, .f32⟩

abbrev hbmTy0_1 (i : Nat) : BufTy := match i % 128 with
  | 0 => ⟨S_, .f32⟩
  | 1 => ⟨S16x4224x4224, .f32⟩
  | 2 => ⟨S16x4224x64, .f32⟩
  | 3 => ⟨S16x64x4224, .f32⟩
  | 4 => ⟨S16x4224x64, .f32⟩
  | 5 => ⟨S16x4224x4224, .f32⟩
  | 6 => ⟨S_, .f32⟩
  | 7 => ⟨S16x4224x4224, .f32⟩
  | 8 => ⟨S16x4224x4224, .f32⟩
  | 9 => ⟨S16x4224x4224, .f32⟩
  | 10 => ⟨S16x4224x4224, .f32⟩
  | 11 => ⟨S16x4224x4224, .f32⟩
  | 12 => ⟨S16x4224x4224, .f32⟩
  | 13 => ⟨S16x4224x4224, .f32⟩
  | 14 => ⟨S_, .f32⟩
  | 15 => ⟨S_, .f32⟩
  | 16 => ⟨S16x4224x4224, .f32⟩
  | 17 => ⟨S16x4224x4224, .f32⟩
  | 18 => ⟨S_, .f32⟩
  | 19 => ⟨S16x4224x4224, .f32⟩
  | 20 => ⟨S16x4224x4224, .f32⟩
  | 21 => ⟨S16x4224x4224, .f32⟩
  | 22 => ⟨S16x4224x4224, .f32⟩
  | 23 => ⟨S16x4224x4224, .f32⟩
  | 24 => ⟨S16x4224x64, .f32⟩
  | 25 => ⟨S16x4224x64, .f32⟩
  | 26 => ⟨S_, .f32⟩
  | 27 => ⟨S16x4224x64, .f32⟩
  | 28 => ⟨S16x4224x64, .f32⟩
  | 29 => ⟨S16x33x128x64, .f32⟩
  | 30 => ⟨S16x33x64x128, .f32⟩
  | 31 => ⟨S16x33x128x64, .f32⟩
  | 32 => ⟨S16x33x64x128, .f32⟩
  | _ => ⟨S16x4224x64, .f32⟩

abbrev hbmTy (i : Nat) : BufTy := match i / 128 with
  | 0 => hbmTy0_0 i
  | 1 => hbmTy0_1 i
  | _ => ⟨S16x4224x64, .f32⟩

abbrev bufTy : (tb : Table) → Fin (tcTables nBuf tb) → BufTy
  | .hbm, ⟨i, _⟩ => hbmTy i
  | _, _ => ⟨S16x4224x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10_0 : Ref sig .tc := ⟨.hbm, 28, rfl⟩
abbrev main_call0_cst_0 : Ref sig .tc := ⟨.hbm, 29, rfl⟩
abbrev main_call0_v13 : Ref sig .tc := ⟨.hbm, 30, rfl⟩
abbrev main_call0_v14 : Ref sig .tc := ⟨.hbm, 31, rfl⟩
abbrev main_call0_cst_1 : Ref sig .tc := ⟨.hbm, 32, rfl⟩
abbrev main_call0_v15 : Ref sig .tc := ⟨.hbm, 33, rfl⟩
abbrev main_call0_v16 : Ref sig .tc := ⟨.hbm, 34, rfl⟩
abbrev main_call0_cst_2 : Ref sig .tc := ⟨.hbm, 35, rfl⟩
abbrev main_call0_v17 : Ref sig .tc := ⟨.hbm, 36, rfl⟩
abbrev main_call0_v18 : Ref sig .tc := ⟨.hbm, 37, rfl⟩
abbrev main_call0_cst_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_v10_1 : Ref sig .tc := ⟨.hbm, 42, rfl⟩
abbrev main_call0_cst_4 : Ref sig .tc := ⟨.hbm, 43, rfl⟩
abbrev main_call0_cst_5 : Ref sig .tc := ⟨.hbm, 44, rfl⟩
abbrev main_call0_v23 : Ref sig .tc := ⟨.hbm, 45, rfl⟩
abbrev main_call0_cst_6 : Ref sig .tc := ⟨.hbm, 46, rfl⟩
abbrev main_call0_cst_7 : Ref sig .tc := ⟨.hbm, 47, rfl⟩
abbrev main_call0_v24 : Ref sig .tc := ⟨.hbm, 48, rfl⟩
abbrev main_call0_cst_8 : Ref sig .tc := ⟨.hbm, 49, rfl⟩
abbrev main_call0_v25 : Ref sig .tc := ⟨.hbm, 50, rfl⟩
abbrev main_call0_v26 : Ref sig .tc := ⟨.hbm, 51, rfl⟩
abbrev main_call0_cst_9 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_10 : Ref sig .tc := ⟨.hbm, 58, rfl⟩
abbrev main_call0_v32 : Ref sig .tc := ⟨.hbm, 59, rfl⟩
abbrev main_v10_2 : Ref sig .tc := ⟨.hbm, 60, rfl⟩
abbrev main_v11 : Ref sig .tc := ⟨.hbm, 61, rfl⟩
abbrev main_cst_0 : Ref sig .tc := ⟨.hbm, 62, rfl⟩
abbrev main_call1_v0 : Ref sig .tc := ⟨.hbm, 63, rfl⟩
abbrev main_v12_1 : Ref sig .tc := ⟨.hbm, 64, rfl⟩
abbrev main_call1_v2 : Ref sig .tc := ⟨.hbm, 65, rfl⟩
abbrev main_v12_0 : Ref sig .tc := ⟨.hbm, 66, rfl⟩
abbrev main_call1_cst : Ref sig .tc := ⟨.hbm, 67, rfl⟩
abbrev main_v12_2 : Ref sig .tc := ⟨.hbm, 68, rfl⟩
abbrev main_call2_cst : Ref sig .tc := ⟨.hbm, 69, rfl⟩
abbrev main_call2_v0 : Ref sig .tc := ⟨.hbm, 70, rfl⟩
abbrev main_v13 : Ref sig .tc := ⟨.hbm, 71, rfl⟩
abbrev main_v14 : Ref sig .tc := ⟨.hbm, 72, rfl⟩
abbrev main_call3_v0 : Ref sig .tc := ⟨.hbm, 73, rfl⟩
abbrev main_call3_call0_cst : Ref sig .tc := ⟨.hbm, 74, rfl⟩
abbrev main_call3_call0_v0 : Ref sig .tc := ⟨.hbm, 75, rfl⟩
abbrev main_call3_call0_v1 : Ref sig .tc := ⟨.hbm, 76, rfl⟩
abbrev main_call3_call0_v2 : Ref sig .tc := ⟨.hbm, 77, rfl⟩
abbrev main_call3_call0_v3 : Ref sig .tc := ⟨.hbm, 78, rfl⟩
abbrev main_call3_call0_v4 : Ref sig .tc := ⟨.hbm, 79, rfl⟩
abbrev main_call3_call0_v5 : Ref sig .tc := ⟨.hbm, 80, rfl⟩
abbrev main_call3_call0_v6 : Ref sig .tc := ⟨.hbm, 81, rfl⟩
abbrev main_call3_call0_v7 : Ref sig .tc := ⟨.hbm, 82, rfl⟩
abbrev main_call3_call0_v8 : Ref sig .tc := ⟨.hbm, 83, rfl⟩
abbrev main_call3_call0_v9 : Ref sig .tc := ⟨.hbm, 84, rfl⟩
abbrev main_call3_call0_v10 : Ref sig .tc := ⟨.hbm, 85, rfl⟩
abbrev main_call3_call0_v11 : Ref sig .tc := ⟨.hbm, 86, rfl⟩
abbrev main_call3_v1_0 : Ref sig .tc := ⟨.hbm, 87, rfl⟩
abbrev main_call3_call0_cst_0 : Ref sig .tc := ⟨.hbm, 88, rfl⟩
abbrev main_call3_call0_v13 : Ref sig .tc := ⟨.hbm, 89, rfl⟩
abbrev main_call3_call0_v14 : Ref sig .tc := ⟨.hbm, 90, rfl⟩
abbrev main_call3_call0_cst_1 : Ref sig .tc := ⟨.hbm, 91, rfl⟩
abbrev main_call3_call0_v15 : Ref sig .tc := ⟨.hbm, 92, rfl⟩
abbrev main_call3_call0_v16 : Ref sig .tc := ⟨.hbm, 93, rfl⟩
abbrev main_call3_call0_cst_2 : Ref sig .tc := ⟨.hbm, 94, rfl⟩
abbrev main_call3_call0_v17 : Ref sig .tc := ⟨.hbm, 95, rfl⟩
abbrev main_call3_call0_v18 : Ref sig .tc := ⟨.hbm, 96, rfl⟩
abbrev main_call3_call0_cst_3 : Ref sig .tc := ⟨.hbm, 97, rfl⟩
abbrev main_call3_call0_v19 : Ref sig .tc := ⟨.hbm, 98, rfl⟩
abbrev main_call3_call0_v20 : Ref sig .tc := ⟨.hbm, 99, rfl⟩
abbrev main_call3_call0_v21 : Ref sig .tc := ⟨.hbm, 100, rfl⟩
abbrev main_v15_1 : Ref sig .tc := ⟨.hbm, 101, rfl⟩
abbrev main_call3_call0_cst_4 : Ref sig .tc := ⟨.hbm, 102, rfl⟩
abbrev main_call3_call0_cst_5 : Ref sig .tc := ⟨.hbm, 103, rfl⟩
abbrev main_call3_call0_v23 : Ref sig .tc := ⟨.hbm, 104, rfl⟩
abbrev main_call3_call0_cst_6 : Ref sig .tc := ⟨.hbm, 105, rfl⟩
abbrev main_call3_call0_cst_7 : Ref sig .tc := ⟨.hbm, 106, rfl⟩
abbrev main_call3_call0_v24 : Ref sig .tc := ⟨.hbm, 107, rfl⟩
abbrev main_call3_call0_cst_8 : Ref sig .tc := ⟨.hbm, 108, rfl⟩
abbrev main_call3_call0_v25 : Ref sig .tc := ⟨.hbm, 109, rfl⟩
abbrev main_call3_call0_v26 : Ref sig .tc := ⟨.hbm, 110, rfl⟩
abbrev main_call3_call0_cst_9 : Ref sig .tc := ⟨.hbm, 111, rfl⟩
abbrev main_call3_call0_v27 : Ref sig .tc := ⟨.hbm, 112, rfl⟩
abbrev main_call3_call0_v28 : Ref sig .tc := ⟨.hbm, 113, rfl⟩
abbrev main_call3_call0_v29 : Ref sig .tc := ⟨.hbm, 114, rfl⟩
abbrev main_call3_call0_v30 : Ref sig .tc := ⟨.hbm, 115, rfl⟩
abbrev main_call3_call0_v31 : Ref sig .tc := ⟨.hbm, 116, rfl⟩
abbrev main_call3_call0_cst_10 : Ref sig .tc := ⟨.hbm, 117, rfl⟩
abbrev main_call3_call0_v32 : Ref sig .tc := ⟨.hbm, 118, rfl⟩
abbrev main_v15_2 : Ref sig .tc := ⟨.hbm, 119, rfl⟩
abbrev main_v15_0 : Ref sig .tc := ⟨.hbm, 120, rfl⟩
abbrev main_v16 : Ref sig .tc := ⟨.hbm, 121, rfl⟩
abbrev main_v17 : Ref sig .tc := ⟨.hbm, 122, rfl⟩
abbrev main_cst_1 : Ref sig .tc := ⟨.hbm, 123, rfl⟩
abbrev main_call4_v0 : Ref sig .tc := ⟨.hbm, 124, rfl⟩
abbrev main_v18_1 : Ref sig .tc := ⟨.hbm, 125, rfl⟩
abbrev main_call4_v2 : Ref sig .tc := ⟨.hbm, 126, rfl⟩
abbrev main_v18_0 : Ref sig .tc := ⟨.hbm, 127, rfl⟩
abbrev main_call4_cst : Ref sig .tc := ⟨.hbm, 128, rfl⟩
abbrev main_v18_2 : Ref sig .tc := ⟨.hbm, 129, rfl⟩
abbrev main_v19 : Ref sig .tc := ⟨.hbm, 130, rfl⟩
abbrev main_v20 : Ref sig .tc := ⟨.hbm, 131, rfl⟩
abbrev main_v21 : Ref sig .tc := ⟨.hbm, 132, rfl⟩
abbrev main_v22 : Ref sig .tc := ⟨.hbm, 133, rfl⟩
abbrev main_call5_cst : Ref sig .tc := ⟨.hbm, 134, rfl⟩
abbrev main_call5_v0 : Ref sig .tc := ⟨.hbm, 135, rfl⟩
abbrev main_v23 : Ref sig .tc := ⟨.hbm, 136, rfl⟩
abbrev main_v24 : Ref sig .tc := ⟨.hbm, 137, rfl⟩
abbrev main_call6_v0 : Ref sig .tc := ⟨.hbm, 138, rfl⟩
abbrev main_call6_v1 : Ref sig .tc := ⟨.hbm, 139, rfl⟩
abbrev main_v25 : Ref sig .tc := ⟨.hbm, 140, rfl⟩
abbrev main_v26 : Ref sig .tc := ⟨.hbm, 141, rfl⟩
abbrev main_call7_cst : Ref sig .tc := ⟨.hbm, 142, rfl⟩
abbrev main_call7_v0 : Ref sig .tc := ⟨.hbm, 143, rfl⟩
abbrev main_v27 : Ref sig .tc := ⟨.hbm, 144, rfl⟩
abbrev main_v28 : Ref sig .tc := ⟨.hbm, 145, rfl⟩
abbrev main_call8_cst : Ref sig .tc := ⟨.hbm, 146, rfl⟩
abbrev main_call8_v0 : Ref sig .tc := ⟨.hbm, 147, rfl⟩
abbrev main_v29 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_cst_2 : Ref sig .tc := ⟨.hbm, 154, rfl⟩
abbrev main_v35 : Ref sig .tc := ⟨.hbm, 155, rfl⟩
abbrev main_v36 : Ref sig .tc := ⟨.hbm, 156, rfl⟩
abbrev main_v37 : Ref sig .tc := ⟨.hbm, 157, rfl⟩
abbrev main_v38 : Ref sig .tc := ⟨.hbm, 158, rfl⟩
abbrev main_v39 : Ref sig .tc := ⟨.hbm, 159, rfl⟩
abbrev main_v40 : Ref sig .tc := ⟨.hbm, 160, rfl⟩

abbrev nD : Nat := 1
abbrev τ : Topo := Topo.v7x

variable {F : FTy → Type} [FloatOps F]
-- ==== Gate.lean ====
abbrev S4224x2048 : Shape := ⟨2, ![4224, 2048]⟩
abbrev S5632x2048 : Shape := ⟨2, ![5632, 2048]⟩
abbrev S4224x5632 : Shape := ⟨2, ![4224, 5632]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 8
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S5632x2048, .f32⟩
  | .hbm, ⟨2, _⟩ => ⟨S4224x5632, .f32⟩
  | .hbm, ⟨3, _⟩ => ⟨S4224x5632, .f32⟩
  | .hbm, ⟨4, _⟩ => ⟨S4224x2048, .bf16⟩
  | .hbm, ⟨5, _⟩ => ⟨S5632x2048, .bf16⟩
  | .hbm, ⟨6, _⟩ => ⟨S4224x5632, .bf16⟩
  | .hbm, ⟨7, _⟩ => ⟨S4224x5632, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .bf16⟩
  | .local _ .vmem, ⟨9, _⟩ => ⟨S1408x512, .bf16⟩
  | .local _ .vmem, ⟨10, _⟩ => ⟨S1408x512, .bf16⟩
  | .local _ .vmem, ⟨11, _⟩ => ⟨S1408x512, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateReferenceIdeal.lean ====
abbrev S4224x2048 : Shape := ⟨2, ![4224, 2048]⟩
abbrev S5632x2048 : Shape := ⟨2, ![5632, 2048]⟩
abbrev S4224x5632 : Shape := ⟨2, ![4224, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S5632x2048, .f32⟩
  | .hbm, ⟨2, _⟩ => ⟨S4224x5632, .f32⟩
  | .hbm, ⟨3, _⟩ => ⟨S4224x5632, .f32⟩
  | .hbm, ⟨4, _⟩ => ⟨S4224x5632, .f32⟩
  | .hbm, ⟨5, _⟩ => ⟨S4224x5632, .f32⟩
  | .hbm, ⟨6, _⟩ => ⟨S_, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .f32⟩
  | .hbm, ⟨18, _⟩ => ⟨S4224x2048, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .f32⟩
  | .hbm, ⟨24, _⟩ => ⟨S4224x5632, .f32⟩
  | .hbm, ⟨25, _⟩ => ⟨S4224x5632, .f32⟩
  | .hbm, ⟨26, _⟩ => ⟨S4224x5632, .bf16⟩
  | .hbm, ⟨27, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Up.lean ====
abbrev S4224x5632 : Shape := ⟨2, ![4224, 5632]⟩
abbrev S5632x2048 : Shape := ⟨2, ![5632, 2048]⟩
abbrev S4224x2048 : Shape := ⟨2, ![4224, 2048]⟩
abbrev S704x1408 : Shape := ⟨2, ![704, 1408]⟩
abbrev S1408x1024 : Shape := ⟨2, ![1408, 1024]⟩
abbrev S704x1024 : Shape := ⟨2, ![704, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4224x5632, .f32⟩
  | .hbm, ⟨1, _⟩ => ⟨S4224x5632, .f32⟩
  | .hbm, ⟨2, _⟩ => ⟨S5632x2048, .f32⟩
  | .hbm, ⟨3, _⟩ => ⟨S5632x2048, .f32⟩
  | .hbm, ⟨4, _⟩ => ⟨S4224x5632, .bf16⟩
  | .hbm, ⟨5, _⟩ => ⟨S4224x5632, .bf16⟩
  | .hbm, ⟨6, _⟩ => ⟨S5632x2048, .bf16⟩
  | .hbm, ⟨7, _⟩ => ⟨S5632x2048, .bf16⟩
  | .hbm, ⟨8, _⟩ => ⟨S4224x2048, .f32⟩
  | .local _ .vmem, ⟨0, _⟩ => ⟨S704x1408, .bf16⟩
  | .local _ .vmem, ⟨1, _⟩ => ⟨S704x1408, .bf16⟩
  | .local _ .vmem, ⟨2, _⟩ => ⟨S1408x1024, .bf16⟩
  | .local _ .vmem, ⟨3, _⟩ => ⟨S1408x1024, .bf16⟩
  | .local _ .vmem, ⟨4, _⟩ => ⟨S704x1408, .bf16⟩
  | .local _ .vmem, ⟨5, _⟩ => ⟨S704x1408, .bf16⟩
  | .local _ .vmem, ⟨6, _⟩ => ⟨S1408x1024, .bf16⟩
  | .local _ .vmem, ⟨7, _⟩ => ⟨S1408x1024, .bf16⟩
  | .local _ .vmem, ⟨8, _⟩ => ⟨S704x1024, .f32⟩
  | .local _ .vmem, ⟨9, _⟩ => ⟨S704x1024, .f32⟩
  | .local _ .vmem, ⟨10, _⟩ => ⟨S704x1024, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpReferenceIdeal.lean ====
abbrev S4224x5632 : Shape := ⟨2, ![4224, 5632]⟩
abbrev S5632x2048 : Shape := ⟨2, ![5632, 2048]⟩
abbrev S_ : Shape := ⟨0, ![]⟩
abbrev S4224x2048 : Shape := ⟨2, ![4224, 2048]⟩
abbrev S2048x5632 : Shape := ⟨2, ![2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x5632, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S4224x2048, .f32⟩
  | .hbm, ⟨6, _⟩ => ⟨S2048x5632, .f32⟩
  | .hbm, ⟨7, _⟩ => ⟨S4224x5632, .f32⟩
  | .hbm, ⟨8, _⟩ => ⟨S2048x5632, .f32⟩
  | .hbm, ⟨9, _⟩ => ⟨S4224x5632, .f32⟩
  | .hbm, ⟨10, _⟩ => ⟨S4224x2048, .f32⟩
  | .hbm, ⟨11, _⟩ => ⟨S4224x2048, .f32⟩
  | .hbm, ⟨12, _⟩ => ⟨S4224x2048, .f32⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Weight.lean ====
abbrev S4224x5632 : Shape := ⟨2, ![4224, 5632]⟩
abbrev S4224x2048 : Shape := ⟨2, ![4224, 2048]⟩
abbrev S5632x2048 : Shape := ⟨2, ![5632, 2048]⟩
abbrev S4224x512 : Shape := ⟨2, ![4224, 512]⟩
abbrev S4224x1024 : Shape := ⟨2, ![4224, 1024]⟩
abbrev S512x1024 : Shape := ⟨2, ![512, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S4224x5632, .bf16⟩
  | .hbm, ⟨3, _⟩ => ⟨S4224x2048, .bf16⟩
  | .hbm, ⟨4, _⟩ => ⟨S5632x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightReferenceIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S4224x5632, .f32⟩
  | .hbm, ⟨6, _⟩ => ⟨S5632x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownReferenceIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2048, .f32⟩
  | .hbm, ⟨2, _⟩ => ⟨S_, .f32⟩
  | .hbm, ⟨3, _⟩ => ⟨S5632x2048, .f32⟩
  | .hbm, ⟨4, _⟩ => ⟨S4224x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WeightIn.lean ====
abbrev S4224x4608 : Shape := ⟨2, ![4224, 4608]⟩
abbrev S4224x2048 : Shape := ⟨2, ![4224, 2048]⟩
abbrev S4608x2048 : Shape := ⟨2, ![4608, 2048]⟩
abbrev S4224x768 : Shape := ⟨2, ![4224, 768]⟩
abbrev S4224x1024 : Shape := ⟨2, ![4224, 1024]⟩
abbrev S768x1024 : Shape := ⟨2, ![768, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4224x4608, .f32⟩
  | .hbm, ⟨1, _⟩ => ⟨S4224x2048, .f32⟩
  | .hbm, ⟨2, _⟩ => ⟨S4224x4608, .bf16⟩
  | .hbm, ⟨3, _⟩ => ⟨S4224x2048, .bf16⟩
  | .hbm, ⟨4, _⟩ => ⟨S4608x2048, .bf16⟩
  | .local _ .vmem, ⟨0, _⟩ => ⟨S4224x768, .bf16⟩
  | .local _ .vmem, ⟨1, _⟩ => ⟨S4224x768, .bf16⟩
  | .local _ .vmem, ⟨2, _⟩ => ⟨S4224x1024, .bf16⟩
  | .local _ .vmem, ⟨3, _⟩ => ⟨S4224x1024, .bf16⟩
  | .local _ .vmem, ⟨4, _⟩ => ⟨S768x1024, .bf16⟩
  | .local _ .vmem, ⟨5, _⟩ => ⟨S768x1024, .bf16⟩
  | .local _ .vmem, ⟨6, _⟩ => ⟨S8x128, .f32⟩
  | _, _ => ⟨S4224x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightInReferenceIdeal.lean ====
abbrev S4224x4608 : Shape := ⟨2, ![4224, 4608]⟩
abbrev S4224x2048 : Shape := ⟨2, ![4224, 2048]⟩
abbrev S_ : Shape := ⟨0, ![]⟩
abbrev S4608x2048 : Shape := ⟨2, ![4608, 2048]⟩
abbrev S2048x4608 : Shape := ⟨2, ![2048, 4608]⟩

abbrev nBuf : Space → Nat
  | .hbm => 10
  | .vmem => 0
  | .smem => 0
  | _ => 0

abbrev bufTy : (tb : Table) → Fin (tcTables nBuf tb) → BufTy
  | .hbm, ⟨0, _⟩ => ⟨S4224x4608, .f32⟩
  | .hbm, ⟨1, _⟩ => ⟨S4224x2048, .f32⟩
  | .hbm, ⟨2, _⟩ => ⟨S_, .f32⟩
  | .hbm, ⟨3, _⟩ => ⟨S4608x2048, .f32⟩
  | .hbm, ⟨4, _⟩ => ⟨S2048x4608, .f32⟩
  | .hbm, ⟨5, _⟩ => ⟨S4224x4608, .f32⟩
  | .hbm, ⟨6, _⟩ => ⟨S4608x2048, .f32⟩
  | .hbm, ⟨7, _⟩ => ⟨S2048x4608, .f32⟩
  | .hbm, ⟨8, _⟩ => ⟨S4608x2048, .f32⟩
  | .hbm, ⟨9, _⟩ => ⟨S4608x2048, .bf16⟩
  | _, _ => ⟨S4224x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WeightOut.lean ====
abbrev S4224x2048 : Shape := ⟨2, ![4224, 2048]⟩
abbrev S2048x2048 : Shape := ⟨2, ![2048, 2048]⟩
abbrev S4224x512 : Shape := ⟨2, ![4224, 512]⟩
abbrev S4224x1024 : Shape := ⟨2, ![4224, 1024]⟩
abbrev S512x1024 : Shape := ⟨2, ![512, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .bf16⟩
  | .hbm, ⟨3, _⟩ => ⟨S4224x2048, .bf16⟩
  | .hbm, ⟨4, _⟩ => ⟨S2048x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightOutReferenceIdeal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merged.lean ====
abbrev S4224x2048 : Shape := ⟨2, ![4224, 2048]⟩
abbrev S2048x2048 : Shape := ⟨2, ![2048, 2048]⟩
abbrev S1408x2048 : Shape := ⟨2, ![1408, 2048]⟩
abbrev S1024x2048 : Shape := ⟨2, ![1024, 2048]⟩
abbrev S1408x1024 : Shape := ⟨2, ![1408, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .bf16⟩
  | .hbm, ⟨3, _⟩ => ⟨S2048x2048, .bf16⟩
  | .hbm, ⟨4, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .f32⟩
  | .local _ .vmem, ⟨5, _⟩ => ⟨S1408x1024, .f32⟩
  | .local _ .vmem, ⟨6, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedReferenceIdeal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S_, .f32⟩
  | .hbm, ⟨3, _⟩ => ⟨S4224x2048, .f32⟩
  | .hbm, ⟨4, _⟩ => ⟨S4224x2048, .f32⟩
  | .hbm, ⟨5, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BackIn.lean ====
abbrev S4224x4608 : Shape := ⟨2, ![4224, 4608]⟩
abbrev S4608x2048 : Shape := ⟨2, ![4608, 2048]⟩
abbrev S4224x2048 : Shape := ⟨2, ![4224, 2048]⟩
abbrev S1408x1536 : Shape := ⟨2, ![1408, 1536]⟩
abbrev S1536x1024 : Shape := ⟨2, ![1536, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x4608, .f32⟩
  | .hbm, ⟨1, _⟩ => ⟨S4608x2048, .f32⟩
  | .hbm, ⟨2, _⟩ => ⟨S4224x4608, .bf16⟩
  | .hbm, ⟨3, _⟩ => ⟨S4608x2048, .bf16⟩
  | .hbm, ⟨4, _⟩ => ⟨S4224x2048, .f32⟩
  | .local _ .vmem, ⟨0, _⟩ => ⟨S1408x1536, .bf16⟩
  | .local _ .vmem, ⟨1, _⟩ => ⟨S1408x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackInReferenceIdeal.lean ====
abbrev S4224x4608 : Shape := ⟨2, ![4224, 4608]⟩
abbrev S4608x2048 : Shape := ⟨2, ![4608, 2048]⟩
abbrev S_ : Shape := ⟨0, ![]⟩
abbrev S4224x2048 : Shape := ⟨2, ![4224, 2048]⟩
abbrev S2048x4608 : Shape := ⟨2, ![2048, 4608]⟩

abbrev nBuf : Space → Nat
  | .hbm => 7
  | .vmem => 0
  | .smem => 0
  | _ => 0

abbrev bufTy : (tb : Table) → Fin (tcTables nBuf tb) → BufTy
  | .hbm, ⟨0, _⟩ => ⟨S4224x4608, .f32⟩
  | .hbm, ⟨1, _⟩ => ⟨S4608x2048, .f32⟩
  | .hbm, ⟨2, _⟩ => ⟨S_, .f32⟩
  | .hbm, ⟨3, _⟩ => ⟨S4224x2048, .f32⟩
  | .hbm, ⟨4, _⟩ => ⟨S2048x4608, .f32⟩
  | .hbm, ⟨5, _⟩ => ⟨S4224x4608, .f32⟩
  | .hbm, ⟨6, _⟩ => ⟨S4224x2048, .f32⟩
  | _, _ => ⟨S4224x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Glu.lean ====
abbrev S4224x2048 : Shape := ⟨2, ![4224, 2048]⟩
abbrev S5632x2048 : Shape := ⟨2, ![5632, 2048]⟩
abbrev S4224x5632 : Shape := ⟨2, ![4224, 5632]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 9
  | .vmem => 12
  | .smem => 0
  | _ => 0

abbrev bufTy : (tb : Table) → Fin (tcTables nBuf tb) → BufTy
  | .hbm, ⟨0, _⟩ => ⟨S4224x2048, .f32⟩
  | .hbm, ⟨1, _⟩ => ⟨S5632x2048, .f32⟩
  | .hbm, ⟨2, _⟩ => ⟨S5632x2048, .f32⟩
  | .hbm, ⟨3, _⟩ => ⟨S4224x2048, .bf16⟩
  | .hbm, ⟨4, _⟩ => ⟨S5632x2048, .bf16⟩
  | .hbm, ⟨5, _⟩ => ⟨S5632x2048, .bf16⟩
  | .hbm, ⟨6, _⟩ => ⟨S4224x5632, .f32⟩
  | .hbm, ⟨7, _⟩ => ⟨S4224x5632, .f32⟩
  | .hbm, ⟨8, _⟩ => ⟨S4224x5632, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | .local _ .vmem, ⟨9, _⟩ => ⟨S1408x512, .f32⟩
  | .local _ .vmem, ⟨10, _⟩ => ⟨S1408x512, .bf16⟩
  | .local _ .vmem, ⟨11, _⟩ => ⟨S1408x512, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluReferenceIdeal.lean ====
abbrev S4224x2048 : Shape := ⟨2, ![4224, 2048]⟩
abbrev S5632x2048 : Shape := ⟨2, ![5632, 2048]⟩
abbrev S2048x5632 : Shape := ⟨2, ![2048, 5632]⟩
abbrev S4224x5632 : Shape := ⟨2, ![4224, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S5632x2048, .f32⟩
  | .hbm, ⟨2, _⟩ => ⟨S5632x2048, .f32⟩
  | .hbm, ⟨3, _⟩ => ⟨S2048x5632, .f32⟩
  | .hbm, ⟨4, _⟩ => ⟨S4224x5632, .f32⟩
  | .hbm, ⟨5, _⟩ => ⟨S2048x5632, .f32⟩
  | .hbm, ⟨6, _⟩ => ⟨S4224x5632, .f32⟩
  | .hbm, ⟨7, _⟩ => ⟨S4224x5632, .f32⟩
  | .hbm, ⟨8, _⟩ => ⟨S4224x5632, .f32⟩
  | .hbm, ⟨9, _⟩ => ⟨S_, .f32⟩
  | .hbm, ⟨10, _⟩ => ⟨S4224x5632, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x5632, .f32⟩
  | .hbm, ⟨17, _⟩ => ⟨S4224x5632, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== MmDown.lean ====
abbrev S4224x5632 : Shape := ⟨2, ![4224, 5632]⟩
abbrev S5632x2048 : Shape := ⟨2, ![5632, 2048]⟩
abbrev S4224x2048 : Shape := ⟨2, ![4224, 2048]⟩
abbrev S1408x1408 : Shape := ⟨2, ![1408, 1408]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x5632, .bf16⟩
  | .hbm, ⟨3, _⟩ => ⟨S5632x2048, .bf16⟩
  | .hbm, ⟨4, _⟩ => ⟨S4224x2048, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownReferenceIdeal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S5632x2048, .f32⟩
  | .hbm, ⟨2, _⟩ => ⟨S4224x2048, .f32⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmIn.lean ====
abbrev S4224x2048 : Shape := ⟨2, ![4224, 2048]⟩
abbrev S4608x2048 : Shape := ⟨2, ![4608, 2048]⟩
abbrev S4224x4608 : Shape := ⟨2, ![4224, 4608]⟩
abbrev S1408x2048 : Shape := ⟨2, ![1408, 2048]⟩
abbrev S768x2048 : Shape := ⟨2, ![768, 2048]⟩
abbrev S1408x768 : Shape := ⟨2, ![1408, 768]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S4608x2048, .f32⟩
  | .hbm, ⟨2, _⟩ => ⟨S4224x2048, .bf16⟩
  | .hbm, ⟨3, _⟩ => ⟨S4608x2048, .bf16⟩
  | .hbm, ⟨4, _⟩ => ⟨S4224x4608, .f32⟩
  | .local _ .vmem, ⟨0, _⟩ => ⟨S1408x2048, .bf16⟩
  | .local _ .vmem, ⟨1, _⟩ => ⟨S1408x2048, .bf16⟩
  | .local _ .vmem, ⟨2, _⟩ => ⟨S768x2048, .bf16⟩
  | .local _ .vmem, ⟨3, _⟩ => ⟨S768x2048, .bf16⟩
  | .local _ .vmem, ⟨4, _⟩ => ⟨S1408x768, .f32⟩
  | .local _ .vmem, ⟨5, _⟩ => ⟨S1408x768, .f32⟩
  | .local _ .vmem, ⟨6, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmInReferenceIdeal.lean ====
abbrev S4224x2048 : Shape := ⟨2, ![4224, 2048]⟩
abbrev S4608x2048 : Shape := ⟨2, ![4608, 2048]⟩
abbrev S2048x4608 : Shape := ⟨2, ![2048, 4608]⟩
abbrev S4224x4608 : Shape := ⟨2, ![4224, 4608]⟩

abbrev nBuf : Space → Nat
  | .hbm => 4
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4608x2048, .f32⟩
  | .hbm, ⟨2, _⟩ => ⟨S2048x4608, .f32⟩
  | .hbm, ⟨3, _⟩ => ⟨S4224x4608, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmOut.lean ====
abbrev S4224x2048 : Shape := ⟨2, ![4224, 2048]⟩
abbrev S2048x2048 : Shape := ⟨2, ![2048, 2048]⟩
abbrev S1408x2048 : Shape := ⟨2, ![1408, 2048]⟩
abbrev S2048x1024 : Shape := ⟨2, ![2048, 1024]⟩
abbrev S1408x1024 : Shape := ⟨2, ![1408, 1024]⟩
abbrev S8x128 : Shape := ⟨2, ![8, 128]⟩

abbrev nBuf : Space → Nat
  | .hbm => 5
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .bf16⟩
  | .hbm, ⟨3, _⟩ => ⟨S2048x2048, .bf16⟩
  | .hbm, ⟨4, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S8x128, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutReferenceIdeal.lean ====
abbrev S4224x2048 : Shape := ⟨2, ![4224, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .f32⟩
  | .hbm, ⟨2, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .bf16⟩
  | .hbm, ⟨4, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .bf16⟩
  | .local _ .vmem, ⟨6, _⟩ => ⟨S384x2048, .bf16⟩
  | .local _ .vmem, ⟨7, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormReferenceIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S_, .f32⟩
  | .hbm, ⟨30, _⟩ => ⟨S4224, .f32⟩
  | .hbm, ⟨31, _⟩ => ⟨S4224x1, .f32⟩
  | .hbm, ⟨32, _⟩ => ⟨S4224x2048, .f32⟩
  | .hbm, ⟨33, _⟩ => ⟨S4224x2048, .f32⟩
  | .hbm, ⟨34, _⟩ => ⟨S4224x1, .f32⟩
  | .hbm, ⟨35, _⟩ => ⟨S_, .f32⟩
  | .hbm, ⟨36, _⟩ => ⟨S4224x1, .f32⟩
  | .hbm, ⟨37, _⟩ => ⟨S4224x1, .f32⟩
  | .hbm, ⟨38, _⟩ => ⟨S_, .f32⟩
  | .hbm, ⟨39, _⟩ => ⟨S4224, .f32⟩
  | .hbm, ⟨40, _⟩ => ⟨S4224x2048, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== NormRes.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormResReferenceIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S_, .f32⟩
  | .hbm, ⟨41, _⟩ => ⟨S4224, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.KernelIdeal.Words.lean ====
/- The run-time word of the kernel (the number of column groups a row block walks) and the loop it bounds:
   the side conditions the program assumes of it hold for every word. -/
module

public import proofs.«01_k».proof.Proof.Gen.KernelIdeal.Skeleton
public import Idealize.ShloMosaic.Lib.Tactic
public import Idealize.ShloMosaic.Lib.LoopRemainder

@[expose] public section

set_option maxRecDepth 16384

noncomputable section

namespace Cert.KernelIdeal.Attn

open Idealize.ShloMosaic Idealize.ShloMosaic.TcCoe
open Cert.KernelIdeal

/-- The clamped word: at most the row block's own number, whatever the word. -/
theorem clamp_word (n : ℕ) (hn : n < 11) (v : BitVec 32) :
    ∃ j : Fin 11, j.val ≤ n ∧ Scalar.minsi (BitVec.ofNat 32 n) (Scalar.maxsi 0#32 v) = BitVec.ofNat 32 j.val := by
  have hni : (BitVec.ofNat 32 n).toInt = n := by
    rw [BitVec.toInt_ofNat']; simp [Int.bmod]; omega
  have h0 : ∃ w : BitVec 32, 0 ≤ w.toInt ∧ Scalar.maxsi 0#32 v = w := by
    refine ⟨_, ?_, rfl⟩
    simp only [Scalar.maxsi, IntOp.maxsi, BitVec.slt]
    split
    · decide
    · rename_i h; simpa using h
  obtain ⟨w, hw, e⟩ := h0
  rw [e]
  simp only [Scalar.minsi, IntOp.minsi, BitVec.slt, hni]
  split
  · exact ⟨⟨n, hn⟩, le_rfl, rfl⟩
  · rename_i h
    have h' : w.toInt ≤ n := by simpa using h
    have hl : w.toNat = w.toInt := by
      rw [BitVec.toInt_eq_toNat_cond]; rw [BitVec.toInt_eq_toNat_cond] at hw
      split
      · rfl
      · rename_i h2; rw [if_neg h2] at hw; have := w.isLt; omega
    refine ⟨⟨w.toNat, by omega⟩, by show w.toNat ≤ n; omega, ?_⟩
    show w = BitVec.ofNat 32 w.toNat
    simp

/-- The side conditions read the grid point only in its second coordinate and the word only clamped. -/
theorem chk1_congr (i i' : grid0.Coords) (v v' : BitVec 32) (h : (i 1).val = (i' 1).val)
    (e : Scalar.minsi (BitVec.ofNat 32 (i' 1).val) (Scalar.maxsi 0#32 v) = Scalar.minsi (BitVec.ofNat 32 (i' 1).val) (Scalar.maxsi 0#32 v')) :
    k0_chk1 i' v' → k0_chk1 i v := by
  unfold k0_chk1 k0_mult1 k0_mult2 k0_mult3 k0_mult4 k0_mult5 k0_mult6 k0_off2 k0_off3 k0_off4 k0_off5 k0_t1_loop k0_t2_loop
  dsimp only
  rw [h, e]
  exact id

/-- The grid point of row block `n` in the first head. -/
def rowPt (n : Fin 11) : Fin grid0.N := ⟨n.val, by have := n.isLt; have : grid0.N = 176 := (by decide +kernel); omega⟩

theorem rowPt_coord : ∀ n : Fin 11, (grid0.coords (rowPt n) 1).val = n.val := by
  decide +kernel

theorem chk1_words : ∀ n : Fin 11, ∀ j : Fin 11, j.val ≤ n.val →
    k0_chk1 (grid0.coords (rowPt n)) (BitVec.ofNat 32 j.val) := by
  decide +kernel

/-- The side conditions the program assumes of its run-time word hold for every word. -/
theorem chk1 (i : grid0.Coords) (v55 : BitVec 32) : k0_chk1 i v55 := by
  have hn : (i 1).val < 11 := (i 1).isLt
  obtain ⟨j, hj, e⟩ := clamp_word (i 1).val hn v55
  have hs : ∀ n : Fin 11, ∀ j : Fin 11, j.val ≤ n.val →
      Scalar.minsi (BitVec.ofNat 32 n.val) (Scalar.maxsi 0#32 (BitVec.ofNat 32 j.val)) = BitVec.ofNat 32 j.val := by
    decide +kernel
  refine chk1_congr i _ v55 _ (rowPt_coord ⟨_, hn⟩).symm ?_ (chk1_words ⟨_, hn⟩ j hj)
  rw [rowPt_coord ⟨_, hn⟩, hs ⟨_, hn⟩ j hj]
  exact e

end Cert.KernelIdeal.Attn

end
-- ==== Proof.KernelIdeal.Model.lean ====
/- The kernel's body as a function of vectors: one column block of the walk, one trip of the counted loop, the
   three blocks the mask cuts, and the whole body. -/
module

public import proofs.«01_k».proof.Proof.KernelIdeal.Words
public import Idealize.ShloMosaic.Lib.VecWindow

@[expose] public section

set_option maxRecDepth 16384

noncomputable section

namespace Cert.KernelIdeal.Attn

open Idealize.ShloMosaic Idealize.ShloMosaic.TcCoe
open Cert.KernelIdeal Cert.KernelIdeal.Gen

variable {F : FTy → Type} [FloatOps F]

/-- What the body carries from column block to column block: the three gradients, the sum of the logarithms
    passed so far and the sum of the logarithms' gradients passed so far. -/
structure St (F : FTy → Type) where
  dq : Vec F S1x384x64 .f32
  dk : Vec F S1x33x64x128 .f32
  dv : Vec F S1x33x64x128 .f32
  p : Vec F S384x128 .f32
  g : Vec F S384x128 .f32

/-- The row block's operands: the queries and their transpose, the cotangents and their transpose, and the
    rows' totals. -/
structure Rows (F : FTy → Type) where
  q : FVec F S384x64 .bf16
  qt : FVec F S64x384 .bf16
  o : FVec F S384x64 .bf16
  ot : FVec F S64x384 .bf16
  tot : FVec F S384x128 .f32

/-- One unmasked column block: keys `K`, values `V`, and the place `off` of its key and value gradients. -/
def ublk (R : Rows F) (K V : Vec F S1x128x64 .bf16) (off : Fin 4 → ℕ)
    (inb : ∀ a, off a + S1x1x64x128.size a ≤ S1x33x64x128.size a) (s : St F) : St F where
  dq := k0_pay38 (k0_pay3 K) (k0_pay37 R.tot (k0_pay131 (F := F)) (k0_pay7 R.q K) (k0_pay8 R.q (k0_pay130 (F := F)) K) (k0_pay9 R.q (k0_pay130 (F := F)) K) (k0_pay10 R.o V) s.p s.g) s.dq
  dk := VecWindow.put s.dk off S1x1x64x128.size (k0_pay39 R.qt (k0_pay37 R.tot (k0_pay131 (F := F)) (k0_pay7 R.q K) (k0_pay8 R.q (k0_pay130 (F := F)) K) (k0_pay9 R.q (k0_pay130 (F := F)) K) (k0_pay10 R.o V) s.p s.g) (VecWindow.window (s := S1x33x64x128) s.dk off S1x1x64x128.size inb))
  dv := VecWindow.put s.dv off S1x1x64x128.size (k0_pay40 R.ot (k0_pay32 R.tot (k0_pay7 R.q K) (k0_pay8 R.q (k0_pay130 (F := F)) K) (k0_pay9 R.q (k0_pay130 (F := F)) K) s.p) (VecWindow.window (s := S1x33x64x128) s.dv off S1x1x64x128.size inb))
  p := k0_pay35 (k0_pay9 R.q (k0_pay130 (F := F)) K) s.p
  g := k0_pay36 R.tot (k0_pay131 (F := F)) (k0_pay7 R.q K) (k0_pay8 R.q (k0_pay130 (F := F)) K) (k0_pay9 R.q (k0_pay130 (F := F)) K) (k0_pay10 R.o V) s.p s.g

/-- The keys or values of a column block. -/
abbrev col (X : Vec F S1x4224x64 .bf16) (off : Fin 3 → ℕ) (inb : ∀ a, off a + S1x128x64.size a ≤ S1x4224x64.size a) : Vec F S1x128x64 .bf16 :=
  VecWindow.window (s := S1x4224x64) X off S1x128x64.size inb

/-- One trip of the counted loop: three unmasked column blocks. -/
def trip (i : grid0.Coords) (R : Rows F) (X4 X5 : Vec F S1x4224x64 .bf16) (v55 : BitVec 32) (k : Fin (k0_t1_loop i v55).trips) (s : St F) : St F :=
  let blk (r : Fin 3) (s : St F) : St F :=
    ublk R (col X4 (k0_off2 i v55 k (BitVec.ofNat 32 r.val)) (k0_off2_inb i v55 (chk1 i v55) k r))
      (col X5 (k0_off2 i v55 k (BitVec.ofNat 32 r.val)) (k0_off2_inb i v55 (chk1 i v55) k r))
      (k0_off3 i v55 k (BitVec.ofNat 32 r.val)) (k0_off3_inb i v55 (chk1 i v55) k r) s
  blk 2 (blk 1 (blk 0 s))

/-- The state before trip `k`. -/
def loopSt (i : grid0.Coords) (R : Rows F) (X4 X5 : Vec F S1x4224x64 .bf16) (v55 : BitVec 32) (s : St F) : ℕ → St F
  | 0 => s
  | k + 1 => if h : k < (k0_t1_loop i v55).trips then trip i R X4 X5 v55 ⟨k, h⟩ (loopSt i R X4 X5 v55 s k) else loopSt i R X4 X5 v55 s k

theorem loopSt_succ (i : grid0.Coords) (R : Rows F) (X4 X5 : Vec F S1x4224x64 .bf16) (v55 : BitVec 32) (s : St F) (k : Fin (k0_t1_loop i v55).trips) :
    loopSt i R X4 X5 v55 s (k.val + 1) = trip i R X4 X5 v55 k (loopSt i R X4 X5 v55 s k.val) := by
  rw [loopSt, dif_pos k.isLt]

/-- The rows and the columns a row block's mask compares. -/
abbrev rowIota : IVec S384x128 32 := iota .tc S384x128 32 [0] iota_S384x128_d0_w32
abbrev colIota : IVec S384x128 32 := iota .tc S384x128 32 [1] iota_S384x128_d1_w32

/-- The first block the mask cuts: all 384 rows. -/
def mblk0 (i : grid0.Coords) (R : Rows F) (X4 X5 : Vec F S1x4224x64 .bf16) (s : St F) : St F :=
  let K := col X4 (k0_off6 i 0#32) (k0_off6_inb i 0)
  let V := col X5 (k0_off6 i 0#32) (k0_off6_inb i 0)
  let v29 := k0_pay127 rowIota colIota
  let v96 := k0_pay142 R.q K
  let v97 := k0_pay143 R.q v29 (k0_pay130 (F := F)) K
  let v98 := k0_pay144 R.q v29 (k0_pay130 (F := F)) K
  let v99 := k0_pay145 R.o V
  let v183 := k0_pay167 R.tot v29 v96 v97 v98 s.p
  let v186 := k0_pay169 R.tot v29 (k0_pay131 (F := F)) v96 v97 v98 v99 s.p
  let v195 := k0_pay170 R.tot v29 (k0_pay131 (F := F)) v96 v97 v98 v99 s.p s.g
  { dq := k0_pay174 (k0_pay138 K) v195 s.dq
    dk := VecWindow.put s.dk (k0_off7 i 0#32) S1x1x64x128.size (k0_pay175 R.qt v195 (VecWindow.window (s := S1x33x64x128) s.dk (k0_off7 i 0#32) S1x1x64x128.size (k0_off7_inb i 0)))
    dv := VecWindow.put s.dv (k0_off7 i 0#32) S1x1x64x128.size (k0_pay176 R.ot v183 (VecWindow.window (s := S1x33x64x128) s.dv (k0_off7 i 0#32) S1x1x64x128.size (k0_off7_inb i 0)))
    p := k0_pay171 v98 s.p
    g := k0_pay172 v186 s.g }

/-- The second block the mask cuts: rows 128 on. -/
def mblk1 (i : grid0.Coords) (R : Rows F) (X4 X5 : Vec F S1x4224x64 .bf16) (s : St F) : St F :=
  let K := col X4 (k0_off6 i 1#32) (k0_off6_inb i 1)
  let V := col X5 (k0_off6 i 1#32) (k0_off6_inb i 1)
  let P : Vec F S256x128 .f32 := VecWindow.window (s := S384x128) s.p ![128, 0] S256x128.size inb_S384x128_S256x128_128_0
  let G : Vec F S256x128 .f32 := VecWindow.window (s := S384x128) s.g ![128, 0] S256x128.size inb_S384x128_S256x128_128_0
  let D : Vec F S1x256x64 .f32 := VecWindow.window (s := S1x384x64) s.dq ![0, 128, 0] S1x256x64.size inb_S1x384x64_S1x256x64_0_128_0
  let v32 := k0_pay128 rowIota colIota
  let v110 := k0_pay148 R.q K
  let v133 := k0_pay151 v110
  let v134 := k0_pay152 v32 (k0_pay130 (F := F)) v110
  let v135 := k0_pay153 v32 (k0_pay130 (F := F)) v110
  let v137 := k0_pay154 R.o (k0_pay147 V)
  let v240 := k0_pay178 R.tot v32 v133 v134 v135 P
  let v262 := k0_pay183 R.tot v32 (k0_pay131 (F := F)) v133 v134 v135 v137 P G
  { dq := VecWindow.put s.dq ![0, 128, 0] S1x256x64.size (k0_pay184 R.tot v32 (k0_pay131 (F := F)) (k0_pay146 K) v133 v134 v135 v137 P G D)
    dk := VecWindow.put s.dk (k0_off7 i 1#32) S1x1x64x128.size (k0_pay185 R.qt v262 (VecWindow.window (s := S1x33x64x128) s.dk (k0_off7 i 1#32) S1x1x64x128.size (k0_off7_inb i 1)))
    dv := VecWindow.put s.dv (k0_off7 i 1#32) S1x1x64x128.size (k0_pay186 R.ot v240 (VecWindow.window (s := S1x33x64x128) s.dv (k0_off7 i 1#32) S1x1x64x128.size (k0_off7_inb i 1)))
    p := VecWindow.put s.p ![128, 0] S256x128.size (k0_pay181 v135 P)
    g := VecWindow.put s.g ![128, 0] S256x128.size (k0_pay182 R.tot v32 (k0_pay131 (F := F)) v133 v134 v135 v137 P G) }

/-- The third block the mask cuts: rows 256 on. -/
def mblk2 (i : grid0.Coords) (R : Rows F) (X4 X5 : Vec F S1x4224x64 .bf16) (s : St F) : St F :=
  let K := col X4 (k0_off6 i 2#32) (k0_off6_inb i 2)
  let V := col X5 (k0_off6 i 2#32) (k0_off6_inb i 2)
  let P : Vec F S128x128 .f32 := VecWindow.window (s := S384x128) s.p ![256, 0] S128x128.size inb_S384x128_S128x128_256_0
  let G : Vec F S128x128 .f32 := VecWindow.window (s := S384x128) s.g ![256, 0] S128x128.size inb_S384x128_S128x128_256_0
  let D : Vec F S1x128x64 .f32 := VecWindow.window (s := S1x384x64) s.dq ![0, 256, 0] S1x128x64.size inb_S1x384x64_S1x128x64_0_256_0
  let v35 := k0_pay129 rowIota colIota
  let v148 := k0_pay157 R.q K
  let v150 := k0_pay158 R.q K
  let v153 := k0_pay159 R.q K
  let v171 := k0_pay162 v148 v150 v153
  let v172 := k0_pay163 v35 (k0_pay130 (F := F)) v150 v153
  let v173 := k0_pay164 v35 (k0_pay130 (F := F)) v150 v153
  let v175 := k0_pay165 R.o (k0_pay156 V)
  let v300 := k0_pay188 R.tot v35 v171 v172 v173 P
  let v301 := k0_pay189 R.tot v35 v171 v172 v173 v175 P
  let v303 := k0_pay190 R.tot v35 (k0_pay131 (F := F)) v171 v172 v173 v175 P
  let v305 := k0_pay191 v171
  let v307 := k0_pay192 R.tot v35 (k0_pay131 (F := F)) v171 v172 v173 v175 P
  { dq := VecWindow.put s.dq ![0, 256, 0] S1x128x64.size (k0_pay196 v35 (k0_pay155 K) v301 G v305 v307 D)
    dk := VecWindow.put s.dk (k0_off7 i 2#32) S1x1x64x128.size (k0_pay197 R.qt v35 v301 G v305 v307 (VecWindow.window (s := S1x33x64x128) s.dk (k0_off7 i 2#32) S1x1x64x128.size (k0_off7_inb i 2)))
    dv := VecWindow.put s.dv (k0_off7 i 2#32) S1x1x64x128.size (k0_pay1 R.ot v300 (VecWindow.window (s := S1x33x64x128) s.dv (k0_off7 i 2#32) S1x1x64x128.size (k0_off7_inb i 2)))
    p := VecWindow.put s.p ![256, 0] S128x128.size (k0_pay193 (k0_pay187 v173 P))
    g := VecWindow.put s.g ![256, 0] S128x128.size (k0_pay194 v303 G) }

/-- The row block's operands, from the staged blocks. -/
def rows (X2 : Vec F S1x384x64 .bf16) (X3 : Vec F S1x64x384 .bf16) (X6 : Vec F S1x384x64 .bf16) (X7 : Vec F S1x64x384 .bf16) (X8 : Vec F S1x384x128 .f32) : Rows F :=
  ⟨k0_pay122 X2, k0_pay123 X3, k0_pay124 X6, k0_pay125 X7, k0_pay126 X8⟩

/-- The run-time word: how many column groups the row block walks. -/
def word (i : grid0.Coords) (X9 : Vec F S16x11 .f32) : BitVec 32 :=
  Scalar.fptosi 32 (VecWindow.window (s := S16x11) X9 (k0_off1 i) S1x1.size (k0_off1_inb i) (Shape.Idx.first (numel1_S1x1.symm ▸ Nat.one_pos)))

/-- The whole body from key and value gradients `dk`, `dv`, the queries' gradient not yet scaled. -/
def walk (i : grid0.Coords) (R : Rows F) (X4 X5 : Vec F S1x4224x64 .bf16) (v55 : BitVec 32) (dk dv : Vec F S1x33x64x128 .f32) : St F :=
  mblk2 i R X4 X5 (mblk1 i R X4 X5 (mblk0 i R X4 X5
    (loopSt i R X4 X5 v55 ⟨k0_pay119 (F := F), dk, dv, k0_pay120 (F := F), k0_pay121 (F := F)⟩ (k0_t1_loop i v55).trips)))

/-- The place of the block the mask cuts, `r` blocks on: a word computed at each of the eleven row blocks. -/
theorem off7_word : ∀ n : Fin 11, ∀ r : Fin 3,
    (Scalar.indexCast (Scalar.addi (Scalar.muli (BitVec.ofNat 32 n.val) 3#32) (BitVec.ofNat 32 r.val)) : Index).toNat = 3 * n.val + r.val := by
  decide +kernel

theorem off7_eq (i : grid0.Coords) (r : Fin 3) : k0_off7 i (BitVec.ofNat 32 r.val) = ![0, 3 * (i 1).val + r.val, 0, 0] := by
  have hn : (i 1).val < 11 := (i 1).isLt
  have h := off7_word ⟨(i 1).val, hn⟩ r
  unfold k0_off7
  dsimp only at h ⊢
  rw [h]

/-- The key gradient's blocks of the three blocks the mask cuts are apart. -/
theorem win7 (i : grid0.Coords) (r r' : Fin 3) (h : r.val < r'.val) (x : Vec F S1x33x64x128 .f32) (w) :
    VecWindow.window (s := S1x33x64x128) (VecWindow.put (s := S1x33x64x128) x (k0_off7 i (BitVec.ofNat 32 r.val)) ![1, 1, 64, 128] w) (k0_off7 i (BitVec.ofNat 32 r'.val)) ![1, 1, 64, 128] (k0_off7_inb i r')
      = VecWindow.window (s := S1x33x64x128) x (k0_off7 i (BitVec.ofNat 32 r'.val)) ![1, 1, 64, 128] (k0_off7_inb i r') := by
  refine VecWindow.window_put_of_disjoint (s := S1x33x64x128) x _ ![1, 1, 64, 128] _ ![1, 1, 64, 128] (k0_off7_inb i r') w (1 : Fin 4) (Or.inr ?_)
  rw [off7_eq, off7_eq]
  show 3 * (i 1).val + r.val + 1 ≤ 3 * (i 1).val + r'.val
  omega

theorem win12 (i : grid0.Coords) (x : Vec F S1x33x64x128 .f32) (w) :
    VecWindow.window (s := S1x33x64x128) (VecWindow.put (s := S1x33x64x128) x (k0_off7 i 1#32) ![1, 1, 64, 128] w) (k0_off7 i 2#32) ![1, 1, 64, 128] (k0_off7_inb i 2)
      = VecWindow.window (s := S1x33x64x128) x (k0_off7 i 2#32) ![1, 1, 64, 128] (k0_off7_inb i 2) := win7 i 1 2 (by decide) x w

theorem win02 (i : grid0.Coords) (x : Vec F S1x33x64x128 .f32) (w) :
    VecWindow.window (s := S1x33x64x128) (VecWindow.put (s := S1x33x64x128) x (k0_off7 i 0#32) ![1, 1, 64, 128] w) (k0_off7 i 2#32) ![1, 1, 64, 128] (k0_off7_inb i 2)
      = VecWindow.window (s := S1x33x64x128) x (k0_off7 i 2#32) ![1, 1, 64, 128] (k0_off7_inb i 2) := win7 i 0 2 (by decide) x w

theorem win01 (i : grid0.Coords) (x : Vec F S1x33x64x128 .f32) (w) :
    VecWindow.window (s := S1x33x64x128) (VecWindow.put (s := S1x33x64x128) x (k0_off7 i 0#32) ![1, 1, 64, 128] w) (k0_off7 i 1#32) ![1, 1, 64, 128] (k0_off7_inb i 1)
      = VecWindow.window (s := S1x33x64x128) x (k0_off7 i 1#32) ![1, 1, 64, 128] (k0_off7_inb i 1) := win7 i 0 1 (by decide) x w

end Cert.KernelIdeal.Attn

end
-- ==== Proof.KernelIdeal.Trip.lean ====
/- One trip of the counted loop runs to the model's trip. -/
module

public import proofs.«01_k».proof.Proof.KernelIdeal.Model
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Reads

variable {κ : Kind} {sp : Space} {Val : EltTy → Type} {e : EltTy}

theorem rd2 (v : View sig κ sp S384x128 e) (f : v.ty.Contents Val) (inb : ∀ a, ![0, 0] a + ![384, 128] a ≤ S384x128.size a)
    (w) (L) : v.read Val (v.writes Val f (⟨Rect.unit ![0, 0] ![384, 128] inb, w⟩ :: L)) = w := View.read_writes_full v f inb w L
theorem ra2 (v : View sig κ sp S384x128 e) (f : v.ty.Contents Val) (inb : ∀ a, ![0, 0] a + ![384, 128] a ≤ S384x128.size a) :
    v.readAt Val (Rect.unit ![0, 0] ![384, 128] inb).toLoadRect f = v.read Val f := View.readAt_full v f inb
theorem rc2 [∀ e, Nonempty (Val e)] (v : View sig κ sp S384x128 e) (inb inb' : ∀ a, ![0, 0] a + ![384, 128] a ≤ S384x128.size a) (w) (L) :
    v.readCov (Val := Val) (⟨Rect.unit ![0, 0] ![384, 128] inb', w⟩ :: L) (Rect.unit ![0, 0] ![384, 128] inb).toLoadRect = w := View.readCov_full v inb inb' w L
theorem rd3 (v : View sig κ sp S1x384x64 e) (f : v.ty.Contents Val) (inb : ∀ a, ![0, 0, 0] a + ![1, 384, 64] a ≤ S1x384x64.size a)
    (w) (L) : v.read Val (v.writes Val f (⟨Rect.unit ![0, 0, 0] ![1, 384, 64] inb, w⟩ :: L)) = w := View.read_writes_full v f inb w L
theorem ra3 (v : View sig κ sp S1x384x64 e) (f : v.ty.Contents Val) (inb : ∀ a, ![0, 0, 0] a + ![1, 384, 64] a ≤ S1x384x64.size a) :
    v.readAt Val (Rect.unit ![0, 0, 0] ![1, 384, 64] inb).toLoadRect f = v.read Val f := View.readAt_full v f inb
theorem rc3 [∀ e, Nonempty (Val e)] (v : View sig κ sp S1x384x64 e) (inb inb' : ∀ a, ![0, 0, 0] a + ![1, 384, 64] a ≤ S1x384x64.size a) (w) (L) :
    v.readCov (Val := Val) (⟨Rect.unit ![0, 0, 0] ![1, 384, 64] inb', w⟩ :: L) (Rect.unit ![0, 0, 0] ![1, 384, 64] inb).toLoadRect = w := View.readCov_full v inb inb' w L
theorem raw {s : Shape} (v : View sig κ sp s e) (f : v.ty.Contents Val) {off size : Fin s.rank → ℕ} (inb : ∀ a, off a + size a ≤ s.size a) :
    v.readAt Val (Rect.unit off size inb).toLoadRect f = VecWindow.window (v.read Val f) off size inb := View.readAt_unit v f inb rfl inb
theorem rdw {s : Shape} (v : View sig κ sp s e) (f : v.ty.Contents Val) {off size : Fin s.rank → ℕ} (inb : ∀ a, off a + size a ≤ s.size a) (w) (L) :
    v.read Val (v.writes Val f (⟨Rect.unit off size inb, w⟩ :: L)) = VecWindow.put (v.read Val (v.writes Val f L)) off size w := View.read_writes_cons_put v f inb w L rfl

end Reads

/-- The buffers a trip touches: keys and values as given, the rest at the state. -/
abbrev Held (c : Dev nD) (arg4 arg5 : Memref sig .tc .vmem S1x4224x64 .bf16) (arg10 : Memref sig .tc .vmem S1x384x64 .f32)
    (arg11 arg12 : Memref sig .tc .vmem S1x33x64x128 .f32) (arg13 arg14 : Memref sig .tc .vmem S384x128 .f32)
    (X4 X5 : Vec F S1x4224x64 .bf16) (s : St F) : sProp 𝕄 :=
  iprop(owns (c : Thread nD τ) arg4 fullShare X4 ∗ owns (c : Thread nD τ) arg5 fullShare X5 ∗ owns (c : Thread nD τ) arg10 fullShare s.dq
    ∗ owns (c : Thread nD τ) arg11 fullShare s.dk ∗ owns (c : Thread nD τ) arg12 fullShare s.dv
    ∗ owns (c : Thread nD τ) arg13 fullShare s.p ∗ owns (c : Thread nD τ) arg14 fullShare s.g)

theorem trip_run (𝒱 : Variants) (c : Dev nD) (bd : Option 𝒱.V) (E : Set ℕ) (i : grid0.Coords) (arg2 : Memref sig .tc .vmem S1x384x64 .bf16) (harg2 : arg2.IsWhole) (arg3 : Memref sig .tc .vmem S1x64x384 .bf16) (harg3 : arg3.IsWhole) (arg4 : Memref sig .tc .vmem S1x4224x64 .bf16) (harg4 : arg4.IsWhole) (arg5 : Memref sig .tc .vmem S1x4224x64 .bf16) (harg5 : arg5.IsWhole) (arg6 : Memref sig .tc .vmem S1x384x64 .bf16) (harg6 : arg6.IsWhole) (arg7 : Memref sig .tc .vmem S1x64x384 .bf16) (harg7 : arg7.IsWhole) (arg8 : Memref sig .tc .vmem S1x384x128 .f32) (harg8 : arg8.IsWhole) (arg9 : Memref sig .tc .smem S16x11 .f32) (harg9 : arg9.IsWhole) (arg10 : Memref sig .tc .vmem S1x384x64 .f32) (harg10 : arg10.IsWhole) (arg11 : Memref sig .tc .vmem S1x33x64x128 .f32) (harg11 : arg11.IsWhole) (arg12 : Memref sig .tc .vmem S1x33x64x128 .f32) (harg12 : arg12.IsWhole) (arg13 : Memref sig .tc .vmem S384x128 .f32) (harg13 : arg13.IsWhole) (arg14 : Memref sig .tc .vmem S384x128 .f32) (harg14 : arg14.IsWhole) (arg0 : BitVec 32) (arg1 : BitVec 32) (v16 : FVec F S384x64 .bf16) (v18 : FVec F S64x384 .bf16) (v20 : FVec F S384x64 .bf16) (v22 : FVec F S64x384 .bf16) (v24 : FVec F S384x128 .f32) (v25 : IVec S384x128 32) (v26 : IVec S384x128 32) (v55 : BitVec 32) (v58 : BitVec 32) (hw : k0_chk1 i v55)
    (X4 X5 : Vec F S1x4224x64 .bf16) (s : St F) (k : Fin (k0_t1_loop i v55).trips) :
    Held (F := F) c arg4 arg5 arg10 arg11 arg12 arg13 arg14 X4 X5 s
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg0 arg1 v16 v18 v20 v22 v24 v25 v26 v55 hw v58 k PUnit.unit)
          (fun _ => Held (F := F) c arg4 arg5 arg10 arg11 arg12 arg13 arg14 X4 X5 (trip i ⟨v16, v18, v20, v22, v24⟩ X4 X5 v55 k s)) := by
  obtain ⟨sdq, sdk, sdv, sp, sg⟩ := s
  unfold Held owns
  iintro ⟨⟨%f4, %h4, H4⟩, ⟨%f5, %h5, H5⟩, ⟨%f10, %h10, H10⟩, ⟨%f11, %h11, H11⟩, ⟨%f12, %h12, H12⟩, ⟨%f13, %h13, H13⟩, ⟨%f14, %h14, H14⟩⟩
  dsimp only at h10 h11 h12 h13 h14
  unfold k0_t1_body
  sl_exec
  sl_step
  isplitl [H4]; · iexists _; isplitr; swap; · iexact H4
                  ipureintro; exact h4
  isplitl [H5]; · iexists _; isplitr; swap; · iexact H5
                  ipureintro; exact h5
  isplitl [H10]
  · iexists _; isplitr; swap; · iexact H10
    ipureintro
    (sl_unfold_run_names; simp only [rd2, ra2, rc2, rd3, ra3, rc3, h13, h14, h10, h4, h5]; simp only [raw, rdw, View.writes_nil, h11, h12, h4, h5]; rfl)
  isplitl [H11]
  · iexists _; isplitr; swap; · iexact H11
    ipureintro
    (sl_unfold_run_names; simp only [rd2, ra2, rc2, rd3, ra3, rc3, h13, h14, h10, h4, h5]; simp only [raw, rdw, View.writes_nil, h11, h12, h4, h5]; rfl)
  isplitl [H12]
  · iexists _; isplitr; swap; · iexact H12
    ipureintro
    (sl_unfold_run_names; simp only [rd2, ra2, rc2, rd3, ra3, rc3, h13, h14, h10, h4, h5]; simp only [raw, rdw, View.writes_nil, h11, h12, h4, h5]; rfl)
  isplitl [H13]
  · iexists _; isplitr; swap; · iexact H13
    ipureintro
    (sl_unfold_run_names; simp only [rd2, ra2, rc2, rd3, ra3, rc3, h13, h14, h10, h4, h5]; simp only [raw, rdw, View.writes_nil, h11, h12, h4, h5]; rfl)
  iexists _; isplitr; swap; · iexact H14
  ipureintro
  (sl_unfold_run_names; simp only [rd2, ra2, rc2, rd3, ra3, rc3, h13, h14, h10, h4, h5]; simp only [raw, rdw, View.writes_nil, h11, h12, h4, h5]; rfl)

end Cert.KernelIdeal.Attn

end
-- ==== Proof.KernelIdeal.Run.lean ====
/- The kernel's body runs to the model's walk. -/
module

public import proofs.«01_k».proof.Proof.KernelIdeal.Trip
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section Reads

variable {κ : Kind} {sp : Space} {Val : EltTy → Type} {e : EltTy}

theorem ra33 (v : View sig κ sp S1x64x384 e) (f : v.ty.Contents Val) (inb : ∀ a, ![0, 0, 0] a + ![1, 64, 384] a ≤ S1x64x384.size a) :
    v.readAt Val (Rect.unit ![0, 0, 0] ![1, 64, 384] inb).toLoadRect f = v.read Val f := View.readAt_full v f inb
theorem ra8 (v : View sig κ sp S1x384x128 e) (f : v.ty.Contents Val) (inb : ∀ a, ![0, 0, 0] a + ![1, 384, 128] a ≤ S1x384x128.size a) :
    v.readAt Val (Rect.unit ![0, 0, 0] ![1, 384, 128] inb).toLoadRect f = v.read Val f := View.readAt_full v f inb
theorem rcw [∀ e, Nonempty (Val e)] {s : Shape} (v : View sig κ sp s e) (L) {off size : Fin s.rank → ℕ} (inb : ∀ a, off a + size a ≤ s.size a) :
    v.readCov (Val := Val) L (Rect.unit off size inb).toLoadRect = VecWindow.window (v.read Val (v.writes Val v.junk L)) off size inb := raw v _ inb
theorem rcf [∀ e, Nonempty (Val e)] (v : View sig κ sp S1x384x64 e) (L) (inb : ∀ a, ![0, 0, 0] a + ![1, 384, 64] a ≤ S1x384x64.size a) :
    v.readCov (Val := Val) L (Rect.unit ![0, 0, 0] ![1, 384, 64] inb).toLoadRect = v.read Val (v.writes Val v.junk L) := ra3 v _ inb
theorem rd4 (v : View sig κ sp S1x33x64x128 e) (f : v.ty.Contents Val) (inb : ∀ a, ![0, 0, 0, 0] a + ![1, 33, 64, 128] a ≤ S1x33x64x128.size a)
    (w) (L) : v.read Val (v.writes Val f (⟨Rect.unit ![0, 0, 0, 0] ![1, 33, 64, 128] inb, w⟩ :: L)) = w := View.read_writes_full v f inb w L

end Reads

/-- The buffers before trip `k` of the counted loop: they hold the model's state. -/
abbrev walkAt (c : Dev nD) (i : grid0.Coords) (arg4 : Memref sig .tc .vmem S1x4224x64 .bf16) (arg5 : Memref sig .tc .vmem S1x4224x64 .bf16) (arg10 : Memref sig .tc .vmem S1x384x64 .f32) (arg11 : Memref sig .tc .vmem S1x33x64x128 .f32) (arg12 : Memref sig .tc .vmem S1x33x64x128 .f32) (arg13 : Memref sig .tc .vmem S384x128 .f32) (arg14 : Memref sig .tc .vmem S384x128 .f32) (v16 : FVec F S384x64 .bf16) (v18 : FVec F S64x384 .bf16) (v20 : FVec F S384x64 .bf16) (v22 : FVec F S64x384 .bf16) (v24 : FVec F S384x128 .f32) (v55 : BitVec 32) (G4 : BufTy.Contents (Elt F) arg4.view.ty) (G5 : BufTy.Contents (Elt F) arg5.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (k : ℕ) : sProp 𝕄 :=
  iprop((arg4.view.loc (c : Thread nD τ) ↦[arg4.view.set]{fullShare} G4) ∗ (arg5.view.loc (c : Thread nD τ) ↦[arg5.view.set]{fullShare} G5)
    ∗ (∃ f, (arg10.view.loc (c : Thread nD τ) ↦[arg10.view.set]{fullShare} f) ∗ ⌜arg10.view.read (Elt F) f = (loopSt i ⟨v16, v18, v20, v22, v24⟩ (arg4.view.read (Elt F) G4) (arg5.view.read (Elt F) G5) v55 ⟨arg10.view.read (Elt F) G10, arg11.view.read (Elt F) G11, arg12.view.read (Elt F) G12, arg13.view.read (Elt F) G13, arg14.view.read (Elt F) G14⟩ k).dq⌝) ∗ (∃ f, (arg11.view.loc (c : Thread nD τ) ↦[arg11.view.set]{fullShare} f) ∗ ⌜arg11.view.read (Elt F) f = (loopSt i ⟨v16, v18, v20, v22, v24⟩ (arg4.view.read (Elt F) G4) (arg5.view.read (Elt F) G5) v55 ⟨arg10.view.read (Elt F) G10, arg11.view.read (Elt F) G11, arg12.view.read (Elt F) G12, arg13.view.read (Elt F) G13, arg14.view.read (Elt F) G14⟩ k).dk⌝) ∗ (∃ f, (arg12.view.loc (c : Thread nD τ) ↦[arg12.view.set]{fullShare} f) ∗ ⌜arg12.view.read (Elt F) f = (loopSt i ⟨v16, v18, v20, v22, v24⟩ (arg4.view.read (Elt F) G4) (arg5.view.read (Elt F) G5) v55 ⟨arg10.view.read (Elt F) G10, arg11.view.read (Elt F) G11, arg12.view.read (Elt F) G12, arg13.view.read (Elt F) G13, arg14.view.read (Elt F) G14⟩ k).dv⌝) ∗ (∃ f, (arg13.view.loc (c : Thread nD τ) ↦[arg13.view.set]{fullShare} f) ∗ ⌜arg13.view.read (Elt F) f = (loopSt i ⟨v16, v18, v20, v22, v24⟩ (arg4.view.read (Elt F) G4) (arg5.view.read (Elt F) G5) v55 ⟨arg10.view.read (Elt F) G10, arg11.view.read (Elt F) G11, arg12.view.read (Elt F) G12, arg13.view.read (Elt F) G13, arg14.view.read (Elt F) G14⟩ k).p⌝) ∗ (∃ f, (arg14.view.loc (c : Thread nD τ) ↦[arg14.view.set]{fullShare} f) ∗ ⌜arg14.view.read (Elt F) f = (loopSt i ⟨v16, v18, v20, v22, v24⟩ (arg4.view.read (Elt F) G4) (arg5.view.read (Elt F) G5) v55 ⟨arg10.view.read (Elt F) G10, arg11.view.read (Elt F) G11, arg12.view.read (Elt F) G12, arg13.view.read (Elt F) G13, arg14.view.read (Elt F) G14⟩ k).g⌝))

/-- One trip takes the buffers from the state before it to the state after it. -/
theorem walk_step (𝒱 : Variants) (c : Dev nD) (bd : Option 𝒱.V) (E : Set ℕ) (i : grid0.Coords) (arg2 : Memref sig .tc .vmem S1x384x64 .bf16) (harg2 : arg2.IsWhole) (arg3 : Memref sig .tc .vmem S1x64x384 .bf16) (harg3 : arg3.IsWhole) (arg4 : Memref sig .tc .vmem S1x4224x64 .bf16) (harg4 : arg4.IsWhole) (arg5 : Memref sig .tc .vmem S1x4224x64 .bf16) (harg5 : arg5.IsWhole) (arg6 : Memref sig .tc .vmem S1x384x64 .bf16) (harg6 : arg6.IsWhole) (arg7 : Memref sig .tc .vmem S1x64x384 .bf16) (harg7 : arg7.IsWhole) (arg8 : Memref sig .tc .vmem S1x384x128 .f32) (harg8 : arg8.IsWhole) (arg9 : Memref sig .tc .smem S16x11 .f32) (harg9 : arg9.IsWhole) (arg10 : Memref sig .tc .vmem S1x384x64 .f32) (harg10 : arg10.IsWhole) (arg11 : Memref sig .tc .vmem S1x33x64x128 .f32) (harg11 : arg11.IsWhole) (arg12 : Memref sig .tc .vmem S1x33x64x128 .f32) (harg12 : arg12.IsWhole) (arg13 : Memref sig .tc .vmem S384x128 .f32) (harg13 : arg13.IsWhole) (arg14 : Memref sig .tc .vmem S384x128 .f32) (harg14 : arg14.IsWhole) (arg0 : BitVec 32) (arg1 : BitVec 32) (v16 : FVec F S384x64 .bf16) (v18 : FVec F S64x384 .bf16) (v20 : FVec F S384x64 .bf16) (v22 : FVec F S64x384 .bf16) (v24 : FVec F S384x128 .f32) (v25 : IVec S384x128 32) (v26 : IVec S384x128 32) (v55 : BitVec 32) (v58 : BitVec 32) (hw : k0_chk1 i v55) (G4 : BufTy.Contents (Elt F) arg4.view.ty) (G5 : BufTy.Contents (Elt F) arg5.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (k : Fin (k0_t1_loop i v55).trips) (acc : Unit) :
    walkAt (F := F) c i arg4 arg5 arg10 arg11 arg12 arg13 arg14 v16 v18 v20 v22 v24 v55 G4 G5 G10 G11 G12 G13 G14 k.val
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg0 arg1 v16 v18 v20 v22 v24 v25 v26 v55 hw v58 k acc) (fun _ => walkAt (F := F) c i arg4 arg5 arg10 arg11 arg12 arg13 arg14 v16 v18 v20 v22 v24 v55 G4 G5 G10 G11 G12 G13 G14 (k.val + 1)) := by
    unfold walkAt
    iintro ⟨H4, H5, ⟨%f10, H10, %h10⟩, ⟨%f11, H11, %h11⟩, ⟨%f12, H12, %h12⟩, ⟨%f13, H13, %h13⟩, ⟨%f14, H14, %h14⟩⟩
    iapply (wp_wand_r Idealize.ShloMosaic.frame (wpE (defs₀ (F := F)) 𝒱 (c : Thread nD τ) bd) E)
    isplitl [H4 H5 H10 H11 H12 H13 H14]
    · iapply (trip_run (F := F) 𝒱 c bd E i arg2 harg2 arg3 harg3 arg4 harg4 arg5 harg5 arg6 harg6 arg7 harg7 arg8 harg8 arg9 harg9 arg10 harg10 arg11 harg11 arg12 harg12 arg13 harg13 arg14 harg14 arg0 arg1 v16 v18 v20 v22 v24 v25 v26 v55 v58 hw (arg4.view.read (Elt F) G4) (arg5.view.read (Elt F) G5)
        (loopSt i ⟨v16, v18, v20, v22, v24⟩ (arg4.view.read (Elt F) G4) (arg5.view.read (Elt F) G5) v55 ⟨arg10.view.read (Elt F) G10, arg11.view.read (Elt F) G11, arg12.view.read (Elt F) G12, arg13.view.read (Elt F) G13, arg14.view.read (Elt F) G14⟩ k.val) k)
      unfold Held owns
      isplitl [H4]; · iexists _; isplitr; swap; · iexact H4
                      ipureintro; rfl
      isplitl [H5]; · iexists _; isplitr; swap; · iexact H5
                      ipureintro; rfl
      isplitl [H10]; · iexists _; isplitr; swap; · iexact H10
                       ipureintro; exact h10
      isplitl [H11]; · iexists _; isplitr; swap; · iexact H11
                       ipureintro; exact h11
      isplitl [H12]; · iexists _; isplitr; swap; · iexact H12
                       ipureintro; exact h12
      isplitl [H13]; · iexists _; isplitr; swap; · iexact H13
                       ipureintro; exact h13
      iexists _; isplitr; swap; · iexact H14
      ipureintro; exact h14
    · unfold Held owns
      rw [loopSt_succ]
      iintro %_ ⟨⟨%e4, %he4, H4⟩, ⟨%e5, %he5, H5⟩, ⟨%e10, %he10, H10⟩, ⟨%e11, %he11, H11⟩, ⟨%e12, %he12, H12⟩, ⟨%e13, %he13, H13⟩, ⟨%e14, %he14, H14⟩⟩
      obtain rfl : e4 = G4 := (harg4.eq_unread he4).trans (harg4.eq_unread rfl).symm
      obtain rfl : e5 = G5 := (harg5.eq_unread he5).trans (harg5.eq_unread rfl).symm
      isplitl [H4]; · iexact H4
      isplitl [H5]; · iexact H5
      isplitl [H10]; · iexists _; isplitl [H10]; · iexact H10
                       ipureintro; exact he10
      isplitl [H11]; · iexists _; isplitl [H11]; · iexact H11
                       ipureintro; exact he11
      isplitl [H12]; · iexists _; isplitl [H12]; · iexact H12
                       ipureintro; exact he12
      isplitl [H13]; · iexists _; isplitl [H13]; · iexact H13
                       ipureintro; exact he13
      iexists _; isplitl [H14]; · iexact H14
      ipureintro; exact he14

/-- The remainder loop makes no trip. -/
theorem rest_trips (i : grid0.Coords) (v55 : BitVec 32) : (k0_t2_loop i v55).trips = 0 := Scf.rem_trips _ _

/-- So it is its initial value. -/
theorem rest_for {E : Type → Type} (i : grid0.Coords) (v55 : BitVec 32) (hok) (init : Unit) (body : Fin (k0_t2_loop i v55).trips → Unit → Prog E Unit) :
    (k0_t2_loop i v55).for hok init body = .ret init := Scf.for_eq_ret _ _ _ hok init body (rest_trips i v55)

/-- Whether the body clears the key and value gradients: at the first row block. -/
abbrev first (i : grid0.Coords) : Prop := (Scalar.cmpi .ne (Scalar.extui (Scalar.cmpi .eq (BitVec.ofNat 32 (i 1).val) 0#32)) 0#32) = 1#1

/-- What the body holds: its inputs at their blocks, its outputs and scratch at `X10`, `X11`, `X12`, the scratch at anything. -/
abbrev Staged (c : Dev nD) (arg2 : Memref sig .tc .vmem S1x384x64 .bf16) (harg2 : arg2.IsWhole) (arg3 : Memref sig .tc .vmem S1x64x384 .bf16) (harg3 : arg3.IsWhole) (arg4 : Memref sig .tc .vmem S1x4224x64 .bf16) (harg4 : arg4.IsWhole) (arg5 : Memref sig .tc .vmem S1x4224x64 .bf16) (harg5 : arg5.IsWhole) (arg6 : Memref sig .tc .vmem S1x384x64 .bf16) (harg6 : arg6.IsWhole) (arg7 : Memref sig .tc .vmem S1x64x384 .bf16) (harg7 : arg7.IsWhole) (arg8 : Memref sig .tc .vmem S1x384x128 .f32) (harg8 : arg8.IsWhole) (arg9 : Memref sig .tc .smem S16x11 .f32) (harg9 : arg9.IsWhole) (arg10 : Memref sig .tc .vmem S1x384x64 .f32) (harg10 : arg10.IsWhole) (arg11 : Memref sig .tc .vmem S1x33x64x128 .f32) (harg11 : arg11.IsWhole) (arg12 : Memref sig .tc .vmem S1x33x64x128 .f32) (harg12 : arg12.IsWhole) (arg13 : Memref sig .tc .vmem S384x128 .f32) (harg13 : arg13.IsWhole) (arg14 : Memref sig .tc .vmem S384x128 .f32) (harg14 : arg14.IsWhole)
    (X2 : Vec F S1x384x64 .bf16) (X3 : Vec F S1x64x384 .bf16) (X4 X5 : Vec F S1x4224x64 .bf16) (X6 : Vec F S1x384x64 .bf16) (X7 : Vec F S1x64x384 .bf16)
    (X8 : Vec F S1x384x128 .f32) (X9 : Vec F S16x11 .f32) (P10 P11 P12 : sProp 𝕄) : sProp 𝕄 :=
  iprop(owns (c : Thread nD τ) arg2 fullShare X2 ∗ owns (c : Thread nD τ) arg3 fullShare X3 ∗ owns (c : Thread nD τ) arg4 fullShare X4
    ∗ owns (c : Thread nD τ) arg5 fullShare X5 ∗ owns (c : Thread nD τ) arg6 fullShare X6 ∗ owns (c : Thread nD τ) arg7 fullShare X7
    ∗ owns (c : Thread nD τ) arg8 fullShare X8 ∗ owns (c : Thread nD τ) arg9 fullShare X9
    ∗ P10 ∗ P11 ∗ P12
    ∗ (∃ d, owns (c : Thread nD τ) arg13 fullShare d) ∗ (∃ d, owns (c : Thread nD τ) arg14 fullShare d))

/-- A later row block of a head: the key and value gradients go on from what the buffers hold. -/
theorem run_next (c : Dev nD) (i : grid0.Coords) (arg2 : Memref sig .tc .vmem S1x384x64 .bf16) (harg2 : arg2.IsWhole) (arg3 : Memref sig .tc .vmem S1x64x384 .bf16) (harg3 : arg3.IsWhole) (arg4 : Memref sig .tc .vmem S1x4224x64 .bf16) (harg4 : arg4.IsWhole) (arg5 : Memref sig .tc .vmem S1x4224x64 .bf16) (harg5 : arg5.IsWhole) (arg6 : Memref sig .tc .vmem S1x384x64 .bf16) (harg6 : arg6.IsWhole) (arg7 : Memref sig .tc .vmem S1x64x384 .bf16) (harg7 : arg7.IsWhole) (arg8 : Memref sig .tc .vmem S1x384x128 .f32) (harg8 : arg8.IsWhole) (arg9 : Memref sig .tc .smem S16x11 .f32) (harg9 : arg9.IsWhole) (arg10 : Memref sig .tc .vmem S1x384x64 .f32) (harg10 : arg10.IsWhole) (arg11 : Memref sig .tc .vmem S1x33x64x128 .f32) (harg11 : arg11.IsWhole) (arg12 : Memref sig .tc .vmem S1x33x64x128 .f32) (harg12 : arg12.IsWhole) (arg13 : Memref sig .tc .vmem S384x128 .f32) (harg13 : arg13.IsWhole) (arg14 : Memref sig .tc .vmem S384x128 .f32) (harg14 : arg14.IsWhole) (hc0 : ¬ first i)
    (X2 : Vec F S1x384x64 .bf16) (X3 : Vec F S1x64x384 .bf16) (X4 X5 : Vec F S1x4224x64 .bf16) (X6 : Vec F S1x384x64 .bf16) (X7 : Vec F S1x64x384 .bf16)
    (X8 : Vec F S1x384x128 .f32) (X9 : Vec F S16x11 .f32) (X11 X12 : Vec F S1x33x64x128 .f32) (E : Set ℕ) (K : PUnit → sProp 𝕄) :
    iprop(Staged (F := F) c arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 iprop(∃ d, owns (c : Thread nD τ) arg10 fullShare d) (owns (c : Thread nD τ) arg11 fullShare X11) (owns (c : Thread nD τ) arg12 fullShare X12)
      ∗ (Staged (F := F) c arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9
          (owns (c : Thread nD τ) arg10 fullShare (k0_pay2 (walk i (rows X2 X3 X6 X7 X8) X4 X5 (word i X9) X11 X12).dq))
          (owns (c : Thread nD τ) arg11 fullShare (walk i (rows X2 X3 X6 X7 X8) X4 X5 (word i X9) X11 X12).dk)
          (owns (c : Thread nD τ) arg12 fullShare (walk i (rows X2 X3 X6 X7 X8) X4 X5 (word i X9) X11 X12).dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold Staged
  simp only [cc0_attn_bwd_eq_skeleton]; unfold cc0_attn_bwd_skel
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, %h10, H10⟩, ⟨%f11, %h11, H11⟩, ⟨%f12, %h12, H12⟩, ⟨%d13, %f13, %h13, H13⟩, ⟨%d14, %f14, %h14, H14⟩⟩, Hk⟩
  sl_exec (disch := first | sl_exact hc0 | exact chk1 _ _)
  sl_for (fun k _ => walkAt (F := F) c i arg4 arg5 arg10 arg11 arg12 arg13 arg14 (_root_.Cert.KernelIdeal.Attn.run_next.sl.r c arg2 f2) (_root_.Cert.KernelIdeal.Attn.run_next.sl.r_1 c arg3 f3) (_root_.Cert.KernelIdeal.Attn.run_next.sl.r_2 c arg6 f6) (_root_.Cert.KernelIdeal.Attn.run_next.sl.r_3 c arg7 f7) (_root_.Cert.KernelIdeal.Attn.run_next.sl.r_4 c arg8 f8) (_root_.Cert.KernelIdeal.Attn.run_next.sl.v55 c i arg9 f9) f4 f5 (arg10.view.writes (Elt F) arg10.view.junk _root_.Cert.KernelIdeal.Attn.run_next.sl.H10_1) f11 f12 (arg13.view.writes (Elt F) arg13.view.junk _root_.Cert.KernelIdeal.Attn.run_next.sl.H13_1) (arg14.view.writes (Elt F) arg14.view.junk _root_.Cert.KernelIdeal.Attn.run_next.sl.H14_1) k) $$ [H4 H5 H10 H11 H12 H13 H14]
  · exact fun k acc => walk_step (F := F) Variants.none c none E i _ harg2 _ harg3 _ harg4 _ harg5 _ harg6 _ harg7 _ harg8 _ harg9 _ harg10 _ harg11 _ harg12 _ harg13 _ harg14 _ _ _ _ _ _ _ _ _ _ _ _ _ _ _ _ _ _ _ k acc
  · isplitl [H4]; · iexact H4
    isplitl [H5]; · iexact H5
    isplitl [H10]; · iexists _; isplitl [H10]; · iexact H10
                     ipureintro; rfl
    isplitl [H11]; · iexists _; isplitl [H11]; · iexact H11
                     ipureintro; rfl
    isplitl [H12]; · iexists _; isplitl [H12]; · iexact H12
                     ipureintro; rfl
    isplitl [H13]; · iexists _; isplitl [H13]; · iexact H13
                     ipureintro; rfl
    iexists _; isplitl [H14]; · iexact H14
    ipureintro; rfl
  iintro %acc ⟨H4, H5, ⟨%w10, H10, %e10⟩, ⟨%w11, H11, %e11⟩, ⟨%w12, H12, %e12⟩, ⟨%w13, H13, %e13⟩, ⟨%w14, H14, %e14⟩⟩
  sl_exec (disch := first | sl_exact hc0 | exact chk1 _ _)
  have hR : (⟨_root_.Cert.KernelIdeal.Attn.run_next.sl.r c arg2 f2, _root_.Cert.KernelIdeal.Attn.run_next.sl.r_1 c arg3 f3, _root_.Cert.KernelIdeal.Attn.run_next.sl.r_2 c arg6 f6, _root_.Cert.KernelIdeal.Attn.run_next.sl.r_3 c arg7 f7, _root_.Cert.KernelIdeal.Attn.run_next.sl.r_4 c arg8 f8⟩ : Rows F) = rows X2 X3 X6 X7 X8 := by
    sl_unfold_run_names; simp only [ra2, ra3, ra33, ra8, h2, h3, h6, h7, h8]; rfl
  have hv : _root_.Cert.KernelIdeal.Attn.run_next.sl.v55 c i arg9 f9 = word i X9 := by
    sl_unfold_run_names; simp only [raw, h9]; rfl
  have hS : (⟨arg10.view.read (Elt F) (arg10.view.writes (Elt F) arg10.view.junk _root_.Cert.KernelIdeal.Attn.run_next.sl.H10_1), arg11.view.read (Elt F) f11, arg12.view.read (Elt F) f12, arg13.view.read (Elt F) (arg13.view.writes (Elt F) arg13.view.junk _root_.Cert.KernelIdeal.Attn.run_next.sl.H13_1), arg14.view.read (Elt F) (arg14.view.writes (Elt F) arg14.view.junk _root_.Cert.KernelIdeal.Attn.run_next.sl.H14_1)⟩ : St F) = ⟨k0_pay119, X11, X12, k0_pay120, k0_pay121⟩ := by
    sl_unfold_run_names; simp only [rd2, rd3, h11, h12]
  rw [hR, hv, hS, h4, h5] at e10 e11 e12 e13 e14
  sl_step
  iapply Hk
  unfold walk
  generalize loopSt i (rows X2 X3 X6 X7 X8) X4 X5 (word i X9) ⟨k0_pay119, X11, X12, k0_pay120, k0_pay121⟩ _ = S at e10 e11 e12 e13 e14
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  isplitl [H7]; · iexists _; isplitr; swap; · iexact H7
                  ipureintro; exact h7
  isplitl [H8]; · iexists _; isplitr; swap; · iexact H8
                  ipureintro; exact h8
  isplitl [H9]; · iexists _; isplitr; swap; · iexact H9
                  ipureintro; exact h9
  isplitl [H10]
  · iexists _; isplitr; swap; · iexact H10
    ipureintro
    (sl_unfold_run_names; simp only [rd2, ra2, rc2, rd3, ra3, rc3, ra33, ra8, e13, e14, e10, h2, h3, h4, h5, h6, h7, h8]; simp only [↓rd2, ↓rd3, ↓rc2, ↓rc3, ↓ra2, ↓ra3, ↓rcf, rcw, raw, rdw, View.writes_nil, e10, e11, e12, e13, e14, h2, h3, h4, h5, h6, h7, h8]; rfl)
  isplitl [H11]
  · iexists _; isplitr; swap; · iexact H11
    ipureintro
    (sl_unfold_run_names; simp only [rd2, ra2, rc2, rd3, ra3, rc3, ra33, ra8, e13, e14, e10, h2, h3, h4, h5, h6, h7, h8]; simp only [↓rd2, ↓rd3, ↓rc2, ↓rc3, ↓ra2, ↓ra3, ↓rcf, rcw, raw, rdw, View.writes_nil, e10, e11, e12, e13, e14, h2, h3, h4, h5, h6, h7, h8]; unfold mblk2 mblk1 mblk0; dsimp only; rw [win12, win02, win01]; rfl)
  isplitl [H12]
  · iexists _; isplitr; swap; · iexact H12
    ipureintro
    (sl_unfold_run_names; simp only [rd2, ra2, rc2, rd3, ra3, rc3, ra33, ra8, e13, e14, e10, h2, h3, h4, h5, h6, h7, h8]; simp only [↓rd2, ↓rd3, ↓rc2, ↓rc3, ↓ra2, ↓ra3, ↓rcf, rcw, raw, rdw, View.writes_nil, e10, e11, e12, e13, e14, h2, h3, h4, h5, h6, h7, h8]; unfold mblk2 mblk1 mblk0; dsimp only; rw [win12, win02, win01]; rfl)
  isplitl [H13]; · iexists _; iexists _; isplitr; swap; · iexact H13
                   ipureintro; rfl
  iexists _; iexists _; isplitr; swap; · iexact H14
  ipureintro; rfl

/-- The first row block of a head: the key and value gradients start at zero. -/
theorem run_first (c : Dev nD) (i : grid0.Coords) (arg2 : Memref sig .tc .vmem S1x384x64 .bf16) (harg2 : arg2.IsWhole) (arg3 : Memref sig .tc .vmem S1x64x384 .bf16) (harg3 : arg3.IsWhole) (arg4 : Memref sig .tc .vmem S1x4224x64 .bf16) (harg4 : arg4.IsWhole) (arg5 : Memref sig .tc .vmem S1x4224x64 .bf16) (harg5 : arg5.IsWhole) (arg6 : Memref sig .tc .vmem S1x384x64 .bf16) (harg6 : arg6.IsWhole) (arg7 : Memref sig .tc .vmem S1x64x384 .bf16) (harg7 : arg7.IsWhole) (arg8 : Memref sig .tc .vmem S1x384x128 .f32) (harg8 : arg8.IsWhole) (arg9 : Memref sig .tc .smem S16x11 .f32) (harg9 : arg9.IsWhole) (arg10 : Memref sig .tc .vmem S1x384x64 .f32) (harg10 : arg10.IsWhole) (arg11 : Memref sig .tc .vmem S1x33x64x128 .f32) (harg11 : arg11.IsWhole) (arg12 : Memref sig .tc .vmem S1x33x64x128 .f32) (harg12 : arg12.IsWhole) (arg13 : Memref sig .tc .vmem S384x128 .f32) (harg13 : arg13.IsWhole) (arg14 : Memref sig .tc .vmem S384x128 .f32) (harg14 : arg14.IsWhole) (hc0 : first i)
    (X2 : Vec F S1x384x64 .bf16) (X3 : Vec F S1x64x384 .bf16) (X4 X5 : Vec F S1x4224x64 .bf16) (X6 : Vec F S1x384x64 .bf16) (X7 : Vec F S1x64x384 .bf16)
    (X8 : Vec F S1x384x128 .f32) (X9 : Vec F S16x11 .f32) (E : Set ℕ) (K : PUnit → sProp 𝕄) :
    iprop(Staged (F := F) c arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 iprop(∃ d, owns (c : Thread nD τ) arg10 fullShare d) iprop(∃ d, owns (c : Thread nD τ) arg11 fullShare d) iprop(∃ d, owns (c : Thread nD τ) arg12 fullShare d)
      ∗ (Staged (F := F) c arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9
          (owns (c : Thread nD τ) arg10 fullShare (k0_pay2 (walk i (rows X2 X3 X6 X7 X8) X4 X5 (word i X9) (k0_pay117 (F := F)) (k0_pay118 (F := F))).dq))
          (owns (c : Thread nD τ) arg11 fullShare (walk i (rows X2 X3 X6 X7 X8) X4 X5 (word i X9) (k0_pay117 (F := F)) (k0_pay118 (F := F))).dk)
          (owns (c : Thread nD τ) arg12 fullShare (walk i (rows X2 X3 X6 X7 X8) X4 X5 (word i X9) (k0_pay117 (F := F)) (k0_pay118 (F := F))).dv) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  unfold Staged
  simp only [cc0_attn_bwd_eq_skeleton]; unfold cc0_attn_bwd_skel
  unfold owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, %h10, H10⟩, ⟨%d11, %f11, %h11, H11⟩, ⟨%d12, %f12, %h12, H12⟩, ⟨%d13, %f13, %h13, H13⟩, ⟨%d14, %f14, %h14, H14⟩⟩, Hk⟩
  sl_exec (disch := first | sl_exact hc0 | exact chk1 _ _)
  sl_for (fun k _ => walkAt (F := F) c i arg4 arg5 arg10 arg11 arg12 arg13 arg14 (_root_.Cert.KernelIdeal.Attn.run_first.sl.r c arg2 f2) (_root_.Cert.KernelIdeal.Attn.run_first.sl.r_1 c arg3 f3) (_root_.Cert.KernelIdeal.Attn.run_first.sl.r_2 c arg6 f6) (_root_.Cert.KernelIdeal.Attn.run_first.sl.r_3 c arg7 f7) (_root_.Cert.KernelIdeal.Attn.run_first.sl.r_4 c arg8 f8) (_root_.Cert.KernelIdeal.Attn.run_first.sl.v55 c i arg9 f9) f4 f5 (arg10.view.writes (Elt F) arg10.view.junk _root_.Cert.KernelIdeal.Attn.run_first.sl.H10_1) (arg11.view.writes (Elt F) arg11.view.junk _root_.Cert.KernelIdeal.Attn.run_first.sl.H11_1) (arg12.view.writes (Elt F) arg12.view.junk _root_.Cert.KernelIdeal.Attn.run_first.sl.H12_1) (arg13.view.writes (Elt F) arg13.view.junk _root_.Cert.KernelIdeal.Attn.run_first.sl.H13_1) (arg14.view.writes (Elt F) arg14.view.junk _root_.Cert.KernelIdeal.Attn.run_first.sl.H14_1) k) $$ [H4 H5 H10 H11 H12 H13 H14]
  · exact fun k acc => walk_step (F := F) Variants.none c none E i _ harg2 _ harg3 _ harg4 _ harg5 _ harg6 _ harg7 _ harg8 _ harg9 _ harg10 _ harg11 _ harg12 _ harg13 _ harg14 _ _ _ _ _ _ _ _ _ _ _ _ _ _ _ _ _ _ _ k acc
  · isplitl [H4]; · iexact H4
    isplitl [H5]; · iexact H5
    isplitl [H10]; · iexists _; isplitl [H10]; · iexact H10
                     ipureintro; rfl
    isplitl [H11]; · iexists _; isplitl [H11]; · iexact H11
                     ipureintro; rfl
    isplitl [H12]; · iexists _; isplitl [H12]; · iexact H12
                     ipureintro; rfl
    isplitl [H13]; · iexists _; isplitl [H13]; · iexact H13
                     ipureintro; rfl
    iexists _; isplitl [H14]; · iexact H14
    ipureintro; rfl
  iintro %acc ⟨H4, H5, ⟨%w10, H10, %e10⟩, ⟨%w11, H11, %e11⟩, ⟨%w12, H12, %e12⟩, ⟨%w13, H13, %e13⟩, ⟨%w14, H14, %e14⟩⟩
  sl_exec (disch := first | sl_exact hc0 | exact chk1 _ _)
  have hR : (⟨_root_.Cert.KernelIdeal.Attn.run_first.sl.r c arg2 f2, _root_.Cert.KernelIdeal.Attn.run_first.sl.r_1 c arg3 f3, _root_.Cert.KernelIdeal.Attn.run_first.sl.r_2 c arg6 f6, _root_.Cert.KernelIdeal.Attn.run_first.sl.r_3 c arg7 f7, _root_.Cert.KernelIdeal.Attn.run_first.sl.r_4 c arg8 f8⟩ : Rows F) = rows X2 X3 X6 X7 X8 := by
    sl_unfold_run_names; simp only [ra2, ra3, ra33, ra8, h2, h3, h6, h7, h8]; rfl
  have hv : _root_.Cert.KernelIdeal.Attn.run_first.sl.v55 c i arg9 f9 = word i X9 := by
    sl_unfold_run_names; simp only [raw, h9]; rfl
  have hS : (⟨arg10.view.read (Elt F) (arg10.view.writes (Elt F) arg10.view.junk _root_.Cert.KernelIdeal.Attn.run_first.sl.H10_1), arg11.view.read (Elt F) (arg11.view.writes (Elt F) arg11.view.junk _root_.Cert.KernelIdeal.Attn.run_first.sl.H11_1), arg12.view.read (Elt F) (arg12.view.writes (Elt F) arg12.view.junk _root_.Cert.KernelIdeal.Attn.run_first.sl.H12_1), arg13.view.read (Elt F) (arg13.view.writes (Elt F) arg13.view.junk _root_.Cert.KernelIdeal.Attn.run_first.sl.H13_1), arg14.view.read (Elt F) (arg14.view.writes (Elt F) arg14.view.junk _root_.Cert.KernelIdeal.Attn.run_first.sl.H14_1)⟩ : St F) = ⟨k0_pay119, k0_pay117, k0_pay118, k0_pay120, k0_pay121⟩ := by
    sl_unfold_run_names; simp only [rd2, rd3, rd4]
  rw [hR, hv, hS, h4, h5] at e10 e11 e12 e13 e14
  sl_step
  iapply Hk
  unfold walk
  generalize loopSt i (rows X2 X3 X6 X7 X8) X4 X5 (word i X9) ⟨k0_pay119, k0_pay117, k0_pay118, k0_pay120, k0_pay121⟩ _ = S at e10 e11 e12 e13 e14
  isplitl [H2]; · iexists _; isplitr; swap; · iexact H2
                  ipureintro; exact h2
  isplitl [H3]; · iexists _; isplitr; swap; · iexact H3
                  ipureintro; exact h3
  isplitl [H4]; · iexists _; isplitr; swap; · iexact H4
                  ipureintro; exact h4
  isplitl [H5]; · iexists _; isplitr; swap; · iexact H5
                  ipureintro; exact h5
  isplitl [H6]; · iexists _; isplitr; swap; · iexact H6
                  ipureintro; exact h6
  isplitl [H7]; · iexists _; isplitr; swap; · iexact H7
                  ipureintro; exact h7
  isplitl [H8]; · iexists _; isplitr; swap; · iexact H8
                  ipureintro; exact h8
  isplitl [H9]; · iexists _; isplitr; swap; · iexact H9
                  ipureintro; exact h9
  isplitl [H10]
  · iexists _; isplitr; swap; · iexact H10
    ipureintro
    (sl_unfold_run_names; simp only [rd2, ra2, rc2, rd3, ra3, rc3, ra33, ra8, e13, e14, e10, h2, h3, h4, h5, h6, h7, h8]; simp only [↓rd2, ↓rd3, ↓rc2, ↓rc3, ↓ra2, ↓ra3, ↓rcf, rcw, raw, rdw, View.writes_nil, e10, e11, e12, e13, e14, h2, h3, h4, h5, h6, h7, h8]; rfl)
  isplitl [H11]
  · iexists _; isplitr; swap; · iexact H11
    ipureintro
    (sl_unfold_run_names; simp only [rd2, ra2, rc2, rd3, ra3, rc3, ra33, ra8, e13, e14, e10, h2, h3, h4, h5, h6, h7, h8]; simp only [↓rd2, ↓rd3, ↓rc2, ↓rc3, ↓ra2, ↓ra3, ↓rcf, rcw, raw, rdw, View.writes_nil, e10, e11, e12, e13, e14, h2, h3, h4, h5, h6, h7, h8]; unfold mblk2 mblk1 mblk0; dsimp only; rw [win12, win02, win01]; rfl)
  isplitl [H12]
  · iexists _; isplitr; swap; · iexact H12
    ipureintro
    (sl_unfold_run_names; simp only [rd2, ra2, rc2, rd3, ra3, rc3, ra33, ra8, e13, e14, e10, h2, h3, h4, h5, h6, h7, h8]; simp only [↓rd2, ↓rd3, ↓rc2, ↓rc3, ↓ra2, ↓ra3, ↓rcf, rcw, raw, rdw, View.writes_nil, e10, e11, e12, e13, e14, h2, h3, h4, h5, h6, h7, h8]; unfold mblk2 mblk1 mblk0; dsimp only; rw [win12, win02, win01]; rfl)
  isplitl [H13]; · iexists _; iexists _; isplitr; swap; · iexact H13
                   ipureintro; rfl
  iexists _; iexists _; isplitr; swap; · iexact H14
  ipureintro; rfl

end Cert.KernelIdeal.Attn

end
-- ==== Proof.KernelIdeal.Frame.lean ====
/- The proof data of the kernel's pipeline, its run, and the frame. -/
module

public import proofs.«01_k».proof.Proof.KernelIdeal.Run
public import proofs.«01_k».proof.Proof.Gen.KernelIdeal.Frame
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each grid point -/

/-- The walk of grid point `t` over its blocks, from the gradients `dk`, `dv` gathered so far. -/
def ptWalk (c : Dev nD) (t : Fin cfg0.N) (dk dv : Vec F S1x33x64x128 .f32) : St F :=
  walk (grid0.coords t) (rows (iblk m c 0 t) (iblk m c 1 t) (iblk m c 4 t) (iblk m c 5 t) (iblk m c 6 t)) (iblk m c 2 t) (iblk m c 3 t)
    (word (grid0.coords t) (iblk m c 7 t)) dk dv

/-- The state after grid point `n`: a head's first row block starts from zero, each other from the block before it. -/
def ptSt (c : Dev nD) : (n : ℕ) → n < cfg0.N → St F
  | 0, h => ptWalk m c ⟨0, h⟩ (k0_pay117 (F := F)) (k0_pay118 (F := F))
  | n + 1, h => if (n + 1) % 11 = 0 then ptWalk m c ⟨n + 1, h⟩ (k0_pay117 (F := F)) (k0_pay118 (F := F))
      else ptWalk m c ⟨n + 1, h⟩ (ptSt c n (Nat.lt_of_succ_lt h)).dk (ptSt c n (Nat.lt_of_succ_lt h)).dv

theorem ptSt_first (c : Dev nD) (n : ℕ) (h : n < cfg0.N) (h0 : n % 11 = 0) :
    ptSt m c n h = ptWalk m c ⟨n, h⟩ (k0_pay117 (F := F)) (k0_pay118 (F := F)) := by
  cases n with
  | zero => rfl
  | succ n => unfold ptSt; rw [if_pos h0]

theorem ptSt_next (c : Dev nD) (n : ℕ) (h : n < cfg0.N) (h0 : ¬ n % 11 = 0) :
    ptSt m c n h = ptWalk m c ⟨n, h⟩ (ptSt m c (n - 1) (by omega)).dk (ptSt m c (n - 1) (by omega)).dv := by
  cases n with
  | zero => exact absurd rfl h0
  | succ n => rw [ptSt, if_neg h0]; rfl

theorem first_iff (t : Fin cfg0.N) : first (grid0.coords t) ↔ t.val % 11 = 0 :=
  (fun t => by
    have ht : t.val < 176 := Nat.lt_of_lt_of_eq t.isLt N_0
    have e1 : (grid0.coords t 1).val = t.val / 1 % 11 := Pipeline.Grid.coords_val t 1 (by decide) rfl
    simp only [first, e1]
    word_cmp
   : ∀ t : Fin grid0.N, first (grid0.coords t) ↔ t.val % 11 = 0) t

/-! ## The proof data -/

/-- The arrays as the region finds them; after each point the inputs' blocks, and the walk's results in the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (ptSt m c t.val t.isLt).dq
    | ⟨9, _⟩ => (ptSt m c t.val t.isLt).dk
    | ⟨10, _⟩ => (ptSt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (ptSt m c t.val t.isLt).dq := by dsimp only [dats]
theorem after0_9 (c : Dev nD) (t : Fin cfg0.N) : (dats m 0 c).after 9 t = (ptSt m c t.val t.isLt).dk := by dsimp only [dats]
theorem after0_10 (c : Dev nD) (t : Fin cfg0.N) : (dats m 0 c).after 10 t = (ptSt m c t.val t.isLt).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem before0_9 (c : Dev nD) (t : Fin cfg0.N) (h0 : ¬ t.val % 11 = 0) (d) :
    (dats m 0 c).before 9 t d = (ptSt m c (t.val - 1) (by omega)).dk := by
  have hN : t.val < 176 := lt_of_lt_of_eq t.isLt (show cfg0.N = 176 from N_0)
  rw [(dats m 0 c).before_out_kept 9 rfl t (by omega)
    (Bool.eq_false_iff.mpr fun h => by have := (flush0_9 _).mp h; dsimp only at this; omega) (fun _ => rfl) (fun _ _ => rfl) d]
  exact after0_9 m c _

theorem before0_10 (c : Dev nD) (t : Fin cfg0.N) (h0 : ¬ t.val % 11 = 0) (d) :
    (dats m 0 c).before 10 t d = (ptSt m c (t.val - 1) (by omega)).dv := by
  have hN : t.val < 176 := lt_of_lt_of_eq t.isLt (show cfg0.N = 176 from N_0)
  rw [(dats m 0 c).before_out_kept 10 rfl t (by omega)
    (Bool.eq_false_iff.mpr fun h => by have := (flush0_10 _).mp h; dsimp only at this; omega) (fun _ => rfl) (fun _ _ => rfl) d]
  exact after0_10 m c _

/-! ## The body obligation -/

abbrev ms0 (t : Fin cfg0.N) : Memref sig .tc .vmem S1x384x64 .bf16 := win0_0.stage (cfg0.slots t 0)
abbrev ms1 (t : Fin cfg0.N) : Memref sig .tc .vmem S1x64x384 .bf16 := win0_1.stage (cfg0.slots t 1)
abbrev ms2 (t : Fin cfg0.N) : Memref sig .tc .vmem S1x4224x64 .bf16 := win0_2.stage (cfg0.slots t 2)
abbrev ms3 (t : Fin cfg0.N) : Memref sig .tc .vmem S1x4224x64 .bf16 := win0_3.stage (cfg0.slots t 3)
abbrev ms4 (t : Fin cfg0.N) : Memref sig .tc .vmem S1x384x64 .bf16 := win0_4.stage (cfg0.slots t 4)
abbrev ms5 (t : Fin cfg0.N) : Memref sig .tc .vmem S1x64x384 .bf16 := win0_5.stage (cfg0.slots t 5)
abbrev ms6 (t : Fin cfg0.N) : Memref sig .tc .vmem S1x384x128 .f32 := win0_6.stage (cfg0.slots t 6)
abbrev ms7 (t : Fin cfg0.N) : Memref sig .tc .smem S16x11 .f32 := win0_7.stage (cfg0.slots t 7)
abbrev ms8 (t : Fin cfg0.N) : Memref sig .tc .vmem S1x384x64 .f32 := win0_8.stage (cfg0.slots t 8)
abbrev ms9 (t : Fin cfg0.N) : Memref sig .tc .vmem S1x33x64x128 .f32 := win0_9.stage (cfg0.slots t 9)
abbrev ms10 (t : Fin cfg0.N) : Memref sig .tc .vmem S1x33x64x128 .f32 := win0_10.stage (cfg0.slots t 10)

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  by_cases h0 : t.val % 11 = 0
  · rw [ptSt_first m c t.val t.isLt h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) _ _ _ _ _ _ _ _ _ _ _ _ _ _ _ _ _ _ _ _ _ _ _ _ _ _ ((first_iff t).mpr h0)
      (iblk m c 0 t) (iblk m c 1 t) (iblk m c 2 t) (iblk m c 3 t) (iblk m c 4 t) (iblk m c 5 t) (iblk m c 6 t) (iblk m c 7 t) Set.univ _)
    isplitl [H0 H1 H2 H3 H4 H5 H6 H7 H8 H9 H10 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [ptSt_next m c t.val t.isLt h0]
    simp only [before0_9 m c t h0, before0_10 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_next c (grid0.coords t) _ _ _ _ _ _ _ _ _ _ _ _ _ _ _ _ _ _ _ _ _ _ _ _ _ _ (fun h => h0 ((first_iff t).mp h))
      (iblk m c 0 t) (iblk m c 1 t) (iblk m c 2 t) (iblk m c 3 t) (iblk m c 4 t) (iblk m c 5 t) (iblk m c 6 t) (iblk m c 7 t)
      (ptSt m c (t.val - 1) (by omega)).dk (ptSt m c (t.val - 1) (by omega)).dv Set.univ _)
    isplitl [H0 H1 H2 H3 H4 H5 H6 H7 H8 H9 H10 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: the arrays end as the proof data says, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

/-- The frame: the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main m ρ))

end Cert.KernelIdeal.Attn

end
-- ==== Proof.Twin.lean ====
/- The kernel's program and its idealization are one text: equal body tables and equal mains. -/
module

public import proofs.«01_k».proof.Defs
public import proofs.«01_k».proof.Proof.Gen.Kernel
public import proofs.«01_k».proof.Proof.Gen.KernelIdeal

@[expose] public section

set_option maxRecDepth 16384
set_option maxHeartbeats 1600000

noncomputable section

namespace Cert.Proof

open Idealize.ShloMosaic Idealize.SL.Sem

theorem body_eq : @Cert.Kernel.cc0_attn_bwd Bits _ Cert.Kernel.Gen.facts = @Cert.KernelIdeal.cc0_attn_bwd Bits _ Cert.KernelIdeal.Gen.facts := rfl

theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext n a
  match n, a with
  | 0, (t, s) => rfl
  | ⟨_ + 1, h⟩, _ => exact absurd h (Nat.not_lt.2 (Nat.le_add_left _ _))

theorem defs_eq : @Cert.Kernel.defs Bits _ Cert.Kernel.Gen.facts = @Cert.KernelIdeal.defs Bits _ Cert.KernelIdeal.Gen.facts :=
  congrArg (Pipeline.defs Cert.Kernel.pcfgs) defs₀_eq

theorem main_eq : @Cert.Kernel.main Bits _ Cert.Kernel.Gen.facts = @Cert.KernelIdeal.main Bits _ Cert.KernelIdeal.Gen.facts := rfl

end Cert.Proof

end
-- ==== Proof.Frames.lean ====
/- The frames: the kernel's, at bits and at extended reals, from its one run; and the reference's. -/
module

public import proofs.«01_k».proof.Defs
public import proofs.«01_k».proof.Proof.Gen.Kernel
public import proofs.«01_k».proof.Proof.Gen.ReferenceIdeal
public import proofs.«01_k».proof.Proof.KernelIdeal.Frame
public import proofs.«01_k».proof.Proof.Twin
public import Idealize.ShloMosaic.Lib.Claim

@[expose] public section

set_option maxRecDepth 16384

noncomputable section

namespace Cert.Proof

open Idealize.ShloMosaic Idealize.SL.Sem

theorem frame_kernelIdeal : Cert.quiescent_KernelIdeal := fun m g _ => Cert.KernelIdeal.Attn.frame m g

theorem frame_kernel : Cert.quiescent_Kernel := by
  intro m g _
  rw [defs_eq, main_eq]
  exact (θ_run Cert.KernelIdeal.defs _ _).mono (fun _ h => h) (Cert.KernelIdeal.Attn.frame (F := Bits) m g)

set_option maxHeartbeats 1600000 in
/-- The reference's arguments end unchanged; its counters are zero because it declares no semaphore. -/
theorem frame_reference : Cert.quiescent_ReferenceIdeal := by
  intro m g _
  refine (θ_run Cert.ReferenceIdeal.defs _ _).mono
    (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
    (fun r h => ⟨h, Idealize.ShloMosaic.sem_eq_zero_of_no_sems (by decide) r.2⟩) ?_
  hlo_run

end Cert.Proof

end
-- ==== Proof.Real.Ops.lean ====
/- Vectors of extended reals whose entries are real numbers, given by a function: what each operation of the two
   programs makes of them. -/
module

public import Idealize.ShloMosaic.Lib.Pointwise
public import Idealize.ShloMosaic.Lib.VecWindow
public import Idealize.ShloMosaic.Lib.IdealHost

@[expose] public section

set_option maxRecDepth 16384

noncomputable section

namespace Cert.Attn

open Idealize.ShloMosaic Idealize.ShloMosaic.TcCoe
open Finset (range)

/-- The entries of `x` are the real numbers `f`. -/
def RV {s : Shape} (x : s.Idx → EReal) (f : s.Idx → ℝ) : Prop := ∀ j, x j = ((f j : ℝ) : EReal)

/-- The entries of the mask `x` are the truth values of `P`. -/
def MV {s : Shape} (x : s.Idx → BitVec 1) (P : s.Idx → Prop) [DecidablePred P] : Prop := ∀ j, x j = if P j then 1#1 else 0#1

theorem coe_sum_range (n : ℕ) (f : ℕ → ℝ) : (∑ k : Fin n, ((f k.val : ℝ) : EReal)) = ((∑ k ∈ range n, f k : ℝ) : EReal) := by
  induction n with
  | zero => simp
  | succ n ih => rw [Fin.sum_univ_castSucc, Finset.sum_range_succ, EReal.coe_add, ← ih]; rfl

variable {s : Shape} {φ ψ : FTy}

theorem RV.congr {x : s.Idx → EReal} {f g : s.Idx → ℝ} (h : RV x f) (e : ∀ j, f j = g j) : RV x g := fun j => by rw [h j, e j]

theorem RV.add {x y : FVec Ideal s φ} {f g : s.Idx → ℝ} (hx : RV x f) (hy : RV y g) : RV (addf x y) (fun j => f j + g j) := fun j => by
  show x j + y j = _
  rw [hx j, hy j, EReal.coe_add]

theorem RV.sub {x y : FVec Ideal s φ} {f g : s.Idx → ℝ} (hx : RV x f) (hy : RV y g) : RV (subf x y) (fun j => f j - g j) := fun j => by
  show x j - y j = _
  rw [hx j, hy j, EReal.coe_sub]

theorem RV.mul {x y : FVec Ideal s φ} {f g : s.Idx → ℝ} (hx : RV x f) (hy : RV y g) : RV (mulf x y) (fun j => f j * g j) := fun j => by
  show x j * y j = _
  rw [hx j, hy j, EReal.coe_mul]

theorem RV.max {x y : FVec Ideal s φ} {f g : s.Idx → ℝ} (hx : RV x f) (hy : RV y g) : RV (maximumf x y) (fun j => Max.max (f j) (g j)) := fun j => by
  show Max.max (x j) (y j) = _
  rw [hx j, hy j]; exact (EReal.coe_strictMono.monotone.map_max).symm

theorem RV.abs {x : FVec Ideal s φ} {f : s.Idx → ℝ} (hx : RV x f) : RV (absf x) (fun j => |f j|) := fun j => by
  show Max.max (x j) (-(x j)) = _
  rw [hx j, ← EReal.coe_neg]; exact (EReal.coe_strictMono.monotone.map_max).symm

theorem RV.exp {x : FVec Ideal s φ} {f : s.Idx → ℝ} (hx : RV x f) : RV (Idealize.ShloMosaic.exp x) (fun j => Real.exp (f j)) := fun j => by
  show Ideal.exp (x j) = _
  rw [hx j]; rfl

theorem RV.log {x : FVec Ideal s φ} {f : s.Idx → ℝ} (hx : RV x f) (hp : ∀ j, 0 < f j) : RV (Idealize.ShloMosaic.log x) (fun j => Real.log (f j)) := fun j => by
  show Ideal.log (x j) = _
  rw [hx j, Ideal.log_coe, if_neg (not_le.mpr (hp j))]

theorem RV.trunc {x : FVec Ideal s φ} {f : s.Idx → ℝ} (hx : RV x f) (h : ψ.bits < φ.bits) : RV (truncf ψ x h) f := hx

theorem RV.ext {x : FVec Ideal s φ} {f : s.Idx → ℝ} (hx : RV x f) (h : φ.bits < ψ.bits) : RV (extf ψ x h) f := hx

theorem ofBits_zero : (Scalar.ofBits .f32 0x00000000#32 : Ideal .f32) = ((0 : ℝ) : EReal) := by
  show Ideal.ofBits .f32 0x00000000#32 = _
  rw [Ideal.ofBits_zero_f32]; rfl

theorem ofBits_one : (Scalar.ofBits .f32 0x3F800000#32 : Ideal .f32) = ((1 : ℝ) : EReal) := by
  show Ideal.ofBits .f32 0x3F800000#32 = _
  rw [Ideal.ofBits_one_f32]; rfl

theorem ofBits_eighth : (Scalar.ofBits .f32 0x3E000000#32 : Ideal .f32) = ((0.125 : ℝ) : EReal) := by
  show Ideal.ofBits .f32 0x3E000000#32 = _
  simp [Ideal.ofBits, Ideal.ieee, -EReal.coe_mul]; norm_num

theorem RV.zero : RV (broadcast s (Scalar.ofBits .f32 0x00000000#32 : Ideal .f32)) (fun _ => 0) := fun _ => ofBits_zero

theorem RV.one : RV (broadcast s (Scalar.ofBits .f32 0x3F800000#32 : Ideal .f32)) (fun _ => 1) := fun _ => ofBits_one

theorem RV.sel {m : IVec s 1} {P : s.Idx → Prop} [DecidablePred P] {x y : FVec Ideal s φ} {f g : s.Idx → ℝ} (hm : MV m P) (hx : RV x f) (hy : RV y g) :
    RV (select m x y) (fun j => if P j then f j else g j) := fun j => by
  show Scalar.select (m j) (x j) (y j) = _
  rw [hm j]
  by_cases h : P j
  · simp only [if_pos h]; exact hx j
  · simp only [if_neg h]; exact hy j

theorem RV.slice2 {a b a' b' : ℕ} {x : FVec Ideal ⟨2, ![a, b]⟩ φ} {f : ℕ → ℕ → ℝ} (hx : RV x (fun j => f (j 0).val (j 1).val)) (o0 o1 : ℕ)
    (h : (⟨2, ![a, b]⟩ : Shape).Slices ![o0, o1] ⟨2, ![a', b']⟩) :
    RV (extractStridedSlice ⟨2, ![a', b']⟩ ![o0, o1] x h) (fun j => f (o0 + (j 0).val) (o1 + (j 1).val)) := fun j => by
  pointwise
  rw [hx]
  rfl

theorem MV.slice2 {a b a' b' : ℕ} {x : IVec ⟨2, ![a, b]⟩ 1} {P : ℕ → ℕ → Prop} [∀ r c, Decidable (P r c)] (hx : MV x (fun j => P (j 0).val (j 1).val)) (o0 o1 : ℕ)
    (h : (⟨2, ![a, b]⟩ : Shape).Slices ![o0, o1] ⟨2, ![a', b']⟩) :
    MV (extractStridedSlice ⟨2, ![a', b']⟩ ![o0, o1] x h) (fun j => P (o0 + (j 0).val) (o1 + (j 1).val)) := fun j => by
  pointwise
  rw [hx]
  rfl

theorem toInt_ofNat_lt {a : ℕ} (ha : a < 2 ^ 31) : (BitVec.ofNat 32 a).toInt = a := by
  rw [BitVec.toInt_ofNat']; simp [Int.bmod]; omega

theorem slt_nat {a b : ℕ} (ha : a < 2 ^ 31) (hb : b < 2 ^ 31) : IntOp.cmpi .slt (BitVec.ofNat 32 a) (BitVec.ofNat 32 b) = if a < b then 1#1 else 0#1 := by
  simp only [IntOp.cmpi, BitVec.slt, toInt_ofNat_lt ha, toInt_ofNat_lt hb]
  by_cases h : a < b <;> simp [h]

theorem sgt_nat {a b : ℕ} (ha : a < 2 ^ 31) (hb : b < 2 ^ 31) : IntOp.cmpi .sgt (BitVec.ofNat 32 a) (BitVec.ofNat 32 b) = if b < a then 1#1 else 0#1 := by
  simp only [IntOp.cmpi, BitVec.slt, toInt_ofNat_lt ha, toInt_ofNat_lt hb]
  by_cases h : b < a <;> simp [h]

theorem sge_nat {a b : ℕ} (ha : a < 2 ^ 31) (hb : b < 2 ^ 31) : IntOp.cmpi .sge (BitVec.ofNat 32 a) (BitVec.ofNat 32 b) = if b ≤ a then 1#1 else 0#1 := by
  simp only [IntOp.cmpi, BitVec.sle, toInt_ofNat_lt ha, toInt_ofNat_lt hb]
  by_cases h : b ≤ a <;> simp [h]

/-- The number a truth value, widened to a word, converts to. -/
theorem sitofp_ori (P R : Prop) [Decidable P] [Decidable R] :
    (FloatOps.sitofp .f32 (BitVec.setWidth 32 (IntOp.ori (if P then 1#1 else 0#1) (if R then 1#1 else 0#1))) : Ideal .f32) = ((if P ∨ R then (1 : ℝ) else 0 : ℝ) : EReal) := by
  show (((BitVec.setWidth 32 (IntOp.ori (if P then 1#1 else 0#1) (if R then 1#1 else 0#1))).toInt : ℝ) : EReal) = _
  by_cases hP : P <;> by_cases hR : R <;> simp [hP, hR, IntOp.ori]

/-- A vector viewed at its own shape. -/
theorem RV.self {x : FVec Ideal s φ} {f : s.Idx → ℝ} (hx : RV x f) (h : s.ShapeCasts s) : RV (shapeCast s x h) f := fun j => by
  rw [show shapeCast s x h j = x j from ?_]
  · exact hx j
  · pointwise

end Cert.Attn

end
-- ==== Proof.KernelIdeal.Products.lean ====
/- The kernel's products and changes of shape, of vectors whose entries are real numbers. -/
module

public import proofs.«01_k».proof.Proof.Gen.KernelIdeal
public import proofs.«01_k».proof.Proof.Real.Ops

@[expose] public section

set_option maxRecDepth 16384

noncomputable section

namespace Cert.KernelIdeal.Attn

open Idealize.ShloMosaic Idealize.ShloMosaic.TcCoe
open Cert.KernelIdeal Cert.KernelIdeal.Gen Cert.Attn
open Finset (range)

theorem mmT_384x64x128 {φ₁ φ₂ : FTy} {a : FVec Ideal S384x64 φ₁} {b : FVec Ideal S128x64 φ₂} {A B : ℕ → ℕ → ℝ} (ha : RV a (fun j => A (j 0).val (j 1).val)) (hb : RV b (fun j => B (j 0).val (j 1).val)) :
    RV (matmul dot_S384x64_S128x64_S384x128_1_1_0_0_n_n none a b (constant S384x128 .f32 0x00000000#32)) (fun j => ∑ k ∈ range 64, A (j 0).val k * B (j 1).val k) := fun j => by
  idx_vars j
  pointwise
  rw [← coe_sum_range]
  refine Finset.sum_congr rfl fun k _ => ?_
  rw [ha, hb, EReal.coe_mul]
  rfl

theorem mmT_256x64x128 {φ₁ φ₂ : FTy} {a : FVec Ideal S256x64 φ₁} {b : FVec Ideal S128x64 φ₂} {A B : ℕ → ℕ → ℝ} (ha : RV a (fun j => A (j 0).val (j 1).val)) (hb : RV b (fun j => B (j 0).val (j 1).val)) :
    RV (matmul dot_S256x64_S128x64_S256x128_1_1_0_0_n_n none a b (constant S256x128 .f32 0x00000000#32)) (fun j => ∑ k ∈ range 64, A (j 0).val k * B (j 1).val k) := fun j => by
  idx_vars j
  pointwise
  rw [← coe_sum_range]
  refine Finset.sum_congr rfl fun k _ => ?_
  rw [ha, hb, EReal.coe_mul]
  rfl

theorem mmT_128x64x128 {φ₁ φ₂ : FTy} {a : FVec Ideal S128x64 φ₁} {b : FVec Ideal S128x64 φ₂} {A B : ℕ → ℕ → ℝ} (ha : RV a (fun j => A (j 0).val (j 1).val)) (hb : RV b (fun j => B (j 0).val (j 1).val)) :
    RV (matmul dot_S128x64_S128x64_S128x128_1_1_0_0_n_n none a b (constant S128x128 .f32 0x00000000#32)) (fun j => ∑ k ∈ range 64, A (j 0).val k * B (j 1).val k) := fun j => by
  idx_vars j
  pointwise
  rw [← coe_sum_range]
  refine Finset.sum_congr rfl fun k _ => ?_
  rw [ha, hb, EReal.coe_mul]
  rfl

theorem mm_384x128x256 {φ₁ φ₂ : FTy} {a : FVec Ideal S384x128 φ₁} {b : FVec Ideal S128x256 φ₂} {A B : ℕ → ℕ → ℝ} (ha : RV a (fun j => A (j 0).val (j 1).val)) (hb : RV b (fun j => B (j 0).val (j 1).val)) :
    RV (matmul dot_S384x128_S128x256_S384x256_1_0_0_1_n_n none a b (constant S384x256 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem mm_256x128x256 {φ₁ φ₂ : FTy} {a : FVec Ideal S256x128 φ₁} {b : FVec Ideal S128x256 φ₂} {A B : ℕ → ℕ → ℝ} (ha : RV a (fun j => A (j 0).val (j 1).val)) (hb : RV b (fun j => B (j 0).val (j 1).val)) :
    RV (matmul dot_S256x128_S128x256_S256x256_1_0_0_1_n_n none a b (constant S256x256 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem mm_128x128x256 {φ₁ φ₂ : FTy} {a : FVec Ideal S128x128 φ₁} {b : FVec Ideal S128x256 φ₂} {A B : ℕ → ℕ → ℝ} (ha : RV a (fun j => A (j 0).val (j 1).val)) (hb : RV b (fun j => B (j 0).val (j 1).val)) :
    RV (matmul dot_S128x128_S128x256_S128x256_1_0_0_1_n_n none a b (constant S128x256 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem mm_384x128x64 {φ₁ φ₂ : FTy} {a : FVec Ideal S384x128 φ₁} {b : FVec Ideal S128x64 φ₂} {A B : ℕ → ℕ → ℝ} (ha : RV a (fun j => A (j 0).val (j 1).val)) (hb : RV b (fun j => B (j 0).val (j 1).val)) :
    RV (matmul dot_S384x128_S128x64_S384x64_1_0_0_1_n_n none a b (constant S384x64 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem mm_256x128x64 {φ₁ φ₂ : FTy} {a : FVec Ideal S256x128 φ₁} {b : FVec Ideal S128x64 φ₂} {A B : ℕ → ℕ → ℝ} (ha : RV a (fun j => A (j 0).val (j 1).val)) (hb : RV b (fun j => B (j 0).val (j 1).val)) :
    RV (matmul dot_S256x128_S128x64_S256x64_1_0_0_1_n_n none a b (constant S256x64 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem mm_128x128x64 {φ₁ φ₂ : FTy} {a : FVec Ideal S128x128 φ₁} {b : FVec Ideal S128x64 φ₂} {A B : ℕ → ℕ → ℝ} (ha : RV a (fun j => A (j 0).val (j 1).val)) (hb : RV b (fun j => B (j 0).val (j 1).val)) :
    RV (matmul dot_S128x128_S128x64_S128x64_1_0_0_1_n_n none a b (constant S128x64 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem mm_64x384x128 {φ₁ φ₂ : FTy} {a : FVec Ideal S64x384 φ₁} {b : FVec Ideal S384x128 φ₂} {A B : ℕ → ℕ → ℝ} (ha : RV a (fun j => A (j 0).val (j 1).val)) (hb : RV b (fun j => B (j 0).val (j 1).val)) :
    RV (matmul dot_S64x384_S384x128_S64x128_1_0_0_1_n_n none a b (constant S64x128 .f32 0x00000000#32)) (fun j => ∑ k ∈ range 384, A (j 0).val k * B k (j 1).val) := fun j => by
  idx_vars j
  pointwise
  rw [← coe_sum_range]
  refine Finset.sum_congr rfl fun k _ => ?_
  rw [ha, hb, EReal.coe_mul]
  rfl

theorem mm_64x256x128 {φ₁ φ₂ : FTy} {a : FVec Ideal S64x256 φ₁} {b : FVec Ideal S256x128 φ₂} {A B : ℕ → ℕ → ℝ} (ha : RV a (fun j => A (j 0).val (j 1).val)) (hb : RV b (fun j => B (j 0).val (j 1).val)) :
    RV (matmul dot_S64x256_S256x128_S64x128_1_0_0_1_n_n none a b (constant S64x128 .f32 0x00000000#32)) (fun j => ∑ k ∈ range 256, A (j 0).val k * B k (j 1).val) := fun j => by
  idx_vars j
  pointwise
  rw [← coe_sum_range]
  refine Finset.sum_congr rfl fun k _ => ?_
  rw [ha, hb, EReal.coe_mul]
  rfl

theorem mm_64x128x128 {φ₁ φ₂ : FTy} {a : FVec Ideal S64x128 φ₁} {b : FVec Ideal S128x128 φ₂} {A B : ℕ → ℕ → ℝ} (ha : RV a (fun j => A (j 0).val (j 1).val)) (hb : RV b (fun j => B (j 0).val (j 1).val)) :
    RV (matmul dot_S64x128_S128x128_S64x128_1_0_0_1_n_n none a b (constant S64x128 .f32 0x00000000#32)) (fun j => ∑ k ∈ range 128, A (j 0).val k * B k (j 1).val) := fun j => by
  idx_vars j
  pointwise
  rw [← coe_sum_range]
  refine Finset.sum_congr rfl fun k _ => ?_
  rw [ha, hb, EReal.coe_mul]
  rfl

theorem cast3_128x64 {φ : FTy} {x : FVec Ideal S1x128x64 φ} {f : ℕ → ℕ → ℝ} (hx : RV x (fun j => f (j 1).val (j 2).val)) (h : S1x128x64.ShapeCasts S128x64) :
    RV (shapeCast S128x64 x h) (fun j => f (j 0).val (j 1).val) := fun j => by
  idx_vars j
  pointwise
  rw [hx]
  rfl

theorem cast3_384x64 {φ : FTy} {x : FVec Ideal S1x384x64 φ} {f : ℕ → ℕ → ℝ} (hx : RV x (fun j => f (j 1).val (j 2).val)) (h : S1x384x64.ShapeCasts S384x64) :
    RV (shapeCast S384x64 x h) (fun j => f (j 0).val (j 1).val) := fun j => by
  idx_vars j
  pointwise
  rw [hx]
  rfl

theorem cast3_256x64 {φ : FTy} {x : FVec Ideal S1x256x64 φ} {f : ℕ → ℕ → ℝ} (hx : RV x (fun j => f (j 1).val (j 2).val)) (h : S1x256x64.ShapeCasts S256x64) :
    RV (shapeCast S256x64 x h) (fun j => f (j 0).val (j 1).val) := fun j => by
  idx_vars j
  pointwise
  rw [hx]
  rfl

theorem cast3_64x384 {φ : FTy} {x : FVec Ideal S1x64x384 φ} {f : ℕ → ℕ → ℝ} (hx : RV x (fun j => f (j 1).val (j 2).val)) (h : S1x64x384.ShapeCasts S64x384) :
    RV (shapeCast S64x384 x h) (fun j => f (j 0).val (j 1).val) := fun j => by
  idx_vars j
  pointwise
  rw [hx]
  rfl

theorem cast3_384x128 {φ : FTy} {x : FVec Ideal S1x384x128 φ} {f : ℕ → ℕ → ℝ} (hx : RV x (fun j => f (j 1).val (j 2).val)) (h : S1x384x128.ShapeCasts S384x128) :
    RV (shapeCast S384x128 x h) (fun j => f (j 0).val (j 1).val) := fun j => by
  idx_vars j
  pointwise
  rw [hx]
  rfl

theorem cast2_384x64 {φ : FTy} {x : FVec Ideal S384x64 φ} {f : ℕ → ℕ → ℝ} (hx : RV x (fun j => f (j 0).val (j 1).val)) (h : S384x64.ShapeCasts S1x384x64) :
    RV (shapeCast S1x384x64 x h) (fun j => f (j 1).val (j 2).val) := fun j => by
  idx_vars j
  pointwise
  rw [hx]
  rfl

theorem cast2_256x64 {φ : FTy} {x : FVec Ideal S256x64 φ} {f : ℕ → ℕ → ℝ} (hx : RV x (fun j => f (j 0).val (j 1).val)) (h : S256x64.ShapeCasts S1x256x64) :
    RV (shapeCast S1x256x64 x h) (fun j => f (j 1).val (j 2).val) := fun j => by
  idx_vars j
  pointwise
  rw [hx]
  rfl

theorem cast2_128x64 {φ : FTy} {x : FVec Ideal S128x64 φ} {f : ℕ → ℕ → ℝ} (hx : RV x (fun j => f (j 0).val (j 1).val)) (h : S128x64.ShapeCasts S1x128x64) :
    RV (shapeCast S1x128x64 x h) (fun j => f (j 1).val (j 2).val) := fun j => by
  idx_vars j
  pointwise
  rw [hx]
  rfl

theorem cast4_64x128 {φ : FTy} {x : FVec Ideal S1x1x64x128 φ} {f : ℕ → ℕ → ℝ} (hx : RV x (fun j => f (j 2).val (j 3).val)) (h : S1x1x64x128.ShapeCasts S64x128) :
    RV (shapeCast S64x128 x h) (fun j => f (j 0).val (j 1).val) := fun j => by
  idx_vars j
  pointwise
  rw [hx]
  rfl

theorem castTo4_64x128 {φ : FTy} {x : FVec Ideal S64x128 φ} {f : ℕ → ℕ → ℝ} (hx : RV x (fun j => f (j 0).val (j 1).val)) (h : S64x128.ShapeCasts S1x1x64x128) :
    RV (shapeCast S1x1x64x128 x h) (fun j => f (j 2).val (j 3).val) := fun j => by
  idx_vars j
  pointwise
  rw [hx]
  rfl

end Cert.KernelIdeal.Attn

end
-- ==== Proof.Real.Block.lean ====
/- One column block of the walk, over the real numbers: what it computes from the queries' rows `q`, the
   cotangents' rows `o`, the block's keys `κ` and values `ν`, the rows' totals `T` and the two running sums `p`, `g`;
   `m r c` says that row `r` sees column `c`. -/
module

public import Mathlib.Analysis.SpecialFunctions.Log.Basic
public import Mathlib.Analysis.SpecialFunctions.Exp

@[expose] public section

noncomputable section

namespace Cert.Attn

open Finset (range)

/-- `log (1 + exp z)`, computed without overflow. -/
def sp (z : ℝ) : ℝ := max z 0 + Real.log (1 + Real.exp (0 - |z|))

theorem sp_arg_pos (z : ℝ) : 0 < 1 + Real.exp z := by positivity

/-- Whether column `a` comes after column `s`, as a number; every column, for `s` past the block. -/
def aft (a s : ℕ) : ℝ := if s < a ∨ 128 ≤ s then 1 else 0

/-- Whether column `a` comes before column `s`, as a number; every column, for `s` past the block. -/
def bef (a s : ℕ) : ℝ := if a < s ∨ 128 ≤ s then 1 else 0

section
variable (m : ℕ → ℕ → Prop) [∀ r c, Decidable (m r c)] (q o κ ν : ℕ → ℕ → ℝ) (T p g : ℕ → ℝ)

/-- A row of one matrix times a row of another. -/
def bz (r c : ℕ) : ℝ := ∑ d ∈ range 64, q r d * κ c d
/-- The logarithm of passing the column, zero where it is not seen. -/
def bl (r c : ℕ) : ℝ := if m r c then 0 - sp (bz q κ r c) else 0
/-- Those logarithms summed after a column. -/
def bla (r s : ℕ) : ℝ := ∑ a ∈ range 128, bl m q κ r a * aft a s
/-- The block's weights. -/
def bw (r c : ℕ) : ℝ :=
  if m r c then Real.exp (bz q κ r c - sp (bz q κ r c) + bla m q κ r c + (T r - (p r + bla m q κ r (128 + c)))) else 0
/-- The gradient of the weights' logarithms. -/
def bA (r c : ℕ) : ℝ := bw m q κ T p r c * bz o ν r c
/-- That gradient summed before a column. -/
def bAb (r s : ℕ) : ℝ := ∑ a ∈ range 128, bA m q o κ ν T p r a * bef a s
/-- The gradient of the products. -/
def bdz (r c : ℕ) : ℝ :=
  if m r c then bA m q o κ ν T p r c - Real.exp (bz q κ r c - sp (bz q κ r c)) * (bA m q o κ ν T p r c + bAb m q o κ ν T p r c + g r) else 0
end

end Cert.Attn

end
-- ==== Proof.Real.State.lean ====
/- What the walk carries from column block to column block, over the real numbers, and what one block makes of it. -/
module

public import proofs.«01_k».proof.Proof.Real.Block

@[expose] public section

noncomputable section

namespace Cert.Attn

open Finset (range)

/-- The queries' gradient of the row block, the keys' and the values' gradients by column block, and the two
    running sums. -/
structure SR where
  dq : ℕ → ℕ → ℝ
  dk : ℕ → ℕ → ℕ → ℝ
  dv : ℕ → ℕ → ℕ → ℝ
  p : ℕ → ℝ
  g : ℕ → ℝ

/-- One column block, `J`-th of the keys, of the row block's operands. -/
def SR.step (m : ℕ → ℕ → Prop) [∀ r c, Decidable (m r c)] (q o κ ν : ℕ → ℕ → ℝ) (T : ℕ → ℝ) (J : ℕ) (s : SR) : SR where
  dq r d := s.dq r d + ∑ c ∈ range 128, bdz m q o κ ν T s.p s.g r c * κ c d
  dk j d c := if j = J then s.dk J d c + ∑ r ∈ range 384, q r d * bdz m q o κ ν T s.p s.g r c else s.dk j d c
  dv j d c := if j = J then s.dv J d c + ∑ r ∈ range 384, o r d * bw m q κ T s.p r c else s.dv j d c
  p r := s.p r + bla m q κ r 128
  g r := s.g r + bAb m q o κ ν T s.p r 128

theorem aft_past (a c : ℕ) : aft a (128 + c) = 1 := if_pos (Or.inr (Nat.le_add_right _ _))
theorem bef_past (a c : ℕ) : bef a (128 + c) = 1 := if_pos (Or.inr (Nat.le_add_right _ _))

section
variable (m : ℕ → ℕ → Prop) [∀ r c, Decidable (m r c)] (q o κ ν : ℕ → ℕ → ℝ) (T p g : ℕ → ℝ)

theorem bla_past (r c : ℕ) : bla m q κ r (128 + c) = bla m q κ r 128 := by
  unfold bla; simp only [aft_past]; rw [show (128 : ℕ) = 128 + 0 from rfl]; simp only [aft_past]

theorem bAb_past (r c : ℕ) : bAb m q o κ ν T p r (128 + c) = bAb m q o κ ν T p r 128 := by
  unfold bAb; simp only [bef_past]; rw [show (128 : ℕ) = 128 + 0 from rfl]; simp only [bef_past]

variable {m} {r : ℕ} (h : ∀ c < 128, ¬ m r c)
include h

theorem bw_unseen (c : ℕ) (hc : c < 128) : bw m q κ T p r c = 0 := if_neg (h c hc)
theorem bdz_unseen (c : ℕ) (hc : c < 128) : bdz m q o κ ν T p g r c = 0 := if_neg (h c hc)
theorem bla_unseen (s : ℕ) : bla m q κ r s = 0 :=
  Finset.sum_eq_zero fun a ha => by rw [bl, if_neg (h a (Finset.mem_range.mp ha)), zero_mul]
theorem bAb_unseen (s : ℕ) : bAb m q o κ ν T p r s = 0 :=
  Finset.sum_eq_zero fun a ha => by rw [bA, bw_unseen q κ T p h a (Finset.mem_range.mp ha), zero_mul, zero_mul]

end

/-- A sum over rows of which the first are unseen. -/
theorem sum_rows (lo n : ℕ) (f : ℕ → ℝ) (h : ∀ r < lo, f r = 0) : ∑ r ∈ range (lo + n), f r = ∑ r ∈ range n, f (lo + r) := by
  rw [Finset.sum_range_add, Finset.sum_eq_zero fun r hr => h r (Finset.mem_range.mp hr), zero_add]

end Cert.Attn

end
-- ==== Proof.KernelIdeal.State.lean ====
/- The walk's state as extended reals whose entries are real numbers: windows and stores. -/
module

public import proofs.«01_k».proof.Proof.KernelIdeal.Model
public import proofs.«01_k».proof.Proof.KernelIdeal.Products
public import proofs.«01_k».proof.Proof.Real.State

@[expose] public section

set_option maxRecDepth 16384

noncomputable section

namespace Cert.KernelIdeal.Attn

open Idealize.ShloMosaic Idealize.ShloMosaic.TcCoe
open Cert.KernelIdeal Cert.KernelIdeal.Gen Cert.Attn
open Finset (range)

/-- The state `s` holds the real numbers `x`. -/
structure RS (s : St Ideal) (x : SR) : Prop where
  dq : RV (s := S1x384x64) s.dq (fun j => x.dq (j 1).val (j 2).val)
  dk : RV (s := S1x33x64x128) s.dk (fun j => x.dk (j 1).val (j 2).val (j 3).val)
  dv : RV (s := S1x33x64x128) s.dv (fun j => x.dv (j 1).val (j 2).val (j 3).val)
  p : RV (s := S384x128) s.p (fun j => x.p (j 0).val)
  g : RV (s := S384x128) s.g (fun j => x.g (j 0).val)

/-- The row block's operands hold the real numbers `Q`, `O` and `T`. -/
structure RR (R : Rows Ideal) (Q O : ℕ → ℕ → ℝ) (T : ℕ → ℝ) : Prop where
  q : RV (s := S384x64) R.q (fun j => Q (j 0).val (j 1).val)
  qt : RV (s := S64x384) R.qt (fun j => Q (j 1).val (j 0).val)
  o : RV (s := S384x64) R.o (fun j => O (j 0).val (j 1).val)
  ot : RV (s := S64x384) R.ot (fun j => O (j 1).val (j 0).val)
  tot : RV (s := S384x128) R.tot (fun j => T (j 0).val)

theorem win4 {x : FVec Ideal S1x33x64x128 .f32} {f : ℕ → ℕ → ℕ → ℝ} (hx : RV x (fun j => f (j 1).val (j 2).val (j 3).val)) {off : Fin 4 → ℕ} {J : ℕ}
    (inb : ∀ a, off a + S1x1x64x128.size a ≤ S1x33x64x128.size a) (e : off = ![0, J, 0, 0]) :
    RV (s := S1x1x64x128) (VecWindow.window (s := S1x33x64x128) x off S1x1x64x128.size inb) (fun j => f J (j 2).val (j 3).val) := by
  subst e
  intro j
  have h1 : (j 1).val = 0 := Nat.lt_one_iff.mp (j 1).isLt
  refine (hx _).trans ?_
  show ((f (J + 1 * (j 1).val) (0 + 1 * (j 2).val) (0 + 1 * (j 3).val) : ℝ) : EReal) = _
  rw [h1]; simp

theorem put4 {x : FVec Ideal S1x33x64x128 .f32} {f : ℕ → ℕ → ℕ → ℝ} (hx : RV x (fun j => f (j 1).val (j 2).val (j 3).val)) {off : Fin 4 → ℕ} {J : ℕ}
    (e : off = ![0, J, 0, 0]) {w : FVec Ideal S1x1x64x128 .f32} {u : ℕ → ℕ → ℝ} (hw : RV w (fun j => u (j 2).val (j 3).val)) :
    RV (s := S1x33x64x128) (VecWindow.put (s := S1x33x64x128) x off S1x1x64x128.size w) (fun j => if (j 1).val = J then u (j 2).val (j 3).val else f (j 1).val (j 2).val (j 3).val) := by
  subst e
  intro j
  unfold VecWindow.put
  by_cases h : (j 1).val = J
  · have hall : ∀ a : Fin 4, (![0, J, 0, 0] : Fin 4 → ℕ) a ≤ (j a).val ∧ (j a).val < (![0, J, 0, 0] : Fin 4 → ℕ) a + S1x1x64x128.size a := by
      have h0 : (j 0).val < 1 := (j 0).isLt
      have h2 : (j 2).val < 64 := (j 2).isLt
      have h3 : (j 3).val < 128 := (j 3).isLt
      intro a
      fin_cases a
      · exact ⟨Nat.zero_le _, by show (j 0).val < 0 + 1; omega⟩
      · exact ⟨h.ge, by show (j 1).val < J + 1; omega⟩
      · exact ⟨Nat.zero_le _, by show (j 2).val < 0 + 64; omega⟩
      · exact ⟨Nat.zero_le _, by show (j 3).val < 0 + 128; omega⟩
    beta_reduce
    rw [dif_pos hall, if_pos h]
    exact hw _
  · beta_reduce
    rw [dif_neg fun hall => h (by have := hall 1; have h1 : J ≤ (j 1).val := this.1; have h2 : (j 1).val < J + 1 := this.2; omega), if_neg h]
    exact hx _

theorem win3 {x : FVec Ideal S1x4224x64 .bf16} {f : ℕ → ℕ → ℝ} (hx : RV x (fun j => f (j 1).val (j 2).val)) {off : Fin 3 → ℕ} {J : ℕ}
    (inb : ∀ a, off a + S1x128x64.size a ≤ S1x4224x64.size a) (e : off = ![0, J, 0]) :
    RV (s := S1x128x64) (col (F := Ideal) x off inb) (fun j => f (J + (j 1).val) (j 2).val) := by
  subst e
  intro j
  refine (hx _).trans ?_
  show ((f (J + 1 * (j 1).val) (0 + 1 * (j 2).val) : ℝ) : EReal) = _
  simp

theorem winR256 {x : FVec Ideal S384x128 .f32} {f : ℕ → ℝ} (hx : RV x (fun j => f (j 0).val)) :
    RV (s := S256x128) (VecWindow.window (s := S384x128) x ![128, 0] S256x128.size inb_S384x128_S256x128_128_0) (fun j => f (128 + (j 0).val)) := by
  intro j
  refine (hx _).trans ?_
  show ((f (128 + 1 * (j 0).val) : ℝ) : EReal) = _
  simp

theorem putR256 {x : FVec Ideal S384x128 .f32} {f u : ℕ → ℝ} (hx : RV x (fun j => f (j 0).val)) {w : FVec Ideal S256x128 .f32} (hw : RV w (fun j => u (128 + (j 0).val)))
    (hu : ∀ r < 128, u r = f r) :
    RV (s := S384x128) (VecWindow.put (s := S384x128) x ![128, 0] S256x128.size w) (fun j => u (j 0).val) := by
  intro j
  have h0 : (j 0).val < 384 := (j 0).isLt
  unfold VecWindow.put
  by_cases h : 128 ≤ (j 0).val
  · have hall : ∀ a : Fin 2, (![128, 0] : Fin 2 → ℕ) a ≤ (j a).val ∧ (j a).val < (![128, 0] : Fin 2 → ℕ) a + S256x128.size a := by
      have h1 : (j 1).val < 128 := (j 1).isLt
      intro a
      fin_cases a
      · exact ⟨h, by show (j 0).val < 128 + 256; omega⟩
      · exact ⟨Nat.zero_le _, by show (j 1).val < 0 + 128; omega⟩
    rw [dif_pos hall]
    refine (hw _).trans ?_
    show ((u (128 + ((j 0).val - 128)) : ℝ) : EReal) = _
    rw [Nat.add_sub_cancel' h]
  · rw [dif_neg fun hall => h (hall 0).1, hx]
    beta_reduce
    rw [hu _ (Nat.lt_of_not_le h)]

theorem winD256 {x : FVec Ideal S1x384x64 .f32} {f : ℕ → ℕ → ℝ} (hx : RV x (fun j => f (j 1).val (j 2).val)) :
    RV (s := S1x256x64) (VecWindow.window (s := S1x384x64) x ![0, 128, 0] S1x256x64.size inb_S1x384x64_S1x256x64_0_128_0) (fun j => f (128 + (j 1).val) (j 2).val) := by
  intro j
  refine (hx _).trans ?_
  show ((f (128 + 1 * (j 1).val) (0 + 1 * (j 2).val) : ℝ) : EReal) = _
  simp

theorem putD256 {x : FVec Ideal S1x384x64 .f32} {f u : ℕ → ℕ → ℝ} (hx : RV x (fun j => f (j 1).val (j 2).val)) {w : FVec Ideal S1x256x64 .f32} (hw : RV w (fun j => u (128 + (j 1).val) (j 2).val))
    (hu : ∀ r < 128, ∀ d, u r d = f r d) :
    RV (s := S1x384x64) (VecWindow.put (s := S1x384x64) x ![0, 128, 0] S1x256x64.size w) (fun j => u (j 1).val (j 2).val) := by
  intro j
  have h0 : (j 1).val < 384 := (j 1).isLt
  unfold VecWindow.put
  by_cases h : 128 ≤ (j 1).val
  · have hall : ∀ a : Fin 3, (![0, 128, 0] : Fin 3 → ℕ) a ≤ (j a).val ∧ (j a).val < (![0, 128, 0] : Fin 3 → ℕ) a + S1x256x64.size a := by
      have h1 : (j 2).val < 64 := (j 2).isLt
      have h2 : (j 0).val < 1 := (j 0).isLt
      intro a
      fin_cases a
      · exact ⟨Nat.zero_le _, by show (j 0).val < 0 + 1; omega⟩
      · exact ⟨h, by show (j 1).val < 128 + 256; omega⟩
      · exact ⟨Nat.zero_le _, by show (j 2).val < 0 + 64; omega⟩
    rw [dif_pos hall]
    refine (hw _).trans ?_
    show ((u (128 + ((j 1).val - 128)) ((j 2).val - 0) : ℝ) : EReal) = _
    rw [Nat.add_sub_cancel' h]; rfl
  · rw [dif_neg fun hall => h (hall 1).1, hx]
    beta_reduce
    rw [hu _ (Nat.lt_of_not_le h)]

theorem winR128 {x : FVec Ideal S384x128 .f32} {f : ℕ → ℝ} (hx : RV x (fun j => f (j 0).val)) :
    RV (s := S128x128) (VecWindow.window (s := S384x128) x ![256, 0] S128x128.size inb_S384x128_S128x128_256_0) (fun j => f (256 + (j 0).val)) := by
  intro j
  refine (hx _).trans ?_
  show ((f (256 + 1 * (j 0).val) : ℝ) : EReal) = _
  simp

theorem putR128 {x : FVec Ideal S384x128 .f32} {f u : ℕ → ℝ} (hx : RV x (fun j => f (j 0).val)) {w : FVec Ideal S128x128 .f32} (hw : RV w (fun j => u (256 + (j 0).val)))
    (hu : ∀ r < 256, u r = f r) :
    RV (s := S384x128) (VecWindow.put (s := S384x128) x ![256, 0] S128x128.size w) (fun j => u (j 0).val) := by
  intro j
  have h0 : (j 0).val < 384 := (j 0).isLt
  unfold VecWindow.put
  by_cases h : 256 ≤ (j 0).val
  · have hall : ∀ a : Fin 2, (![256, 0] : Fin 2 → ℕ) a ≤ (j a).val ∧ (j a).val < (![256, 0] : Fin 2 → ℕ) a + S128x128.size a := by
      have h1 : (j 1).val < 128 := (j 1).isLt
      intro a
      fin_cases a
      · exact ⟨h, by show (j 0).val < 256 + 128; omega⟩
      · exact ⟨Nat.zero_le _, by show (j 1).val < 0 + 128; omega⟩
    rw [dif_pos hall]
    refine (hw _).trans ?_
    show ((u (256 + ((j 0).val - 256)) : ℝ) : EReal) = _
    rw [Nat.add_sub_cancel' h]
  · rw [dif_neg fun hall => h (hall 0).1, hx]
    beta_reduce
    rw [hu _ (Nat.lt_of_not_le h)]

theorem winD128 {x : FVec Ideal S1x384x64 .f32} {f : ℕ → ℕ → ℝ} (hx : RV x (fun j => f (j 1).val (j 2).val)) :
    RV (s := S1x128x64) (VecWindow.window (s := S1x384x64) x ![0, 256, 0] S1x128x64.size inb_S1x384x64_S1x128x64_0_256_0) (fun j => f (256 + (j 1).val) (j 2).val) := by
  intro j
  refine (hx _).trans ?_
  show ((f (256 + 1 * (j 1).val) (0 + 1 * (j 2).val) : ℝ) : EReal) = _
  simp

theorem putD128 {x : FVec Ideal S1x384x64 .f32} {f u : ℕ → ℕ → ℝ} (hx : RV x (fun j => f (j 1).val (j 2).val)) {w : FVec Ideal S1x128x64 .f32} (hw : RV w (fun j => u (256 + (j 1).val) (j 2).val))
    (hu : ∀ r < 256, ∀ d, u r d = f r d) :
    RV (s := S1x384x64) (VecWindow.put (s := S1x384x64) x ![0, 256, 0] S1x128x64.size w) (fun j => u (j 1).val (j 2).val) := by
  intro j
  have h0 : (j 1).val < 384 := (j 1).isLt
  unfold VecWindow.put
  by_cases h : 256 ≤ (j 1).val
  · have hall : ∀ a : Fin 3, (![0, 256, 0] : Fin 3 → ℕ) a ≤ (j a).val ∧ (j a).val < (![0, 256, 0] : Fin 3 → ℕ) a + S1x128x64.size a := by
      have h1 : (j 2).val < 64 := (j 2).isLt
      have h2 : (j 0).val < 1 := (j 0).isLt
      intro a
      fin_cases a
      · exact ⟨Nat.zero_le _, by show (j 0).val < 0 + 1; omega⟩
      · exact ⟨h, by show (j 1).val < 256 + 128; omega⟩
      · exact ⟨Nat.zero_le _, by show (j 2).val < 0 + 64; omega⟩
    rw [dif_pos hall]
    refine (hw _).trans ?_
    show ((u (256 + ((j 1).val - 256)) ((j 2).val - 0) : ℝ) : EReal) = _
    rw [Nat.add_sub_cancel' h]; rfl
  · rw [dif_neg fun hall => h (hall 1).1, hx]
    beta_reduce
    rw [hu _ (Nat.lt_of_not_le h)]

end Cert.KernelIdeal.Attn

end
-- ==== Proof.KernelIdeal.PayUnmasked.lean ====
/- The payloads of an unmasked column block, of operands whose entries are real numbers. -/
module

public import proofs.«01_k».proof.Proof.KernelIdeal.State

@[expose] public section

set_option maxRecDepth 16384

noncomputable section

namespace Cert.KernelIdeal.Attn

open Idealize.ShloMosaic Idealize.ShloMosaic.TcCoe
open Cert.KernelIdeal Cert.KernelIdeal.Gen Cert.Attn
open Finset (range)

/-- The matrix of "after". -/
theorem re130 : RV (k0_pay130 (F := Ideal)) (fun j => aft (j 0).val (j 1).val) := fun j => by
  idx_vars j
  pointwise [k0_pay130]
  rw [sgt_nat (by omega) (by omega), show (128#32) = BitVec.ofNat 32 128 from rfl, sge_nat (by omega) (by omega)]
  exact sitofp_ori _ _

/-- The matrix of "before". -/
theorem re131 : RV (k0_pay131 (F := Ideal)) (fun j => bef (j 0).val (j 1).val) := fun j => by
  idx_vars j
  pointwise [k0_pay131]
  rw [slt_nat (by omega) (by omega), show (128#32) = BitVec.ofNat 32 128 from rfl, sge_nat (by omega) (by omega)]
  exact sitofp_ori _ _

section
variable {Q O : FVec Ideal S384x64 .bf16} {K V : FVec Ideal S1x128x64 .bf16} {q o κ ν : ℕ → ℕ → ℝ} {X : FVec Ideal S128x256 .bf16}
  {TT : FVec Ideal S384x128 .f32} {P G : FVec Ideal S384x128 .f32} {T p g : ℕ → ℝ}
  {QT OT : FVec Ideal S64x384 .bf16}
  (m : ℕ → ℕ → Prop) [∀ r c, Decidable (m r c)]
  (hm : ∀ r < 384, ∀ c < 128, m r c)
  (hQ : RV Q (fun j => q (j 0).val (j 1).val)) (hO : RV O (fun j => o (j 0).val (j 1).val))
  (hK : RV K (fun j => κ (j 1).val (j 2).val)) (hV : RV V (fun j => ν (j 1).val (j 2).val))
  (hT : RV TT (fun j => T (j 0).val)) (hP : RV P (fun j => p (j 0).val)) (hG : RV G (fun j => g (j 0).val))
  (hQT : RV QT (fun j => q (j 1).val (j 0).val)) (hOT : RV OT (fun j => o (j 1).val (j 0).val))
section
include hK
theorem re3 : RV (k0_pay3 (F := Ideal) K) (fun j => κ (j 0).val (j 1).val) := cast3_128x64 hK _
end

section
include hQ hK

theorem re4 : RV (k0_pay4 (F := Ideal) Q K) (fun j => bz q κ (j 0).val (j 1).val) := mmT_384x64x128 hQ (re3 hK)

theorem re5 : RV (k0_pay5 (F := Ideal) Q K) (fun j => sp (bz q κ (j 0).val (j 1).val)) :=
  ((re4 hQ hK).max RV.zero).add ((RV.one.add (RV.zero.sub (re4 hQ hK).abs).exp).log fun j => sp_arg_pos _)

theorem re7 : RV (k0_pay7 (F := Ideal) Q K) (fun j => bz q κ (j 0).val (j 1).val - sp (bz q κ (j 0).val (j 1).val)) :=
  (re4 hQ hK).sub (re5 hQ hK)

include hm

theorem re6 : RV (k0_pay6 (F := Ideal) Q (k0_pay130 (F := Ideal)) K) (fun j => bla m q κ (j 0).val (j 1).val) := by
  have h380 : RV (subf (broadcast S384x128 (Scalar.ofBits (F := Ideal) .f32 0x00000000#32)) (k0_pay5 (F := Ideal) Q K)) (fun j => bl m q κ (j 0).val (j 1).val) :=
    (RV.zero.sub (re5 hQ hK)).congr fun j => (if_pos (hm _ (j 0).isLt _ (j 1).isLt)).symm
  refine RV.congr ((mm_384x128x256 (h380.trunc bitsLt_bf16_f32) re130).add (mm_384x128x256 (A := fun _ _ => 0) (((h380.sub ((h380.trunc bitsLt_bf16_f32).ext bitsLt_bf16_f32)).trunc bitsLt_bf16_f32).congr fun j => sub_self _) re130)) fun j => ?_
  simp [bla]

theorem re8 : RV (k0_pay8 (F := Ideal) Q (k0_pay130 (F := Ideal)) K) (fun j => bla m q κ (j 0).val (j 1).val) :=
  (RV.slice2 (re6 m hm hQ hK) 0 0 slices_S384x256_o0_0_S384x128).congr fun j => by simp

theorem re9 : RV (k0_pay9 (F := Ideal) Q (k0_pay130 (F := Ideal)) K) (fun j => bla m q κ (j 0).val (128 + (j 1).val)) :=
  (RV.slice2 (re6 m hm hQ hK) 0 128 slices_S384x256_o0_128_S384x128).congr fun j => by simp

end

section
include hO hV
theorem re10 : RV (k0_pay10 (F := Ideal) O V) (fun j => bz o ν (j 0).val (j 1).val) := mmT_384x64x128 hO (cast3_128x64 hV _)
end

section
include hQ hK hO hV hT hP hm

theorem re32 : RV (k0_pay32 (F := Ideal) TT (k0_pay7 (F := Ideal) Q K) (k0_pay8 (F := Ideal) Q (k0_pay130 (F := Ideal)) K) (k0_pay9 (F := Ideal) Q (k0_pay130 (F := Ideal)) K) P)
    (fun j => bw m q κ T p (j 0).val (j 1).val) :=
  ((((re7 hQ hK).add (re8 m hm hQ hK)).add (hT.sub (hP.add (re9 m hm hQ hK)))).exp).congr fun j => (if_pos (hm _ (j 0).isLt _ (j 1).isLt)).symm

theorem re33 : RV (k0_pay33 (F := Ideal) TT (k0_pay7 (F := Ideal) Q K) (k0_pay8 (F := Ideal) Q (k0_pay130 (F := Ideal)) K) (k0_pay9 (F := Ideal) Q (k0_pay130 (F := Ideal)) K) (k0_pay10 (F := Ideal) O V) P)
    (fun j => bA m q o κ ν T p (j 0).val (j 1).val) :=
  (re32 m hm hQ hO hK hV hT hP).mul (re10 hO hV)

theorem re34 : RV (k0_pay34 (F := Ideal) TT (k0_pay131 (F := Ideal)) (k0_pay7 (F := Ideal) Q K) (k0_pay8 (F := Ideal) Q (k0_pay130 (F := Ideal)) K) (k0_pay9 (F := Ideal) Q (k0_pay130 (F := Ideal)) K) (k0_pay10 (F := Ideal) O V) P)
    (fun j => bAb m q o κ ν T p (j 0).val (j 1).val) :=
  mm_384x128x256 ((re33 m hm hQ hO hK hV hT hP).trunc bitsLt_bf16_f32) re131

theorem re35 : RV (k0_pay35 (F := Ideal) (k0_pay9 (F := Ideal) Q (k0_pay130 (F := Ideal)) K) P) (fun j => p (j 0).val + bla m q κ (j 0).val (128 + (j 1).val)) :=
  (hP.add (re9 m hm hQ hK)).self _

include hG

theorem re36 : RV (k0_pay36 (F := Ideal) TT (k0_pay131 (F := Ideal)) (k0_pay7 (F := Ideal) Q K) (k0_pay8 (F := Ideal) Q (k0_pay130 (F := Ideal)) K) (k0_pay9 (F := Ideal) Q (k0_pay130 (F := Ideal)) K) (k0_pay10 (F := Ideal) O V) P G)
    (fun j => g (j 0).val + bAb m q o κ ν T p (j 0).val (128 + (j 1).val)) :=
  (hG.add ((RV.slice2 (re34 m hm hQ hO hK hV hT hP) 0 128 slices_S384x256_o0_128_S384x128).congr (g := fun j => bAb m q o κ ν T p (j 0).val (128 + (j 1).val)) fun j => by simp)).self _

theorem re37 : RV (k0_pay37 (F := Ideal) TT (k0_pay131 (F := Ideal)) (k0_pay7 (F := Ideal) Q K) (k0_pay8 (F := Ideal) Q (k0_pay130 (F := Ideal)) K) (k0_pay9 (F := Ideal) Q (k0_pay130 (F := Ideal)) K) (k0_pay10 (F := Ideal) O V) P G)
    (fun j => bdz m q o κ ν T p g (j 0).val (j 1).val) := by
  have h := re33 m hm hQ hO hK hV hT hP
  refine ((h.sub ((re7 hQ hK).exp.mul ((h.add (RV.slice2 (re34 m hm hQ hO hK hV hT hP) 0 0 slices_S384x256_o0_0_S384x128)).add hG))).trunc bitsLt_bf16_f32).congr fun j => ?_
  rw [bdz, if_pos (hm _ (j 0).isLt _ (j 1).isLt)]
  simp

end

end

section
variable {Z : FVec Ideal S384x128 .bf16} {ζ : ℕ → ℕ → ℝ} (hZ : RV Z (fun j => ζ (j 0).val (j 1).val))
  {W : FVec Ideal S384x128 .f32} (hW : RV W (fun j => ζ (j 0).val (j 1).val))
include hZ
theorem re38 {K : FVec Ideal S128x64 .bf16} {κ : ℕ → ℕ → ℝ} (hK : RV K (fun j => κ (j 0).val (j 1).val)) {D : FVec Ideal S1x384x64 .f32} {d : ℕ → ℕ → ℝ} (hD : RV D (fun j => d (j 1).val (j 2).val)) :
    RV (k0_pay38 (F := Ideal) K Z D) (fun j => d (j 1).val (j 2).val + ∑ c ∈ range 128, ζ (j 1).val c * κ c (j 2).val) :=
  cast2_384x64 (f := fun r e => d r e + ∑ c ∈ range 128, ζ r c * κ c e) ((cast3_384x64 hD _).add (mm_384x128x64 hZ hK)) _

theorem re39 {QT : FVec Ideal S64x384 .bf16} {q : ℕ → ℕ → ℝ} (hQT : RV QT (fun j => q (j 1).val (j 0).val)) {D : FVec Ideal S1x1x64x128 .f32} {d : ℕ → ℕ → ℝ} (hD : RV D (fun j => d (j 2).val (j 3).val)) :
    RV (k0_pay39 (F := Ideal) QT Z D) (fun j => d (j 2).val (j 3).val + ∑ r ∈ range 384, q r (j 2).val * ζ r (j 3).val) :=
  castTo4_64x128 (f := fun e c => d e c + ∑ r ∈ range 384, q r e * ζ r c) ((cast4_64x128 hD _).add (mm_64x384x128 (A := fun e r => q r e) hQT hZ)) _
omit hZ
include hW
theorem re40 {OT : FVec Ideal S64x384 .bf16} {o : ℕ → ℕ → ℝ} (hOT : RV OT (fun j => o (j 1).val (j 0).val)) {D : FVec Ideal S1x1x64x128 .f32} {d : ℕ → ℕ → ℝ} (hD : RV D (fun j => d (j 2).val (j 3).val)) :
    RV (k0_pay40 (F := Ideal) OT W D) (fun j => d (j 2).val (j 3).val + ∑ r ∈ range 384, o r (j 2).val * ζ r (j 3).val) :=
  castTo4_64x128 (f := fun e c => d e c + ∑ r ∈ range 384, o r e * ζ r c) ((cast4_64x128 hD _).add (mm_64x384x128 (A := fun e r => o r e) hOT (hW.trunc bitsLt_bf16_f32))) _
end

/-- An unmasked block. -/
theorem ublk_RS {R : Rows Ideal} {q o κ ν : ℕ → ℕ → ℝ} {T : ℕ → ℝ} (hR : RR R q o T) {K V : FVec Ideal S1x128x64 .bf16}
    (hK : RV K (fun j => κ (j 1).val (j 2).val)) (hV : RV V (fun j => ν (j 1).val (j 2).val))
    (m : ℕ → ℕ → Prop) [∀ r c, Decidable (m r c)] (hm : ∀ r < 384, ∀ c < 128, m r c)
    {off : Fin 4 → ℕ} (inb : ∀ a, off a + S1x1x64x128.size a ≤ S1x33x64x128.size a) {J : ℕ} (e : off = ![0, J, 0, 0])
    {s : St Ideal} {x : SR} (hs : RS s x) : RS (ublk R K V off inb s) (x.step m q o κ ν T J) where
  dq := re38 (re37 m hm hR.q hR.o hK hV hR.tot hs.p hs.g) (re3 hK) hs.dq
  dk := put4 hs.dk e (u := fun d c => x.dk J d c + ∑ r ∈ range 384, q r d * bdz m q o κ ν T x.p x.g r c) (re39 (re37 m hm hR.q hR.o hK hV hR.tot hs.p hs.g) hR.qt (win4 hs.dk inb e))
  dv := put4 hs.dv e (u := fun d c => x.dv J d c + ∑ r ∈ range 384, o r d * bw m q κ T x.p r c) (re40 (re32 m hm hR.q hR.o hK hV hR.tot hs.p) hR.ot (win4 hs.dv inb e))
  p := (re35 m hm hR.q hR.o hK hV hR.tot hs.p).congr fun j => by rw [bla_past]; rfl
  g := (re36 m hm hR.q hR.o hK hV hR.tot hs.p hs.g).congr fun j => by rw [bAb_past]; rfl

end Cert.KernelIdeal.Attn

end
-- ==== Proof.KernelIdeal.PayMasked.lean ====
/- The payloads of the three column blocks the mask cuts, of operands whose entries are real numbers. -/
module

public import proofs.«01_k».proof.Proof.KernelIdeal.PayUnmasked

@[expose] public section

set_option maxRecDepth 16384

noncomputable section

namespace Cert.KernelIdeal.Attn

open Idealize.ShloMosaic Idealize.ShloMosaic.TcCoe
open Cert.KernelIdeal Cert.KernelIdeal.Gen Cert.Attn
open Finset (range)

/-- The mask of the `b`-th of the three blocks: column `c` is seen from row `r`. -/
abbrev seen (b r c : ℕ) : Prop := c + 128 * b < r

theorem re127 : MV (k0_pay127 rowIota colIota) (fun j => seen 0 (j 0).val (j 1).val) := fun j => by
  idx_vars j
  pointwise [k0_pay127, rowIota, colIota]
  rw [show ((0#32 : BitVec 32)) = BitVec.ofNat 32 0 from rfl]
  simp only [IntOp.addi, ← BitVec.ofNat_add]
  exact slt_nat (by omega) (by omega)

theorem re128 : MV (k0_pay128 rowIota colIota) (fun j => seen 1 (j 0).val (j 1).val) := fun j => by
  idx_vars j
  pointwise [k0_pay128, rowIota, colIota]
  rw [show ((128#32 : BitVec 32)) = BitVec.ofNat 32 128 from rfl]
  simp only [IntOp.addi, ← BitVec.ofNat_add]
  exact slt_nat (by omega) (by omega)

theorem re129 : MV (k0_pay129 rowIota colIota) (fun j => seen 2 (j 0).val (j 1).val) := fun j => by
  idx_vars j
  pointwise [k0_pay129, rowIota, colIota]
  rw [show ((256#32 : BitVec 32)) = BitVec.ofNat 32 256 from rfl]
  simp only [IntOp.addi, ← BitVec.ofNat_add]
  exact slt_nat (by omega) (by omega)

section
variable {Q O : FVec Ideal S384x64 .bf16} {K V : FVec Ideal S1x128x64 .bf16} {q o κ ν : ℕ → ℕ → ℝ}
  {TT : FVec Ideal S384x128 .f32} {T p g : ℕ → ℝ}
  {QT OT : FVec Ideal S64x384 .bf16}
  (hQ : RV Q (fun j => q (j 0).val (j 1).val)) (hO : RV O (fun j => o (j 0).val (j 1).val))
  (hK : RV K (fun j => κ (j 1).val (j 2).val)) (hV : RV V (fun j => ν (j 1).val (j 2).val))
  (hT : RV TT (fun j => T (j 0).val))
  (hQT : RV QT (fun j => q (j 1).val (j 0).val)) (hOT : RV OT (fun j => o (j 1).val (j 0).val))

/-! ## Block 0 -/
section

section
include hQ hK

theorem rez0 : RV (s := S384x128) (k0_pay139 (F := Ideal) Q K) (fun j => bz q κ (j 0).val (j 1).val) :=
  mmT_384x64x128 (A := fun r d => q r d) hQ (cast3_128x64 hK _)

theorem resp0 : RV (s := S384x128) (k0_pay140 (F := Ideal) Q K) (fun j => sp (bz q κ (j 0).val (j 1).val)) :=
  ((rez0 hQ hK).max RV.zero).add ((RV.one.add (RV.zero.sub (rez0 hQ hK).abs).exp).log fun j => sp_arg_pos _)

theorem rezs0 : RV (s := S384x128) (k0_pay142 (F := Ideal) Q K) (fun j => bz q κ (j 0).val (j 1).val - sp (bz q κ (j 0).val (j 1).val)) :=
  (rez0 hQ hK).sub (resp0 hQ hK)

theorem reB0 : RV (s := S384x256) (k0_pay141 (F := Ideal) Q (k0_pay127 rowIota colIota) (k0_pay130 (F := Ideal)) K) (fun j => bla (seen 0) q κ (j 0).val (j 1).val) := by
  have h := RV.sel re127 (RV.zero.sub (resp0 hQ hK)) RV.zero
  refine RV.congr ((mm_384x128x256 (A := fun r c => bl (seen 0) q κ r c) (h.trunc bitsLt_bf16_f32) re130).add (mm_384x128x256 (A := fun _ _ => 0) (((h.sub ((h.trunc bitsLt_bf16_f32).ext bitsLt_bf16_f32)).trunc bitsLt_bf16_f32).congr fun j => sub_self _) re130)) fun j => ?_
  simp [bla]

theorem rel0 : RV (s := S384x128) (k0_pay143 (F := Ideal) Q (k0_pay127 rowIota colIota) (k0_pay130 (F := Ideal)) K) (fun j => bla (seen 0) q κ (j 0).val (j 1).val) :=
  (RV.slice2 (f := fun r c => bla (seen 0) q κ r c) (reB0 hQ hK) 0 0 slices_S384x256_o0_0_S384x128).congr fun j => by simp only [Nat.zero_add]

theorem rell0 : RV (s := S384x128) (k0_pay144 (F := Ideal) Q (k0_pay127 rowIota colIota) (k0_pay130 (F := Ideal)) K) (fun j => bla (seen 0) q κ (j 0).val (128 + (j 1).val)) :=
  (RV.slice2 (f := fun r c => bla (seen 0) q κ r c) (reB0 hQ hK) 0 128 slices_S384x256_o0_128_S384x128).congr fun j => by simp only [Nat.zero_add]
end

section
include hO hV
theorem reov0 : RV (s := S384x128) (k0_pay145 (F := Ideal) O V) (fun j => bz o ν (j 0).val (j 1).val) :=
  mmT_384x64x128 (A := fun r d => o r d) hO (cast3_128x64 hV _)
end

variable {P G : FVec Ideal S384x128 .f32} (hP : RV P (fun j => p (j 0).val)) (hG : RV G (fun j => g (j 0).val))
include hQ hK hO hV hT hP

theorem rew0 : RV (s := S384x128) (k0_pay167 (F := Ideal) TT (k0_pay127 rowIota colIota) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) P) (fun j => bw (seen 0) q κ T p (j 0).val (j 1).val) :=
  RV.sel re127 ((((rezs0 hQ hK).add (rel0 hQ hK)).add (hT.sub (hP.add (rell0 hQ hK)))).exp) RV.zero

theorem reA0 : RV (s := S384x128) (k0_pay168 (F := Ideal) TT (k0_pay127 rowIota colIota) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P) (fun j => bA (seen 0) q o κ ν T p (j 0).val (j 1).val) :=
  (rew0 hQ hO hK hV hT hP).mul (reov0 hO hV)

theorem reAb0 : RV (s := S384x256) (k0_pay169 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P) (fun j => bAb (seen 0) q o κ ν T p (j 0).val (j 1).val) :=
  mm_384x128x256 (A := fun r c => bA (seen 0) q o κ ν T p r c) ((reA0 hQ hO hK hV hT hP).trunc bitsLt_bf16_f32) re131

theorem reAl0 : RV (s := S384x128) (extractStridedSlice S384x128 ![0, 0] (k0_pay169 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P) slices_S384x256_o0_0_S384x128) (fun j => bAb (seen 0) q o κ ν T p (j 0).val (j 1).val) :=
  (RV.slice2 (f := fun r c => bAb (seen 0) q o κ ν T p r c) (reAb0 hQ hO hK hV hT hP) 0 0 slices_S384x256_o0_0_S384x128).congr fun j => by simp only [Nat.zero_add]

theorem reAll0 : RV (s := S384x128) (extractStridedSlice S384x128 ![0, 128] (k0_pay169 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P) slices_S384x256_o0_128_S384x128) (fun j => bAb (seen 0) q o κ ν T p (j 0).val (128 + (j 1).val)) :=
  (RV.slice2 (f := fun r c => bAb (seen 0) q o κ ν T p r c) (reAb0 hQ hO hK hV hT hP) 0 128 slices_S384x256_o0_128_S384x128).congr fun j => by simp only [Nat.zero_add]

theorem rep0 : RV (s := S384x128) (k0_pay171 (F := Ideal) (k0_pay144 (F := Ideal) Q (k0_pay127 rowIota colIota) (k0_pay130 (F := Ideal)) K) P) (fun j => p (j 0).val + bla (seen 0) q κ (j 0).val 128) :=
  ((hP.add (rell0 hQ hK)).self _).congr fun j => by rw [bla_past]

theorem rev0 (hOT : RV OT (fun j => o (j 1).val (j 0).val)) {E : FVec Ideal S1x1x64x128 .f32} {e : ℕ → ℕ → ℝ} (hE : RV E (fun j => e (j 2).val (j 3).val)) :
    RV (s := S1x1x64x128) (k0_pay176 (F := Ideal) OT (k0_pay167 (F := Ideal) TT (k0_pay127 rowIota colIota) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) P) E) (fun j => e (j 2).val (j 3).val + ∑ r ∈ range 384, o r (j 2).val * bw (seen 0) q κ T p r (j 3).val) :=
  castTo4_64x128 (f := fun d c => e d c + ∑ r ∈ range 384, o r d * bw (seen 0) q κ T p r c) ((cast4_64x128 hE _).add (mm_64x384x128 (A := fun d r => o r d) (B := fun r c => bw (seen 0) q κ T p r c) hOT ((rew0 hQ hO hK hV hT hP).trunc bitsLt_bf16_f32))) _

include hG

theorem reg0 : RV (s := S384x128) (k0_pay172 (F := Ideal) (k0_pay169 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P) G) (fun j => g (j 0).val + bAb (seen 0) q o κ ν T p (j 0).val 128) :=
  ((hG.add (reAll0 hQ hO hK hV hT hP)).self _).congr fun j => by rw [bAb_past]

theorem redz0 : RV (s := S384x128) (k0_pay173 (F := Ideal) (k0_pay170 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P G)) (fun j => bdz (seen 0) q o κ ν T p g (j 0).val (j 1).val) := by
  have h := reA0 hQ hO hK hV hT hP
  exact (RV.sel re127 (h.sub ((rezs0 hQ hK).exp.mul ((h.add (reAl0 hQ hO hK hV hT hP)).add hG))) RV.zero).trunc bitsLt_bf16_f32

theorem req0 {D : FVec Ideal S1x384x64 .f32} {d : ℕ → ℕ → ℝ} (hD : RV D (fun j => d (j 1).val (j 2).val)) :
    RV (s := S1x384x64) (k0_pay174 (F := Ideal) (k0_pay138 (F := Ideal) K) (k0_pay170 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P G) D) (fun j => d (j 1).val (j 2).val + ∑ c ∈ range 128, bdz (seen 0) q o κ ν T p g (j 1).val c * κ c (j 2).val) :=
  cast2_384x64 (f := fun r e => d r e + ∑ c ∈ range 128, bdz (seen 0) q o κ ν T p g r c * κ c e)
    ((cast3_384x64 (f := fun r e => d r e) hD _).add (mm_384x128x64 (A := fun r c => bdz (seen 0) q o κ ν T p g r c) (redz0 hQ hO hK hV hT hP hG) (cast3_128x64 hK _))) _

theorem rek0 (hQT : RV QT (fun j => q (j 1).val (j 0).val)) {E : FVec Ideal S1x1x64x128 .f32} {e : ℕ → ℕ → ℝ} (hE : RV E (fun j => e (j 2).val (j 3).val)) :
    RV (s := S1x1x64x128) (k0_pay175 (F := Ideal) QT (k0_pay170 (F := Ideal) TT (k0_pay127 rowIota colIota) (k0_pay131 (F := Ideal)) (k0_pay142 (F := Ideal) Q K) (k0_pay143 (F := Ideal) Q (k0_pay127 rowIota colIota) (k0_pay130 (F := Ideal)) K) (k0_pay144 (F := Ideal) Q (k0_pay127 rowIota colIota) (k0_pay130 (F := Ideal)) K) (k0_pay145 (F := Ideal) O V) P G) E) (fun j => e (j 2).val (j 3).val + ∑ r ∈ range 384, q r (j 2).val * bdz (seen 0) q o κ ν T p g r (j 3).val) :=
  castTo4_64x128 (f := fun d c => e d c + ∑ r ∈ range 384, q r d * bdz (seen 0) q o κ ν T p g r c) ((cast4_64x128 hE _).add (mm_64x384x128 (A := fun d r => q r d) (B := fun r c => bdz (seen 0) q o κ ν T p g r c) hQT (redz0 hQ hO hK hV hT hP hG))) _

end

/-! ## Block 1 -/
section

theorem seen1 : MV (extractStridedSlice S256x128 ![128, 0] (k0_pay128 rowIota colIota) slices_S384x128_o128_0_S256x128) (fun j => seen 1 (128 + (j 0).val) (j 1).val) := fun j => by
  rw [MV.slice2 (P := seen 1) re128 128 0 slices_S384x128_o128_0_S256x128 j]
  simp only [Nat.zero_add]

section
include hQ hK

theorem rez1 : RV (s := S256x128) (k0_pay148 (F := Ideal) Q K) (fun j => bz q κ (128 + (j 0).val) (j 1).val) :=
  mmT_256x64x128 (A := fun r d => q (128 + r) d) ((RV.slice2 hQ 128 0 slices_S384x64_o128_0_S256x64).congr (g := fun j => q (128 + (j 0).val) (j 1).val) fun j => by simp) (cast3_128x64 hK _)

theorem resp1 : RV (s := S256x128) (k0_pay149 (F := Ideal) (k0_pay148 (F := Ideal) Q K)) (fun j => sp (bz q κ (128 + (j 0).val) (j 1).val)) :=
  ((rez1 hQ hK).max RV.zero).add ((RV.one.add (RV.zero.sub (rez1 hQ hK).abs).exp).log fun j => sp_arg_pos _)

theorem rezs1 : RV (s := S256x128) (k0_pay151 (F := Ideal) (k0_pay148 (F := Ideal) Q K)) (fun j => bz q κ (128 + (j 0).val) (j 1).val - sp (bz q κ (128 + (j 0).val) (j 1).val)) :=
  (rez1 hQ hK).sub (resp1 hQ hK)

theorem reB1 : RV (s := S256x256) (k0_pay150 (F := Ideal) (k0_pay128 rowIota colIota) (k0_pay130 (F := Ideal)) (k0_pay148 (F := Ideal) Q K)) (fun j => bla (seen 1) q κ (128 + (j 0).val) (j 1).val) := by
  have h := RV.sel seen1 (RV.zero.sub (resp1 hQ hK)) RV.zero
  refine RV.congr ((mm_256x128x256 (A := fun r c => bl (seen 1) q κ (128 + r) c) (h.trunc bitsLt_bf16_f32) re130).add (mm_256x128x256 (A := fun _ _ => 0) (((h.sub ((h.trunc bitsLt_bf16_f32).ext bitsLt_bf16_f32)).trunc bitsLt_bf16_f32).congr fun j => sub_self _) re130)) fun j => ?_
  simp [bla]

theorem rel1 : RV (s := S256x128) (k0_pay152 (F := Ideal) (k0_pay128 rowIota colIota) (k0_pay130 (F := Ideal)) (k0_pay148 (F := Ideal) Q K)) (fun j => bla (seen 1) q κ (128 + (j 0).val) (j 1).val) :=
  (RV.slice2 (f := fun r c => bla (seen 1) q κ (128 + r) c) (reB1 hQ hK) 0 0 slices_S256x256_o0_0_S256x128).congr fun j => by simp only [Nat.zero_add]

theorem rell1 : RV (s := S256x128) (k0_pay153 (F := Ideal) (k0_pay128 rowIota colIota) (k0_pay130 (F := Ideal)) (k0_pay148 (F := Ideal) Q K)) (fun j => bla (seen 1) q κ (128 + (j 0).val) (128 + (j 1).val)) :=
  (RV.slice2 (f := fun r c => bla (seen 1) q κ (128 + r) c) (reB1 hQ hK) 0 128 slices_S256x256_o0_128_S256x128).congr fun j => by simp only [Nat.zero_add]
end

section
include hO hV
theorem reov1 : RV (s := S256x128) (k0_pay154 (F := Ideal) O (k0_pay147 (F := Ideal) V)) (fun j => bz o ν (128 + (j 0).val) (j 1).val) :=
  mmT_256x64x128 (A := fun r d => o (128 + r) d) ((RV.slice2 hO 128 0 slices_S384x64_o128_0_S256x64).congr (g := fun j => o (128 + (j 0).val) (j 1).val) fun j => by simp) (cast3_128x64 hV _)
end

variable {P G : FVec Ideal S256x128 .f32} (hP : RV P (fun j => p (128 + (j 0).val))) (hG : RV G (fun j => g (128 + (j 0).val)))
include hQ hK hO hV hT hP

theorem rew1 : RV (s := S256x128) (k0_pay178 (F := Ideal) TT (k0_pay128 rowIota colIota) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) P) (fun j => bw (seen 1) q κ T p (128 + (j 0).val) (j 1).val) :=
  RV.sel seen1 ((((rezs1 hQ hK).add (rel1 hQ hK)).add (((RV.slice2 (f := fun r _ => T r) hT 128 0 slices_S384x128_o128_0_S256x128)).sub (hP.add (rell1 hQ hK)))).exp) RV.zero

theorem reA1 : RV (s := S256x128) (k0_pay179 (F := Ideal) TT (k0_pay128 rowIota colIota) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P) (fun j => bA (seen 1) q o κ ν T p (128 + (j 0).val) (j 1).val) :=
  (rew1 hQ hO hK hV hT hP).mul (reov1 hO hV)

theorem reAb1 : RV (s := S256x256) (k0_pay180 (F := Ideal) TT (k0_pay128 rowIota colIota) (k0_pay131 (F := Ideal)) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P) (fun j => bAb (seen 1) q o κ ν T p (128 + (j 0).val) (j 1).val) :=
  mm_256x128x256 (A := fun r c => bA (seen 1) q o κ ν T p (128 + r) c) ((reA1 hQ hO hK hV hT hP).trunc bitsLt_bf16_f32) re131

theorem reAl1 : RV (s := S256x128) (extractStridedSlice S256x128 ![0, 0] (k0_pay180 (F := Ideal) TT (k0_pay128 rowIota colIota) (k0_pay131 (F := Ideal)) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P) slices_S256x256_o0_0_S256x128) (fun j => bAb (seen 1) q o κ ν T p (128 + (j 0).val) (j 1).val) :=
  (RV.slice2 (f := fun r c => bAb (seen 1) q o κ ν T p (128 + r) c) (reAb1 hQ hO hK hV hT hP) 0 0 slices_S256x256_o0_0_S256x128).congr fun j => by simp only [Nat.zero_add]

theorem reAll1 : RV (s := S256x128) (extractStridedSlice S256x128 ![0, 128] (k0_pay180 (F := Ideal) TT (k0_pay128 rowIota colIota) (k0_pay131 (F := Ideal)) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P) slices_S256x256_o0_128_S256x128) (fun j => bAb (seen 1) q o κ ν T p (128 + (j 0).val) (128 + (j 1).val)) :=
  (RV.slice2 (f := fun r c => bAb (seen 1) q o κ ν T p (128 + r) c) (reAb1 hQ hO hK hV hT hP) 0 128 slices_S256x256_o0_128_S256x128).congr fun j => by simp only [Nat.zero_add]

theorem rep1 : RV (s := S256x128) (k0_pay181 (F := Ideal) (k0_pay153 (F := Ideal) (k0_pay128 rowIota colIota) (k0_pay130 (F := Ideal)) (k0_pay148 (F := Ideal) Q K)) P) (fun j => p (128 + (j 0).val) + bla (seen 1) q κ (128 + (j 0).val) 128) :=
  ((hP.add (rell1 hQ hK)).self _).congr fun j => by rw [bla_past]

theorem rev1 (hOT : RV OT (fun j => o (j 1).val (j 0).val)) {E : FVec Ideal S1x1x64x128 .f32} {e : ℕ → ℕ → ℝ} (hE : RV E (fun j => e (j 2).val (j 3).val)) :
    RV (s := S1x1x64x128) (k0_pay186 (F := Ideal) OT (k0_pay178 (F := Ideal) TT (k0_pay128 rowIota colIota) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) P) E) (fun j => e (j 2).val (j 3).val + ∑ r ∈ range 256, o (128 + r) (j 2).val * bw (seen 1) q κ T p (128 + r) (j 3).val) :=
  castTo4_64x128 (f := fun d c => e d c + ∑ r ∈ range 256, o (128 + r) d * bw (seen 1) q κ T p (128 + r) c) ((cast4_64x128 hE _).add (mm_64x256x128 (A := fun d r => o (128 + r) d) (B := fun r c => bw (seen 1) q κ T p (128 + r) c) ((RV.slice2 (f := fun d r => o r d) hOT 0 128 slices_S64x384_o0_128_S64x256).congr (g := fun j => o (128 + (j 1).val) (j 0).val) fun j => by simp only [Nat.zero_add]) ((rew1 hQ hO hK hV hT hP).trunc bitsLt_bf16_f32))) _

include hG

theorem reg1 : RV (s := S256x128) (k0_pay182 (F := Ideal) TT (k0_pay128 rowIota colIota) (k0_pay131 (F := Ideal)) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P G) (fun j => g (128 + (j 0).val) + bAb (seen 1) q o κ ν T p (128 + (j 0).val) 128) :=
  ((hG.add (reAll1 hQ hO hK hV hT hP)).self _).congr fun j => by rw [bAb_past]

theorem redz1 : RV (s := S256x128) (k0_pay183 (F := Ideal) TT (k0_pay128 rowIota colIota) (k0_pay131 (F := Ideal)) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P G) (fun j => bdz (seen 1) q o κ ν T p g (128 + (j 0).val) (j 1).val) := by
  have h := reA1 hQ hO hK hV hT hP
  exact (RV.sel seen1 (h.sub ((rezs1 hQ hK).exp.mul ((h.add (reAl1 hQ hO hK hV hT hP)).add hG))) RV.zero).trunc bitsLt_bf16_f32

theorem req1 {D : FVec Ideal S1x256x64 .f32} {d : ℕ → ℕ → ℝ} (hD : RV D (fun j => d (128 + (j 1).val) (j 2).val)) :
    RV (s := S1x256x64) (k0_pay184 (F := Ideal) TT (k0_pay128 rowIota colIota) (k0_pay131 (F := Ideal)) (k0_pay146 (F := Ideal) K) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P G D) (fun j => d (128 + (j 1).val) (j 2).val + ∑ c ∈ range 128, bdz (seen 1) q o κ ν T p g (128 + (j 1).val) c * κ c (j 2).val) :=
  cast2_256x64 (f := fun r e => d (128 + r) e + ∑ c ∈ range 128, bdz (seen 1) q o κ ν T p g (128 + r) c * κ c e)
    ((cast3_256x64 (f := fun r e => d (128 + r) e) hD _).add (mm_256x128x64 (A := fun r c => bdz (seen 1) q o κ ν T p g (128 + r) c) (redz1 hQ hO hK hV hT hP hG) (cast3_128x64 hK _))) _

theorem rek1 (hQT : RV QT (fun j => q (j 1).val (j 0).val)) {E : FVec Ideal S1x1x64x128 .f32} {e : ℕ → ℕ → ℝ} (hE : RV E (fun j => e (j 2).val (j 3).val)) :
    RV (s := S1x1x64x128) (k0_pay185 (F := Ideal) QT (k0_pay183 (F := Ideal) TT (k0_pay128 rowIota colIota) (k0_pay131 (F := Ideal)) (k0_pay151 (F := Ideal) (k0_pay148 (F := Ideal) Q K)) (k0_pay152 (F := Ideal) (k0_pay128 rowIota colIota) (k0_pay130 (F := Ideal)) (k0_pay148 (F := Ideal) Q K)) (k0_pay153 (F := Ideal) (k0_pay128 rowIota colIota) (k0_pay130 (F := Ideal)) (k0_pay148 (F := Ideal) Q K)) (k0_pay154 (F := Ideal) O (k0_pay147 (F := Ideal) V)) P G) E) (fun j => e (j 2).val (j 3).val + ∑ r ∈ range 256, q (128 + r) (j 2).val * bdz (seen 1) q o κ ν T p g (128 + r) (j 3).val) :=
  castTo4_64x128 (f := fun d c => e d c + ∑ r ∈ range 256, q (128 + r) d * bdz (seen 1) q o κ ν T p g (128 + r) c) ((cast4_64x128 hE _).add (mm_64x256x128 (A := fun d r => q (128 + r) d) (B := fun r c => bdz (seen 1) q o κ ν T p g (128 + r) c) ((RV.slice2 (f := fun d r => q r d) hQT 0 128 slices_S64x384_o0_128_S64x256).congr (g := fun j => q (128 + (j 1).val) (j 0).val) fun j => by simp only [Nat.zero_add]) (redz1 hQ hO hK hV hT hP hG))) _

end

/-! ## Block 2 -/
section

theorem seen2 : MV (extractStridedSlice S128x128 ![256, 0] (k0_pay129 rowIota colIota) slices_S384x128_o256_0_S128x128) (fun j => seen 2 (256 + (j 0).val) (j 1).val) := fun j => by
  rw [MV.slice2 (P := seen 2) re129 256 0 slices_S384x128_o256_0_S128x128 j]
  simp only [Nat.zero_add]

section
include hQ hK

theorem rez2 : RV (s := S128x128) (k0_pay157 (F := Ideal) Q K) (fun j => bz q κ (256 + (j 0).val) (j 1).val) :=
  mmT_128x64x128 (A := fun r d => q (256 + r) d) ((RV.slice2 hQ 256 0 slices_S384x64_o256_0_S128x64).congr (g := fun j => q (256 + (j 0).val) (j 1).val) fun j => by simp) (cast3_128x64 hK _)

theorem resp2 : RV (s := S128x128) (k0_pay160 (F := Ideal) (k0_pay158 (F := Ideal) Q K) (k0_pay159 (F := Ideal) Q K)) (fun j => sp (bz q κ (256 + (j 0).val) (j 1).val)) :=
  ((rez2 hQ hK).max RV.zero).add ((RV.one.add (RV.zero.sub (rez2 hQ hK).abs).exp).log fun j => sp_arg_pos _)

theorem rezs2 : RV (s := S128x128) (k0_pay162 (F := Ideal) (k0_pay157 (F := Ideal) Q K) (k0_pay158 (F := Ideal) Q K) (k0_pay159 (F := Ideal) Q K)) (fun j => bz q κ (256 + (j 0).val) (j 1).val - sp (bz q κ (256 + (j 0).val) (j 1).val)) :=
  (rez2 hQ hK).sub (resp2 hQ hK)

theorem reB2 : RV (s := S128x256) (k0_pay161 (F := Ideal) (k0_pay129 rowIota colIota) (k0_pay130 (F := Ideal)) (k0_pay158 (F := Ideal) Q K) (k0_pay159 (F := Ideal) Q K)) (fun j => bla (seen 2) q κ (256 + (j 0).val) (j 1).val) := by
  have h := RV.sel seen2 (RV.zero.sub (resp2 hQ hK)) RV.zero
  refine RV.congr ((mm_128x128x256 (A := fun r c => bl (seen 2) q κ (256 + r) c) (h.trunc bitsLt_bf16_f32) re130).add (mm_128x128x256 (A := fun _ _ => 0) (((h.sub ((h.trunc bitsLt_bf16_f32).ext bitsLt_bf16_f32)).trunc bitsLt_bf16_f32).congr fun j => sub_self _) re130)) fun j => ?_
  simp [bla]

theorem rel2 : RV (s := S128x128) (k0_pay163 (F := Ideal) (k0_pay129 rowIota colIota) (k0_pay130 (F := Ideal)) (k0_pay158 (F := Ideal) Q K) (k0_pay159 (F := Ideal) Q K)) (fun j => bla (seen 2) q κ (256 + (j 0).val) (j 1).val) :=
  (RV.slice2 (f := fun r c => bla (seen 2) q κ (256 + r) c) (reB2 hQ hK) 0 0 slices_S128x256_o0_0_S128x128).congr fun j => by simp only [Nat.zero_add]

theorem rell2 : RV (s := S128x128) (k0_pay164 (F := Ideal) (k0_pay129 rowIota colIota) (k0_pay130 (F := Ideal)) (k0_pay158 (F := Ideal) Q K) (k0_pay159 (F := Ideal) Q K)) (fun j => bla (seen 2) q κ (256 + (j 0).val) (128 + (j 1).val)) :=
  (RV.slice2 (f := fun r c => bla (seen 2) q κ (256 + r) c) (reB2 hQ hK) 0 128 slices_S128x256_o0_128_S128x128).congr fun j => by simp only [Nat.zero_add]
end

section
include hO hV
theorem reov2 : RV (s := S128x128) (k0_pay165 (F := Ideal) O (k0_pay156 (F := Ideal) V)) (fun j => bz o ν (256 + (j 0).val) (j 1).val) :=
  mmT_128x64x128 (A := fun r d => o (256 + r) d) ((RV.slice2 hO 256 0 slices_S384x64_o256_0_S128x64).congr (g := fun j => o (256 + (j 0).val) (j 1).val) fun j => by simp) (cast3_128x64 hV _)
end

variable {P G : FVec Ideal S128x128 .f32} (hP : RV P (fun j => p (256 + (j 0).val))) (hG : RV G (fun j => g (256 + (j 0).val)))
include hQ hK hO hV hT hP

theorem rew2 : RV (s := S128x128) (k0_pay188 (F := Ideal) TT (k0_pay129 rowIota colIota) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) P) (fun j => bw (seen 2) q κ T p (256 + (j 0).val) (j 1).val) :=
  RV.sel seen2 ((((rezs2 hQ hK).add (rel2 hQ hK)).add (((RV.slice2 (f := fun r _ => T r) hT 256 0 slices_S384x128_o256_0_S128x128)).sub (hP.add (rell2 hQ hK)))).exp) RV.zero

theorem reA2 : RV (s := S128x128) (k0_pay189 (F := Ideal) TT (k0_pay129 rowIota colIota) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) (fun j => bA (seen 2) q o κ ν T p (256 + (j 0).val) (j 1).val) :=
  (rew2 hQ hO hK hV hT hP).mul (reov2 hO hV)

theorem reAb2 : RV (s := S128x256) (k0_pay190 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) (fun j => bAb (seen 2) q o κ ν T p (256 + (j 0).val) (j 1).val) :=
  mm_128x128x256 (A := fun r c => bA (seen 2) q o κ ν T p (256 + r) c) ((reA2 hQ hO hK hV hT hP).trunc bitsLt_bf16_f32) re131

theorem reAl2 : RV (s := S128x128) (extractStridedSlice S128x128 ![0, 0] (k0_pay190 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) slices_S128x256_o0_0_S128x128) (fun j => bAb (seen 2) q o κ ν T p (256 + (j 0).val) (j 1).val) :=
  (RV.slice2 (f := fun r c => bAb (seen 2) q o κ ν T p (256 + r) c) (reAb2 hQ hO hK hV hT hP) 0 0 slices_S128x256_o0_0_S128x128).congr fun j => by simp only [Nat.zero_add]

theorem reAll2 : RV (s := S128x128) (extractStridedSlice S128x128 ![0, 128] (k0_pay190 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) slices_S128x256_o0_128_S128x128) (fun j => bAb (seen 2) q o κ ν T p (256 + (j 0).val) (128 + (j 1).val)) :=
  (RV.slice2 (f := fun r c => bAb (seen 2) q o κ ν T p (256 + r) c) (reAb2 hQ hO hK hV hT hP) 0 128 slices_S128x256_o0_128_S128x128).congr fun j => by simp only [Nat.zero_add]

theorem rep2 : RV (s := S128x128) (k0_pay193 (F := Ideal) (k0_pay187 (F := Ideal) (k0_pay164 (F := Ideal) (k0_pay129 rowIota colIota) (k0_pay130 (F := Ideal)) (k0_pay158 (F := Ideal) Q K) (k0_pay159 (F := Ideal) Q K)) P)) (fun j => p (256 + (j 0).val) + bla (seen 2) q κ (256 + (j 0).val) 128) :=
  ((hP.add (rell2 hQ hK)).self _).congr fun j => by rw [bla_past]

theorem rev2 (hOT : RV OT (fun j => o (j 1).val (j 0).val)) {E : FVec Ideal S1x1x64x128 .f32} {e : ℕ → ℕ → ℝ} (hE : RV E (fun j => e (j 2).val (j 3).val)) :
    RV (s := S1x1x64x128) (k0_pay1 (F := Ideal) OT (k0_pay188 (F := Ideal) TT (k0_pay129 rowIota colIota) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) P) E) (fun j => e (j 2).val (j 3).val + ∑ r ∈ range 128, o (256 + r) (j 2).val * bw (seen 2) q κ T p (256 + r) (j 3).val) :=
  castTo4_64x128 (f := fun d c => e d c + ∑ r ∈ range 128, o (256 + r) d * bw (seen 2) q κ T p (256 + r) c) ((cast4_64x128 hE _).add (mm_64x128x128 (A := fun d r => o (256 + r) d) (B := fun r c => bw (seen 2) q κ T p (256 + r) c) ((RV.slice2 (f := fun d r => o r d) hOT 0 256 slices_S64x384_o0_256_S64x128).congr (g := fun j => o (256 + (j 1).val) (j 0).val) fun j => by simp only [Nat.zero_add]) ((rew2 hQ hO hK hV hT hP).trunc bitsLt_bf16_f32))) _

include hG

theorem reg2 : RV (s := S128x128) (k0_pay194 (F := Ideal) (k0_pay190 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) G) (fun j => g (256 + (j 0).val) + bAb (seen 2) q o κ ν T p (256 + (j 0).val) 128) :=
  ((hG.add (reAll2 hQ hO hK hV hT hP)).self _).congr fun j => by rw [bAb_past]

theorem redz2 : RV (s := S128x128) (k0_pay195 (F := Ideal) (k0_pay129 rowIota colIota) (k0_pay189 (F := Ideal) TT (k0_pay129 rowIota colIota) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) G (k0_pay191 (F := Ideal) (k0_pay162 (F := Ideal) (k0_pay157 (F := Ideal) Q K) (k0_pay158 (F := Ideal) Q K) (k0_pay159 (F := Ideal) Q K))) (k0_pay192 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P)) (fun j => bdz (seen 2) q o κ ν T p g (256 + (j 0).val) (j 1).val) := by
  have h := reA2 hQ hO hK hV hT hP
  exact (RV.sel seen2 (h.sub ((rezs2 hQ hK).exp.mul ((h.add (reAl2 hQ hO hK hV hT hP)).add hG))) RV.zero).trunc bitsLt_bf16_f32

theorem req2 {D : FVec Ideal S1x128x64 .f32} {d : ℕ → ℕ → ℝ} (hD : RV D (fun j => d (256 + (j 1).val) (j 2).val)) :
    RV (s := S1x128x64) (k0_pay196 (F := Ideal) (k0_pay129 rowIota colIota) (k0_pay155 (F := Ideal) K) (k0_pay189 (F := Ideal) TT (k0_pay129 rowIota colIota) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) G (k0_pay191 (F := Ideal) (k0_pay162 (F := Ideal) (k0_pay157 (F := Ideal) Q K) (k0_pay158 (F := Ideal) Q K) (k0_pay159 (F := Ideal) Q K))) (k0_pay192 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) D) (fun j => d (256 + (j 1).val) (j 2).val + ∑ c ∈ range 128, bdz (seen 2) q o κ ν T p g (256 + (j 1).val) c * κ c (j 2).val) :=
  cast2_128x64 (f := fun r e => d (256 + r) e + ∑ c ∈ range 128, bdz (seen 2) q o κ ν T p g (256 + r) c * κ c e)
    ((cast3_128x64 (f := fun r e => d (256 + r) e) hD _).add (mm_128x128x64 (A := fun r c => bdz (seen 2) q o κ ν T p g (256 + r) c) (redz2 hQ hO hK hV hT hP hG) (cast3_128x64 hK _))) _

theorem rek2 (hQT : RV QT (fun j => q (j 1).val (j 0).val)) {E : FVec Ideal S1x1x64x128 .f32} {e : ℕ → ℕ → ℝ} (hE : RV E (fun j => e (j 2).val (j 3).val)) :
    RV (s := S1x1x64x128) (k0_pay197 (F := Ideal) QT (k0_pay129 rowIota colIota) (k0_pay189 (F := Ideal) TT (k0_pay129 rowIota colIota) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) G (k0_pay191 (F := Ideal) (k0_pay162 (F := Ideal) (k0_pay157 (F := Ideal) Q K) (k0_pay158 (F := Ideal) Q K) (k0_pay159 (F := Ideal) Q K))) (k0_pay192 (F := Ideal) TT (k0_pay129 rowIota colIota) (k0_pay131 (F := Ideal)) (k0_pay162 (F := Ideal) (k0_pay157 (F := Ideal) Q K) (k0_pay158 (F := Ideal) Q K) (k0_pay159 (F := Ideal) Q K)) (k0_pay163 (F := Ideal) (k0_pay129 rowIota colIota) (k0_pay130 (F := Ideal)) (k0_pay158 (F := Ideal) Q K) (k0_pay159 (F := Ideal) Q K)) (k0_pay164 (F := Ideal) (k0_pay129 rowIota colIota) (k0_pay130 (F := Ideal)) (k0_pay158 (F := Ideal) Q K) (k0_pay159 (F := Ideal) Q K)) (k0_pay165 (F := Ideal) O (k0_pay156 (F := Ideal) V)) P) E) (fun j => e (j 2).val (j 3).val + ∑ r ∈ range 128, q (256 + r) (j 2).val * bdz (seen 2) q o κ ν T p g (256 + r) (j 3).val) :=
  castTo4_64x128 (f := fun d c => e d c + ∑ r ∈ range 128, q (256 + r) d * bdz (seen 2) q o κ ν T p g (256 + r) c) ((cast4_64x128 hE _).add (mm_64x128x128 (A := fun d r => q (256 + r) d) (B := fun r c => bdz (seen 2) q o κ ν T p g (256 + r) c) ((RV.slice2 (f := fun d r => q r d) hQT 0 256 slices_S64x384_o0_256_S64x128).congr (g := fun j => q (256 + (j 1).val) (j 0).val) fun j => by simp only [Nat.zero_add]) (redz2 hQ hO hK hV hT hP hG))) _

end

end

end Cert.KernelIdeal.Attn

end
-- ==== Proof.KernelIdeal.Loop.lean ====
/- The counted loop of a row block whose word is its own number, and the places of the column blocks it walks. -/
module

public import proofs.«01_k».proof.Proof.KernelIdeal.Model

@[expose] public section

set_option maxRecDepth 16384

noncomputable section

namespace Cert.KernelIdeal.Attn

open Idealize.ShloMosaic Idealize.ShloMosaic.TcCoe
open Cert.KernelIdeal

theorem loop_word : ∀ n : Fin 11, (k0_t1_loop (grid0.coords (rowPt n)) (BitVec.ofNat 32 n.val)).trips = n.val := by
  decide +kernel

theorem trips_eq (i : grid0.Coords) : (k0_t1_loop i (BitVec.ofNat 32 (i 1).val)).trips = (i 1).val := by
  have hn : (i 1).val < 11 := (i 1).isLt
  have h := loop_word ⟨(i 1).val, hn⟩
  have e := rowPt_coord ⟨(i 1).val, hn⟩
  refine Eq.trans ?_ h
  unfold k0_t1_loop
  dsimp only at e ⊢
  rw [e]

theorem off2_word : ∀ n k : Fin 11, ∀ r : Fin 3, (Scalar.indexCast (Scalar.muli (Scalar.addi (Scalar.muli (Scf.iv (Scalar.subi (BitVec.ofNat 32 n.val) (Scalar.minsi (BitVec.ofNat 32 n.val) (Scalar.maxsi 0#32 (BitVec.ofNat 32 n.val)))) 1#32 k.val) 3#32) (BitVec.ofNat 32 r.val)) 128#32) : Index).toNat = 128 * (3 * k.val + r.val) := by
  decide +kernel

theorem off3_word : ∀ n k : Fin 11, ∀ r : Fin 3, (Scalar.indexCast (Scalar.addi (Scalar.muli (Scf.iv (Scalar.subi (BitVec.ofNat 32 n.val) (Scalar.minsi (BitVec.ofNat 32 n.val) (Scalar.maxsi 0#32 (BitVec.ofNat 32 n.val)))) 1#32 k.val) 3#32) (BitVec.ofNat 32 r.val)) : Index).toNat = 3 * k.val + r.val := by
  decide +kernel

theorem off2_eq (i : grid0.Coords) (k : Fin (k0_t1_loop i (BitVec.ofNat 32 (i 1).val)).trips) (r : Fin 3) :
    k0_off2 i (BitVec.ofNat 32 (i 1).val) k (BitVec.ofNat 32 r.val) = ![0, 128 * (3 * k.val + r.val), 0] := by
  have hn : (i 1).val < 11 := (i 1).isLt
  have hk : k.val < 11 := lt_of_lt_of_eq k.isLt (trips_eq i) |>.trans hn
  have h := off2_word ⟨(i 1).val, hn⟩ ⟨k.val, hk⟩ r
  unfold k0_off2
  dsimp only at h ⊢
  rw [h]

theorem off3_eq (i : grid0.Coords) (k : Fin (k0_t1_loop i (BitVec.ofNat 32 (i 1).val)).trips) (r : Fin 3) :
    k0_off3 i (BitVec.ofNat 32 (i 1).val) k (BitVec.ofNat 32 r.val) = ![0, 3 * k.val + r.val, 0, 0] := by
  have hn : (i 1).val < 11 := (i 1).isLt
  have hk : k.val < 11 := lt_of_lt_of_eq k.isLt (trips_eq i) |>.trans hn
  have h := off3_word ⟨(i 1).val, hn⟩ ⟨k.val, hk⟩ r
  unfold k0_off3
  dsimp only at h ⊢
  rw [h]

theorem off6_word : ∀ n : Fin 11, ∀ r : Fin 3, (Scalar.indexCast (Scalar.muli (Scalar.addi (Scalar.muli (BitVec.ofNat 32 n.val) 3#32) (BitVec.ofNat 32 r.val)) 128#32) : Index).toNat = 128 * (3 * n.val + r.val) := by
  decide +kernel

theorem off6_eq (i : grid0.Coords) (r : Fin 3) : k0_off6 i (BitVec.ofNat 32 r.val) = ![0, 128 * (3 * (i 1).val + r.val), 0] := by
  have hn : (i 1).val < 11 := (i 1).isLt
  have h := off6_word ⟨(i 1).val, hn⟩ r
  unfold k0_off6
  dsimp only at h ⊢
  rw [h]

theorem off1_word : ∀ n : Fin 16, (Scalar.indexCast (BitVec.ofNat 32 n.val) : Index).toNat = n.val := by
  decide +kernel

theorem off1_eq (i : grid0.Coords) : k0_off1 i = ![(i 0).val, (i 1).val] := by
  have h0 : (i 0).val < 16 := (i 0).isLt
  have h1 : (i 1).val < 11 := (i 1).isLt
  have e0 := off1_word ⟨(i 0).val, h0⟩
  have e1 := off1_word ⟨(i 1).val, h1.trans (by decide)⟩
  unfold k0_off1
  dsimp only at e0 e1 ⊢
  rw [e0, e1]

end Cert.KernelIdeal.Attn

end
-- ==== Proof.Real.Model.lean ====
/- Attention with stick-breaking weights and its gradient, over the real numbers, and the walk of a row block over the
   column blocks: after the first `n` of them it holds the gradients' sums over those columns. -/
module

public import proofs.«01_k».proof.Proof.Real.State

@[expose] public section

noncomputable section

namespace Cert.Attn

open Finset (range)

section
variable (q k v o : ℕ → ℕ → ℝ)

/-- Query row `t` times key row `s`. -/
def gz (t s : ℕ) : ℝ := ∑ d ∈ range 64, q t d * k s d
/-- The logarithm of passing column `s`, zero where it is not seen. -/
def gl (t s : ℕ) : ℝ := if s < t then 0 - sp (gz q k t s) else 0
/-- Those logarithms summed over the first `n` columns. -/
def gcum (t n : ℕ) : ℝ := ∑ s ∈ range n, gl q k t s
/-- The attention's weights. -/
def gw (t s : ℕ) : ℝ :=
  if s < t then Real.exp (gz q k t s - sp (gz q k t s) + (gcum q k t 4224 - gcum q k t (s + 1))) else 0
/-- The gradient of the weights' logarithms. -/
def gA (t s : ℕ) : ℝ := gw q k t s * gz o v t s
/-- Those gradients summed over the first `n` columns. -/
def gcA (t n : ℕ) : ℝ := ∑ s ∈ range n, gA q k v o t s
/-- The gradient of the products. -/
def gdz (t s : ℕ) : ℝ :=
  if s < t then gA q k v o t s - Real.exp (gz q k t s - sp (gz q k t s)) * (gA q k v o t s + gcA q k v o t s) else 0

theorem gw_unseen {t s : ℕ} (h : ¬ s < t) : gw q k t s = 0 := if_neg h
theorem gdz_unseen {t s : ℕ} (h : ¬ s < t) : gdz q k v o t s = 0 := if_neg h

theorem gcum_add (t a n : ℕ) : gcum q k t (a + n) = gcum q k t a + ∑ s ∈ range n, gl q k t (a + s) := Finset.sum_range_add _ _ _
theorem gcA_add (t a n : ℕ) : gcA q k v o t (a + n) = gcA q k v o t a + ∑ s ∈ range n, gA q k v o t (a + s) := Finset.sum_range_add _ _ _

theorem sum_aft (f : ℕ → ℝ) {s : ℕ} (hs : s < 128) : ∀ n, s + 1 ≤ n → ∑ a ∈ range n, f a * aft a s = ∑ a ∈ range n, f a - ∑ a ∈ range (s + 1), f a := by
  refine Nat.le_induction ?_ fun n hn ih => ?_
  · rw [sub_self]
    refine Finset.sum_eq_zero fun a ha => ?_
    have := Finset.mem_range.mp ha
    rw [aft, if_neg (by omega), mul_zero]
  · rw [Finset.sum_range_succ, ih, Finset.sum_range_succ (fun a => f a) n, aft, if_pos (by omega)]
    ring

theorem sum_bef (f : ℕ → ℝ) {s : ℕ} (hs : s < 128) : ∀ n, s ≤ n → ∑ a ∈ range n, f a * bef a s = ∑ a ∈ range s, f a := by
  refine Nat.le_induction ?_ fun n hn ih => ?_
  · refine Finset.sum_congr rfl fun a ha => ?_
    have := Finset.mem_range.mp ha
    rw [bef, if_pos (by omega), mul_one]
  · rw [Finset.sum_range_succ, ih, bef, if_neg (by omega), mul_zero, add_zero]

/-! ## One column block -/

variable (t0 J : ℕ) (m : ℕ → ℕ → Prop) [∀ r c, Decidable (m r c)] (hm : ∀ r c, c < 128 → (m r c ↔ 128 * J + c < t0 + r))

include hm

theorem bl_eq (r c : ℕ) (hc : c < 128) : bl m (fun r d => q (t0 + r) d) (fun c d => k (128 * J + c) d) r c = gl q k (t0 + r) (128 * J + c) := by
  unfold bl gl
  simp only [hm r c hc]
  rfl

theorem bla_eq (r c : ℕ) (hc : c < 128) : bla m (fun r d => q (t0 + r) d) (fun c d => k (128 * J + c) d) r c = gcum q k (t0 + r) (128 * J + 128) - gcum q k (t0 + r) (128 * J + (c + 1)) := by
  unfold bla
  rw [sum_aft _ hc 128 (by omega), gcum_add, gcum_add]
  rw [Finset.sum_congr rfl fun a ha => bl_eq q k t0 J m hm r a (Finset.mem_range.mp ha),
    Finset.sum_congr (s₁ := range (c + 1)) rfl fun a ha => bl_eq q k t0 J m hm r a (by have := Finset.mem_range.mp ha; omega)]
  ring

theorem bla_all (r : ℕ) : bla m (fun r d => q (t0 + r) d) (fun c d => k (128 * J + c) d) r 128 = gcum q k (t0 + r) (128 * J + 128) - gcum q k (t0 + r) (128 * J) := by
  rw [gcum_add, add_sub_cancel_left]
  refine Finset.sum_congr rfl fun a ha => ?_
  rw [bl_eq q k t0 J m hm r a (Finset.mem_range.mp ha), aft, if_pos (Or.inr le_rfl), mul_one]

theorem bw_eq (r c : ℕ) (hc : c < 128) : bw m (fun r d => q (t0 + r) d) (fun c d => k (128 * J + c) d) (fun r => gcum q k (t0 + r) 4224) (fun r => gcum q k (t0 + r) (128 * J)) r c = gw q k (t0 + r) (128 * J + c) := by
  unfold bw gw
  rw [bla_past, bla_all q k t0 J m hm, bla_eq q k t0 J m hm r c hc]
  by_cases h : 128 * J + c < t0 + r
  · rw [if_pos ((hm r c hc).mpr h), if_pos h]
    congr 1
    show gz q k (t0 + r) (128 * J + c) - sp (gz q k (t0 + r) (128 * J + c)) + _ + _ = _
    rw [Nat.add_assoc (128 * J) c 1]
    ring
  · rw [if_neg (mt (hm r c hc).mp h), if_neg h]

theorem bA_eq (r c : ℕ) (hc : c < 128) : bA m (fun r d => q (t0 + r) d) (fun r d => o (t0 + r) d) (fun c d => k (128 * J + c) d) (fun c d => v (128 * J + c) d) (fun r => gcum q k (t0 + r) 4224) (fun r => gcum q k (t0 + r) (128 * J)) r c = gA q k v o (t0 + r) (128 * J + c) := by
  unfold bA gA
  rw [bw_eq q k t0 J m hm r c hc]
  rfl

theorem bAb_eq (r c : ℕ) (hc : c < 128) : bAb m (fun r d => q (t0 + r) d) (fun r d => o (t0 + r) d) (fun c d => k (128 * J + c) d) (fun c d => v (128 * J + c) d) (fun r => gcum q k (t0 + r) 4224) (fun r => gcum q k (t0 + r) (128 * J)) r c = gcA q k v o (t0 + r) (128 * J + c) - gcA q k v o (t0 + r) (128 * J) := by
  unfold bAb
  rw [sum_bef _ hc 128 (by omega), gcA_add, add_sub_cancel_left]
  exact Finset.sum_congr rfl fun a ha => bA_eq q k v o t0 J m hm r a (by have := Finset.mem_range.mp ha; omega)

theorem bAb_all (r : ℕ) : bAb m (fun r d => q (t0 + r) d) (fun r d => o (t0 + r) d) (fun c d => k (128 * J + c) d) (fun c d => v (128 * J + c) d) (fun r => gcum q k (t0 + r) 4224) (fun r => gcum q k (t0 + r) (128 * J)) r 128 = gcA q k v o (t0 + r) (128 * J + 128) - gcA q k v o (t0 + r) (128 * J) := by
  rw [gcA_add, add_sub_cancel_left]
  refine Finset.sum_congr rfl fun a ha => ?_
  rw [bA_eq q k v o t0 J m hm r a (Finset.mem_range.mp ha), bef, if_pos (Or.inr le_rfl), mul_one]

theorem bdz_eq (r c : ℕ) (hc : c < 128) : bdz m (fun r d => q (t0 + r) d) (fun r d => o (t0 + r) d) (fun c d => k (128 * J + c) d) (fun c d => v (128 * J + c) d) (fun r => gcum q k (t0 + r) 4224) (fun r => gcum q k (t0 + r) (128 * J)) (fun r => gcA q k v o (t0 + r) (128 * J)) r c = gdz q k v o (t0 + r) (128 * J + c) := by
  unfold bdz gdz
  rw [bA_eq q k v o t0 J m hm r c hc, bAb_eq q k v o t0 J m hm r c hc]
  by_cases h : 128 * J + c < t0 + r
  · rw [if_pos ((hm r c hc).mpr h), if_pos h]
    show _ - Real.exp (gz q k (t0 + r) (128 * J + c) - sp (gz q k (t0 + r) (128 * J + c))) * _ = _
    congr 2
    ring
  · rw [if_neg (mt (hm r c hc).mp h), if_neg h]

end

/-! ## The walk -/

/-- The same numbers at every place there is. -/
structure SR.Same (x y : SR) : Prop where
  dq : ∀ r < 384, ∀ d, x.dq r d = y.dq r d
  dk : ∀ j d, ∀ c < 128, x.dk j d c = y.dk j d c
  dv : ∀ j d, ∀ c < 128, x.dv j d c = y.dv j d c
  p : ∀ r < 384, x.p r = y.p r
  g : ∀ r < 384, x.g r = y.g r

/-- The state of the row block of first row `t0` after `n` column blocks, from key and value gradients `D`, `E`. -/
def walked (q k v o : ℕ → ℕ → ℝ) (t0 : ℕ) (D E : ℕ → ℕ → ℕ → ℝ) (n : ℕ) : SR where
  dq r d := ∑ s ∈ range (128 * n), gdz q k v o (t0 + r) s * k s d
  dk j d c := if j < n then D j d c + ∑ r ∈ range 384, q (t0 + r) d * gdz q k v o (t0 + r) (128 * j + c) else D j d c
  dv j d c := if j < n then E j d c + ∑ r ∈ range 384, o (t0 + r) d * gw q k (t0 + r) (128 * j + c) else E j d c
  p r := gcum q k (t0 + r) (128 * n)
  g r := gcA q k v o (t0 + r) (128 * n)

theorem walked_step (q k v o : ℕ → ℕ → ℝ) (t0 : ℕ) (D E : ℕ → ℕ → ℕ → ℝ) (n : ℕ)
    (m : ℕ → ℕ → Prop) [∀ r c, Decidable (m r c)] (hm : ∀ r c, c < 128 → (m r c ↔ 128 * n + c < t0 + r)) :
    ((walked q k v o t0 D E n).step m (fun r d => q (t0 + r) d) (fun r d => o (t0 + r) d) (fun c d => k (128 * n + c) d) (fun c d => v (128 * n + c) d)
      (fun r => gcum q k (t0 + r) 4224) n).Same (walked q k v o t0 D E (n + 1)) where
  dq r hr d := by
    show ∑ s ∈ range (128 * n), gdz q k v o (t0 + r) s * k s d + _ = ∑ s ∈ range (128 * n + 128), gdz q k v o (t0 + r) s * k s d
    rw [Finset.sum_range_add]
    congr 1
    exact Finset.sum_congr rfl fun c hc => congrArg (· * _) (bdz_eq q k v o t0 n m hm r c (Finset.mem_range.mp hc))
  dk j d c hc := by
    show (if j = n then (if n < n then _ else D n d c) + ∑ r ∈ range 384, _ else if j < n then _ else D j d c) = (if j < n + 1 then _ else D j d c)
    by_cases h : j = n
    · subst h
      rw [if_pos rfl, if_neg (lt_irrefl j), if_pos (Nat.lt_succ_self j)]
      congr 1
      exact Finset.sum_congr rfl fun r hr => congrArg (_ * ·) (bdz_eq q k v o t0 j m hm r c hc)
    · rw [if_neg h]
      by_cases h' : j < n
      · rw [if_pos h', if_pos (by omega)]
      · rw [if_neg h', if_neg (by omega)]
  dv j d c hc := by
    show (if j = n then (if n < n then _ else E n d c) + ∑ r ∈ range 384, _ else if j < n then _ else E j d c) = (if j < n + 1 then _ else E j d c)
    by_cases h : j = n
    · subst h
      rw [if_pos rfl, if_neg (lt_irrefl j), if_pos (Nat.lt_succ_self j)]
      congr 1
      exact Finset.sum_congr rfl fun r hr => congrArg (_ * ·) (bw_eq q k t0 j m hm r c hc)
    · rw [if_neg h]
      by_cases h' : j < n
      · rw [if_pos h', if_pos (by omega)]
      · rw [if_neg h', if_neg (by omega)]
  p r hr := by
    show gcum q k (t0 + r) (128 * n) + bla m _ _ r 128 = gcum q k (t0 + r) (128 * n + 128)
    rw [bla_all q k t0 n m hm]; ring
  g r hr := by
    show gcA q k v o (t0 + r) (128 * n) + bAb m _ _ _ _ _ _ r 128 = gcA q k v o (t0 + r) (128 * n + 128)
    refine (congrArg (_ + ·) (bAb_all q k v o t0 n m hm r)).trans ?_
    ring

end Cert.Attn

end
-- ==== Proof.KernelIdeal.WalkReal.lean ====
/- The walk of a row block, of operands whose entries are real numbers: the three blocks the mask cuts, the counted
   loop, and the whole body. -/
module

public import proofs.«01_k».proof.Proof.KernelIdeal.PayMasked
public import proofs.«01_k».proof.Proof.KernelIdeal.Loop
public import proofs.«01_k».proof.Proof.Real.Model

@[expose] public section

set_option maxRecDepth 16384

noncomputable section

namespace Cert.KernelIdeal.Attn

open Idealize.ShloMosaic Idealize.ShloMosaic.TcCoe
open Cert.KernelIdeal Cert.KernelIdeal.Gen Cert.Attn
open Finset (range)

theorem RS.same {s : St Ideal} {x y : SR} (h : RS s x) (e : x.Same y) : RS s y where
  dq := h.dq.congr fun j => e.dq _ (j 1).isLt _
  dk := h.dk.congr fun j => e.dk _ _ _ (j 3).isLt
  dv := h.dv.congr fun j => e.dv _ _ _ (j 3).isLt
  p := h.p.congr fun j => e.p _ (j 0).isLt
  g := h.g.congr fun j => e.g _ (j 0).isLt

section
variable {R : Rows Ideal} {q o k v : ℕ → ℕ → ℝ} {T : ℕ → ℝ} (hR : RR R q o T) {X4 X5 : FVec Ideal S1x4224x64 .bf16}
  (hk : RV X4 (fun j => k (j 1).val (j 2).val)) (hv : RV X5 (fun j => v (j 1).val (j 2).val)) (i : grid0.Coords)
  {s : St Ideal} {x : SR} (hs : RS s x)
include hR hk hv hs

theorem mblk0_RS : RS (mblk0 (F := Ideal) i R X4 X5 s) (x.step (seen 0) q o (fun c d => k (128 * (3 * (i 1).val + 0) + c) d) (fun c d => v (128 * (3 * (i 1).val + 0) + c) d) T (3 * (i 1).val + 0)) := by
  have hK := win3 hk (k0_off6_inb i 0) (off6_eq i 0)
  have hV := win3 hv (k0_off6_inb i 0) (off6_eq i 0)
  have e7 : k0_off7 i 0#32 = ![0, (3 * (i 1).val + 0), 0, 0] := (off7_eq i 0)
  exact {
    dq := req0 hR.q hR.o hK hV hR.tot hs.p hs.g hs.dq
    dk := put4 hs.dk e7 (u := fun d c => x.dk (3 * (i 1).val + 0) d c + ∑ r ∈ range 384, q r d * bdz (seen 0) q o (fun c d => k (128 * (3 * (i 1).val + 0) + c) d) (fun c d => v (128 * (3 * (i 1).val + 0) + c) d) T x.p x.g r c) (rek0 hR.q hR.o hK hV hR.tot hs.p hs.g hR.qt (win4 hs.dk _ e7))
    dv := put4 hs.dv e7 (u := fun d c => x.dv (3 * (i 1).val + 0) d c + ∑ r ∈ range 384, o r d * bw (seen 0) q (fun c d => k (128 * (3 * (i 1).val + 0) + c) d) T x.p r c) (rev0 (ν := (fun c d => v (128 * (3 * (i 1).val + 0) + c) d)) hR.q hR.o hK hV hR.tot hs.p hR.ot (win4 hs.dv _ e7))
    p := rep0 (ν := (fun c d => v (128 * (3 * (i 1).val + 0) + c) d)) hR.q hR.o hK hV hR.tot hs.p
    g := reg0 hR.q hR.o hK hV hR.tot hs.p hs.g }

theorem mblk1_RS : RS (mblk1 (F := Ideal) i R X4 X5 s) (x.step (seen 1) q o (fun c d => k (128 * (3 * (i 1).val + 1) + c) d) (fun c d => v (128 * (3 * (i 1).val + 1) + c) d) T (3 * (i 1).val + 1)) := by
  have hK := win3 hk (k0_off6_inb i 1) (off6_eq i 1)
  have hV := win3 hv (k0_off6_inb i 1) (off6_eq i 1)
  have e7 : k0_off7 i 1#32 = ![0, (3 * (i 1).val + 1), 0, 0] := (off7_eq i 1)
  have hP := winR256 hs.p
  have hG := winR256 hs.g
  have hu : ∀ r < 128, ∀ c < 128, ¬ seen 1 r c := fun r hr c _ => by unfold seen; omega
  have ek : ∀ d, ∀ c < 128, ∑ r ∈ range 256, q (128 + r) d * bdz (seen 1) q o (fun c d => k (128 * (3 * (i 1).val + 1) + c) d) (fun c d => v (128 * (3 * (i 1).val + 1) + c) d) T x.p x.g (128 + r) c = ∑ r ∈ range 384, q r d * bdz (seen 1) q o (fun c d => k (128 * (3 * (i 1).val + 1) + c) d) (fun c d => v (128 * (3 * (i 1).val + 1) + c) d) T x.p x.g r c := fun d c hc =>
    (sum_rows 128 256 (fun r => q r d * bdz (seen 1) q o (fun c d => k (128 * (3 * (i 1).val + 1) + c) d) (fun c d => v (128 * (3 * (i 1).val + 1) + c) d) T x.p x.g r c) fun r hr => by rw [bdz_unseen _ _ _ _ _ _ _ (hu r hr) c hc, mul_zero]).symm
  have ev : ∀ d, ∀ c < 128, ∑ r ∈ range 256, o (128 + r) d * bw (seen 1) q (fun c d => k (128 * (3 * (i 1).val + 1) + c) d) T x.p (128 + r) c = ∑ r ∈ range 384, o r d * bw (seen 1) q (fun c d => k (128 * (3 * (i 1).val + 1) + c) d) T x.p r c := fun d c hc =>
    (sum_rows 128 256 (fun r => o r d * bw (seen 1) q (fun c d => k (128 * (3 * (i 1).val + 1) + c) d) T x.p r c) fun r hr => by rw [bw_unseen _ _ _ _ (hu r hr) c hc, mul_zero]).symm
  exact {
    dq := putD256 hs.dq (u := (x.step (seen 1) q o (fun c d => k (128 * (3 * (i 1).val + 1) + c) d) (fun c d => v (128 * (3 * (i 1).val + 1) + c) d) T (3 * (i 1).val + 1)).dq) (req1 hR.q hR.o hK hV hR.tot hP hG (winD256 hs.dq))
      fun r hr d => by
        show x.dq r d + _ = _
        rw [Finset.sum_eq_zero fun c hc => by rw [bdz_unseen _ _ _ _ _ _ _ (hu r hr) c (Finset.mem_range.mp hc), zero_mul], add_zero]
    dk := put4 hs.dk e7 (u := fun d c => x.dk (3 * (i 1).val + 1) d c + ∑ r ∈ range 384, q r d * bdz (seen 1) q o (fun c d => k (128 * (3 * (i 1).val + 1) + c) d) (fun c d => v (128 * (3 * (i 1).val + 1) + c) d) T x.p x.g r c) ((rek1 hR.q hR.o hK hV hR.tot hP hG hR.qt (win4 hs.dk _ e7)).congr fun j => congrArg (_ + ·) (ek _ _ (j 3).isLt))
    dv := put4 hs.dv e7 (u := fun d c => x.dv (3 * (i 1).val + 1) d c + ∑ r ∈ range 384, o r d * bw (seen 1) q (fun c d => k (128 * (3 * (i 1).val + 1) + c) d) T x.p r c) ((rev1 (ν := (fun c d => v (128 * (3 * (i 1).val + 1) + c) d)) hR.q hR.o hK hV hR.tot hP hR.ot (win4 hs.dv _ e7)).congr fun j => congrArg (_ + ·) (ev _ _ (j 3).isLt))
    p := putR256 hs.p (u := (x.step (seen 1) q o (fun c d => k (128 * (3 * (i 1).val + 1) + c) d) (fun c d => v (128 * (3 * (i 1).val + 1) + c) d) T (3 * (i 1).val + 1)).p) (rep1 (ν := (fun c d => v (128 * (3 * (i 1).val + 1) + c) d)) hR.q hR.o hK hV hR.tot hP)
      fun r hr => by
        show x.p r + _ = _
        rw [bla_unseen _ _ (hu r hr), add_zero]
    g := putR256 hs.g (u := (x.step (seen 1) q o (fun c d => k (128 * (3 * (i 1).val + 1) + c) d) (fun c d => v (128 * (3 * (i 1).val + 1) + c) d) T (3 * (i 1).val + 1)).g) (reg1 hR.q hR.o hK hV hR.tot hP hG)
      fun r hr => by
        show x.g r + _ = _
        rw [bAb_unseen _ _ _ _ _ _ (hu r hr), add_zero] }

theorem mblk2_RS : RS (mblk2 (F := Ideal) i R X4 X5 s) (x.step (seen 2) q o (fun c d => k (128 * (3 * (i 1).val + 2) + c) d) (fun c d => v (128 * (3 * (i 1).val + 2) + c) d) T (3 * (i 1).val + 2)) := by
  have hK := win3 hk (k0_off6_inb i 2) (off6_eq i 2)
  have hV := win3 hv (k0_off6_inb i 2) (off6_eq i 2)
  have e7 : k0_off7 i 2#32 = ![0, (3 * (i 1).val + 2), 0, 0] := (off7_eq i 2)
  have hP := winR128 hs.p
  have hG := winR128 hs.g
  have hu : ∀ r < 256, ∀ c < 128, ¬ seen 2 r c := fun r hr c _ => by unfold seen; omega
  have ek : ∀ d, ∀ c < 128, ∑ r ∈ range 128, q (256 + r) d * bdz (seen 2) q o (fun c d => k (128 * (3 * (i 1).val + 2) + c) d) (fun c d => v (128 * (3 * (i 1).val + 2) + c) d) T x.p x.g (256 + r) c = ∑ r ∈ range 384, q r d * bdz (seen 2) q o (fun c d => k (128 * (3 * (i 1).val + 2) + c) d) (fun c d => v (128 * (3 * (i 1).val + 2) + c) d) T x.p x.g r c := fun d c hc =>
    (sum_rows 256 128 (fun r => q r d * bdz (seen 2) q o (fun c d => k (128 * (3 * (i 1).val + 2) + c) d) (fun c d => v (128 * (3 * (i 1).val + 2) + c) d) T x.p x.g r c) fun r hr => by rw [bdz_unseen _ _ _ _ _ _ _ (hu r hr) c hc, mul_zero]).symm
  have ev : ∀ d, ∀ c < 128, ∑ r ∈ range 128, o (256 + r) d * bw (seen 2) q (fun c d => k (128 * (3 * (i 1).val + 2) + c) d) T x.p (256 + r) c = ∑ r ∈ range 384, o r d * bw (seen 2) q (fun c d => k (128 * (3 * (i 1).val + 2) + c) d) T x.p r c := fun d c hc =>
    (sum_rows 256 128 (fun r => o r d * bw (seen 2) q (fun c d => k (128 * (3 * (i 1).val + 2) + c) d) T x.p r c) fun r hr => by rw [bw_unseen _ _ _ _ (hu r hr) c hc, mul_zero]).symm
  exact {
    dq := putD128 hs.dq (u := (x.step (seen 2) q o (fun c d => k (128 * (3 * (i 1).val + 2) + c) d) (fun c d => v (128 * (3 * (i 1).val + 2) + c) d) T (3 * (i 1).val + 2)).dq) (req2 hR.q hR.o hK hV hR.tot hP hG (winD128 hs.dq))
      fun r hr d => by
        show x.dq r d + _ = _
        rw [Finset.sum_eq_zero fun c hc => by rw [bdz_unseen _ _ _ _ _ _ _ (hu r hr) c (Finset.mem_range.mp hc), zero_mul], add_zero]
    dk := put4 hs.dk e7 (u := fun d c => x.dk (3 * (i 1).val + 2) d c + ∑ r ∈ range 384, q r d * bdz (seen 2) q o (fun c d => k (128 * (3 * (i 1).val + 2) + c) d) (fun c d => v (128 * (3 * (i 1).val + 2) + c) d) T x.p x.g r c) ((rek2 hR.q hR.o hK hV hR.tot hP hG hR.qt (win4 hs.dk _ e7)).congr fun j => congrArg (_ + ·) (ek _ _ (j 3).isLt))
    dv := put4 hs.dv e7 (u := fun d c => x.dv (3 * (i 1).val + 2) d c + ∑ r ∈ range 384, o r d * bw (seen 2) q (fun c d => k (128 * (3 * (i 1).val + 2) + c) d) T x.p r c) ((rev2 (ν := (fun c d => v (128 * (3 * (i 1).val + 2) + c) d)) hR.q hR.o hK hV hR.tot hP hR.ot (win4 hs.dv _ e7)).congr fun j => congrArg (_ + ·) (ev _ _ (j 3).isLt))
    p := putR128 hs.p (u := (x.step (seen 2) q o (fun c d => k (128 * (3 * (i 1).val + 2) + c) d) (fun c d => v (128 * (3 * (i 1).val + 2) + c) d) T (3 * (i 1).val + 2)).p) (rep2 (ν := (fun c d => v (128 * (3 * (i 1).val + 2) + c) d)) hR.q hR.o hK hV hR.tot hP)
      fun r hr => by
        show x.p r + _ = _
        rw [bla_unseen _ _ (hu r hr), add_zero]
    g := putR128 hs.g (u := (x.step (seen 2) q o (fun c d => k (128 * (3 * (i 1).val + 2) + c) d) (fun c d => v (128 * (3 * (i 1).val + 2) + c) d) T (3 * (i 1).val + 2)).g) (reg2 hR.q hR.o hK hV hR.tot hP hG)
      fun r hr => by
        show x.g r + _ = _
        rw [bAb_unseen _ _ _ _ _ _ (hu r hr), add_zero] }

end

section
variable (q k v o : ℕ → ℕ → ℝ) (i : grid0.Coords) (D E : ℕ → ℕ → ℕ → ℝ)
  {R : Rows Ideal} (hR : RR R (fun r d => q (384 * (i 1).val + r) d) (fun r d => o (384 * (i 1).val + r) d) (fun r => gcum q k (384 * (i 1).val + r) 4224))
  {X4 X5 : FVec Ideal S1x4224x64 .bf16}
  (hk : RV X4 (fun j => k (j 1).val (j 2).val)) (hv : RV X5 (fun j => v (j 1).val (j 2).val))
  {s : St Ideal}
include hR hk hv

theorem ublk_walked (kk : Fin (k0_t1_loop i (BitVec.ofNat 32 (i 1).val)).trips) (r : Fin 3)
    (hs : RS s (walked q k v o (384 * (i 1).val) D E (3 * kk.val + r.val))) :
    RS (ublk R (col X4 (k0_off2 i (BitVec.ofNat 32 (i 1).val) kk (BitVec.ofNat 32 r.val)) (k0_off2_inb i _ (chk1 i _) kk r))
      (col X5 (k0_off2 i (BitVec.ofNat 32 (i 1).val) kk (BitVec.ofNat 32 r.val)) (k0_off2_inb i _ (chk1 i _) kk r))
      (k0_off3 i (BitVec.ofNat 32 (i 1).val) kk (BitVec.ofNat 32 r.val)) (k0_off3_inb i _ (chk1 i _) kk r) s)
      (walked q k v o (384 * (i 1).val) D E (3 * kk.val + r.val + 1)) := by
  have ht : kk.val < (i 1).val := lt_of_lt_of_eq kk.isLt (trips_eq i)
  have hr := r.isLt
  exact (ublk_RS hR (win3 hk (k0_off2_inb i _ (chk1 i _) kk r) (off2_eq i kk r)) (win3 hv (k0_off2_inb i _ (chk1 i _) kk r) (off2_eq i kk r))
    (fun r' c => 128 * (3 * kk.val + r.val) + c < 384 * (i 1).val + r') (fun r' _ c hc => by omega) _ (off3_eq i kk r) hs).same
    (walked_step q k v o (384 * (i 1).val) D E (3 * kk.val + r.val) _ fun _ _ _ => Iff.rfl)

theorem trip_walked (kk : Fin (k0_t1_loop i (BitVec.ofNat 32 (i 1).val)).trips)
    (hs : RS s (walked q k v o (384 * (i 1).val) D E (3 * kk.val))) :
    RS (trip i R X4 X5 (BitVec.ofNat 32 (i 1).val) kk s) (walked q k v o (384 * (i 1).val) D E (3 * (kk.val + 1))) :=
  ublk_walked q k v o i D E hR hk hv kk 2 (ublk_walked q k v o i D E hR hk hv kk 1 (ublk_walked q k v o i D E hR hk hv kk 0 hs))

theorem loop_walked (hs : RS s (walked q k v o (384 * (i 1).val) D E 0)) : ∀ n, n ≤ (k0_t1_loop i (BitVec.ofNat 32 (i 1).val)).trips →
    RS (loopSt i R X4 X5 (BitVec.ofNat 32 (i 1).val) s n) (walked q k v o (384 * (i 1).val) D E (3 * n))
  | 0, _ => hs
  | n + 1, h => by
    rw [loopSt_succ i R X4 X5 (BitVec.ofNat 32 (i 1).val) s ⟨n, h⟩]
    exact trip_walked q k v o i D E hR hk hv ⟨n, h⟩ (loop_walked hs n (Nat.le_of_succ_le h))

theorem mblk0_walked (hs : RS s (walked q k v o (384 * (i 1).val) D E (3 * (i 1).val + 0))) :
    RS (mblk0 i R X4 X5 s) (walked q k v o (384 * (i 1).val) D E (3 * (i 1).val + 1)) :=
  (mblk0_RS hR hk hv i hs).same (walked_step q k v o _ D E _ _ fun r c hc => by unfold seen; omega)

theorem mblk1_walked (hs : RS s (walked q k v o (384 * (i 1).val) D E (3 * (i 1).val + 1))) :
    RS (mblk1 i R X4 X5 s) (walked q k v o (384 * (i 1).val) D E (3 * (i 1).val + 2)) :=
  (mblk1_RS hR hk hv i hs).same (walked_step q k v o _ D E _ _ fun r c hc => by unfold seen; omega)

theorem mblk2_walked (hs : RS s (walked q k v o (384 * (i 1).val) D E (3 * (i 1).val + 2))) :
    RS (mblk2 i R X4 X5 s) (walked q k v o (384 * (i 1).val) D E (3 * (i 1).val + 3)) :=
  (mblk2_RS hR hk hv i hs).same (walked_step q k v o _ D E _ _ fun r c hc => by unfold seen; omega)

omit hR hk hv in
theorem start_RS {dk dv : FVec Ideal S1x33x64x128 .f32} (hD : RV dk (fun j => D (j 1).val (j 2).val (j 3).val)) (hE : RV dv (fun j => E (j 1).val (j 2).val (j 3).val)) (t0 : ℕ) :
    RS ⟨k0_pay119 (F := Ideal), dk, dv, k0_pay120 (F := Ideal), k0_pay121 (F := Ideal)⟩ (walked q k v o t0 D E 0) where
  dq := RV.congr (cast2_384x64 (φ := .f32) (f := fun _ _ => 0) RV.zero shapeCasts_S384x64_S1x384x64) fun j => by simp [walked]
  dk := hD
  dv := hE
  p := RV.congr (RV.self (φ := .f32) RV.zero shapeCasts_S384x128_S384x128) fun j => by simp [walked, gcum]
  g := RV.congr (RV.self (φ := .f32) RV.zero shapeCasts_S384x128_S384x128) fun j => by simp [walked, gcA]

theorem walk_walked {dk dv : FVec Ideal S1x33x64x128 .f32} (hD : RV dk (fun j => D (j 1).val (j 2).val (j 3).val)) (hE : RV dv (fun j => E (j 1).val (j 2).val (j 3).val)) :
    RS (walk i R X4 X5 (BitVec.ofNat 32 (i 1).val) dk dv) (walked q k v o (384 * (i 1).val) D E (3 * (i 1).val + 3)) := by
  have h := loop_walked q k v o i D E hR hk hv (start_RS q k v o D E hD hE _) _ le_rfl
  rw [trips_eq] at h
  refine mblk2_walked q k v o i D E hR hk hv (mblk1_walked q k v o i D E hR hk hv (mblk0_walked q k v o i D E hR hk hv ?_))
  rw [trips_eq]
  exact h

end

end Cert.KernelIdeal.Attn

end
-- ==== Proof.Real.Host.lean ====
/- The host's operations on vectors whose entries are real numbers. -/
module

public import proofs.«01_k».proof.Proof.Real.Model
public import proofs.«01_k».proof.Proof.Real.Ops

@[expose] public section

noncomputable section

namespace Cert.Attn

open Idealize.ShloMosaic Idealize.ShloMosaic.TcCoe
open Finset (range)

variable {s : Shape} {φ ψ : FTy}

theorem RV.hneg {x : FVec Ideal s φ} {f : s.Idx → ℝ} (hx : RV x f) : RV (Host.negf x) (fun j => -f j) := fun j => by
  show -(x j) = _
  rw [hx j, EReal.coe_neg]

theorem RV.habs {x : FVec Ideal s φ} {f : s.Idx → ℝ} (hx : RV x f) : RV (Host.absf x) (fun j => |f j|) := fun j => by
  show Max.max (x j) (-(x j)) = _
  rw [hx j, ← EReal.coe_neg]; exact (EReal.coe_strictMono.monotone.map_max).symm

theorem RV.hexp {x : FVec Ideal s φ} {f : s.Idx → ℝ} (hx : RV x f) : RV (Host.exp x) (fun j => Real.exp (f j)) := fun j => by
  show Ideal.exp (x j) = _
  rw [hx j]; rfl

theorem RV.hlog1p {x : FVec Ideal s φ} {f : s.Idx → ℝ} (hx : RV x f) (hp : ∀ j, 0 < 1 + f j) : RV (Host.log1p x) (fun j => Real.log (1 + f j)) := fun j => by
  show Ideal.log (1 + x j) = _
  rw [hx j, ← EReal.coe_one, ← EReal.coe_add, Ideal.log_coe, if_neg (not_le.mpr (hp j))]

theorem RV.cst {x : FVec Ideal ⟨0, ![]⟩ φ} {a : ℝ} (hx : RV x (fun _ => a)) (h : (⟨0, ![]⟩ : Shape).BroadcastsInDim s ![]) :
    RV (broadcastInDim s ![] h x) (fun _ => a) := fun j => by
  rw [ValueIdx.broadcastInDim_scalar_apply]; exact hx _

theorem RV.k0 : RV (constant ⟨0, ![]⟩ .f32 0x00000000#32 : FVec Ideal ⟨0, ![]⟩ .f32) (fun _ => 0) := fun _ => ofBits_zero
theorem RV.k8 : RV (constant ⟨0, ![]⟩ .f32 0x3E000000#32 : FVec Ideal ⟨0, ![]⟩ .f32) (fun _ => 0.125) := fun _ => ofBits_eighth

/-- A number compared with itself does not differ. -/
theorem RV.une {x y z : FVec Ideal s φ} {f g : s.Idx → ℝ} (hx : RV x f) (hz : RV z g) : RV (select (cmpf .une x x) y z) g := fun j => by
  show Scalar.select (Ideal.cmp .une (x j) (x j)) (y j) (z j) = _
  rw [show Ideal.cmp .une (x j) (x j) = 0#1 by simp [Ideal.cmp]]
  exact hz j

/-- No real number is the infinity. -/
theorem RV.inf {x y : FVec Ideal s .f32} {f : s.Idx → ℝ} (hx : RV x f) (h : (⟨0, ![]⟩ : Shape).BroadcastsInDim s ![]) :
    RV (select (cmpf .oeq x (broadcastInDim s ![] h (constant ⟨0, ![]⟩ .f32 0x7F800000#32))) y x) f := fun j => by
  show Scalar.select (Ideal.cmp .oeq (x j) (Ideal.ofBits .f32 0x7F800000#32)) (y j) (x j) = _
  rw [show Ideal.ofBits .f32 0x7F800000#32 = ⊤ by simp [Ideal.ofBits, Ideal.ieee], hx j,
    show Ideal.cmp .oeq ((f j : ℝ) : EReal) ⊤ = 0#1 by simp [Ideal.cmp]]
  rfl

/-- `max z 0 + log (1 + exp (−|z|))` as the host computes it. -/
theorem RV.softplus {z : FVec Ideal s .f32} {f : s.Idx → ℝ} (hz : RV z f) (h : (⟨0, ![]⟩ : Shape).BroadcastsInDim s ![]) :
    RV (select (cmpf .une (subf z (broadcastInDim s ![] h (constant ⟨0, ![]⟩ .f32 0x00000000#32))) (subf z (broadcastInDim s ![] h (constant ⟨0, ![]⟩ .f32 0x00000000#32))))
      (addf z (broadcastInDim s ![] h (constant ⟨0, ![]⟩ .f32 0x00000000#32)))
      (addf (maximumf z (broadcastInDim s ![] h (constant ⟨0, ![]⟩ .f32 0x00000000#32)))
        (Host.log1p (Host.exp (Host.negf (Host.absf (subf z (broadcastInDim s ![] h (constant ⟨0, ![]⟩ .f32 0x00000000#32)))))))))
      (fun j => sp (f j)) := by
  have h0 := RV.cst RV.k0 h
  refine (RV.une (hz.sub h0) ((hz.max h0).add (((hz.sub h0).habs.hneg.hexp).hlog1p fun j => ?_))).congr fun j => ?_
  · exact add_pos one_pos (Real.exp_pos _)
  · simp only [sub_zero, sp, zero_sub]

/-! ## Sums over windows that reach to the end, or from the start -/

theorem foldl_add {α : Type} (g : α → EReal) : ∀ (l : List α) (v : EReal), l.foldl (fun r n => r + g n) v = v + (l.map g).sum
  | [], v => by simp
  | a :: l, v => by simp [foldl_add g l, add_assoc]

theorem sum_window {n : ℕ} (g : (⟨3, ![1, 1, n]⟩ : Shape).Idx → EReal) (G : ℕ → ℝ) (h : ∀ i, g i = ((G (i 2).val : ℝ) : EReal)) :
    ((List.finRange (⟨3, ![1, 1, n]⟩ : Shape).numel).map fun k => g ((⟨3, ![1, 1, n]⟩ : Shape).rowMajor.symm k)).sum = ((∑ k ∈ range n, G k : ℝ) : EReal) := by
  rw [← Fin.sum_univ_def, Equiv.sum_comp (⟨3, ![1, 1, n]⟩ : Shape).rowMajor.symm g, ← coe_sum_range]
  refine Finset.sum_bij' (fun i _ => (i 2 : Fin n)) (fun k _ => (fun a => match a with | 0 => (0 : Fin 1) | 1 => (0 : Fin 1) | 2 => k : (⟨3, ![1, 1, n]⟩ : Shape).Idx)) ?_ ?_ ?_ ?_ ?_
  · intro i _; exact Finset.mem_univ _
  · intro i _; exact Finset.mem_univ _
  · intro i _
    funext a
    match a with
    | 0 => exact Subsingleton.elim (α := Fin 1) _ _
    | 1 => exact Subsingleton.elim (α := Fin 1) _ _
    | 2 => rfl
  · intro k _; rfl
  · intro i _; exact h i

theorem sum_window' {n : ℕ} (g : Fin (⟨3, ![1, 1, n]⟩ : Shape).numel → EReal) (G : ℕ → ℝ) (h : ∀ i : (⟨3, ![1, 1, n]⟩ : Shape).Idx, g ((⟨3, ![1, 1, n]⟩ : Shape).rowMajor i) = ((G (i 2).val : ℝ) : EReal)) :
    ((List.finRange (⟨3, ![1, 1, n]⟩ : Shape).numel).map g).sum = ((∑ k ∈ range n, G k : ℝ) : EReal) := by
  rw [← sum_window (fun i => g ((⟨3, ![1, 1, n]⟩ : Shape).rowMajor i)) G h]
  simp only [Equiv.apply_symm_apply]

theorem RV.window {a b n : ℕ} {x : FVec Ideal ⟨3, ![a, b, n]⟩ φ} {f : ℕ → ℕ → ℕ → ℝ} (hx : RV x (fun j => f (j 0).val (j 1).val (j 2).val))
    {u : Shape} {init : u.Idx → Ideal φ} (hi : ∀ i, init i = ((0 : ℝ) : EReal)) (L H : ℕ)
    (h : (⟨3, ![a, b, n]⟩ : Shape).ReduceWindows ![1, 1, n] ![1, 1, 1] ![0, 0, L] ![0, 0, H] ⟨3, ![a, b, n]⟩) (hu : 0 < u.numel) :
    RV (Host.reduceWindowAdd ![1, 1, n] ![1, 1, 1] ![0, 0, L] ![0, 0, H] x init h hu)
      (fun j => ∑ m ∈ range n, if L ≤ (j 2).val + m ∧ (j 2).val + m - L < n then f (j 0).val (j 1).val ((j 2).val + m - L) else 0) := fun j => by
  show (List.finRange (⟨3, ![1, 1, n]⟩ : Shape).numel).foldl (fun r k => r + _) (init _) = _
  rw [foldl_add, hi, EReal.coe_zero, zero_add]
  refine sum_window' _ _ fun i => ?_
  have e0 : (i 0).val = 0 := Nat.lt_one_iff.mp (i 0).isLt
  have e1 : (i 1).val = 0 := Nat.lt_one_iff.mp (i 1).isLt
  beta_reduce
  simp only [Equiv.symm_apply_apply]
  by_cases hc : L ≤ (j 2).val + (i 2).val ∧ (j 2).val + (i 2).val - L < n
  · have hin : ∀ a' : Fin 3, (![0, 0, L] : Fin 3 → ℕ) a' ≤ (j (a'.cast h.1.symm)).val * (![1, 1, 1] : Fin 3 → ℕ) a' + (i a').val ∧ (j (a'.cast h.1.symm)).val * (![1, 1, 1] : Fin 3 → ℕ) a' + (i a').val - (![0, 0, L] : Fin 3 → ℕ) a' < (⟨3, ![a, b, n]⟩ : Shape).size a' := by
      intro a'
      match a' with
      | 0 => exact ⟨Nat.zero_le _, by show (j 0).val * 1 + (i 0).val - 0 < a; rw [e0]; have := (j 0).isLt; simpa using this⟩
      | 1 => exact ⟨Nat.zero_le _, by show (j 1).val * 1 + (i 1).val - 0 < b; rw [e1]; have := (j 1).isLt; simpa using this⟩
      | 2 => exact ⟨by show L ≤ (j 2).val * 1 + (i 2).val; omega, by show (j 2).val * 1 + (i 2).val - L < n; omega⟩
    refine (dif_pos hin).trans ?_
    rw [if_pos hc, hx]
    congr 1
    show f ((j 0).val * 1 + (i 0).val - 0) ((j 1).val * 1 + (i 1).val - 0) ((j 2).val * 1 + (i 2).val - L) = _
    rw [e0, e1]; simp
  · refine (dif_neg ?_).trans ?_
    · intro hin
      have := hin (2 : Fin 3)
      exact hc ⟨by have h1 : L ≤ (j 2).val * 1 + (i 2).val := this.1; omega, by have h1 : (j 2).val * 1 + (i 2).val - L < n := this.2; omega⟩
    · rw [if_neg hc]; exact EReal.coe_zero.symm

theorem sum_to_end (f : ℕ → ℝ) (n j : ℕ) (hj : j < n) : (∑ m ∈ range n, if 0 ≤ j + m ∧ j + m - 0 < n then f (j + m - 0) else 0) = ∑ m ∈ range n, f m - ∑ m ∈ range j, f m := by
  obtain ⟨k, rfl⟩ : ∃ k, n = j + k := ⟨n - j, by omega⟩
  rw [Finset.sum_range_add f, add_sub_cancel_left, Nat.add_comm j k, Finset.sum_range_add _ k j, ← Nat.add_comm j k]
  rw [Finset.sum_congr rfl (g := fun m => f (j + m)) fun m hm => ?_, Finset.sum_eq_zero (s := range j) fun m hm => ?_, add_zero]
  · rw [if_neg]; omega
  · have := Finset.mem_range.mp hm
    rw [if_pos (by omega)]; rfl

theorem sum_from_start (f : ℕ → ℝ) (n j : ℕ) (hj : j < n + 1) : (∑ m ∈ range (n + 1), if n ≤ j + m ∧ j + m - n < n + 1 then f (j + m - n) else 0) = ∑ m ∈ range (j + 1), f m := by
  obtain ⟨k, rfl⟩ : ∃ k, n = j + k := ⟨n - j, by omega⟩
  rw [show j + k + 1 = k + (j + 1) by omega, Finset.sum_range_add _ k (j + 1)]
  rw [Finset.sum_eq_zero (s := range k) fun m hm => ?_, zero_add]
  · refine Finset.sum_congr rfl fun m hm => ?_
    have := Finset.mem_range.mp hm
    rw [if_pos (by omega)]; congr 1; omega
  · have := Finset.mem_range.mp hm
    rw [if_neg (by omega)]

/-! ## What the exponentials of the two signs have in common -/

theorem exp_sp (z : ℝ) : Real.exp (sp z) = 1 + Real.exp z := by
  unfold sp
  rw [Real.exp_add, Real.exp_log (add_pos one_pos (Real.exp_pos _)), zero_sub]
  rcases le_total 0 z with h | h
  · rw [max_eq_left h, abs_of_nonneg h, mul_add, mul_one, ← Real.exp_add, add_neg_cancel, Real.exp_zero, add_comm]
  · rw [max_eq_right h, abs_of_nonpos h, neg_neg, Real.exp_zero, one_mul]

theorem sp_neg (z : ℝ) : -sp (-z) = z - sp z := by
  unfold sp
  rw [abs_neg]
  rcases le_total 0 z with h | h
  · rw [max_eq_right (neg_nonpos.mpr h), max_eq_left h]; ring
  · rw [max_eq_left (neg_nonneg.mpr h), max_eq_right h]; ring

theorem exp_sp_neg (z : ℝ) : Real.exp (-z - sp (-z)) = 1 - Real.exp (z - sp z) := by
  have h1 : Real.exp (-z - sp (-z)) = Real.exp (-sp z) := by
    congr 1; have := sp_neg z; linarith
  rw [h1, Real.exp_sub, Real.exp_neg, exp_sp]
  have : 1 + Real.exp z ≠ 0 := (add_pos one_pos (Real.exp_pos _)).ne'
  field_simp
  ring

end Cert.Attn

end
-- ==== Proof.KernelIdeal.Host.lean ====
/- What the host hands the kernel, in real numbers: the rows it reads, the logarithms' sums over all columns, and the
   numbers of the row blocks. -/
module

public import proofs.«01_k».proof.Proof.KernelIdeal.Frame
public import proofs.«01_k».proof.Proof.KernelIdeal.WalkReal
public import proofs.«01_k».proof.Proof.Real.Host

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.Attn
open Finset (range)

/-- The query scaled by an eighth. -/
def hq (x : FVec Ideal S16x4224x64 .f32) : FVec Ideal S16x4224x64 .f32 :=
  mulf x (broadcastInDim S16x4224x64 ![] bcast_S_S16x4224x64 (constant S_ .f32 0x3E000000#32))

def hz (x y : FVec Ideal S16x4224x64 .f32) : FVec Ideal S16x4224x4224 .f32 :=
  Host.dotGeneral dot_S16x4224x64_S16x4224x64_S16x4224x4224_2_2_1_1_0_0 none (hq x) y

def hm : IVec S16x4224x4224 1 :=
  broadcastInDim S16x4224x4224 ![0, 1, 2] bcast_S1x4224x4224_S16x4224x4224_0_1_2
    (broadcastInDim S1x4224x4224 ![1, 2] bcast_S4224x4224_S1x4224x4224_1_2
      (cmpi .slt (broadcastInDim S4224x4224 ![0, 1] bcast_S1x4224_S4224x4224_0_1 (broadcastInDim S1x4224 ![1] bcast_S4224_S1x4224_1 (iotaInDim S4224 32 0)))
        (broadcastInDim S4224x4224 ![0, 1] bcast_S4224x1_S4224x4224_0_1 (broadcastInDim S4224x1 ![0] bcast_S4224_S4224x1_0 (iotaInDim S4224 32 0)))))

abbrev h0 : FVec Ideal S16x4224x4224 .f32 := broadcastInDim S16x4224x4224 ![] bcast_S_S16x4224x4224 (constant S_ .f32 0x00000000#32)

def hsp (z : FVec Ideal S16x4224x4224 .f32) : FVec Ideal S16x4224x4224 .f32 :=
  select (cmpf .une (subf z h0) (subf z h0)) (addf z h0) (addf (maximumf z h0) (Host.log1p (Host.exp (Host.negf (Host.absf (subf z h0))))))

def hl (x y : FVec Ideal S16x4224x64 .f32) : FVec Ideal S16x4224x4224 .f32 :=
  select hm (Host.negf (hsp (hz x y))) h0

def htot (x y : FVec Ideal S16x4224x64 .f32) : FVec Ideal S16x4224x128 .f32 :=
  broadcastInDim S16x4224x128 ![0, 1, 2] bcast_S16x4224x1_S16x4224x128_0_1_2
    (broadcastInDim S16x4224x1 ![0, 1] bcast_S16x4224_S16x4224x1_0_1
      (Host.reduceAdd (hl x y) (constant S_ .f32 0x00000000#32) reducesTo_S16x4224x4224_S16x4224_d2 h_S_))

def hcnt : FVec Ideal S16x11 .f32 :=
  broadcastInDim S16x11 ![0, 1] bcast_S1x11_S16x11_0_1 (broadcastInDim S1x11 ![1] bcast_S11_S1x11_1 (sitofp .f32 (iotaInDim S11 32 0)))

variable (m : (ℓ : Loc nD τ sig) → Buf (Elt Ideal) ℓ)

theorem V_v15 (c : Dev nD) : V m c main_v15 = htot (m (c.tc.loc main_arg0)) (m (c.tc.loc main_arg1)) := by
  simp only [V, List.flatten_cons, List.flatten_nil, List.cons_append, List.nil_append, List.append_nil]
  entry_read
  rfl

theorem V_v19 (c : Dev nD) : V m c main_v19 = hcnt := by
  simp only [V, List.flatten_cons, List.flatten_nil, List.cons_append, List.nil_append, List.append_nil]
  entry_read
  rfl

theorem V_v20 (c : Dev nD) : V m c main_v20 = (truncf .bf16 (hq (m (c.tc.loc main_arg0))) bitsLt_bf16_f32 : FVec Ideal S16x4224x64 .bf16) := by
  simp only [V, List.flatten_cons, List.flatten_nil, List.cons_append, List.nil_append, List.append_nil]
  entry_read
  rfl

theorem V_v21 (c : Dev nD) : V m c main_v21 = (truncf .bf16 (m (c.tc.loc main_arg1) : FVec Ideal S16x4224x64 .f32) bitsLt_bf16_f32 : FVec Ideal S16x4224x64 .bf16) := by
  simp only [V, List.flatten_cons, List.flatten_nil, List.cons_append, List.nil_append, List.append_nil]
  entry_read
  rfl

theorem V_v22 (c : Dev nD) : V m c main_v22 = (truncf .bf16 (m (c.tc.loc main_arg2) : FVec Ideal S16x4224x64 .f32) bitsLt_bf16_f32 : FVec Ideal S16x4224x64 .bf16) := by
  simp only [V, List.flatten_cons, List.flatten_nil, List.cons_append, List.nil_append, List.append_nil]
  entry_read
  rfl

theorem V_v23 (c : Dev nD) : V m c main_v23 = (truncf .bf16 (m (c.tc.loc main_arg3) : FVec Ideal S16x4224x64 .f32) bitsLt_bf16_f32 : FVec Ideal S16x4224x64 .bf16) := by
  simp only [V, List.flatten_cons, List.flatten_nil, List.cons_append, List.nil_append, List.append_nil]
  entry_read
  rfl

theorem V_v24 (c : Dev nD) : V m c main_v24 = (transpose S16x64x4224 [0, 2, 1] (truncf .bf16 (hq (m (c.tc.loc main_arg0))) bitsLt_bf16_f32 : FVec Ideal S16x4224x64 .bf16) transposes_S16x4224x64_S16x64x4224_0_2_1 : FVec Ideal S16x64x4224 .bf16) := by
  simp only [V, List.flatten_cons, List.flatten_nil, List.cons_append, List.nil_append, List.append_nil]
  entry_read
  rfl

theorem V_v25 (c : Dev nD) : V m c main_v25 = (transpose S16x64x4224 [0, 2, 1] (truncf .bf16 (m (c.tc.loc main_arg3) : FVec Ideal S16x4224x64 .f32) bitsLt_bf16_f32 : FVec Ideal S16x4224x64 .bf16) transposes_S16x4224x64_S16x64x4224_0_2_1 : FVec Ideal S16x64x4224 .bf16) := by
  simp only [V, List.flatten_cons, List.flatten_nil, List.cons_append, List.nil_append, List.append_nil]
  entry_read
  rfl

/-! ## In real numbers -/

/-- A function of head, row and place, its entries an eighth. -/
def eighth (q : ℕ → ℕ → ℕ → ℝ) (h t d : ℕ) : ℝ := q h t d * 0.125

theorem hq_RV {x : FVec Ideal S16x4224x64 .f32} {q : ℕ → ℕ → ℕ → ℝ} (hx : RV x (fun j => q (j 0).val (j 1).val (j 2).val)) :
    RV (hq x) (fun j => eighth q (j 0).val (j 1).val (j 2).val) :=
  hx.mul (RV.cst RV.k8 _)

theorem hz_RV {x y : FVec Ideal S16x4224x64 .f32} {q k : ℕ → ℕ → ℕ → ℝ} (hx : RV x (fun j => q (j 0).val (j 1).val (j 2).val))
    (hy : RV y (fun j => k (j 0).val (j 1).val (j 2).val)) :
    RV (Host.dotGeneral dot_S16x4224x64_S16x4224x64_S16x4224x4224_2_2_1_1_0_0 none x y) (fun j => gz (q (j 0).val) (k (j 0).val) (j 1).val (j 2).val) := fun j => by
  idx_vars j
  pointwise
  unfold gz
  rw [← coe_sum_range]
  refine Finset.sum_congr rfl fun k _ => ?_
  rw [hx, hy, EReal.coe_mul]
  rfl

theorem hm_MV : MV hm (fun j => (j 2).val < (j 1).val) := fun j => by
  unfold hm
  idx_vars j
  pointwise
  exact slt_nat (by omega) (by omega)

theorem hl_RV {x y : FVec Ideal S16x4224x64 .f32} {q k : ℕ → ℕ → ℕ → ℝ} (hx : RV x (fun j => q (j 0).val (j 1).val (j 2).val))
    (hy : RV y (fun j => k (j 0).val (j 1).val (j 2).val)) :
    RV (hl x y) (fun j => gl (eighth q (j 0).val) (k (j 0).val) (j 1).val (j 2).val) :=
  (RV.sel hm_MV (RV.softplus (hz_RV (hq_RV hx) hy) bcast_S_S16x4224x4224).hneg (RV.cst RV.k0 _)).congr fun j => by
    simp only [gl, zero_sub]

theorem htot_RV {x y : FVec Ideal S16x4224x64 .f32} {q k : ℕ → ℕ → ℕ → ℝ} (hx : RV x (fun j => q (j 0).val (j 1).val (j 2).val))
    (hy : RV y (fun j => k (j 0).val (j 1).val (j 2).val)) :
    RV (htot x y) (fun j => gcum (eighth q (j 0).val) (k (j 0).val) (j 1).val 4224) := fun j => by
  unfold htot
  idx_vars j
  pointwise
  unfold gcum
  rw [← coe_sum_range]
  refine Finset.sum_congr rfl fun s _ => ?_
  rw [hl_RV hx hy]
  rfl

theorem hcnt_RV : RV hcnt (fun j => ((j 1).val : ℝ)) := fun j => by
  unfold hcnt
  idx_vars j
  pointwise
  show (((BitVec.ofNat 32 j1.val).toInt : ℝ) : EReal) = _
  rw [toInt_ofNat_lt (by omega)]
  rfl

theorem tr_RV {φ : FTy} {x : FVec Ideal S16x4224x64 φ} {q : ℕ → ℕ → ℕ → ℝ} (hx : RV x (fun j => q (j 0).val (j 1).val (j 2).val)) :
    RV (transpose S16x64x4224 [0, 2, 1] x transposes_S16x4224x64_S16x64x4224_0_2_1) (fun j => q (j 0).val (j 2).val (j 1).val) := fun j => by
  idx_vars j
  pointwise
  rw [hx]
  rfl

end Cert.KernelIdeal.Attn

end
-- ==== Proof.KernelIdeal.Blocks.lean ====
/- The blocks the kernel reads at each grid point, in real numbers. -/
module

public import proofs.«01_k».proof.Proof.KernelIdeal.Host
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.Attn
open Finset (range)

theorem idx : ∀ t : Fin cfg0.N, win0_0.index t = ![t.val / 11, t.val % 11, 0] ∧ win0_1.index t = ![t.val / 11, 0, t.val % 11]
    ∧ win0_2.index t = ![t.val / 11, 0, 0] ∧ win0_3.index t = ![t.val / 11, 0, 0]
    ∧ win0_4.index t = ![t.val / 11, t.val % 11, 0] ∧ win0_5.index t = ![t.val / 11, 0, t.val % 11]
    ∧ win0_6.index t = ![t.val / 11, t.val % 11, 0] ∧ win0_7.index t = ![0, 0]
    ∧ win0_8.index t = ![t.val / 11, t.val % 11, 0] ∧ win0_9.index t = ![t.val / 11, 0, 0, 0] ∧ win0_10.index t = ![t.val / 11, 0, 0, 0] :=
  (by decide +kernel : ∀ t : Fin grid0.N, _)

variable (m : (ℓ : Loc nD τ sig) → Buf (Elt Ideal) ℓ) (c : Dev nD)

/-- The arguments hold the real numbers `q`, `k`, `v` and `o`. -/
structure Args (q k v o : ℕ → ℕ → ℕ → ℝ) : Prop where
  q : RV (s := S16x4224x64) (m (c.tc.loc main_arg0)) (fun j => q (j 0).val (j 1).val (j 2).val)
  k : RV (s := S16x4224x64) (m (c.tc.loc main_arg1)) (fun j => k (j 0).val (j 1).val (j 2).val)
  v : RV (s := S16x4224x64) (m (c.tc.loc main_arg2)) (fun j => v (j 0).val (j 1).val (j 2).val)
  o : RV (s := S16x4224x64) (m (c.tc.loc main_arg3)) (fun j => o (j 0).val (j 1).val (j 2).val)

variable {m c} {q k v o : ℕ → ℕ → ℕ → ℝ} (h : Args m c q k v o) (t : Fin cfg0.N)

include h

theorem iblk_0 : RV (s := S1x384x64) (iblk m c 0 t) (fun j => eighth q (t.val / 11) (384 * (t.val % 11) + (j 1).val) (j 2).val) := fun j => by
  show V m c main_v20 (((cfg0.win 0).blk t).view.emb j) = _
  rw [V_v20]
  refine (hq_RV h.q _).trans ?_
  blk_simp [idx t]
  idx_bounds j
  congr 2 <;> omega

theorem iblk_1 : RV (s := S1x64x384) (iblk m c 1 t) (fun j => eighth q (t.val / 11) (384 * (t.val % 11) + (j 2).val) (j 1).val) := fun j => by
  show V m c main_v24 (((cfg0.win 1).blk t).view.emb j) = _
  rw [V_v24]
  refine (tr_RV (φ := .bf16) (hq_RV h.q) _).trans ?_
  blk_simp [idx t]
  idx_bounds j
  congr 2 <;> omega

theorem iblk_2 : RV (s := S1x4224x64) (iblk m c 2 t) (fun j => k (t.val / 11) (j 1).val (j 2).val) := fun j => by
  show V m c main_v21 (((cfg0.win 2).blk t).view.emb j) = _
  rw [V_v21]
  refine (h.k _).trans ?_
  blk_simp [idx t]

theorem iblk_3 : RV (s := S1x4224x64) (iblk m c 3 t) (fun j => v (t.val / 11) (j 1).val (j 2).val) := fun j => by
  show V m c main_v22 (((cfg0.win 3).blk t).view.emb j) = _
  rw [V_v22]
  refine (h.v _).trans ?_
  blk_simp [idx t]

theorem iblk_4 : RV (s := S1x384x64) (iblk m c 4 t) (fun j => o (t.val / 11) (384 * (t.val % 11) + (j 1).val) (j 2).val) := fun j => by
  show V m c main_v23 (((cfg0.win 4).blk t).view.emb j) = _
  rw [V_v23]
  refine (h.o _).trans ?_
  blk_simp [idx t]
  idx_bounds j
  congr 2 <;> omega

theorem iblk_5 : RV (s := S1x64x384) (iblk m c 5 t) (fun j => o (t.val / 11) (384 * (t.val % 11) + (j 2).val) (j 1).val) := fun j => by
  show V m c main_v25 (((cfg0.win 5).blk t).view.emb j) = _
  rw [V_v25]
  refine (tr_RV (φ := .bf16) h.o _).trans ?_
  blk_simp [idx t]
  idx_bounds j
  congr 2 <;> omega

theorem iblk_6 : RV (s := S1x384x128) (iblk m c 6 t) (fun j => gcum (eighth q (t.val / 11)) (k (t.val / 11)) (384 * (t.val % 11) + (j 1).val) 4224) := fun j => by
  show V m c main_v15 (((cfg0.win 6).blk t).view.emb j) = _
  rw [V_v15]
  refine (htot_RV h.q h.k _).trans ?_
  blk_simp [idx t]
  idx_bounds j
  congr 2 <;> omega

omit h in
theorem iblk_7 : RV (s := S16x11) (iblk m c 7 t) (fun j => ((j 1).val : ℝ)) := fun j => by
  show V m c main_v19 (((cfg0.win 7).blk t).view.emb j) = _
  rw [V_v19]
  refine (hcnt_RV _).trans ?_
  blk_simp [idx t]

theorem rows_RR : RR (rows (iblk m c 0 t) (iblk m c 1 t) (iblk m c 4 t) (iblk m c 5 t) (iblk m c 6 t))
    (fun r d => eighth q (t.val / 11) (384 * (t.val % 11) + r) d) (fun r d => o (t.val / 11) (384 * (t.val % 11) + r) d)
    (fun r => gcum (eighth q (t.val / 11)) (k (t.val / 11)) (384 * (t.val % 11) + r) 4224) where
  q := cast3_384x64 (φ := .bf16) (f := fun r d => eighth q (t.val / 11) (384 * (t.val % 11) + r) d) (iblk_0 h t) shapeCasts_S1x384x64_S384x64
  qt := cast3_64x384 (φ := .bf16) (f := fun d r => eighth q (t.val / 11) (384 * (t.val % 11) + r) d) (iblk_1 h t) shapeCasts_S1x64x384_S64x384
  o := cast3_384x64 (φ := .bf16) (f := fun r d => o (t.val / 11) (384 * (t.val % 11) + r) d) (iblk_4 h t) shapeCasts_S1x384x64_S384x64
  ot := cast3_64x384 (φ := .bf16) (f := fun d r => o (t.val / 11) (384 * (t.val % 11) + r) d) (iblk_5 h t) shapeCasts_S1x64x384_S64x384
  tot := cast3_384x128 (φ := .f32) (f := fun r _ => gcum (eighth q (t.val / 11)) (k (t.val / 11)) (384 * (t.val % 11) + r) 4224) (iblk_6 h t) shapeCasts_S1x384x128_S384x128

omit h in
theorem coords_1 : (grid0.coords t 1).val = t.val % 11 := by
  have e : (grid0.coords t 1).val = t.val / 1 % 11 := Pipeline.Grid.coords_val t 1 (by decide) rfl
  rw [e, Nat.div_one]

omit h t in
theorem fptosi_nat (n : ℕ) (hn : n < 2 ^ 31) : Ideal.fptosi 32 ((n : ℝ) : EReal) = BitVec.ofNat 32 n := by
  have h0 : (0 : ℝ) ≤ (n : ℝ) := Nat.cast_nonneg n
  have e : Ideal.toIntClamped (-(2 ^ (32 - 1) : ℕ)) ((2 ^ (32 - 1) : ℕ) - 1) ((n : ℝ) : EReal) = (n : ℤ) := by
    show max _ (min _ (if 0 ≤ (n : ℝ) then ⌊(n : ℝ)⌋ else ⌈(n : ℝ)⌉)) = _
    rw [if_pos h0, Int.floor_natCast]
    omega
  unfold Ideal.fptosi
  rw [e]
  exact BitVec.ofInt_natCast 32 n

omit h in
theorem word_eq : word (grid0.coords t) (iblk m c 7 t) = BitVec.ofNat 32 (grid0.coords t 1).val := by
  have hn : (grid0.coords t 1).val < 11 := (grid0.coords t 1).isLt
  refine Eq.trans (congrArg (Ideal.fptosi 32) ?_) (fptosi_nat (grid0.coords t 1).val (by omega))
  refine (iblk_7 t _).trans ?_
  have e := congrFun (off1_eq (grid0.coords t)) 1
  show ((((k0_off1 (grid0.coords t)) 1 + 1 * _ : ℕ) : ℝ) : EReal) = _
  rw [e]
  rfl

end Cert.KernelIdeal.Attn

end
-- ==== Proof.KernelIdeal.Grid.lean ====
/- The three gradients the kernel leaves, in real numbers. -/
module

public import proofs.«01_k».proof.Proof.KernelIdeal.Blocks

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.Attn
open Finset (range)

variable {m : (ℓ : Loc nD τ sig) → Buf (Elt Ideal) ℓ} {c : Dev nD} {q k v o : ℕ → ℕ → ℕ → ℝ} (h : Args m c q k v o) (t : Fin cfg0.N)

/-- The keys' gradient of head `h` over the first `n` rows. -/
def dkR (q k v o : ℕ → ℕ → ℕ → ℝ) (h n j d c : ℕ) : ℝ :=
  ∑ r ∈ range n, eighth q h r d * gdz (eighth q h) (k h) (v h) (o h) r (128 * j + c)
/-- The values' gradient of head `h` over the first `n` rows. -/
def dvR (q k v o : ℕ → ℕ → ℕ → ℝ) (h n j d c : ℕ) : ℝ :=
  ∑ r ∈ range n, o h r d * gw (eighth q h) (k h) r (128 * j + c)
/-- The scaled query's gradient of head `h`. -/
def dqR (q k v o : ℕ → ℕ → ℕ → ℝ) (h r d : ℕ) : ℝ :=
  ∑ s ∈ range 4224, gdz (eighth q h) (k h) (v h) (o h) r s * k h s d

theorem dkR_walked (H i j d c : ℕ) :
    (walked (eighth q H) (k H) (v H) (o H) (384 * i) (dkR q k v o H (384 * i)) (dvR q k v o H (384 * i)) (3 * i + 3)).dk j d c
      = dkR q k v o H (384 * (i + 1)) j d c := by
  unfold walked dkR
  dsimp only
  rw [Nat.mul_succ, Finset.sum_range_add]
  split
  · rfl
  · rw [Finset.sum_eq_zero (s := range 384) fun r hr => ?_, add_zero]
    have := Finset.mem_range.mp hr
    rw [gdz_unseen _ _ _ _ (by omega), mul_zero]

theorem dvR_walked (H i j d c : ℕ) :
    (walked (eighth q H) (k H) (v H) (o H) (384 * i) (dkR q k v o H (384 * i)) (dvR q k v o H (384 * i)) (3 * i + 3)).dv j d c
      = dvR q k v o H (384 * (i + 1)) j d c := by
  unfold walked dvR
  dsimp only
  rw [Nat.mul_succ, Finset.sum_range_add]
  split
  · rfl
  · rw [Finset.sum_eq_zero (s := range 384) fun r hr => ?_, add_zero]
    have := Finset.mem_range.mp hr
    rw [gw_unseen _ _ (by omega), mul_zero]

theorem dqR_walked (H i r d : ℕ) (D E : ℕ → ℕ → ℕ → ℝ) (hi : i < 11) (hr : r < 384) :
    (walked (eighth q H) (k H) (v H) (o H) (384 * i) D E (3 * i + 3)).dq r d = dqR q k v o H (384 * i + r) d := by
  unfold walked dqR
  dsimp only
  rw [show 4224 = 128 * (3 * i + 3) + (4224 - 128 * (3 * i + 3)) by omega, Finset.sum_range_add]
  rw [Finset.sum_eq_zero (s := range (4224 - _)) fun s _ => ?_, add_zero]
  rw [gdz_unseen _ _ _ _ (by omega), zero_mul]

include h

theorem ptWalk_RS {dk dv : FVec Ideal S1x33x64x128 .f32} (D E : ℕ → ℕ → ℕ → ℝ)
    (hD : RV dk (fun j => D (j 1).val (j 2).val (j 3).val)) (hE : RV dv (fun j => E (j 1).val (j 2).val (j 3).val)) :
    RS (ptWalk m c t dk dv) (walked (eighth q (t.val / 11)) (k (t.val / 11)) (v (t.val / 11)) (o (t.val / 11)) (384 * (t.val % 11)) D E (3 * (t.val % 11) + 3)) := by
  have hR := rows_RR h t
  have e := walk_walked (eighth q (t.val / 11)) (k (t.val / 11)) (v (t.val / 11)) (o (t.val / 11)) (grid0.coords t) D E
    (R := rows (iblk m c 0 t) (iblk m c 1 t) (iblk m c 4 t) (iblk m c 5 t) (iblk m c 6 t)) (X4 := iblk m c 2 t) (X5 := iblk m c 3 t)
    (by rw [coords_1]; exact hR) (iblk_2 h t) (iblk_3 h t) hD hE
  rw [← word_eq (m := m) (c := c) t, coords_1] at e
  exact e

/-- What each grid point leaves: the gradients over the rows so far. -/
theorem ptSt_RS : ∀ (n : ℕ) (hn : n < cfg0.N), RS (ptSt m c n hn)
    (walked (eighth q (n / 11)) (k (n / 11)) (v (n / 11)) (o (n / 11)) (384 * (n % 11)) (dkR q k v o (n / 11) (384 * (n % 11))) (dvR q k v o (n / 11) (384 * (n % 11))) (3 * (n % 11) + 3)) := by
  intro n
  induction n with
  | zero =>
    intro hn
    rw [ptSt_first m c 0 hn rfl]
    refine ptWalk_RS h ⟨0, hn⟩ _ _ (fun j => ?_) fun j => ?_
    · exact ofBits_zero.trans (by simp [dkR])
    · exact ofBits_zero.trans (by simp [dvR])
  | succ n ih =>
    intro hn
    by_cases h0 : (n + 1) % 11 = 0
    · rw [ptSt_first m c (n + 1) hn h0]
      refine ptWalk_RS h ⟨n + 1, hn⟩ _ _ (fun j => ?_) fun j => ?_
      · exact ofBits_zero.trans (by simp [dkR, h0])
      · exact ofBits_zero.trans (by simp [dvR, h0])
    · rw [ptSt_next m c (n + 1) hn h0]
      have ih := ih (Nat.lt_of_succ_lt hn)
      have e1 : (n + 1) / 11 = n / 11 := by omega
      have e2 : (n + 1) % 11 = n % 11 + 1 := by omega
      refine ptWalk_RS h ⟨n + 1, hn⟩ _ _ (RV.congr ih.dk fun j => ?_) (RV.congr ih.dv fun j => ?_)
      · rw [dkR_walked, e1, e2]
      · rw [dvR_walked, e1, e2]

omit h t in
theorem pay2_RV {x : FVec Ideal S1x384x64 .f32} {f : ℕ → ℕ → ℝ} (hx : RV x (fun j => f (j 1).val (j 2).val)) :
    RV (k0_pay2 (F := Ideal) x) (fun j => f (j 1).val (j 2).val * 0.125) :=
  cast2_384x64 (φ := .f32) (f := fun r d => f r d * 0.125)
    ((cast3_384x64 (φ := .f32) (f := f) hx shapeCasts_S1x384x64_S384x64).mul (fun _ => ofBits_eighth : RV (broadcast S384x64 (Scalar.ofBits .f32 0x3E000000#32 : Ideal .f32)) (fun _ => 0.125)))
    shapeCasts_S384x64_S1x384x64

/-- The query's gradient. -/
theorem dq_arr : (dats m 0 c).arrAt 8 (cfgs 0).N = fun j => ((dqR q k v o (j 0).val (j 1).val (j 2).val * 0.125 : ℝ) : EReal) := by
  refine (dats m 0 c).arrAt_eq_of_covers 8 _ (by decide +kernel) fun t hf y => ?_
  blk_simp [idx t]
  rw [after0_8]
  have e := pay2_RV (f := fun r d => dqR q k v o (t.val / 11) (384 * (t.val % 11) + r) d)
    (RV.congr (ptSt_RS h t.val t.isLt).dq fun j => dqR_walked _ _ _ _ _ _ (Nat.mod_lt _ (by decide)) (j 1).isLt) y
  refine e.trans ?_
  beta_reduce
  rw [Nat.mul_comm 384 (t.val % 11)]

/-- The keys' gradient. -/
theorem dk_arr : (dats m 0 c).arrAt 9 (cfgs 0).N = fun j => ((dkR q k v o (j 0).val 4224 (j 1).val (j 2).val (j 3).val : ℝ) : EReal) := by
  refine (dats m 0 c).arrAt_eq_of_covers 9 _ (by decide +kernel) fun t hf y => ?_
  have hl := (flush0_9 t).mp hf
  blk_simp [idx t]
  rw [after0_9]
  refine ((ptSt_RS h t.val t.isLt).dk y).trans ?_
  beta_reduce
  rw [dkR_walked, hl]

/-- The values' gradient. -/
theorem dv_arr : (dats m 0 c).arrAt 10 (cfgs 0).N = fun j => ((dvR q k v o (j 0).val 4224 (j 1).val (j 2).val (j 3).val : ℝ) : EReal) := by
  refine (dats m 0 c).arrAt_eq_of_covers 10 _ (by decide +kernel) fun t hf y => ?_
  have hl := (flush0_10 t).mp hf
  blk_simp [idx t]
  rw [after0_10]
  refine ((ptSt_RS h t.val t.isLt).dv y).trans ?_
  beta_reduce
  rw [dvR_walked, hl]

end Cert.KernelIdeal.Attn

end
-- ==== Proof.ReferenceIdeal.Value.lean ====
/- The reference's three gradients, in real numbers. -/
module

public import proofs.«01_k».proof.Proof.Gen.ReferenceIdeal
public import proofs.«01_k».proof.Proof.Real.Host

@[expose] public section

set_option maxRecDepth 16384

noncomputable section

namespace Cert.ReferenceIdeal.Attn

open Idealize.ShloMosaic Idealize.ShloMosaic.TcCoe
open Cert.ReferenceIdeal Cert.ReferenceIdeal.Gen Cert.Attn
open Finset (range)

abbrev V64 := FVec Ideal S16x4224x64 .f32
abbrev VV := FVec Ideal S16x4224x4224 .f32

def r8 : V64 := broadcastInDim S16x4224x64 ![] bcast_S_S16x4224x64 (constant S_ .f32 0x3E000000#32)
def r0 : VV := broadcastInDim S16x4224x4224 ![] bcast_S_S16x4224x4224 (constant S_ .f32 0x00000000#32)
def rinf : VV := broadcastInDim S16x4224x4224 ![] bcast_S_S16x4224x4224 (constant S_ .f32 0x7F800000#32)

/-- The scaled query. -/
def rq (x : V64) : V64 := mulf x r8
/-- Products of the rows of two arrays. -/
def rz (x y : V64) : VV := Host.dotGeneral dot_S16x4224x64_S16x4224x64_S16x4224x4224_2_2_1_1_0_0 none x y
/-- Which columns a row sees. -/
def rm : IVec S16x4224x4224 1 :=
  broadcastInDim S16x4224x4224 ![0, 1, 2] bcast_S1x4224x4224_S16x4224x4224_0_1_2
    (broadcastInDim S1x4224x4224 ![1, 2] bcast_S4224x4224_S1x4224x4224_1_2
      (cmpi .slt (broadcastInDim S4224x4224 ![0, 1] bcast_S1x4224_S4224x4224_0_1 (broadcastInDim S1x4224 ![1] bcast_S4224_S1x4224_1 (iotaInDim S4224 32 0)))
        (broadcastInDim S4224x4224 ![0, 1] bcast_S4224x1_S4224x4224_0_1 (broadcastInDim S4224x1 ![0] bcast_S4224_S4224x1_0 (iotaInDim S4224 32 0)))))
def rsp (z : VV) : VV :=
  select (cmpf .une (subf z r0) (subf z r0)) (addf z r0) (addf (maximumf z r0) (Host.log1p (Host.exp (Host.negf (Host.absf (subf z r0))))))
/-- The softplus's derivative. -/
def rds (z : VV) : VV := Host.exp (subf (select (cmpf .oeq z rinf) r0 z) (select (cmpf .oeq (rsp z) rinf) r0 (rsp z)))
def rl (z : VV) : VV := select rm (Host.negf (rsp z)) r0
def rback (l : VV) : VV := Host.reduceWindowAdd ![1, 1, 4224] ![1, 1, 1] ![0, 0, 0] ![0, 0, 4223] l (broadcastInDim S_ ![] bcast_S_S_ (constant (F := Ideal) S_ .f32 0x00000000#32))
  reduceWindows_S16x4224x4224_S16x4224x4224_w1s1p0_0_w1s1p0_0_w4224s1p0_4223 h_S_
def rforth (l : VV) : VV := Host.reduceWindowAdd ![1, 1, 4224] ![1, 1, 1] ![0, 0, 4223] ![0, 0, 0] l (broadcastInDim S_ ![] bcast_S_S_ (constant (F := Ideal) S_ .f32 0x00000000#32))
  reduceWindows_S16x4224x4224_S16x4224x4224_w1s1p0_0_w1s1p0_0_w4224s1p4223_0 h_S_
/-- The weights before the mask. -/
def re (z : VV) : VV := Host.exp (addf (Host.negf (rsp (Host.negf z))) (subf (rback (rl z)) (rl z)))
def rw' (z : VV) : VV := select rm (re z) r0
def rA (z u : VV) : VV := mulf (select rm u r0) (re z)
def rdz (z u : VV) : VV :=
  addf (Host.negf (mulf (Host.negf (rA z u)) (rds (Host.negf z))))
    (mulf (Host.negf (select rm (addf (Host.negf (rA z u)) (rforth (rA z u))) r0)) (rds z))

def rdq (q k v o : V64) : V64 :=
  mulf (Host.dotGeneral dot_S16x4224x4224_S16x4224x64_S16x4224x64_2_1_1_2_0_0 none (rdz (rz (rq q) k) (rz o v)) k) r8
def rdk (q k v o : V64) : FVec Ideal S16x33x64x128 .f32 :=
  transpose S16x33x64x128 [0, 1, 3, 2]
    (shapeCast S16x33x128x64 (Host.dotGeneral dot_S16x4224x4224_S16x4224x64_S16x4224x64_1_1_2_2_0_0 none (rdz (rz (rq q) k) (rz o v)) (rq q) : V64) shapeCasts_S16x4224x64_S16x33x128x64)
    transposes_S16x33x128x64_S16x33x64x128_0_1_3_2
def rdv (q k o : V64) : FVec Ideal S16x33x64x128 .f32 :=
  transpose S16x33x64x128 [0, 1, 3, 2]
    (shapeCast S16x33x128x64 (transpose S16x4224x64 [0, 2, 1]
      (Host.dotGeneral dot_S16x4224x64_S16x4224x4224_S16x64x4224_1_1_2_2_0_0 none o (rw' (rz (rq q) k)) : FVec Ideal S16x64x4224 .f32) transposes_S16x64x4224_S16x4224x64_0_2_1 : V64)
      shapeCasts_S16x4224x64_S16x33x128x64)
    transposes_S16x33x128x64_S16x33x64x128_0_1_3_2

/-! ## In real numbers -/

theorem r8_RV : RV r8 (fun _ => 0.125) := RV.cst RV.k8 _
theorem r0_RV : RV r0 (fun _ => 0) := RV.cst RV.k0 _

theorem rq_RV {x : V64} {q : ℕ → ℕ → ℕ → ℝ} (hx : RV x (fun j => q (j 0).val (j 1).val (j 2).val)) :
    RV (rq x) (fun j => q (j 0).val (j 1).val (j 2).val * 0.125) := hx.mul r8_RV

theorem rz_RV {x y : V64} {q k : ℕ → ℕ → ℕ → ℝ} (hx : RV x (fun j => q (j 0).val (j 1).val (j 2).val))
    (hy : RV y (fun j => k (j 0).val (j 1).val (j 2).val)) :
    RV (rz x y) (fun j => gz (q (j 0).val) (k (j 0).val) (j 1).val (j 2).val) := fun j => by
  unfold rz
  idx_vars j
  pointwise
  unfold gz
  rw [← coe_sum_range]
  refine Finset.sum_congr rfl fun k _ => ?_
  rw [hx, hy, EReal.coe_mul]
  rfl

theorem rm_MV : MV rm (fun j => (j 2).val < (j 1).val) := fun j => by
  unfold rm
  idx_vars j
  pointwise
  exact slt_nat (by omega) (by omega)

theorem rsp_RV {z : VV} {f : S16x4224x4224.Idx → ℝ} (hz : RV z f) : RV (rsp z) (fun j => sp (f j)) := RV.softplus hz bcast_S_S16x4224x4224

theorem rds_RV {z : VV} {f : S16x4224x4224.Idx → ℝ} (hz : RV z f) : RV (rds z) (fun j => Real.exp (f j - sp (f j))) :=
  RV.hexp ((RV.inf hz bcast_S_S16x4224x4224).sub (RV.inf (rsp_RV hz) bcast_S_S16x4224x4224))

/-- The products' array as a function of head, row and column. -/
abbrev F3 (f : ℕ → ℕ → ℕ → ℝ) : S16x4224x4224.Idx → ℝ := fun j => f (j 0).val (j 1).val (j 2).val

variable {q k v o : ℕ → ℕ → ℕ → ℝ} {z u : VV} (hz : RV z (F3 fun h t s => gz (q h) (k h) t s))

include hz

theorem rl_RV : RV (rl z) (F3 fun h t s => gl (q h) (k h) t s) :=
  (RV.sel rm_MV (rsp_RV hz).hneg r0_RV).congr fun j => by simp only [F3, gl, zero_sub]

theorem rback_RV : RV (rback (rl z)) (F3 fun h t s => gcum (q h) (k h) t 4224 - gcum (q h) (k h) t s) :=
  (RV.window (f := fun h t s => gl (q h) (k h) t s) (rl_RV hz) (fun _ => ofBits_zero) 0 4223 _ _).congr fun j => sum_to_end (gl (q (j 0).val) (k (j 0).val) (j 1).val) 4224 _ (j 2).isLt

theorem re_RV : RV (re z) (F3 fun h t s => Real.exp (gz (q h) (k h) t s - sp (gz (q h) (k h) t s) + (gcum (q h) (k h) t 4224 - gcum (q h) (k h) t (s + 1)))) :=
  (RV.hexp ((rsp_RV hz.hneg).hneg.add ((rback_RV hz).sub (rl_RV hz)))).congr fun j => by
    dsimp only [F3]
    rw [sp_neg]
    congr 2
    rw [show gcum (q (j 0).val) (k (j 0).val) (j 1).val ((j 2).val + 1) = gcum (q (j 0).val) (k (j 0).val) (j 1).val (j 2).val + gl (q (j 0).val) (k (j 0).val) (j 1).val (j 2).val from Finset.sum_range_succ _ _]
    ring

theorem rw_RV : RV (rw' z) (F3 fun h t s => gw (q h) (k h) t s) :=
  (RV.sel rm_MV (re_RV hz) r0_RV).congr fun j => by dsimp only [F3, gw]

variable (hu : RV u (F3 fun h t s => gz (o h) (v h) t s))

include hu

theorem rA_RV : RV (rA z u) (F3 fun h t s => gA (q h) (k h) (v h) (o h) t s) :=
  ((RV.sel rm_MV hu r0_RV).mul (re_RV hz)).congr fun j => by
    dsimp only [F3, gA, gw]
    split
    · ring
    · ring

theorem rforth_RV : RV (rforth (rA z u)) (F3 fun h t s => gcA (q h) (k h) (v h) (o h) t (s + 1)) :=
  (RV.window (f := fun h t s => gA (q h) (k h) (v h) (o h) t s) (rA_RV hz hu) (fun _ => ofBits_zero) 4223 0 _ _).congr fun j => sum_from_start (gA (q (j 0).val) (k (j 0).val) (v (j 0).val) (o (j 0).val) (j 1).val) 4223 _ (j 2).isLt

theorem rdz_RV : RV (rdz z u) (F3 fun h t s => gdz (q h) (k h) (v h) (o h) t s) :=
  (((rA_RV hz hu).hneg.mul (rds_RV hz.hneg)).hneg.add ((RV.sel rm_MV ((rA_RV hz hu).hneg.add (rforth_RV hz hu)) r0_RV).hneg.mul (rds_RV hz))).congr fun j => by
    dsimp only [F3]
    rw [exp_sp_neg]
    rw [show gcA (q (j 0).val) (k (j 0).val) (v (j 0).val) (o (j 0).val) (j 1).val ((j 2).val + 1) = gcA (q (j 0).val) (k (j 0).val) (v (j 0).val) (o (j 0).val) (j 1).val (j 2).val + gA (q (j 0).val) (k (j 0).val) (v (j 0).val) (o (j 0).val) (j 1).val (j 2).val from Finset.sum_range_succ _ _]
    unfold gdz
    split
    · ring
    · rename_i hn
      rw [gA, gw_unseen _ _ hn]
      ring

/-! ## The results -/

omit hu hz

variable {x y w g : V64} (hx : RV x (fun j => q (j 0).val (j 1).val (j 2).val)) (hy : RV y (fun j => k (j 0).val (j 1).val (j 2).val))
  (hw : RV w (fun j => v (j 0).val (j 1).val (j 2).val)) (hg : RV g (fun j => o (j 0).val (j 1).val (j 2).val))

/-- The query's rows of a head, scaled by an eighth. -/
abbrev e8 (q : ℕ → ℕ → ℕ → ℝ) (h t d : ℕ) : ℝ := q h t d * 0.125

include hx hy

theorem z_RV : RV (rz (rq x) y) (F3 fun h t s => gz (e8 q h) (k h) t s) := rz_RV (q := e8 q) (rq_RV hx) hy

include hg

theorem rdv_RV : RV (rdv x y g) (fun j => ∑ t ∈ range 4224, o (j 0).val t (j 2).val * gw (e8 q (j 0).val) (k (j 0).val) t (128 * (j 1).val + (j 3).val)) := fun j => by
  unfold rdv
  idx_vars j
  pointwise
  rw [← coe_sum_range]
  refine Finset.sum_congr rfl fun t _ => ?_
  rw [hg, rw_RV (z_RV hx hy), EReal.coe_mul, Nat.mul_comm 128]
  rfl

include hw

theorem d_RV : RV (rdz (rz (rq x) y) (rz g w)) (F3 fun h t s => gdz (e8 q h) (k h) (v h) (o h) t s) := rdz_RV (z_RV hx hy) (rz_RV hg hw)

theorem rdq_RV : RV (rdq x y w g) (fun j => (∑ s ∈ range 4224, gdz (e8 q (j 0).val) (k (j 0).val) (v (j 0).val) (o (j 0).val) (j 1).val s * k (j 0).val s (j 2).val) * 0.125) := by
  unfold rdq
  refine RV.mul (fun j => ?_) r8_RV
  idx_vars j
  pointwise
  rw [← coe_sum_range]
  refine Finset.sum_congr rfl fun t _ => ?_
  rw [hy, d_RV hx hy hw hg, EReal.coe_mul]
  rfl

theorem rdk_RV : RV (rdk x y w g) (fun j => ∑ t ∈ range 4224, e8 q (j 0).val t (j 2).val * gdz (e8 q (j 0).val) (k (j 0).val) (v (j 0).val) (o (j 0).val) t (128 * (j 1).val + (j 3).val)) := fun j => by
  unfold rdk
  idx_vars j
  pointwise
  rw [← coe_sum_range]
  refine Finset.sum_congr rfl fun t _ => ?_
  rw [rq_RV hx, d_RV hx hy hw hg, Nat.mul_comm 128]
  rw [mul_comm]
  exact (EReal.coe_mul _ _).symm

end Cert.ReferenceIdeal.Attn

end
-- ==== Proof.Algebraic.lean ====
/- The gradients of the two programs, equal where no argument is infinite. -/
module

public import proofs.«01_k».proof.Defs
public import proofs.«01_k».proof.Proof.Frames
public import proofs.«01_k».proof.Proof.KernelIdeal.Grid
public import proofs.«01_k».proof.Proof.ReferenceIdeal.Value
public import Idealize.ShloMosaic.Lib.Claim
public import Idealize.ShloMosaic.Lib.ReduceAll

@[expose] public section

set_option maxRecDepth 16384

noncomputable section

namespace Cert.Proof

open Idealize.ShloMosaic Idealize.ShloMosaic.TcCoe Idealize.SL.Sem
open Cert.Attn

theorem facts_finite : Cert.Pre_finite.Facts := ⟨by decide, by decide, by decide⟩
attribute [local instance] facts_finite

instance : Subsingleton (Cert.Pre_finite.S_).Idx := ⟨fun a b => funext fun d => d.elim0⟩

/-- A value smaller in size than the infinity is a real number. -/
theorem real_of_lt (x : EReal) (h : Ideal.cmp .olt (max x (-x)) (Ideal.ofBits .f32 0x7F800000#32) = 1#1) : x = ((x.toReal : ℝ) : EReal) := by
  rw [show Ideal.ofBits .f32 0x7F800000#32 = ⊤ by simp [Ideal.ofBits, Ideal.ieee]] at h
  refine (EReal.coe_toReal ?_ ?_).symm
  · rintro rfl
    simp [Ideal.cmp] at h
  · rintro rfl
    simp [Ideal.cmp] at h

/-- The real numbers an array holds, over all numbers. -/
def reals (x : FVec Ideal Cert.Pre_finite.S16x4224x64 .f32) (h t d : ℕ) : ℝ :=
  if hb : h < 16 ∧ t < 4224 ∧ d < 64 then EReal.toReal (x (ValueIdx.ix3 ⟨h, hb.1⟩ ⟨t, hb.2.1⟩ ⟨d, hb.2.2⟩)) else 0

theorem reals_RV (x : FVec Ideal Cert.Pre_finite.S16x4224x64 .f32) (j : Cert.Pre_finite.S_.Idx)
    (h : Host.reduce IntOp.andi (cmpf .olt (Host.absf x) (broadcastInDim Cert.Pre_finite.S16x4224x64 ![] Cert.Pre_finite.Facts.bcast_S_S16x4224x64 (constant Cert.Pre_finite.S_ .f32 0x7F800000#32)))
      (constantI Cert.Pre_finite.S_ 1 1#1) Cert.Pre_finite.Facts.reducesTo_S16x4224x64_S_d0_1_2 Cert.Pre_finite.Facts.h_S_ j = 1#1) :
    RV (s := Cert.Pre_finite.S16x4224x64) x (fun j => reals x (j 0).val (j 1).val (j 2).val) := fun i => by
  refine (real_of_lt (x i) (Host.reduce_andi_all _ _ _ _ j h i)).trans ?_
  have hb : (i 0).val < 16 ∧ (i 1).val < 4224 ∧ (i 2).val < 64 := ⟨(i 0).isLt, (i 1).isLt, (i 2).isLt⟩
  have e : i = ValueIdx.ix3 ⟨(i 0).val, hb.1⟩ ⟨(i 1).val, hb.2.1⟩ ⟨(i 2).val, hb.2.2⟩ := funext fun d => match d with | 0 => rfl | 1 => rfl | 2 => rfl
  have w : reals x (i 0).val (i 1).val (i 2).val = EReal.toReal (x (ValueIdx.ix3 ⟨(i 0).val, hb.1⟩ ⟨(i 1).val, hb.2.1⟩ ⟨(i 2).val, hb.2.2⟩)) := dif_pos hb
  exact congrArg (fun r : ℝ => (r : EReal)) ((congrArg (fun a => EReal.toReal (x a)) e).trans w.symm)

theorem args (m : (ℓ : Loc Cert.KernelIdeal.nD Cert.KernelIdeal.τ Cert.KernelIdeal.sig) → Buf (Elt Ideal) ℓ) (hp : Cert.Pre_KernelIdeal_finite m) (c : Dev Cert.KernelIdeal.nD) :
    ∃ q k v o, Cert.KernelIdeal.Attn.Args m c q k v o := by
  have h := congrFun (hp c) (Shape.Idx.first Cert.Pre_finite.Facts.h_S_)
  obtain ⟨h, h3⟩ := IntOp.andi_eq_one.1 h
  obtain ⟨h, h2⟩ := IntOp.andi_eq_one.1 h
  obtain ⟨h0, h1⟩ := IntOp.andi_eq_one.1 h
  exact ⟨_, _, _, _, reals_RV _ _ h0, reals_RV _ _ h1, reals_RV _ _ h2, reals_RV _ _ h3⟩

section
variable (m : (ℓ : Loc Cert.KernelIdeal.nD Cert.KernelIdeal.τ Cert.KernelIdeal.sig) → Buf (Elt Ideal) ℓ) (hp : Cert.Pre_KernelIdeal_finite m) (c : Dev Cert.KernelIdeal.nD)
include hp
open Cert.KernelIdeal

theorem dq_eq : Cert.ReferenceIdeal.Attn.rdq (m (c.tc.loc main_arg0)) (m (c.tc.loc main_arg1)) (m (c.tc.loc main_arg2)) (m (c.tc.loc main_arg3))
    = (Attn.dats m 0 c).arrAt 8 (cfgs 0).N := by
  obtain ⟨q, k, v, o, h⟩ := args m hp c
  rw [Attn.dq_arr h]
  exact funext fun j => Cert.ReferenceIdeal.Attn.rdq_RV h.q h.k h.v h.o j

theorem dk_eq : Cert.ReferenceIdeal.Attn.rdk (m (c.tc.loc main_arg0)) (m (c.tc.loc main_arg1)) (m (c.tc.loc main_arg2)) (m (c.tc.loc main_arg3))
    = (Attn.dats m 0 c).arrAt 9 (cfgs 0).N := by
  obtain ⟨q, k, v, o, h⟩ := args m hp c
  rw [Attn.dk_arr h]
  exact funext fun j => Cert.ReferenceIdeal.Attn.rdk_RV h.q h.k h.v h.o j

theorem dv_eq : Cert.ReferenceIdeal.Attn.rdv (m (c.tc.loc main_arg0)) (m (c.tc.loc main_arg1)) (m (c.tc.loc main_arg3))
    = (Attn.dats m 0 c).arrAt 10 (cfgs 0).N := by
  obtain ⟨q, k, v, o, h⟩ := args m hp c
  rw [Attn.dv_arr h]
  exact funext fun j => Cert.ReferenceIdeal.Attn.rdv_RV h.q h.k h.o j

end

set_option maxHeartbeats 1600000 in
theorem algebraic : Cert.algebraic_KernelIdeal_ReferenceIdeal_pre_finite := by
  pair_intro
  · run_from ((θ_run Cert.KernelIdeal.defs _ _).mono (fun _ h => h.1) (Cert.KernelIdeal.Attn.run_main m g))
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · hlo_run
    · exact dq_eq m hpre _
    · exact dk_eq m hpre _
    · exact dv_eq m hpre _

end Cert.Proof

end
-- ==== Proof.Ffn.Gate.lean ====
/- The gated product's gradients: what the kernel leaves, entry by entry. -/
module

public import proofs.«01_k».proof.Proof.Gen.GateIdeal.Value
public import proofs.«01_k».proof.Proof.Real.Ops
public import Idealize.ShloMosaic.Lib.Pipeline.ValueKit

@[expose] public section

set_option maxRecDepth 16384

noncomputable section

namespace Cert.GateIdeal.Ffn

open Idealize.ShloMosaic Idealize.ShloMosaic.TcCoe Idealize.ShloMosaic.Tactic
open Cert.GateIdeal Cert.GateIdeal.Gen

theorem hz : (![0, 0] : Fin 2 → Nat) = fun _ => 0 := funext fun a => by fin_cases a <;> rfl

/-- The gate's gradient from the product's gradient `d`, the gate's input `a` and the other factor `b`. -/
def da (d a b : EReal) : EReal := d * b * Ideal.logistic a * (1 + a * (1 - Ideal.logistic a))
/-- The other factor's gradient. -/
def db (d a : EReal) : EReal := d * a * Ideal.logistic a

theorem one_eq : (Scalar.ofBits .f32 0x3F800000#32 : Ideal .f32) = (1 : EReal) := Cert.Attn.ofBits_one.trans EReal.coe_one

theorem pay1_apply (x : FVec Ideal S1408x2048 .bf16) (y : FVec Ideal S512x2048 .bf16) (j : S1408x512.Idx) :
    k0_pay1 (F := Ideal) x y j = ∑ l : Fin 2048, x (ValueIdx.ix2 (j 0) l) * y (ValueIdx.ix2 (j 1) l) := by
  unfold k0_pay1
  simp only [shapeCast_self]
  idx_vars j
  pointwise
  rfl

theorem out4_apply (x : FVec Ideal S1408x2048 .bf16) (y : FVec Ideal S512x2048 .bf16) (a b : FVec Ideal S1408x512 .f32) (j : S1408x512.Idx) :
    out0_4 (F := Ideal) x y a b j = da (∑ l : Fin 2048, x (ValueIdx.ix2 (j 0) l) * y (ValueIdx.ix2 (j 1) l)) (a j) (b j) := by
  unfold out0_4
  rw [View.canon_unit_zero hz, View.ld_unit_zero (S := S1408x2048) hz, View.ld_unit_zero (S := S512x2048) hz, View.ld_unit_zero (S := S1408x512) hz, View.ld_unit_zero (S := S1408x512) hz]
  rw [← pay1_apply, da, ← one_eq]
  rfl

theorem out5_apply (x : FVec Ideal S1408x2048 .bf16) (y : FVec Ideal S512x2048 .bf16) (a b : FVec Ideal S1408x512 .f32) (j : S1408x512.Idx) :
    out0_5 (F := Ideal) x y a b j = db (∑ l : Fin 2048, x (ValueIdx.ix2 (j 0) l) * y (ValueIdx.ix2 (j 1) l)) (a j) := by
  unfold out0_5
  rw [View.canon_unit_zero hz, View.ld_unit_zero (S := S1408x2048) hz, View.ld_unit_zero (S := S512x2048) hz, View.ld_unit_zero (S := S1408x512) hz]
  rw [← pay1_apply, db]
  rfl

theorem idx : ∀ t : Fin cfg0.N, win0_0.index t = ![t.val / 11, 0] ∧ win0_1.index t = ![t.val % 11, 0] ∧ win0_2.index t = ![t.val / 11, t.val % 11]
    ∧ win0_3.index t = ![t.val / 11, t.val % 11] ∧ win0_4.index t = ![t.val / 11, t.val % 11] ∧ win0_5.index t = ![t.val / 11, t.val % 11] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x2048 .f32) bitsLt_bf16_f32 : FVec Ideal S4224x2048 .bf16) := by
  simp only [V, List.flatten_cons, List.flatten_nil, List.cons_append, List.nil_append, List.append_nil]
  entry_read
  rfl

theorem V_v1 : V m c main_v1 = (truncf .bf16 (m (c.tc.loc main_arg1) : FVec Ideal S5632x2048 .f32) bitsLt_bf16_f32 : FVec Ideal S5632x2048 .bf16) := by
  simp only [V, List.flatten_cons, List.flatten_nil, List.cons_append, List.nil_append, List.append_nil]
  entry_read
  rfl

theorem iblk_0 (t : Fin cfg0.N) (j : S1408x2048.Idx) : (iblk m c 0 t : FVec Ideal S1408x2048 .bf16) j = (m (c.tc.loc main_arg0) : FVec Ideal S4224x2048 .f32) (((cfg0.win 0).blk t).view.emb j) := by
  show V m c main_v0 (((cfg0.win 0).blk t).view.emb j) = _
  rw [V_v0]
  rfl

theorem iblk_1 (t : Fin cfg0.N) (j : S512x2048.Idx) : (iblk m c 1 t : FVec Ideal S512x2048 .bf16) j = (m (c.tc.loc main_arg1) : FVec Ideal S5632x2048 .f32) (((cfg0.win 1).blk t).view.emb j) := by
  show V m c main_v1 (((cfg0.win 1).blk t).view.emb j) = _
  rw [V_v1]
  rfl

theorem iblk_2 (t : Fin cfg0.N) (j : S1408x512.Idx) : (iblk m c 2 t : FVec Ideal S1408x512 .f32) j = (m (c.tc.loc main_arg2) : FVec Ideal S4224x5632 .f32) (((cfg0.win 2).blk t).view.emb j) := by
  show V m c main_arg2 (((cfg0.win 2).blk t).view.emb j) = _
  rw [V_main_arg2]

theorem iblk_3 (t : Fin cfg0.N) (j : S1408x512.Idx) : (iblk m c 3 t : FVec Ideal S1408x512 .f32) j = (m (c.tc.loc main_arg3) : FVec Ideal S4224x5632 .f32) (((cfg0.win 3).blk t).view.emb j) := by
  show V m c main_arg3 (((cfg0.win 3).blk t).view.emb j) = _
  rw [V_main_arg3]

/-- The product's gradient through the projection down, entry by entry. -/
def dact (x : FVec Ideal S4224x2048 .f32) (y : FVec Ideal S5632x2048 .f32) (j : S4224x5632.Idx) : EReal :=
  ∑ l : Fin 2048, x (ValueIdx.ix2 (j 0) l) * y (ValueIdx.ix2 (j 1) l)

theorem emb_eq (t : Fin cfg0.N) (y : S1408x512.Idx) : ((cfg0.win 2).blk t).view.emb y = ((cfg0.win 4).blk t).view.emb y := by
  funext d
  match d with
  | 0 => refine Fin.ext ?_; blk_simp [idx t]
  | 1 => refine Fin.ext ?_; blk_simp [idx t]

theorem emb_eq' (t : Fin cfg0.N) (y : S1408x512.Idx) : ((cfg0.win 3).blk t).view.emb y = ((cfg0.win 4).blk t).view.emb y := by
  funext d
  match d with
  | 0 => refine Fin.ext ?_; blk_simp [idx t]
  | 1 => refine Fin.ext ?_; blk_simp [idx t]

theorem emb_eq5 (t : Fin cfg0.N) (y : S1408x512.Idx) : ((cfg0.win 5).blk t).view.emb y = ((cfg0.win 4).blk t).view.emb y := by
  funext d
  match d with
  | 0 => refine Fin.ext ?_; blk_simp [idx t]
  | 1 => refine Fin.ext ?_; blk_simp [idx t]

theorem dact_blk (t : Fin cfg0.N) (y : S1408x512.Idx) :
    (∑ l : Fin 2048, @HMul.hMul EReal EReal EReal _ ((iblk m c 0 t : FVec Ideal S1408x2048 .bf16) (ValueIdx.ix2 (y 0) l)) ((iblk m c 1 t : FVec Ideal S512x2048 .bf16) (ValueIdx.ix2 (y 1) l)))
      = dact (m (c.tc.loc main_arg0)) (m (c.tc.loc main_arg1)) (((cfg0.win 4).blk t).view.emb y) := by
  unfold dact
  refine Finset.sum_congr (M := EReal) rfl fun l _ => ?_
  rw [iblk_0, iblk_1]
  congr 2
  · funext d
    match d with
    | 0 => refine Fin.ext ?_; show _ = (((cfg0.win 4).blk t).view.emb y 0).val; blk_simp [idx t]; rfl
    | 1 => refine Fin.ext ?_; blk_simp [idx t]; rfl
  · funext d
    match d with
    | 0 => refine Fin.ext ?_; show _ = (((cfg0.win 4).blk t).view.emb y 1).val; blk_simp [idx t]; rfl
    | 1 => refine Fin.ext ?_; blk_simp [idx t]; rfl

theorem da_arr : (dats m 0 c).arrAt 4 cfg0.N = fun j => da (dact (m (c.tc.loc main_arg0)) (m (c.tc.loc main_arg1)) j)
    ((m (c.tc.loc main_arg2) : FVec Ideal S4224x5632 .f32) j) ((m (c.tc.loc main_arg3) : FVec Ideal S4224x5632 .f32) j) := by
  refine (dats m 0 c).arrAt_eq_of_covers 4 _ (by decide +kernel) fun t hf y => ?_
  show (dats m 0 c).after 4 t y = da (dact _ _ (((cfg0.win 4).blk t).view.emb y)) ((m (c.tc.loc main_arg2) : FVec Ideal S4224x5632 .f32) (((cfg0.win 4).blk t).view.emb y)) ((m (c.tc.loc main_arg3) : FVec Ideal S4224x5632 .f32) (((cfg0.win 4).blk t).view.emb y))
  rw [after0_4, out4_apply, dact_blk, iblk_2, iblk_3, emb_eq, emb_eq']

theorem db_arr : (dats m 0 c).arrAt 5 cfg0.N = fun j => db (dact (m (c.tc.loc main_arg0)) (m (c.tc.loc main_arg1)) j)
    ((m (c.tc.loc main_arg2) : FVec Ideal S4224x5632 .f32) j) := by
  refine (dats m 0 c).arrAt_eq_of_covers 5 _ (by decide +kernel) fun t hf y => ?_
  show (dats m 0 c).after 5 t y = db (dact _ _ (((cfg0.win 5).blk t).view.emb y)) ((m (c.tc.loc main_arg2) : FVec Ideal S4224x5632 .f32) (((cfg0.win 5).blk t).view.emb y))
  rw [after0_5, out5_apply, dact_blk, iblk_2, emb_eq, emb_eq5]

end Cert.GateIdeal.Ffn

end
-- ==== Proof.Ffn.GatePair.lean ====
/- The gated product's gradients of the kernel and of the reference, equal where the product's gradient is finite. -/
module

public import proofs.«01_k».proof.Defs
public import proofs.«01_k».proof.Proof.Algebraic
public import proofs.«01_k».proof.Proof.Ffn.Gate
public import proofs.«01_k».proof.Proof.Gen.Gate
public import proofs.«01_k».proof.Proof.Gen.GateReferenceIdeal.Run
public import Idealize.ShloMosaic.Lib.Claim
public import Idealize.ShloMosaic.Lib.ReduceAll

@[expose] public section

set_option maxRecDepth 16384
set_option maxHeartbeats 1600000

noncomputable section

namespace Cert.Proof.Gate

open Idealize.ShloMosaic Idealize.ShloMosaic.TcCoe Idealize.SL.Sem
open Cert.GateIdeal.Ffn

theorem facts_finite : Cert.Pre_finite_gate.Facts := ⟨by decide, by decide, by decide, by decide, by decide, by decide, by decide⟩
attribute [local instance] facts_finite

instance : Subsingleton (Cert.Pre_finite_gate.S_).Idx := ⟨fun a b => funext fun d => d.elim0⟩

/-- The two forms of the gate's gradient agree where the product's gradient times the other factor is a real number. -/
theorem da_eq (d b : ℝ) (a : EReal) :
    d * b * Ideal.logistic a + a * (d * b) * (Ideal.logistic a * (1 - Ideal.logistic a)) = da d a b := by
  unfold da
  rw [← EReal.coe_mul]
  induction a using EReal.rec with
  | bot => simp
  | top => simp [show (1 : EReal) - 1 = 0 from by rw [← EReal.coe_one, ← EReal.coe_sub]; simp]
  | coe r =>
    rw [Ideal.logistic_coe, ← EReal.coe_one]
    simp only [← EReal.coe_mul, ← EReal.coe_add, ← EReal.coe_sub]
    congr 1
    ring

theorem db_eq (d a : EReal) : a * Ideal.logistic a * d = db d a := by
  unfold db
  rw [mul_comm, ← mul_assoc]

theorem coe_sum : ∀ (n : ℕ) (f : Fin n → ℝ), ((∑ k, f k : ℝ) : EReal) = ∑ k, ((f k : ℝ) : EReal)
  | 0, _ => by simp
  | n + 1, f => by rw [Fin.sum_univ_castSucc, Fin.sum_univ_castSucc, EReal.coe_add, coe_sum n]

/-- A sum of products of real numbers is a real number. -/
theorem dact_real {x : FVec Ideal Cert.GateIdeal.S4224x2048 .f32} {y : FVec Ideal Cert.GateIdeal.S5632x2048 .f32}
    (hx : ∀ i, x i = ((EReal.toReal (x i) : ℝ) : EReal)) (hy : ∀ i, y i = ((EReal.toReal (y i) : ℝ) : EReal)) (j : Cert.GateIdeal.S4224x5632.Idx) :
    ∃ r : ℝ, dact x y j = (r : EReal) := by
  refine ⟨∑ l : Fin 2048, EReal.toReal (x (ValueIdx.ix2 (j 0) l)) * EReal.toReal (y (ValueIdx.ix2 (j 1) l)), ?_⟩
  unfold dact
  rw [coe_sum]
  refine Finset.sum_congr rfl fun l _ => ?_
  rw [EReal.coe_mul, ← hx, ← hy]

section
open Cert.GateReferenceIdeal Cert.GateReferenceIdeal.Gen

/-- The reference's sigmoid. -/
def sg (a : FVec Ideal S4224x5632 .f32) : FVec Ideal S4224x5632 .f32 :=
  Host.divf (broadcastInDim S4224x5632 ![] bcast_S_S4224x5632 (constant S_ .f32 0x3F800000#32))
    (addf (broadcastInDim S4224x5632 ![] bcast_S_S4224x5632 (constant S_ .f32 0x3F800000#32)) (Host.exp (Host.negf a)))
/-- The reference's gradient of the product. -/
def dd (x : FVec Ideal S4224x2048 .f32) (y : FVec Ideal S5632x2048 .f32) : FVec Ideal S4224x5632 .f32 :=
  Host.dotGeneral dot_S4224x2048_S5632x2048_S4224x5632_1_1_0_0_n_n none x y

theorem sg_apply (a : FVec Ideal S4224x5632 .f32) (j : S4224x5632.Idx) : sg a j = Ideal.logistic (a j) := by
  unfold sg Ideal.logistic
  rw [← one_eq]
  rfl

theorem dd_apply (x : FVec Ideal S4224x2048 .f32) (y : FVec Ideal S5632x2048 .f32) (j : S4224x5632.Idx) : dd x y j = dact x y j := by
  unfold dd dact
  idx_vars j
  pointwise
  rfl

theorem rda (x : FVec Ideal S4224x2048 .f32) (y : FVec Ideal S5632x2048 .f32) (a b : FVec Ideal S4224x5632 .f32)
    (hx : ∀ i, x i = ((EReal.toReal (x i) : ℝ) : EReal)) (hy : ∀ i, y i = ((EReal.toReal (y i) : ℝ) : EReal)) (hb : ∀ i, b i = ((EReal.toReal (b i) : ℝ) : EReal)) :
    (truncf .bf16 (addf (mulf (mulf (dd x y) b) (sg a)) (mulf (mulf a (mulf (dd x y) b)) (mulf (sg a) (subf (broadcastInDim S4224x5632 ![] bcast_S_S4224x5632 (constant S_ .f32 0x3F800000#32)) (sg a))))) bitsLt_bf16_f32 : FVec Ideal S4224x5632 .bf16)
      = fun j => da (dact x y j) (a j) (b j) := by
  funext j
  obtain ⟨r, hr⟩ := dact_real hx hy j
  show dd x y j * b j * sg a j + a j * (dd x y j * b j) * (sg a j * ((Scalar.ofBits .f32 0x3F800000#32 : Ideal .f32) - sg a j)) = _
  rw [dd_apply, sg_apply, one_eq, hr, hb, da_eq]

theorem rdb (x : FVec Ideal S4224x2048 .f32) (y : FVec Ideal S5632x2048 .f32) (a : FVec Ideal S4224x5632 .f32) :
    (truncf .bf16 (mulf (mulf a (sg a)) (dd x y)) bitsLt_bf16_f32 : FVec Ideal S4224x5632 .bf16) = fun j => db (dact x y j) (a j) := by
  funext j
  show a j * sg a j * dd x y j = _
  rw [dd_apply, sg_apply, db_eq]
end

theorem args (m : (ℓ : Loc Cert.GateIdeal.nD Cert.GateIdeal.τ Cert.GateIdeal.sig) → Buf (Elt Ideal) ℓ) (hp : Cert.Pre_GateIdeal_finite_gate m) (c : Dev Cert.GateIdeal.nD) :
    (∀ i, (m (c.tc.loc Cert.GateIdeal.main_arg0) : FVec Ideal Cert.GateIdeal.S4224x2048 .f32) i = ((EReal.toReal ((m (c.tc.loc Cert.GateIdeal.main_arg0) : FVec Ideal Cert.GateIdeal.S4224x2048 .f32) i) : ℝ) : EReal))
    ∧ (∀ i, (m (c.tc.loc Cert.GateIdeal.main_arg1) : FVec Ideal Cert.GateIdeal.S5632x2048 .f32) i = ((EReal.toReal ((m (c.tc.loc Cert.GateIdeal.main_arg1) : FVec Ideal Cert.GateIdeal.S5632x2048 .f32) i) : ℝ) : EReal))
    ∧ (∀ i, (m (c.tc.loc Cert.GateIdeal.main_arg3) : FVec Ideal Cert.GateIdeal.S4224x5632 .f32) i = ((EReal.toReal ((m (c.tc.loc Cert.GateIdeal.main_arg3) : FVec Ideal Cert.GateIdeal.S4224x5632 .f32) i) : ℝ) : EReal)) := by
  have h := congrFun (hp c) (Shape.Idx.first Cert.Pre_finite_gate.Facts.h_S_)
  obtain ⟨h, h2⟩ := IntOp.andi_eq_one.1 h
  obtain ⟨h0, h1⟩ := IntOp.andi_eq_one.1 h
  exact ⟨fun i => Cert.Proof.real_of_lt _ (Host.reduce_andi_all _ _ _ _ _ h0 i), fun i => Cert.Proof.real_of_lt _ (Host.reduce_andi_all _ _ _ _ _ h1 i), fun i => Cert.Proof.real_of_lt _ (Host.reduce_andi_all _ _ _ _ _ h2 i)⟩

theorem algebraic : Cert.algebraic_GateIdeal_GateReferenceIdeal_pre_finite_gate := by
  pair_intro
  · run_from (Cert.GateIdeal.Value.run_blocks m g)
  · run_from (Cert.GateReferenceIdeal.Value.run m' g')
    · obtain ⟨hx, hy, hb⟩ := args m hpre c
      rw [da_arr]
      exact rda _ _ _ _ hx hy hb
    · rw [db_arr]
      exact rdb _ _ _

theorem frame_ideal : Cert.quiescent_GateIdeal := fun m g _ => Cert.GateIdeal.Gen.frame m g

theorem defs₀_eq : @Cert.Gate.defs₀ Bits _ Cert.Gate.Gen.facts = @Cert.GateIdeal.defs₀ Bits _ Cert.GateIdeal.Gen.facts := by
  unfold Cert.Gate.defs₀ Cert.GateIdeal.defs₀
  refine congrArg Defs.onTc ?_
  funext n a
  match n, a with
  | 0, (t, s) => rfl
  | ⟨_ + 1, h⟩, _ => exact absurd h (Nat.not_lt.2 (Nat.le_add_left _ _))

theorem defs_eq : @Cert.Gate.defs Bits _ Cert.Gate.Gen.facts = @Cert.GateIdeal.defs Bits _ Cert.GateIdeal.Gen.facts :=
  congrArg (Pipeline.defs Cert.Gate.pcfgs) defs₀_eq

theorem main_eq : @Cert.Gate.main Bits _ Cert.Gate.Gen.facts = @Cert.GateIdeal.main Bits _ Cert.GateIdeal.Gen.facts := rfl

theorem frame : Cert.quiescent_Gate := by
  intro m g _
  rw [defs_eq, main_eq]
  exact (θ_run Cert.GateIdeal.defs _ _).mono (fun _ h => h) (Cert.GateIdeal.Gen.frame (F := Bits) m g)

theorem frame_reference : Cert.quiescent_GateReferenceIdeal := by
  intro m g _
  refine (θ_run Cert.GateReferenceIdeal.defs _ _).mono (fun r h => ⟨fun c => (h c).2.2, Idealize.ShloMosaic.sem_eq_zero_of_no_sems (by decide) r.2⟩) (Cert.GateReferenceIdeal.Value.run m g)

end Cert.Proof.Gate

end
-- ==== Proof.Ffn.Product.lean ====
/- Products of matrices entry by entry, and sums gathered in stretches. -/
module

public import Idealize.ShloMosaic.Lib.Pipeline.ValueKit

@[expose] public section

noncomputable section

namespace Cert.Ffn

open Finset (range)
open Idealize.ShloMosaic

theorem hz : (![0, 0] : Fin 2 → Nat) = fun _ => 0 := funext fun a => by fin_cases a <;> rfl

/-- Two places of a matrix with the same row and column are the same. -/
theorem ext2 {m n : ℕ} {i j : (⟨2, ![m, n]⟩ : Shape).Idx} (h0 : (i 0).val = (j 0).val) (h1 : (i 1).val = (j 1).val) : i = j := by
  funext d
  match d with
  | 0 => exact Fin.ext h0
  | 1 => exact Fin.ext h1

section
variable {m k n : ℕ}

/-- The product over the rows of both matrices. -/
def tn (x : (⟨2, ![k, m]⟩ : Shape).Idx → EReal) (y : (⟨2, ![k, n]⟩ : Shape).Idx → EReal) (j : (⟨2, ![m, n]⟩ : Shape).Idx) : EReal :=
  ∑ l : Fin k, x (ValueIdx.ix2 l (j 0)) * y (ValueIdx.ix2 l (j 1))

/-- The product over the columns of both. -/
def nt (x : (⟨2, ![m, k]⟩ : Shape).Idx → EReal) (y : (⟨2, ![n, k]⟩ : Shape).Idx → EReal) (j : (⟨2, ![m, n]⟩ : Shape).Idx) : EReal :=
  ∑ l : Fin k, x (ValueIdx.ix2 (j 0) l) * y (ValueIdx.ix2 (j 1) l)

/-- The product over the columns of the first and the rows of the second. -/
def nn (x : (⟨2, ![m, k]⟩ : Shape).Idx → EReal) (y : (⟨2, ![k, n]⟩ : Shape).Idx → EReal) (j : (⟨2, ![m, n]⟩ : Shape).Idx) : EReal :=
  ∑ l : Fin k, x (ValueIdx.ix2 (j 0) l) * y (ValueIdx.ix2 l (j 1))

variable (x : (⟨2, ![m, k]⟩ : Shape).Idx → EReal) (y : (⟨2, ![k, n]⟩ : Shape).Idx → EReal)

/-- One summand of the last, at natural places. -/
def term (r c s : ℕ) : EReal :=
  if h : r < m ∧ c < n ∧ s < k then x (ValueIdx.ix2 ⟨r, h.1⟩ ⟨s, h.2.2⟩) * y (ValueIdx.ix2 ⟨s, h.2.2⟩ ⟨c, h.2.1⟩) else 0

theorem nn_eq (j : (⟨2, ![m, n]⟩ : Shape).Idx) : nn x y j = ∑ l ∈ range k, term x y (j 0).val (j 1).val l := by
  rw [← Fin.sum_univ_eq_sum_range (fun l => term x y (j 0).val (j 1).val l)]
  refine Finset.sum_congr rfl fun l _ => ?_
  unfold term
  rw [dif_pos ⟨(j 0).isLt, (j 1).isLt, l.isLt⟩]
  rfl

/-- The product of two blocks, as a stretch of the whole sum. -/
theorem stretch (b r c s : ℕ) (hr : r < m) (hc : c < n) (hs : s + b ≤ k) (p : Fin b → (⟨2, ![m, k]⟩ : Shape).Idx) (q : Fin b → (⟨2, ![k, n]⟩ : Shape).Idx)
    (p0 : ∀ l, (p l 0).val = r) (p1 : ∀ l, (p l 1).val = s + l.val) (q0 : ∀ l, (q l 0).val = s + l.val) (q1 : ∀ l, (q l 1).val = c) :
    (∑ l : Fin b, x (p l) * y (q l)) = ∑ l ∈ range b, term x y r c (s + l) := by
  rw [← Fin.sum_univ_eq_sum_range (fun l => term x y r c (s + l))]
  refine Finset.sum_congr rfl fun l _ => ?_
  have hl := l.isLt
  unfold term
  rw [dif_pos ⟨hr, hc, by omega⟩]
  exact congrArg₂ (fun u v : EReal => u * v) (congrArg x (ext2 (p0 l) (p1 l))) (congrArg y (ext2 (q0 l) (q1 l)))
end

section
variable (f : ℕ → ℕ → EReal) (a b : ℕ) (ha : 0 < a)
include ha

theorem pred_mod (t : ℕ) (h : ¬t % a = 0) : (t - 1) % a + 1 = t % a ∧ (t - 1) / a = t / a := by
  have hlt := Nat.mod_lt t ha
  have hd := Nat.div_add_mod t a
  have hr : t % a - 1 < a := by omega
  have e : t - 1 = a * (t / a) + (t % a - 1) := by omega
  constructor
  · rw [e, Nat.mul_add_mod, Nat.mod_eq_of_lt hr]
    omega
  · rw [e, Nat.mul_add_div ha, Nat.div_eq_of_lt hr, Nat.add_zero]

/-- What a point within a run of `a` adds to what the points before it gathered, `b` summands a point. -/
theorem next_sum (t : ℕ) (h : ¬t % a = 0) {p q : EReal} (hp : p = ∑ l ∈ range (b * ((t - 1) % a + 1)), f ((t - 1) / a) l)
    (hq : q = ∑ l ∈ range b, f (t / a) (b * (t % a) + l)) : p + q = ∑ l ∈ range (b * (t % a + 1)), f (t / a) l := by
  obtain ⟨e0, e1⟩ := pred_mod a ha t h
  rw [e0, e1] at hp
  rw [hp, hq, Nat.mul_add, Nat.mul_one, Finset.sum_range_add]

/-- What is gathered after each point that is not the last of its run, where every run starts anew. -/
theorem runs (N : ℕ) (acc : ∀ t, t < N → EReal)
    (first : ∀ t (h : t < N), t % a = 0 → ¬t % a = a - 1 → acc t h = ∑ l ∈ range b, f (t / a) (b * (t % a) + l))
    (next : ∀ t (h : t < N), ¬t % a = 0 → ¬t % a = a - 1 → ∃ q, acc t h = acc (t - 1) (by omega) + q ∧ q = ∑ l ∈ range b, f (t / a) (b * (t % a) + l)) :
    ∀ t (h : t < N), ¬t % a = a - 1 → acc t h = ∑ l ∈ range (b * (t % a + 1)), f (t / a) l := by
  intro t
  induction t using Nat.strong_induction_on with
  | _ t ih =>
    intro h hl
    by_cases h0 : t % a = 0
    · rw [first t h h0 hl, h0]
      simp
    · obtain ⟨q, e, hq⟩ := next t h h0 hl
      rw [e]
      have e0 := (pred_mod a ha t h0).1
      have hlt := Nat.mod_lt t ha
      have ht : t ≠ 0 := fun e => h0 (by rw [e, Nat.zero_mod])
      exact next_sum f a b ha t h0 (ih (t - 1) (by omega) _ (by omega)) hq
end

end Cert.Ffn

end
-- ==== Proof.Ffn.Up.lean ====
/- The gradient that comes back through both projections: what the kernel leaves is, entry by entry, the sum over the
   hidden units, gathered in four stretches. -/
module

public import proofs.«01_k».proof.Proof.Gen.UpIdeal.Value
public import proofs.«01_k».proof.Proof.Ffn.Product

@[expose] public section

set_option maxRecDepth 16384

noncomputable section

namespace Cert.UpIdeal.Ffn

open Idealize.ShloMosaic Idealize.ShloMosaic.TcCoe Idealize.ShloMosaic.Tactic
open Cert.UpIdeal Cert.UpIdeal.Gen Cert.Ffn
open Finset (range)

section
variable (c : Dev nD) (i : grid0.Coords) (a3 : Memref sig .tc .vmem S704x1408 .bf16) (h3 : a3.IsWhole) (a4 : Memref sig .tc .vmem S1408x1024 .bf16) (h4 : a4.IsWhole)
  (a5 : Memref sig .tc .vmem S704x1408 .bf16) (h5 : a5.IsWhole) (a6 : Memref sig .tc .vmem S1408x1024 .bf16) (h6 : a6.IsWhole)
  (a7 : Memref sig .tc .vmem S704x1024 .f32) (h7 : a7.IsWhole) (a8 : Memref sig .tc .vmem S704x1024 .f32) (h8 : a8.IsWhole)
  (x0 : FVec Ideal S704x1408 .bf16) (x1 : FVec Ideal S1408x1024 .bf16) (x2 : FVec Ideal S704x1408 .bf16) (x3 : FVec Ideal S1408x1024 .bf16) (xs : FVec Ideal S704x1024 .f32)

/-- The first stretch starts the sum. -/
theorem sout_A (hc0 : cond0_0 i) (hc1 : ¬cond0_1 i) (hc2 : ¬cond0_2 i) :
    sout0_A_0 (F := Ideal) c i a3 h3 a4 h4 a5 h5 a6 h6 a7 h7 a8 h8 hc0 hc1 hc2 x0 x1 x2 x3 = k0_pay1 (F := Ideal) x0 x1 x2 x3 := by
  unfold sout0_A_0
  rw [View.read_writes_eq_canon _ _ _ (scover0_A_0 (F := Ideal) c i a3 h3 a4 h4 a5 h5 a6 h6 a7 h7 a8 h8 hc0 hc1 hc2 x0 x1 x2 x3)]
  unfold kernelRun0_A
  dsimp only
  rw [View.canon_unit_zero hz]
  unfold k0_pay2
  simp only [View.readAt_eq_ld, h3.read_unread, h4.read_unread, h5.read_unread, h6.read_unread, View.ld_unit_zero (S := S704x1408) hz, View.ld_unit_zero (S := S1408x1024) hz, shapeCast_self]

/-- A middle stretch adds to it. -/
theorem sout_B (hc0 : ¬cond0_0 i) (hc1 : cond0_1 i) (hc2 : ¬cond0_2 i) :
    sout0_B_0 (F := Ideal) c i a3 h3 a4 h4 a5 h5 a6 h6 a7 h7 a8 h8 hc0 hc1 hc2 x0 x1 x2 x3 xs = addf xs (k0_pay1 (F := Ideal) x0 x1 x2 x3) := by
  unfold sout0_B_0
  rw [View.read_writes_eq_canon _ _ _ (scover0_B_0 (F := Ideal) c i a3 h3 a4 h4 a5 h5 a6 h6 a7 h7 a8 h8 hc0 hc1 hc2 x0 x1 x2 x3 xs)]
  unfold kernelRun0_B
  dsimp only
  rw [View.canon_unit_zero hz]
  unfold k0_pay3
  simp only [View.readAt_eq_ld, h3.read_unread, h4.read_unread, h5.read_unread, h6.read_unread, h8.read_unread, View.ld_unit_zero (S := S704x1408) hz, View.ld_unit_zero (S := S1408x1024) hz, View.ld_unit_zero (S := S704x1024) hz, shapeCast_self]

/-- The last adds to it and hands it on. -/
theorem out_C (hc0 : ¬cond0_0 i) (hc1 : cond0_1 i) (hc2 : cond0_2 i) :
    out0_C_4 (F := Ideal) c i a3 h3 a4 h4 a5 h5 a6 h6 a7 h7 a8 h8 hc0 hc1 hc2 x0 x1 x2 x3 xs = addf xs (k0_pay1 (F := Ideal) x0 x1 x2 x3) := by
  unfold out0_C_4
  rw [View.read_writes_eq_canon _ _ _ (cover0_C_4 (F := Ideal) c i a3 h3 a4 h4 a5 h5 a6 h6 a7 h7 a8 h8 hc0 hc1 hc2 x0 x1 x2 x3 xs)]
  unfold kernelRun0_C
  dsimp only
  sl_unfold_words
  rw [View.canon_unit_zero hz, View.readCov_unit_zero (S := S704x1024) _ hz]
  unfold k0_pay3
  simp only [View.readAt_eq_ld, h3.read_unread, h4.read_unread, h5.read_unread, h6.read_unread, h8.read_unread, View.ld_unit_zero (S := S704x1408) hz, View.ld_unit_zero (S := S1408x1024) hz, View.ld_unit_zero (S := S704x1024) hz, shapeCast_self]
end

theorem pay1_apply (x0 : FVec Ideal S704x1408 .bf16) (x1 : FVec Ideal S1408x1024 .bf16) (x2 : FVec Ideal S704x1408 .bf16) (x3 : FVec Ideal S1408x1024 .bf16) (j : S704x1024.Idx) :
    k0_pay1 (F := Ideal) x0 x1 x2 x3 j = ((∑ l : Fin 1408, x0 (ValueIdx.ix2 (j 0) l) * x1 (ValueIdx.ix2 l (j 1))) + (∑ l : Fin 1408, x2 (ValueIdx.ix2 (j 0) l) * x3 (ValueIdx.ix2 l (j 1))) : EReal) := by
  unfold k0_pay1
  simp only [shapeCast_self]
  idx_vars j
  pointwise
  rfl

theorem idx : ∀ t : Fin cfg0.N, win0_0.index t = ![t.val / 4 / 2, t.val % 4] ∧ win0_1.index t = ![t.val % 4, t.val / 4 % 2] ∧ win0_2.index t = ![t.val / 4 / 2, t.val % 4]
    ∧ win0_3.index t = ![t.val % 4, t.val / 4 % 2] ∧ win0_4.index t = ![t.val / 4 / 2, t.val / 4 % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x5632 .f32) bitsLt_bf16_f32 : FVec Ideal S4224x5632 .bf16) := by
  simp only [V, List.flatten_cons, List.flatten_nil, List.cons_append, List.nil_append, List.append_nil]
  entry_read
  rfl

theorem V_v1 : V m c main_v1 = (truncf .bf16 (m (c.tc.loc main_arg1) : FVec Ideal S4224x5632 .f32) bitsLt_bf16_f32 : FVec Ideal S4224x5632 .bf16) := by
  simp only [V, List.flatten_cons, List.flatten_nil, List.cons_append, List.nil_append, List.append_nil]
  entry_read
  rfl

theorem V_v2 : V m c main_v2 = (truncf .bf16 (m (c.tc.loc main_arg2) : FVec Ideal S5632x2048 .f32) bitsLt_bf16_f32 : FVec Ideal S5632x2048 .bf16) := by
  simp only [V, List.flatten_cons, List.flatten_nil, List.cons_append, List.nil_append, List.append_nil]
  entry_read
  rfl

theorem V_v3 : V m c main_v3 = (truncf .bf16 (m (c.tc.loc main_arg3) : FVec Ideal S5632x2048 .f32) bitsLt_bf16_f32 : FVec Ideal S5632x2048 .bf16) := by
  simp only [V, List.flatten_cons, List.flatten_nil, List.cons_append, List.nil_append, List.append_nil]
  entry_read
  rfl

theorem iblk_0 (t : Fin cfg0.N) (j : S704x1408.Idx) : (iblk m c 0 t : FVec Ideal S704x1408 .bf16) j = (m (c.tc.loc main_arg0) : FVec Ideal S4224x5632 .f32) (((cfg0.win 0).blk t).view.emb j) := by
  show V m c main_v0 (((cfg0.win 0).blk t).view.emb j) = _
  rw [V_v0]
  rfl

theorem iblk_1 (t : Fin cfg0.N) (j : S1408x1024.Idx) : (iblk m c 1 t : FVec Ideal S1408x1024 .bf16) j = (m (c.tc.loc main_arg2) : FVec Ideal S5632x2048 .f32) (((cfg0.win 1).blk t).view.emb j) := by
  show V m c main_v2 (((cfg0.win 1).blk t).view.emb j) = _
  rw [V_v2]
  rfl

theorem iblk_2 (t : Fin cfg0.N) (j : S704x1408.Idx) : (iblk m c 2 t : FVec Ideal S704x1408 .bf16) j = (m (c.tc.loc main_arg1) : FVec Ideal S4224x5632 .f32) (((cfg0.win 2).blk t).view.emb j) := by
  show V m c main_v1 (((cfg0.win 2).blk t).view.emb j) = _
  rw [V_v1]
  rfl

theorem iblk_3 (t : Fin cfg0.N) (j : S1408x1024.Idx) : (iblk m c 3 t : FVec Ideal S1408x1024 .bf16) j = (m (c.tc.loc main_arg3) : FVec Ideal S5632x2048 .f32) (((cfg0.win 3).blk t).view.emb j) := by
  show V m c main_v3 (((cfg0.win 3).blk t).view.emb j) = _
  rw [V_v3]
  rfl

/-- The gradient of the block's input, entry by entry. -/
def back (x : FVec Ideal S4224x5632 .f32) (w : FVec Ideal S5632x2048 .f32) (y : FVec Ideal S4224x5632 .f32) (v : FVec Ideal S5632x2048 .f32) : FVec Ideal S4224x2048 .f32 :=
  fun j => (nn x w j + nn y v j : EReal)

/-- The summands of the `q`-th run of points, at its block's place `y`. -/
def summand (y : S704x1024.Idx) (q l : ℕ) : EReal :=
  term (m (c.tc.loc main_arg0) : FVec Ideal S4224x5632 .f32) (m (c.tc.loc main_arg2) : FVec Ideal S5632x2048 .f32) (704 * (q / 2) + (y 0).val) (1024 * (q % 2) + (y 1).val) l
    + term (m (c.tc.loc main_arg1) : FVec Ideal S4224x5632 .f32) (m (c.tc.loc main_arg3) : FVec Ideal S5632x2048 .f32) (704 * (q / 2) + (y 0).val) (1024 * (q % 2) + (y 1).val) l

/-- A point's two products, as a stretch of the whole sum. -/
theorem pay_eq (t : Fin cfg0.N) (y : S704x1024.Idx) :
    (k0_pay1 (F := Ideal) (iblk m c 0 t) (iblk m c 1 t) (iblk m c 2 t) (iblk m c 3 t) y : EReal) = ∑ l ∈ range 1408, summand m c y (t.val / 4) (1408 * (t.val % 4) + l) := by
  have hN : t.val < 48 := lt_of_lt_of_eq t.isLt N_0
  have h0 : (y 0).val < 704 := (y 0).isLt
  have h1 : (y 1).val < 1024 := (y 1).isLt
  rw [pay1_apply]
  refine (congrArg₂ (fun p q : EReal => p + q)
    ((Finset.sum_congr (M := EReal) rfl fun l _ => congrArg₂ (fun u v : EReal => u * v) (iblk_0 m c t _) (iblk_1 m c t _)).trans
      (stretch (m (c.tc.loc main_arg0) : FVec Ideal S4224x5632 .f32) (m (c.tc.loc main_arg2) : FVec Ideal S5632x2048 .f32) 1408 (704 * (t.val / 4 / 2) + (y 0).val) (1024 * (t.val / 4 % 2) + (y 1).val) (1408 * (t.val % 4)) (by omega) (by omega) (by omega) _ _ ?_ ?_ ?_ ?_))
    ((Finset.sum_congr (M := EReal) rfl fun l _ => congrArg₂ (fun u v : EReal => u * v) (iblk_2 m c t _) (iblk_3 m c t _)).trans
      (stretch (m (c.tc.loc main_arg1) : FVec Ideal S4224x5632 .f32) (m (c.tc.loc main_arg3) : FVec Ideal S5632x2048 .f32) 1408 (704 * (t.val / 4 / 2) + (y 0).val) (1024 * (t.val / 4 % 2) + (y 1).val) (1408 * (t.val % 4)) (by omega) (by omega) (by omega) _ _ ?_ ?_ ?_ ?_))).trans Finset.sum_add_distrib.symm
  all_goals intro l; blk_simp [idx t]; exact congrArg (· + _) (Nat.mul_comm _ _)

/-- What the scratch holds after a point that is not the last of its run. -/
theorem scratch (y : S704x1024.Idx) : ∀ (t : ℕ) (h : t < cfg0.N), ¬t % 4 = 3 →
    ((outsAt0 m c t h).2 y : EReal) = ∑ l ∈ range (1408 * (t % 4 + 1)), summand m c y (t / 4) l := by
  refine runs (summand m c y) 4 1408 (by decide) cfg0.N (fun t h => ((outsAt0 m c t h).2 y : EReal)) (fun t h h0 h3 => ?_) (fun t h h0 h3 => ⟨_, ?_, pay_eq m c ⟨t, h⟩ y⟩)
  · have e := outsAt0_A m c ⟨t, h⟩ h0 (by dsimp only; omega) h3
    dsimp only at e ⊢
    rw [e]
    dsimp only
    rw [sout_A]
    exact pay_eq m c ⟨t, h⟩ y
  · have e := outsAt0_B m c ⟨t, h⟩ h0 (by dsimp only; omega) h3
    dsimp only at e ⊢
    rw [e]
    dsimp only
    rw [sout_B]
    rfl

theorem arr : (dats m 0 c).arrAt 4 cfg0.N = back (m (c.tc.loc main_arg0)) (m (c.tc.loc main_arg2)) (m (c.tc.loc main_arg1)) (m (c.tc.loc main_arg3)) := by
  refine (dats m 0 c).arrAt_eq_of_covers 4 _ (by decide +kernel) fun t hf y => ?_
  show (dats m 0 c).after 4 t y = back _ _ _ _ (((cfg0.win 4).blk t).view.emb y)
  have h3 : t.val % 4 = 3 := (flush0_4 t).1 hf
  have hN : t.val < 48 := lt_of_lt_of_eq t.isLt N_0
  rw [after0_4, outsAt0_C m c t (by omega) (by omega) h3]
  dsimp only
  rw [out_C]
  refine (next_sum (summand m c y) 4 1408 (by decide) t.val (by omega) (scratch m c y (t.val - 1) _ (by omega)) (pay_eq m c t y)).trans ?_
  have r0 : (((cfg0.win 4).blk t).view.emb y 0).val = 704 * (t.val / 4 / 2) + (y 0).val := by blk_simp [idx t]; exact congrArg (· + _) (Nat.mul_comm _ _)
  have r1 : (((cfg0.win 4).blk t).view.emb y 1).val = 1024 * (t.val / 4 % 2) + (y 1).val := by blk_simp [idx t]; exact congrArg (· + _) (Nat.mul_comm _ _)
  unfold back
  rw [nn_eq, nn_eq, r0, r1, h3]
  exact Finset.sum_add_distrib

end Cert.UpIdeal.Ffn

end
-- ==== Proof.Ffn.UpPair.lean ====
/- The gradient that comes back through both projections, of the kernel and of the reference, equal. -/
module

public import proofs.«01_k».proof.Defs
public import proofs.«01_k».proof.Proof.Ffn.Up
public import proofs.«01_k».proof.Proof.Gen.Up
public import proofs.«01_k».proof.Proof.Gen.UpReferenceIdeal.Run
public import Idealize.ShloMosaic.Lib.Claim

@[expose] public section

set_option maxRecDepth 16384
set_option maxHeartbeats 1600000

noncomputable section

namespace Cert.Proof.Up

open Idealize.ShloMosaic Idealize.ShloMosaic.TcCoe Idealize.SL.Sem

section
open Cert.UpReferenceIdeal Cert.UpReferenceIdeal.Gen
theorem one_eq (x : FVec Ideal S4224x5632 .f32) (w : FVec Ideal S5632x2048 .f32) (j : S4224x2048.Idx) :
    (Host.dotGeneral dot_S4224x5632_S2048x5632_S4224x2048_1_1_0_0_n_n none x (transpose S2048x5632 [1, 0] w transposes_S5632x2048_S2048x5632_1_0) : FVec Ideal S4224x2048 .f32) j
      = ∑ l : Fin 5632, @HMul.hMul EReal EReal EReal _ (x (ValueIdx.ix2 (j 0) l)) (w (ValueIdx.ix2 l (j 1))) := by
  idx_vars j
  pointwise
  rfl

theorem back_eq (x : FVec Ideal S4224x5632 .f32) (w : FVec Ideal S5632x2048 .f32) (y : FVec Ideal S4224x5632 .f32) (v : FVec Ideal S5632x2048 .f32) :
    (addf (Host.dotGeneral dot_S4224x5632_S2048x5632_S4224x2048_1_1_0_0_n_n none y (transpose S2048x5632 [1, 0] v transposes_S5632x2048_S2048x5632_1_0) : FVec Ideal S4224x2048 .f32)
        (Host.dotGeneral dot_S4224x5632_S2048x5632_S4224x2048_1_1_0_0_n_n none x (transpose S2048x5632 [1, 0] w transposes_S5632x2048_S2048x5632_1_0) : FVec Ideal S4224x2048 .f32))
      = Cert.UpIdeal.Ffn.back x w y v := by
  funext j
  unfold Cert.UpIdeal.Ffn.back Cert.Ffn.nn
  exact (congrArg₂ (fun p q : EReal => p + q) (one_eq y v j) (one_eq x w j)).trans (add_comm _ _)
end

theorem algebraic : Cert.algebraic_UpIdeal_UpReferenceIdeal := by
  pair_intro
  · run_from (Cert.UpIdeal.Value.run_blocks m g)
  · run_from (Cert.UpReferenceIdeal.Value.run m' g')
    rw [Cert.UpIdeal.Ffn.arr]
    exact back_eq _ _ _ _

theorem frame_ideal : Cert.quiescent_UpIdeal := fun m g _ => Cert.UpIdeal.Gen.frame m g

theorem defs₀_eq : @Cert.Up.defs₀ Bits _ Cert.Up.Gen.facts = @Cert.UpIdeal.defs₀ Bits _ Cert.UpIdeal.Gen.facts := by
  unfold Cert.Up.defs₀ Cert.UpIdeal.defs₀
  refine congrArg Defs.onTc ?_
  funext n a
  match n, a with
  | 0, (t, s) => rfl
  | ⟨_ + 1, h⟩, _ => exact absurd h (Nat.not_lt.2 (Nat.le_add_left _ _))

theorem defs_eq : @Cert.Up.defs Bits _ Cert.Up.Gen.facts = @Cert.UpIdeal.defs Bits _ Cert.UpIdeal.Gen.facts :=
  congrArg (Pipeline.defs Cert.Up.pcfgs) defs₀_eq

theorem main_eq : @Cert.Up.main Bits _ Cert.Up.Gen.facts = @Cert.UpIdeal.main Bits _ Cert.UpIdeal.Gen.facts := rfl

theorem frame : Cert.quiescent_Up := by
  intro m g _
  rw [defs_eq, main_eq]
  exact (θ_run Cert.UpIdeal.defs _ _).mono (fun _ h => h) (Cert.UpIdeal.Gen.frame (F := Bits) m g)

theorem frame_reference : Cert.quiescent_UpReferenceIdeal := by
  intro m g _
  refine (θ_run Cert.UpReferenceIdeal.defs _ _).mono (fun r h => ⟨fun c => (h c).2, Idealize.ShloMosaic.sem_eq_zero_of_no_sems (by decide) r.2⟩) (Cert.UpReferenceIdeal.Value.run m g)

end Cert.Proof.Up

end
-- ==== Proof.Ffn.Weight.lean ====
/- A weight's gradient: what the kernel leaves is, entry by entry, the sum over the tokens of the products. -/
module

public import proofs.«01_k».proof.Proof.Gen.WeightIdeal.Value
public import proofs.«01_k».proof.Proof.Ffn.Product

@[expose] public section

set_option maxRecDepth 16384

noncomputable section

namespace Cert.WeightIdeal.Ffn

open Idealize.ShloMosaic Idealize.ShloMosaic.TcCoe Idealize.ShloMosaic.Tactic
open Cert.WeightIdeal Cert.WeightIdeal.Gen Cert.Ffn

/-- One grid point leaves the product of its two blocks. -/
theorem out_eq (c : Dev nD) (i : grid0.Coords) (a3 : Memref sig .tc .vmem S4224x512 .bf16) (h3 : a3.IsWhole) (a4 : Memref sig .tc .vmem S4224x1024 .bf16) (h4 : a4.IsWhole)
    (a5 : Memref sig .tc .vmem S512x1024 .bf16) (h5 : a5.IsWhole) (a6 : Memref sig .tc .vmem S8x128 .f32) (h6 : a6.IsWhole)
    (x : FVec Ideal S4224x512 .bf16) (y : FVec Ideal S4224x1024 .bf16) :
    out0_A_2 (F := Ideal) c i a3 h3 a4 h4 a5 h5 a6 h6 x y = k0_pay1 (F := Ideal) x y := by
  unfold out0_A_2
  rw [View.read_writes_eq_canon _ _ _ (cover0_A_2 (F := Ideal) c i a3 h3 a4 h4 a5 h5 a6 h6 x y)]
  unfold kernelRun0_A
  dsimp only
  rw [View.canon_unit_zero hz]
  simp only [View.readAt_eq_ld, h3.read_unread, h4.read_unread, View.ld_unit_zero (S := S4224x512) hz, View.ld_unit_zero (S := S4224x1024) hz]

theorem pay1_apply (x : FVec Ideal S4224x512 .bf16) (y : FVec Ideal S4224x1024 .bf16) (j : S512x1024.Idx) :
    k0_pay1 (F := Ideal) x y j = ∑ l : Fin 4224, x (ValueIdx.ix2 l (j 0)) * y (ValueIdx.ix2 l (j 1)) := by
  unfold k0_pay1
  simp only [shapeCast_self]
  idx_vars j
  pointwise
  rfl

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x5632 .f32) bitsLt_bf16_f32 : FVec Ideal S4224x5632 .bf16) := by
  simp only [V, List.flatten_cons, List.flatten_nil, List.cons_append, List.nil_append, List.append_nil]
  entry_read
  rfl

theorem V_v1 : V m c main_v1 = (truncf .bf16 (m (c.tc.loc main_arg1) : FVec Ideal S4224x2048 .f32) bitsLt_bf16_f32 : FVec Ideal S4224x2048 .bf16) := by
  simp only [V, List.flatten_cons, List.flatten_nil, List.cons_append, List.nil_append, List.append_nil]
  entry_read
  rfl

theorem iblk_0 (t : Fin cfg0.N) (j : S4224x512.Idx) : (iblk m c 0 t : FVec Ideal S4224x512 .bf16) j = (m (c.tc.loc main_arg0) : FVec Ideal S4224x5632 .f32) (((cfg0.win 0).blk t).view.emb j) := by
  show V m c main_v0 (((cfg0.win 0).blk t).view.emb j) = _
  rw [V_v0]
  rfl

theorem iblk_1 (t : Fin cfg0.N) (j : S4224x1024.Idx) : (iblk m c 1 t : FVec Ideal S4224x1024 .bf16) j = (m (c.tc.loc main_arg1) : FVec Ideal S4224x2048 .f32) (((cfg0.win 1).blk t).view.emb j) := by
  show V m c main_v1 (((cfg0.win 1).blk t).view.emb j) = _
  rw [V_v1]
  rfl

theorem arr : (dats m 0 c).arrAt 2 cfg0.N = tn (m (c.tc.loc main_arg0)) (m (c.tc.loc main_arg1)) := by
  refine (dats m 0 c).arrAt_eq_of_covers 2 _ (by decide +kernel) fun t hf y => ?_
  show (dats m 0 c).after 2 t y = tn _ _ (((cfg0.win 2).blk t).view.emb y)
  rw [after0_2]
  unfold outsAt0
  rw [out_eq, pay1_apply]
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · blk_simp [idx t]
  · show _ = (((cfg0.win 2).blk t).view.emb y 0).val; blk_simp [idx t]
  · blk_simp [idx t]
  · show _ = (((cfg0.win 2).blk t).view.emb y 1).val; blk_simp [idx t]

end Cert.WeightIdeal.Ffn

end
-- ==== Proof.Ffn.WeightPair.lean ====
/- The weights' gradients of the kernel and of the two references, equal. -/
module

public import proofs.«01_k».proof.Defs
public import proofs.«01_k».proof.Proof.Ffn.Weight
public import proofs.«01_k».proof.Proof.Gen.Weight
public import proofs.«01_k».proof.Proof.Gen.WeightReferenceIdeal.Run
public import proofs.«01_k».proof.Proof.Gen.DownReferenceIdeal.Run
public import Idealize.ShloMosaic.Lib.Claim

@[expose] public section

set_option maxRecDepth 16384
set_option maxHeartbeats 1600000

noncomputable section

namespace Cert.Proof.Weight

open Idealize.ShloMosaic Idealize.ShloMosaic.TcCoe Idealize.SL.Sem

section
open Cert.WeightReferenceIdeal Cert.WeightReferenceIdeal.Gen
theorem up_eq (x : FVec Ideal S4224x5632 .f32) (y : FVec Ideal S4224x2048 .f32) :
    (truncf .bf16 (transpose S5632x2048 [1, 0] (transpose S2048x5632 [1, 0] (Host.dotGeneral dot_S4224x5632_S4224x2048_S5632x2048_0_0_1_1_n_n none x y : FVec Ideal S5632x2048 .f32) transposes_S5632x2048_S2048x5632_1_0) transposes_S2048x5632_S5632x2048_1_0) bitsLt_bf16_f32 : FVec Ideal S5632x2048 .bf16)
      = Cert.Ffn.tn x y := by
  funext j
  unfold Cert.Ffn.tn
  idx_vars j
  pointwise
  rfl
end

section
open Cert.DownReferenceIdeal Cert.DownReferenceIdeal.Gen
theorem down_eq (x : FVec Ideal S4224x5632 .f32) (y : FVec Ideal S4224x2048 .f32) :
    (truncf .bf16 (transpose S5632x2048 [1, 0] (Host.dotGeneral dot_S4224x2048_S4224x5632_S2048x5632_0_0_1_1_n_n none y x : FVec Ideal S2048x5632 .f32) transposes_S2048x5632_S5632x2048_1_0) bitsLt_bf16_f32 : FVec Ideal S5632x2048 .bf16)
      = Cert.Ffn.tn x y := by
  funext j
  unfold Cert.Ffn.tn
  idx_vars j
  pointwise
  exact Finset.sum_congr rfl fun l _ => mul_comm _ _
end

theorem algebraic : Cert.algebraic_WeightIdeal_WeightReferenceIdeal := by
  pair_intro
  · run_from (Cert.WeightIdeal.Value.run_blocks m g)
  · run_from (Cert.WeightReferenceIdeal.Value.run m' g')
    rw [Cert.WeightIdeal.Ffn.arr]
    exact up_eq _ _

theorem algebraic_down : Cert.algebraic_WeightIdeal_DownReferenceIdeal := by
  pair_intro
  · run_from (Cert.WeightIdeal.Value.run_blocks m g)
  · run_from (Cert.DownReferenceIdeal.Value.run m' g')
    rw [Cert.WeightIdeal.Ffn.arr]
    exact down_eq _ _

theorem frame_ideal : Cert.quiescent_WeightIdeal := fun m g _ => Cert.WeightIdeal.Gen.frame m g

theorem defs₀_eq : @Cert.Weight.defs₀ Bits _ Cert.Weight.Gen.facts = @Cert.WeightIdeal.defs₀ Bits _ Cert.WeightIdeal.Gen.facts := by
  unfold Cert.Weight.defs₀ Cert.WeightIdeal.defs₀
  refine congrArg Defs.onTc ?_
  funext n a
  match n, a with
  | 0, (t, s) => rfl
  | ⟨_ + 1, h⟩, _ => exact absurd h (Nat.not_lt.2 (Nat.le_add_left _ _))

theorem defs_eq : @Cert.Weight.defs Bits _ Cert.Weight.Gen.facts = @Cert.WeightIdeal.defs Bits _ Cert.WeightIdeal.Gen.facts :=
  congrArg (Pipeline.defs Cert.Weight.pcfgs) defs₀_eq

theorem main_eq : @Cert.Weight.main Bits _ Cert.Weight.Gen.facts = @Cert.WeightIdeal.main Bits _ Cert.WeightIdeal.Gen.facts := rfl

theorem frame : Cert.quiescent_Weight := by
  intro m g _
  rw [defs_eq, main_eq]
  exact (θ_run Cert.WeightIdeal.defs _ _).mono (fun _ h => h) (Cert.WeightIdeal.Gen.frame (F := Bits) m g)

theorem frame_up : Cert.quiescent_WeightReferenceIdeal := by
  intro m g _
  refine (θ_run Cert.WeightReferenceIdeal.defs _ _).mono (fun r h => ⟨fun c => (h c).2, Idealize.ShloMosaic.sem_eq_zero_of_no_sems (by decide) r.2⟩) (Cert.WeightReferenceIdeal.Value.run m g)

theorem frame_down : Cert.quiescent_DownReferenceIdeal := by
  intro m g _
  refine (θ_run Cert.DownReferenceIdeal.defs _ _).mono (fun r h => ⟨fun c => (h c).2, Idealize.ShloMosaic.sem_eq_zero_of_no_sems (by decide) r.2⟩) (Cert.DownReferenceIdeal.Value.run m g)

end Cert.Proof.Weight

end
-- ==== Proof.Ffn.WeightIn.lean ====
/- The gradient of the weight of the mixers' common projection: what the kernel leaves, entry by entry. -/
module

public import proofs.«01_k».proof.Proof.Gen.WeightInIdeal.Value
public import proofs.«01_k».proof.Proof.Ffn.Product

@[expose] public section

set_option maxRecDepth 16384

noncomputable section

namespace Cert.WeightInIdeal.Ffn

open Idealize.ShloMosaic Idealize.ShloMosaic.TcCoe Idealize.ShloMosaic.Tactic
open Cert.WeightInIdeal Cert.WeightInIdeal.Gen Cert.Ffn

/-- One grid point leaves the product of its two blocks. -/
theorem out_eq (c : Dev nD) (i : grid0.Coords) (a3 : Memref sig .tc .vmem S4224x768 .bf16) (h3 : a3.IsWhole) (a4 : Memref sig .tc .vmem S4224x1024 .bf16) (h4 : a4.IsWhole)
    (a5 : Memref sig .tc .vmem S768x1024 .bf16) (h5 : a5.IsWhole) (a6 : Memref sig .tc .vmem S8x128 .f32) (h6 : a6.IsWhole)
    (x : FVec Ideal S4224x768 .bf16) (y : FVec Ideal S4224x1024 .bf16) :
    out0_A_2 (F := Ideal) c i a3 h3 a4 h4 a5 h5 a6 h6 x y = k0_pay1 (F := Ideal) x y := by
  unfold out0_A_2
  rw [View.read_writes_eq_canon _ _ _ (cover0_A_2 (F := Ideal) c i a3 h3 a4 h4 a5 h5 a6 h6 x y)]
  unfold kernelRun0_A
  dsimp only
  rw [View.canon_unit_zero hz]
  simp only [View.readAt_eq_ld, h3.read_unread, h4.read_unread, View.ld_unit_zero (S := S4224x768) hz, View.ld_unit_zero (S := S4224x1024) hz]

theorem pay1_apply (x : FVec Ideal S4224x768 .bf16) (y : FVec Ideal S4224x1024 .bf16) (j : S768x1024.Idx) :
    k0_pay1 (F := Ideal) x y j = ∑ l : Fin 4224, x (ValueIdx.ix2 l (j 0)) * y (ValueIdx.ix2 l (j 1)) := by
  unfold k0_pay1
  simp only [shapeCast_self]
  idx_vars j
  pointwise
  rfl

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x4608 .f32) bitsLt_bf16_f32 : FVec Ideal S4224x4608 .bf16) := by
  simp only [V, List.flatten_cons, List.flatten_nil, List.cons_append, List.nil_append, List.append_nil]
  entry_read
  rfl

theorem V_v1 : V m c main_v1 = (truncf .bf16 (m (c.tc.loc main_arg1) : FVec Ideal S4224x2048 .f32) bitsLt_bf16_f32 : FVec Ideal S4224x2048 .bf16) := by
  simp only [V, List.flatten_cons, List.flatten_nil, List.cons_append, List.nil_append, List.append_nil]
  entry_read
  rfl

theorem iblk_0 (t : Fin cfg0.N) (j : S4224x768.Idx) : (iblk m c 0 t : FVec Ideal S4224x768 .bf16) j = (m (c.tc.loc main_arg0) : FVec Ideal S4224x4608 .f32) (((cfg0.win 0).blk t).view.emb j) := by
  show V m c main_v0 (((cfg0.win 0).blk t).view.emb j) = _
  rw [V_v0]
  rfl

theorem iblk_1 (t : Fin cfg0.N) (j : S4224x1024.Idx) : (iblk m c 1 t : FVec Ideal S4224x1024 .bf16) j = (m (c.tc.loc main_arg1) : FVec Ideal S4224x2048 .f32) (((cfg0.win 1).blk t).view.emb j) := by
  show V m c main_v1 (((cfg0.win 1).blk t).view.emb j) = _
  rw [V_v1]
  rfl

theorem arr : (dats m 0 c).arrAt 2 cfg0.N = tn (m (c.tc.loc main_arg0)) (m (c.tc.loc main_arg1)) := by
  refine (dats m 0 c).arrAt_eq_of_covers 2 _ (by decide +kernel) fun t hf y => ?_
  show (dats m 0 c).after 2 t y = tn _ _ (((cfg0.win 2).blk t).view.emb y)
  rw [after0_2]
  unfold outsAt0
  rw [out_eq, pay1_apply]
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · blk_simp [idx t]
  · show _ = (((cfg0.win 2).blk t).view.emb y 0).val; blk_simp [idx t]
  · blk_simp [idx t]
  · show _ = (((cfg0.win 2).blk t).view.emb y 1).val; blk_simp [idx t]

end Cert.WeightInIdeal.Ffn

end
-- ==== Proof.Ffn.WeightInPair.lean ====
/- The gradient of the weight of the mixers' common projection, of the kernel and of the reference, equal. -/
module

public import proofs.«01_k».proof.Defs
public import proofs.«01_k».proof.Proof.Ffn.WeightIn
public import proofs.«01_k».proof.Proof.Gen.WeightIn
public import proofs.«01_k».proof.Proof.Gen.WeightInReferenceIdeal.Run
public import Idealize.ShloMosaic.Lib.Claim

@[expose] public section

set_option maxRecDepth 16384
set_option maxHeartbeats 1600000

noncomputable section

namespace Cert.Proof.WeightIn

open Idealize.ShloMosaic Idealize.ShloMosaic.TcCoe Idealize.SL.Sem

section
open Cert.WeightInReferenceIdeal Cert.WeightInReferenceIdeal.Gen
theorem ref_eq (x : FVec Ideal S4224x4608 .f32) (y : FVec Ideal S4224x2048 .f32) :
    (truncf .bf16 (transpose S4608x2048 [1, 0] (transpose S2048x4608 [1, 0] (Host.dotGeneral dot_S4224x4608_S4224x2048_S4608x2048_0_0_1_1_n_n none x y : FVec Ideal S4608x2048 .f32) transposes_S4608x2048_S2048x4608_1_0) transposes_S2048x4608_S4608x2048_1_0) bitsLt_bf16_f32 : FVec Ideal S4608x2048 .bf16) = Cert.Ffn.tn x y := by
  funext j
  unfold Cert.Ffn.tn
  idx_vars j
  pointwise
  rfl
end

theorem algebraic : Cert.algebraic_WeightInIdeal_WeightInReferenceIdeal := by
  pair_intro
  · run_from (Cert.WeightInIdeal.Value.run_blocks m g)
  · run_from (Cert.WeightInReferenceIdeal.Value.run m' g')
    rw [Cert.WeightInIdeal.Ffn.arr]
    exact ref_eq _ _

theorem frame_ideal : Cert.quiescent_WeightInIdeal := fun m g _ => Cert.WeightInIdeal.Gen.frame m g

theorem defs₀_eq : @Cert.WeightIn.defs₀ Bits _ Cert.WeightIn.Gen.facts = @Cert.WeightInIdeal.defs₀ Bits _ Cert.WeightInIdeal.Gen.facts := by
  unfold Cert.WeightIn.defs₀ Cert.WeightInIdeal.defs₀
  refine congrArg Defs.onTc ?_
  funext n a
  match n, a with
  | 0, (t, s) => rfl
  | ⟨_ + 1, h⟩, _ => exact absurd h (Nat.not_lt.2 (Nat.le_add_left _ _))

theorem defs_eq : @Cert.WeightIn.defs Bits _ Cert.WeightIn.Gen.facts = @Cert.WeightInIdeal.defs Bits _ Cert.WeightInIdeal.Gen.facts :=
  congrArg (Pipeline.defs Cert.WeightIn.pcfgs) defs₀_eq

theorem main_eq : @Cert.WeightIn.main Bits _ Cert.WeightIn.Gen.facts = @Cert.WeightInIdeal.main Bits _ Cert.WeightInIdeal.Gen.facts := rfl

theorem frame : Cert.quiescent_WeightIn := by
  intro m g _
  rw [defs_eq, main_eq]
  exact (θ_run Cert.WeightInIdeal.defs _ _).mono (fun _ h => h) (Cert.WeightInIdeal.Gen.frame (F := Bits) m g)

theorem frame_reference : Cert.quiescent_WeightInReferenceIdeal := by
  intro m g _
  refine (θ_run Cert.WeightInReferenceIdeal.defs _ _).mono (fun r h => ⟨fun c => (h c).2, Idealize.ShloMosaic.sem_eq_zero_of_no_sems (by decide) r.2⟩) (Cert.WeightInReferenceIdeal.Value.run m g)

end Cert.Proof.WeightIn

end
-- ==== Proof.Ffn.WeightOut.lean ====
/- The gradient of the weight of the projection out of the mixers: what the kernel leaves, entry by entry. -/
module

public import proofs.«01_k».proof.Proof.Gen.WeightOutIdeal.Value
public import proofs.«01_k».proof.Proof.Ffn.Product

@[expose] public section

set_option maxRecDepth 16384

noncomputable section

namespace Cert.WeightOutIdeal.Ffn

open Idealize.ShloMosaic Idealize.ShloMosaic.TcCoe Idealize.ShloMosaic.Tactic
open Cert.WeightOutIdeal Cert.WeightOutIdeal.Gen Cert.Ffn

/-- One grid point leaves the product of its two blocks. -/
theorem out_eq (c : Dev nD) (i : grid0.Coords) (a3 : Memref sig .tc .vmem S4224x512 .bf16) (h3 : a3.IsWhole) (a4 : Memref sig .tc .vmem S4224x1024 .bf16) (h4 : a4.IsWhole)
    (a5 : Memref sig .tc .vmem S512x1024 .bf16) (h5 : a5.IsWhole) (a6 : Memref sig .tc .vmem S8x128 .f32) (h6 : a6.IsWhole)
    (x : FVec Ideal S4224x512 .bf16) (y : FVec Ideal S4224x1024 .bf16) :
    out0_A_2 (F := Ideal) c i a3 h3 a4 h4 a5 h5 a6 h6 x y = k0_pay1 (F := Ideal) x y := by
  unfold out0_A_2
  rw [View.read_writes_eq_canon _ _ _ (cover0_A_2 (F := Ideal) c i a3 h3 a4 h4 a5 h5 a6 h6 x y)]
  unfold kernelRun0_A
  dsimp only
  rw [View.canon_unit_zero hz]
  simp only [View.readAt_eq_ld, h3.read_unread, h4.read_unread, View.ld_unit_zero (S := S4224x512) hz, View.ld_unit_zero (S := S4224x1024) hz]

theorem pay1_apply (x : FVec Ideal S4224x512 .bf16) (y : FVec Ideal S4224x1024 .bf16) (j : S512x1024.Idx) :
    k0_pay1 (F := Ideal) x y j = ∑ l : Fin 4224, x (ValueIdx.ix2 l (j 0)) * y (ValueIdx.ix2 l (j 1)) := by
  unfold k0_pay1
  simp only [shapeCast_self]
  idx_vars j
  pointwise
  rfl

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x2048 .f32) bitsLt_bf16_f32 : FVec Ideal S4224x2048 .bf16) := by
  simp only [V, List.flatten_cons, List.flatten_nil, List.cons_append, List.nil_append, List.append_nil]
  entry_read
  rfl

theorem V_v1 : V m c main_v1 = (truncf .bf16 (m (c.tc.loc main_arg1) : FVec Ideal S4224x2048 .f32) bitsLt_bf16_f32 : FVec Ideal S4224x2048 .bf16) := by
  simp only [V, List.flatten_cons, List.flatten_nil, List.cons_append, List.nil_append, List.append_nil]
  entry_read
  rfl

theorem iblk_0 (t : Fin cfg0.N) (j : S4224x512.Idx) : (iblk m c 0 t : FVec Ideal S4224x512 .bf16) j = (m (c.tc.loc main_arg0) : FVec Ideal S4224x2048 .f32) (((cfg0.win 0).blk t).view.emb j) := by
  show V m c main_v0 (((cfg0.win 0).blk t).view.emb j) = _
  rw [V_v0]
  rfl

theorem iblk_1 (t : Fin cfg0.N) (j : S4224x1024.Idx) : (iblk m c 1 t : FVec Ideal S4224x1024 .bf16) j = (m (c.tc.loc main_arg1) : FVec Ideal S4224x2048 .f32) (((cfg0.win 1).blk t).view.emb j) := by
  show V m c main_v1 (((cfg0.win 1).blk t).view.emb j) = _
  rw [V_v1]
  rfl

theorem arr : (dats m 0 c).arrAt 2 cfg0.N = tn (m (c.tc.loc main_arg0)) (m (c.tc.loc main_arg1)) := by
  refine (dats m 0 c).arrAt_eq_of_covers 2 _ (by decide +kernel) fun t hf y => ?_
  show (dats m 0 c).after 2 t y = tn _ _ (((cfg0.win 2).blk t).view.emb y)
  rw [after0_2]
  unfold outsAt0
  rw [out_eq, pay1_apply]
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · blk_simp [idx t]
  · show _ = (((cfg0.win 2).blk t).view.emb y 0).val; blk_simp [idx t]
  · blk_simp [idx t]
  · show _ = (((cfg0.win 2).blk t).view.emb y 1).val; blk_simp [idx t]

end Cert.WeightOutIdeal.Ffn

end
-- ==== Proof.Ffn.WeightOutPair.lean ====
/- The gradient of the weight of the projection out of the mixers, of the kernel and of the reference, equal. -/
module

public import proofs.«01_k».proof.Defs
public import proofs.«01_k».proof.Proof.Ffn.WeightOut
public import proofs.«01_k».proof.Proof.Gen.WeightOut
public import proofs.«01_k».proof.Proof.Gen.WeightOutReferenceIdeal.Run
public import Idealize.ShloMosaic.Lib.Claim

@[expose] public section

set_option maxRecDepth 16384
set_option maxHeartbeats 1600000

noncomputable section

namespace Cert.Proof.WeightOut

open Idealize.ShloMosaic Idealize.ShloMosaic.TcCoe Idealize.SL.Sem

section
open Cert.WeightOutReferenceIdeal Cert.WeightOutReferenceIdeal.Gen
theorem ref_eq (x : FVec Ideal S4224x2048 .f32) (y : FVec Ideal S4224x2048 .f32) :
    (truncf .bf16 (transpose S2048x2048 [1, 0] (Host.dotGeneral dot_S4224x2048_S4224x2048_S2048x2048_0_0_1_1_n_n none y x : FVec Ideal S2048x2048 .f32) transposes_S2048x2048_S2048x2048_1_0) bitsLt_bf16_f32 : FVec Ideal S2048x2048 .bf16) = Cert.Ffn.tn x y := by
  funext j
  unfold Cert.Ffn.tn
  idx_vars j
  pointwise
  exact Finset.sum_congr rfl fun l _ => mul_comm _ _
end

theorem algebraic : Cert.algebraic_WeightOutIdeal_WeightOutReferenceIdeal := by
  pair_intro
  · run_from (Cert.WeightOutIdeal.Value.run_blocks m g)
  · run_from (Cert.WeightOutReferenceIdeal.Value.run m' g')
    rw [Cert.WeightOutIdeal.Ffn.arr]
    exact ref_eq _ _

theorem frame_ideal : Cert.quiescent_WeightOutIdeal := fun m g _ => Cert.WeightOutIdeal.Gen.frame m g

theorem defs₀_eq : @Cert.WeightOut.defs₀ Bits _ Cert.WeightOut.Gen.facts = @Cert.WeightOutIdeal.defs₀ Bits _ Cert.WeightOutIdeal.Gen.facts := by
  unfold Cert.WeightOut.defs₀ Cert.WeightOutIdeal.defs₀
  refine congrArg Defs.onTc ?_
  funext n a
  match n, a with
  | 0, (t, s) => rfl
  | ⟨_ + 1, h⟩, _ => exact absurd h (Nat.not_lt.2 (Nat.le_add_left _ _))

theorem defs_eq : @Cert.WeightOut.defs Bits _ Cert.WeightOut.Gen.facts = @Cert.WeightOutIdeal.defs Bits _ Cert.WeightOutIdeal.Gen.facts :=
  congrArg (Pipeline.defs Cert.WeightOut.pcfgs) defs₀_eq

theorem main_eq : @Cert.WeightOut.main Bits _ Cert.WeightOut.Gen.facts = @Cert.WeightOutIdeal.main Bits _ Cert.WeightOutIdeal.Gen.facts := rfl

theorem frame : Cert.quiescent_WeightOut := by
  intro m g _
  rw [defs_eq, main_eq]
  exact (θ_run Cert.WeightOutIdeal.defs _ _).mono (fun _ h => h) (Cert.WeightOutIdeal.Gen.frame (F := Bits) m g)

theorem frame_reference : Cert.quiescent_WeightOutReferenceIdeal := by
  intro m g _
  refine (θ_run Cert.WeightOutReferenceIdeal.defs _ _).mono (fun r h => ⟨fun c => (h c).2, Idealize.ShloMosaic.sem_eq_zero_of_no_sems (by decide) r.2⟩) (Cert.WeightOutReferenceIdeal.Value.run m g)

end Cert.Proof.WeightOut

end
-- ==== Proof.Ffn.Merged.lean ====
/- The gradient through the projection out of the mixers: what the kernel leaves, entry by entry. -/
module

public import proofs.«01_k».proof.Proof.Gen.MergedIdeal.Value
public import proofs.«01_k».proof.Proof.Ffn.Product

@[expose] public section

set_option maxRecDepth 16384

noncomputable section

namespace Cert.MergedIdeal.Ffn

open Idealize.ShloMosaic Idealize.ShloMosaic.TcCoe Idealize.ShloMosaic.Tactic
open Cert.MergedIdeal Cert.MergedIdeal.Gen Cert.Ffn

/-- One grid point leaves the product of its two blocks. -/
theorem out_eq (c : Dev nD) (i : grid0.Coords) (a3 : Memref sig .tc .vmem S1408x2048 .bf16) (h3 : a3.IsWhole) (a4 : Memref sig .tc .vmem S1024x2048 .bf16) (h4 : a4.IsWhole)
    (a5 : Memref sig .tc .vmem S1408x1024 .f32) (h5 : a5.IsWhole) (a6 : Memref sig .tc .vmem S8x128 .f32) (h6 : a6.IsWhole)
    (x : FVec Ideal S1408x2048 .bf16) (y : FVec Ideal S1024x2048 .bf16) :
    out0_A_2 (F := Ideal) c i a3 h3 a4 h4 a5 h5 a6 h6 x y = k0_pay1 (F := Ideal) x y := by
  unfold out0_A_2
  rw [View.read_writes_eq_canon _ _ _ (cover0_A_2 (F := Ideal) c i a3 h3 a4 h4 a5 h5 a6 h6 x y)]
  unfold kernelRun0_A
  dsimp only
  rw [View.canon_unit_zero hz]
  simp only [View.readAt_eq_ld, h3.read_unread, h4.read_unread, View.ld_unit_zero (S := S1408x2048) hz, View.ld_unit_zero (S := S1024x2048) hz]

theorem pay1_apply (x : FVec Ideal S1408x2048 .bf16) (y : FVec Ideal S1024x2048 .bf16) (j : S1408x1024.Idx) :
    k0_pay1 (F := Ideal) x y j = ∑ l : Fin 2048, x (ValueIdx.ix2 (j 0) l) * y (ValueIdx.ix2 (j 1) l) := by
  unfold k0_pay1
  simp only [shapeCast_self]
  idx_vars j
  pointwise
  rfl

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x2048 .f32) bitsLt_bf16_f32 : FVec Ideal S4224x2048 .bf16) := by
  simp only [V, List.flatten_cons, List.flatten_nil, List.cons_append, List.nil_append, List.append_nil]
  entry_read
  rfl

theorem V_v1 : V m c main_v1 = (truncf .bf16 (m (c.tc.loc main_arg1) : FVec Ideal S2048x2048 .f32) bitsLt_bf16_f32 : FVec Ideal S2048x2048 .bf16) := by
  simp only [V, List.flatten_cons, List.flatten_nil, List.cons_append, List.nil_append, List.append_nil]
  entry_read
  rfl

theorem iblk_0 (t : Fin cfg0.N) (j : S1408x2048.Idx) : (iblk m c 0 t : FVec Ideal S1408x2048 .bf16) j = (m (c.tc.loc main_arg0) : FVec Ideal S4224x2048 .f32) (((cfg0.win 0).blk t).view.emb j) := by
  show V m c main_v0 (((cfg0.win 0).blk t).view.emb j) = _
  rw [V_v0]
  rfl

theorem iblk_1 (t : Fin cfg0.N) (j : S1024x2048.Idx) : (iblk m c 1 t : FVec Ideal S1024x2048 .bf16) j = (m (c.tc.loc main_arg1) : FVec Ideal S2048x2048 .f32) (((cfg0.win 1).blk t).view.emb j) := by
  show V m c main_v1 (((cfg0.win 1).blk t).view.emb j) = _
  rw [V_v1]
  rfl

theorem arr : (dats m 0 c).arrAt 2 cfg0.N = nt (m (c.tc.loc main_arg0)) (m (c.tc.loc main_arg1)) := by
  refine (dats m 0 c).arrAt_eq_of_covers 2 _ (by decide +kernel) fun t hf y => ?_
  show (dats m 0 c).after 2 t y = nt _ _ (((cfg0.win 2).blk t).view.emb y)
  rw [after0_2]
  unfold outsAt0
  rw [out_eq, pay1_apply]
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · show _ = (((cfg0.win 2).blk t).view.emb y 0).val; blk_simp [idx t]
  · blk_simp [idx t]
  · show _ = (((cfg0.win 2).blk t).view.emb y 1).val; blk_simp [idx t]
  · blk_simp [idx t]

end Cert.MergedIdeal.Ffn

end
-- ==== Proof.Ffn.MergedPair.lean ====
/- The gradient through the projection out of the mixers, of the kernel and of the reference, equal. -/
module

public import proofs.«01_k».proof.Defs
public import proofs.«01_k».proof.Proof.Ffn.Merged
public import proofs.«01_k».proof.Proof.Gen.Merged
public import proofs.«01_k».proof.Proof.Gen.MergedReferenceIdeal.Run
public import Idealize.ShloMosaic.Lib.Claim

@[expose] public section

set_option maxRecDepth 16384
set_option maxHeartbeats 1600000

noncomputable section

namespace Cert.Proof.Merged

open Idealize.ShloMosaic Idealize.ShloMosaic.TcCoe Idealize.SL.Sem

section
open Cert.MergedReferenceIdeal Cert.MergedReferenceIdeal.Gen
theorem ref_eq (x : FVec Ideal S4224x2048 .f32) (y : FVec Ideal S2048x2048 .f32) :
    (Host.dotGeneral dot_S4224x2048_S2048x2048_S4224x2048_1_1_0_0_n_n none x y : FVec Ideal S4224x2048 .f32) = Cert.Ffn.nt x y := by
  funext j
  unfold Cert.Ffn.nt
  idx_vars j
  pointwise
  rfl
end

theorem algebraic : Cert.algebraic_MergedIdeal_MergedReferenceIdeal := by
  pair_intro
  · run_from (Cert.MergedIdeal.Value.run_blocks m g)
  · run_from (Cert.MergedReferenceIdeal.Value.run m' g')
    rw [Cert.MergedIdeal.Ffn.arr]
    exact ref_eq _ _

theorem frame_ideal : Cert.quiescent_MergedIdeal := fun m g _ => Cert.MergedIdeal.Gen.frame m g

theorem defs₀_eq : @Cert.Merged.defs₀ Bits _ Cert.Merged.Gen.facts = @Cert.MergedIdeal.defs₀ Bits _ Cert.MergedIdeal.Gen.facts := by
  unfold Cert.Merged.defs₀ Cert.MergedIdeal.defs₀
  refine congrArg Defs.onTc ?_
  funext n a
  match n, a with
  | 0, (t, s) => rfl
  | ⟨_ + 1, h⟩, _ => exact absurd h (Nat.not_lt.2 (Nat.le_add_left _ _))

theorem defs_eq : @Cert.Merged.defs Bits _ Cert.Merged.Gen.facts = @Cert.MergedIdeal.defs Bits _ Cert.MergedIdeal.Gen.facts :=
  congrArg (Pipeline.defs Cert.Merged.pcfgs) defs₀_eq

theorem main_eq : @Cert.Merged.main Bits _ Cert.Merged.Gen.facts = @Cert.MergedIdeal.main Bits _ Cert.MergedIdeal.Gen.facts := rfl

theorem frame : Cert.quiescent_Merged := by
  intro m g _
  rw [defs_eq, main_eq]
  exact (θ_run Cert.MergedIdeal.defs _ _).mono (fun _ h => h) (Cert.MergedIdeal.Gen.frame (F := Bits) m g)

theorem frame_reference : Cert.quiescent_MergedReferenceIdeal := by
  intro m g _
  refine (θ_run Cert.MergedReferenceIdeal.defs _ _).mono (fun r h => ⟨fun c => (h c).2, Idealize.ShloMosaic.sem_eq_zero_of_no_sems (by decide) r.2⟩) (Cert.MergedReferenceIdeal.Value.run m g)

end Cert.Proof.Merged

end
-- ==== Proof.Ffn.BackIn.lean ====
/- The gradient through the mixers' common projection: what the kernel leaves is, entry by entry, the whole sum, gathered in
   three stretches. -/
module

public import proofs.«01_k».proof.Proof.Gen.BackInIdeal.Value
public import proofs.«01_k».proof.Proof.Ffn.Product

@[expose] public section

set_option maxRecDepth 16384

noncomputable section

namespace Cert.BackInIdeal.Ffn

open Finset (range)
open Idealize.ShloMosaic Idealize.ShloMosaic.TcCoe Idealize.ShloMosaic.Tactic
open Cert.BackInIdeal Cert.BackInIdeal.Gen Cert.Ffn

section
variable (c : Dev nD) (i : grid0.Coords) (a3 : Memref sig .tc .vmem S1408x1536 .bf16) (h3 : a3.IsWhole) (a4 : Memref sig .tc .vmem S1536x1024 .bf16) (h4 : a4.IsWhole)
  (a5 : Memref sig .tc .vmem S1408x1024 .f32) (h5 : a5.IsWhole) (a6 : Memref sig .tc .vmem S1408x1024 .f32) (h6 : a6.IsWhole)
  (x0 : FVec Ideal S1408x1536 .bf16) (x1 : FVec Ideal S1536x1024 .bf16) (xs : FVec Ideal S1408x1024 .f32)

/-- The first stretch starts the sum. -/
theorem sout_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1408x1536) hz, View.ld_unit_zero (S := S1536x1024) hz, shapeCast_self]

/-- A middle stretch adds to it. -/
theorem sout_B (hc0 : ¬cond0_0 i) (hc1 : cond0_1 i) (hc2 : ¬cond0_2 i) :
    sout0_B_0 (F := Ideal) c i a3 h3 a4 h4 a5 h5 a6 h6 hc0 hc1 hc2 x0 x1 xs = addf xs (k0_pay1 (F := Ideal) x0 x1) := by
  unfold sout0_B_0
  rw [View.read_writes_eq_canon _ _ _ (scover0_B_0 (F := Ideal) c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1408x1536) hz, View.ld_unit_zero (S := S1536x1024) hz, View.ld_unit_zero (S := S1408x1024) hz, shapeCast_self]

/-- The last adds to it and hands it on. -/
theorem out_C (hc0 : ¬cond0_0 i) (hc1 : cond0_1 i) (hc2 : cond0_2 i) :
    out0_C_2 (F := Ideal) c i a3 h3 a4 h4 a5 h5 a6 h6 hc0 hc1 hc2 x0 x1 xs = addf xs (k0_pay1 (F := Ideal) x0 x1) := by
  unfold out0_C_2
  rw [View.read_writes_eq_canon _ _ _ (cover0_C_2 (F := Ideal) c i a3 h3 a4 h4 a5 h5 a6 h6 hc0 hc1 hc2 x0 x1 xs)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S1408x1536) hz, View.ld_unit_zero (S := S1536x1024) hz, View.ld_unit_zero (S := S1408x1024) hz, shapeCast_self]
end

theorem pay1_apply (x : FVec Ideal S1408x1536 .bf16) (y : FVec Ideal S1536x1024 .bf16) (j : S1408x1024.Idx) :
    k0_pay1 (F := Ideal) x y j = ∑ l : Fin 1536, x (ValueIdx.ix2 (j 0) l) * y (ValueIdx.ix2 l (j 1)) := by
  unfold k0_pay1
  simp only [shapeCast_self]
  idx_vars j
  pointwise
  rfl

theorem idx : ∀ t : Fin cfg0.N, win0_0.index t = ![t.val / 3 / 2, t.val % 3] ∧ win0_1.index t = ![t.val % 3, t.val / 3 % 2] ∧ win0_2.index t = ![t.val / 3 / 2, t.val / 3 % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x4608 .f32) bitsLt_bf16_f32 : FVec Ideal S4224x4608 .bf16) := by
  simp only [V, List.flatten_cons, List.flatten_nil, List.cons_append, List.nil_append, List.append_nil]
  entry_read
  rfl

theorem V_v1 : V m c main_v1 = (truncf .bf16 (m (c.tc.loc main_arg1) : FVec Ideal S4608x2048 .f32) bitsLt_bf16_f32 : FVec Ideal S4608x2048 .bf16) := by
  simp only [V, List.flatten_cons, List.flatten_nil, List.cons_append, List.nil_append, List.append_nil]
  entry_read
  rfl

theorem iblk_0 (t : Fin cfg0.N) (j : S1408x1536.Idx) : (iblk m c 0 t : FVec Ideal S1408x1536 .bf16) j = (m (c.tc.loc main_arg0) : FVec Ideal S4224x4608 .f32) (((cfg0.win 0).blk t).view.emb j) := by
  show V m c main_v0 (((cfg0.win 0).blk t).view.emb j) = _
  rw [V_v0]
  rfl

theorem iblk_1 (t : Fin cfg0.N) (j : S1536x1024.Idx) : (iblk m c 1 t : FVec Ideal S1536x1024 .bf16) j = (m (c.tc.loc main_arg1) : FVec Ideal S4608x2048 .f32) (((cfg0.win 1).blk t).view.emb j) := by
  show V m c main_v1 (((cfg0.win 1).blk t).view.emb j) = _
  rw [V_v1]
  rfl

/-- The summands of the `q`-th run of points, at its block's place `y`. -/
def summand (y : S1408x1024.Idx) (q l : ℕ) : EReal :=
  term (m (c.tc.loc main_arg0) : FVec Ideal S4224x4608 .f32) (m (c.tc.loc main_arg1) : FVec Ideal S4608x2048 .f32) (1408 * (q / 2) + (y 0).val) (1024 * (q % 2) + (y 1).val) l

/-- A point's product, as a stretch of the whole sum. -/
theorem pay_eq (t : Fin cfg0.N) (y : S1408x1024.Idx) :
    (k0_pay1 (F := Ideal) (iblk m c 0 t) (iblk m c 1 t) y : EReal) = ∑ l ∈ range 1536, summand m c y (t.val / 3) (1536 * (t.val % 3) + l) := by
  have hN : t.val < 18 := lt_of_lt_of_eq t.isLt N_0
  have h0 : (y 0).val < 1408 := (y 0).isLt
  have h1 : (y 1).val < 1024 := (y 1).isLt
  rw [pay1_apply]
  refine (Finset.sum_congr (M := EReal) rfl fun l _ => congrArg₂ (fun u v : EReal => u * v) (iblk_0 m c t _) (iblk_1 m c t _)).trans
    (stretch (m (c.tc.loc main_arg0) : FVec Ideal S4224x4608 .f32) (m (c.tc.loc main_arg1) : FVec Ideal S4608x2048 .f32) 1536 _ _ _ (by omega) (by omega) (by omega) _ _ ?_ ?_ ?_ ?_)
  all_goals intro l; blk_simp [idx t]; exact congrArg (· + _) (Nat.mul_comm _ _)

/-- What the scratch holds after a point that is not the last of its run. -/
theorem scratch (y : S1408x1024.Idx) : ∀ (t : ℕ) (h : t < cfg0.N), ¬t % 3 = 2 →
    ((outsAt0 m c t h).2 y : EReal) = ∑ l ∈ range (1536 * (t % 3 + 1)), summand m c y (t / 3) l := by
  refine runs (summand m c y) 3 1536 (by decide) cfg0.N (fun t h => ((outsAt0 m c t h).2 y : EReal)) (fun t h h0 h3 => ?_) (fun t h h0 h3 => ⟨_, ?_, pay_eq m c ⟨t, h⟩ y⟩)
  · have e := outsAt0_A m c ⟨t, h⟩ h0 (by dsimp only; omega) h3
    dsimp only at e ⊢
    rw [e]
    dsimp only
    rw [sout_A]
    exact pay_eq m c ⟨t, h⟩ y
  · have e := outsAt0_B m c ⟨t, h⟩ h0 (by dsimp only; omega) h3
    dsimp only at e ⊢
    rw [e]
    dsimp only
    rw [sout_B]
    rfl

theorem arr : (dats m 0 c).arrAt 2 cfg0.N = nn (m (c.tc.loc main_arg0) : FVec Ideal S4224x4608 .f32) (m (c.tc.loc main_arg1) : FVec Ideal S4608x2048 .f32) := by
  refine (dats m 0 c).arrAt_eq_of_covers 2 _ (by decide +kernel) fun t hf y => ?_
  show (dats m 0 c).after 2 t y = nn _ _ (((cfg0.win 2).blk t).view.emb y)
  have h3 : t.val % 3 = 2 := (flush0_2 t).1 hf
  have hN : t.val < 18 := lt_of_lt_of_eq t.isLt N_0
  rw [after0_2, outsAt0_C m c t (by omega) (by omega) h3]
  dsimp only
  rw [out_C]
  refine (next_sum (summand m c y) 3 1536 (by decide) t.val (by omega) (scratch m c y (t.val - 1) _ (by omega)) (pay_eq m c t y)).trans ?_
  have r0 : (((cfg0.win 2).blk t).view.emb y 0).val = 1408 * (t.val / 3 / 2) + (y 0).val := by blk_simp [idx t]; exact congrArg (· + _) (Nat.mul_comm _ _)
  have r1 : (((cfg0.win 2).blk t).view.emb y 1).val = 1024 * (t.val / 3 % 2) + (y 1).val := by blk_simp [idx t]; exact congrArg (· + _) (Nat.mul_comm _ _)
  rw [nn_eq, r0, r1, h3]
  rfl

end Cert.BackInIdeal.Ffn

end
-- ==== Proof.Ffn.BackInPair.lean ====
/- The gradient through the mixers' common projection, of the kernel and of the reference, equal. -/
module

public import proofs.«01_k».proof.Defs
public import proofs.«01_k».proof.Proof.Ffn.BackIn
public import proofs.«01_k».proof.Proof.Gen.BackIn
public import proofs.«01_k».proof.Proof.Gen.BackInReferenceIdeal.Run
public import Idealize.ShloMosaic.Lib.Claim

@[expose] public section

set_option maxRecDepth 16384
set_option maxHeartbeats 1600000

noncomputable section

namespace Cert.Proof.BackIn

open Idealize.ShloMosaic Idealize.ShloMosaic.TcCoe Idealize.SL.Sem

section
open Cert.BackInReferenceIdeal Cert.BackInReferenceIdeal.Gen
theorem ref_eq (x : FVec Ideal S4224x4608 .f32) (y : FVec Ideal S4608x2048 .f32) :
    (Host.dotGeneral dot_S4224x4608_S2048x4608_S4224x2048_1_1_0_0_n_n none x (transpose S2048x4608 [1, 0] y transposes_S4608x2048_S2048x4608_1_0) : FVec Ideal S4224x2048 .f32) = Cert.Ffn.nn x y := by
  funext j
  unfold Cert.Ffn.nn
  idx_vars j
  pointwise
  rfl
end

theorem algebraic : Cert.algebraic_BackInIdeal_BackInReferenceIdeal := by
  pair_intro
  · run_from (Cert.BackInIdeal.Value.run_blocks m g)
  · run_from (Cert.BackInReferenceIdeal.Value.run m' g')
    rw [Cert.BackInIdeal.Ffn.arr]
    exact ref_eq _ _

theorem frame_ideal : Cert.quiescent_BackInIdeal := fun m g _ => Cert.BackInIdeal.Gen.frame m g

theorem defs₀_eq : @Cert.BackIn.defs₀ Bits _ Cert.BackIn.Gen.facts = @Cert.BackInIdeal.defs₀ Bits _ Cert.BackInIdeal.Gen.facts := by
  unfold Cert.BackIn.defs₀ Cert.BackInIdeal.defs₀
  refine congrArg Defs.onTc ?_
  funext n a
  match n, a with
  | 0, (t, s) => rfl
  | ⟨_ + 1, h⟩, _ => exact absurd h (Nat.not_lt.2 (Nat.le_add_left _ _))

theorem defs_eq : @Cert.BackIn.defs Bits _ Cert.BackIn.Gen.facts = @Cert.BackInIdeal.defs Bits _ Cert.BackInIdeal.Gen.facts :=
  congrArg (Pipeline.defs Cert.BackIn.pcfgs) defs₀_eq

theorem main_eq : @Cert.BackIn.main Bits _ Cert.BackIn.Gen.facts = @Cert.BackInIdeal.main Bits _ Cert.BackInIdeal.Gen.facts := rfl

theorem frame : Cert.quiescent_BackIn := by
  intro m g _
  rw [defs_eq, main_eq]
  exact (θ_run Cert.BackInIdeal.defs _ _).mono (fun _ h => h) (Cert.BackInIdeal.Gen.frame (F := Bits) m g)

theorem frame_reference : Cert.quiescent_BackInReferenceIdeal := by
  intro m g _
  refine (θ_run Cert.BackInReferenceIdeal.defs _ _).mono (fun r h => ⟨fun c => (h c).2, Idealize.ShloMosaic.sem_eq_zero_of_no_sems (by decide) r.2⟩) (Cert.BackInReferenceIdeal.Value.run m g)

end Cert.Proof.BackIn

end
-- ==== Proof.Ffn.Glu.lean ====
/- The gated product: what the kernel leaves of its two factors and of the product, entry by entry. -/
module

public import proofs.«01_k».proof.Proof.Gen.GluIdeal.Value
public import proofs.«01_k».proof.Proof.Ffn.Product

@[expose] public section

set_option maxRecDepth 16384

noncomputable section

namespace Cert.GluIdeal.Ffn

open Idealize.ShloMosaic Idealize.ShloMosaic.TcCoe Idealize.ShloMosaic.Tactic
open Cert.GluIdeal Cert.GluIdeal.Gen Cert.Ffn

/-- The gated product of the gate's input `a` and the other factor `b`. -/
def glu (a b : EReal) : EReal := a * Ideal.logistic a * b

theorem pay2_apply (x : FVec Ideal S1408x2048 .bf16) (y : FVec Ideal S512x2048 .bf16) (j : S1408x512.Idx) :
    k0_pay2 (F := Ideal) x y j = nt x y j := by
  unfold k0_pay2 k0_pay1 nt
  simp only [shapeCast_self]
  idx_vars j
  pointwise
  rfl

theorem pay3_apply (x : FVec Ideal S1408x2048 .bf16) (y : FVec Ideal S512x2048 .bf16) (j : S1408x512.Idx) :
    k0_pay3 (F := Ideal) x y j = nt x y j := by
  unfold k0_pay3 k0_pay1 nt
  simp only [shapeCast_self]
  idx_vars j
  pointwise
  rfl

theorem out3_apply (x : FVec Ideal S1408x2048 .bf16) (y z : FVec Ideal S512x2048 .bf16) (j : S1408x512.Idx) :
    out0_3 (F := Ideal) x y z j = nt x y j := by
  unfold out0_3
  rw [View.canon_unit_zero hz, View.ld_unit_zero (S := S1408x2048) hz, View.ld_unit_zero (S := S512x2048) hz]
  exact pay2_apply x y j

theorem out4_apply (x : FVec Ideal S1408x2048 .bf16) (y z : FVec Ideal S512x2048 .bf16) (j : S1408x512.Idx) :
    out0_4 (F := Ideal) x y z j = nt x z j := by
  unfold out0_4
  rw [View.canon_unit_zero hz, View.ld_unit_zero (S := S1408x2048) hz, View.ld_unit_zero (S := S512x2048) hz]
  exact pay3_apply x z j

theorem out5_apply (x : FVec Ideal S1408x2048 .bf16) (y z : FVec Ideal S512x2048 .bf16) (j : S1408x512.Idx) :
    out0_5 (F := Ideal) x y z j = glu (nt x y j) (nt x z j) := by
  unfold out0_5
  rw [View.canon_unit_zero hz, View.ld_unit_zero (S := S1408x2048) hz, View.ld_unit_zero (S := S512x2048) hz, View.ld_unit_zero (S := S512x2048) hz]
  rw [← pay2_apply, ← pay3_apply, glu]
  rfl

theorem idx : ∀ t : Fin cfg0.N, win0_0.index t = ![t.val / 11, 0] ∧ win0_1.index t = ![t.val % 11, 0] ∧ win0_2.index t = ![t.val % 11, 0]
    ∧ win0_3.index t = ![t.val / 11, t.val % 11] ∧ win0_4.index t = ![t.val / 11, t.val % 11] ∧ win0_5.index t = ![t.val / 11, t.val % 11] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x2048 .f32) bitsLt_bf16_f32 : FVec Ideal S4224x2048 .bf16) := by
  simp only [V, List.flatten_cons, List.flatten_nil, List.cons_append, List.nil_append, List.append_nil]
  entry_read
  rfl

theorem V_v1 : V m c main_v1 = (truncf .bf16 (m (c.tc.loc main_arg1) : FVec Ideal S5632x2048 .f32) bitsLt_bf16_f32 : FVec Ideal S5632x2048 .bf16) := by
  simp only [V, List.flatten_cons, List.flatten_nil, List.cons_append, List.nil_append, List.append_nil]
  entry_read
  rfl

theorem V_v2 : V m c main_v2 = (truncf .bf16 (m (c.tc.loc main_arg2) : FVec Ideal S5632x2048 .f32) bitsLt_bf16_f32 : FVec Ideal S5632x2048 .bf16) := by
  simp only [V, List.flatten_cons, List.flatten_nil, List.cons_append, List.nil_append, List.append_nil]
  entry_read
  rfl

theorem iblk_0 (t : Fin cfg0.N) (j : S1408x2048.Idx) : (iblk m c 0 t : FVec Ideal S1408x2048 .bf16) j = (m (c.tc.loc main_arg0) : FVec Ideal S4224x2048 .f32) (((cfg0.win 0).blk t).view.emb j) := by
  show V m c main_v0 (((cfg0.win 0).blk t).view.emb j) = _
  rw [V_v0]
  rfl

theorem iblk_1 (t : Fin cfg0.N) (j : S512x2048.Idx) : (iblk m c 1 t : FVec Ideal S512x2048 .bf16) j = (m (c.tc.loc main_arg1) : FVec Ideal S5632x2048 .f32) (((cfg0.win 1).blk t).view.emb j) := by
  show V m c main_v1 (((cfg0.win 1).blk t).view.emb j) = _
  rw [V_v1]
  rfl

theorem iblk_2 (t : Fin cfg0.N) (j : S512x2048.Idx) : (iblk m c 2 t : FVec Ideal S512x2048 .bf16) j = (m (c.tc.loc main_arg2) : FVec Ideal S5632x2048 .f32) (((cfg0.win 2).blk t).view.emb j) := by
  show V m c main_v2 (((cfg0.win 2).blk t).view.emb j) = _
  rw [V_v2]
  rfl

theorem nt_blk1 (t : Fin cfg0.N) (y : S1408x512.Idx) :
    nt (iblk m c 0 t : FVec Ideal S1408x2048 .bf16) (iblk m c 1 t : FVec Ideal S512x2048 .bf16) y = nt (m (c.tc.loc main_arg0) : FVec Ideal S4224x2048 .f32) (m (c.tc.loc main_arg1) : FVec Ideal S5632x2048 .f32) (((cfg0.win 3).blk t).view.emb y) := by
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · show _ = (((cfg0.win 3).blk t).view.emb y 0).val; blk_simp [idx t]
  · blk_simp [idx t]
  · show _ = (((cfg0.win 3).blk t).view.emb y 1).val; blk_simp [idx t]
  · blk_simp [idx t]

theorem nt_blk2 (t : Fin cfg0.N) (y : S1408x512.Idx) :
    nt (iblk m c 0 t : FVec Ideal S1408x2048 .bf16) (iblk m c 2 t : FVec Ideal S512x2048 .bf16) y = nt (m (c.tc.loc main_arg0) : FVec Ideal S4224x2048 .f32) (m (c.tc.loc main_arg2) : FVec Ideal S5632x2048 .f32) (((cfg0.win 3).blk t).view.emb y) := by
  refine Finset.sum_congr (M := EReal) rfl fun l _ => congrArg₂ (fun u v : EReal => u * v) ((iblk_0 m c t _).trans (congrArg _ (ext2 ?_ ?_))) ((iblk_2 m c t _).trans (congrArg _ (ext2 ?_ ?_)))
  · show _ = (((cfg0.win 3).blk t).view.emb y 0).val; blk_simp [idx t]
  · blk_simp [idx t]
  · show _ = (((cfg0.win 3).blk t).view.emb y 1).val; blk_simp [idx t]
  · blk_simp [idx t]

theorem emb_eq4 (t : Fin cfg0.N) (y : S1408x512.Idx) : ((cfg0.win 4).blk t).view.emb y = ((cfg0.win 3).blk t).view.emb y := by
  refine ext2 ?_ ?_ <;> blk_simp [idx t]

theorem emb_eq5 (t : Fin cfg0.N) (y : S1408x512.Idx) : ((cfg0.win 5).blk t).view.emb y = ((cfg0.win 3).blk t).view.emb y := by
  refine ext2 ?_ ?_ <;> blk_simp [idx t]

/-- One of the two factors, entry by entry. -/
def factor (x : FVec Ideal S4224x2048 .f32) (y : FVec Ideal S5632x2048 .f32) (j : S4224x5632.Idx) : EReal := nt x y j

theorem a_arr : (dats m 0 c).arrAt 3 cfg0.N = factor (m (c.tc.loc main_arg0)) (m (c.tc.loc main_arg1)) := by
  refine (dats m 0 c).arrAt_eq_of_covers 3 _ (by decide +kernel) fun t hf y => ?_
  show (dats m 0 c).after 3 t y = factor _ _ (((cfg0.win 3).blk t).view.emb y)
  rw [after0_3, out3_apply, nt_blk1]
  rfl

theorem b_arr : (dats m 0 c).arrAt 4 cfg0.N = factor (m (c.tc.loc main_arg0)) (m (c.tc.loc main_arg2)) := by
  refine (dats m 0 c).arrAt_eq_of_covers 4 _ (by decide +kernel) fun t hf y => ?_
  show (dats m 0 c).after 4 t y = factor _ _ (((cfg0.win 4).blk t).view.emb y)
  rw [after0_4, out4_apply, nt_blk2, emb_eq4]
  rfl

theorem act_arr : (dats m 0 c).arrAt 5 cfg0.N = fun j => glu (factor (m (c.tc.loc main_arg0)) (m (c.tc.loc main_arg1)) j) (factor (m (c.tc.loc main_arg0)) (m (c.tc.loc main_arg2)) j) := by
  refine (dats m 0 c).arrAt_eq_of_covers 5 _ (by decide +kernel) fun t hf y => ?_
  show (dats m 0 c).after 5 t y = glu (factor _ _ (((cfg0.win 5).blk t).view.emb y)) (factor _ _ (((cfg0.win 5).blk t).view.emb y))
  rw [after0_5, out5_apply, nt_blk1, nt_blk2, emb_eq5]
  rfl

end Cert.GluIdeal.Ffn

end
-- ==== Proof.Ffn.GluPair.lean ====
/- The gated product and its two factors, of the kernel and of the reference, equal. -/
module

public import proofs.«01_k».proof.Defs
public import proofs.«01_k».proof.Proof.Ffn.Glu
public import proofs.«01_k».proof.Proof.Real.Ops
public import proofs.«01_k».proof.Proof.Gen.Glu
public import proofs.«01_k».proof.Proof.Gen.GluReferenceIdeal.Run
public import Idealize.ShloMosaic.Lib.Claim

@[expose] public section

set_option maxRecDepth 16384
set_option maxHeartbeats 1600000

noncomputable section

namespace Cert.Proof.Glu

open Idealize.ShloMosaic Idealize.ShloMosaic.TcCoe Idealize.SL.Sem

section
open Cert.GluReferenceIdeal Cert.GluReferenceIdeal.Gen
/-- The reference's factor of the product. -/
def fac (x : FVec Ideal S4224x2048 .f32) (y : FVec Ideal S5632x2048 .f32) : FVec Ideal S4224x5632 .f32 :=
  Host.dotGeneral dot_S4224x2048_S2048x5632_S4224x5632_1_0_0_1_n_n none x (transpose S2048x5632 [1, 0] y transposes_S5632x2048_S2048x5632_1_0)

theorem fac_eq (x : FVec Ideal S4224x2048 .f32) (y : FVec Ideal S5632x2048 .f32) : fac x y = Cert.GluIdeal.Ffn.factor x y := by
  funext j
  unfold fac Cert.GluIdeal.Ffn.factor Cert.Ffn.nt
  idx_vars j
  pointwise
  rfl

/-- The reference's product. -/
theorem act_eq (x : FVec Ideal S4224x2048 .f32) (y z : FVec Ideal S5632x2048 .f32) :
    (truncf .bf16 (mulf (mulf (fac x y) (Host.divf (broadcastInDim S4224x5632 ![] bcast_S_S4224x5632 (constant S_ .f32 0x3F800000#32))
      (addf (broadcastInDim S4224x5632 ![] bcast_S_S4224x5632 (constant S_ .f32 0x3F800000#32)) (Host.exp (Host.negf (fac x y)))))) (fac x z)) bitsLt_bf16_f32 : FVec Ideal S4224x5632 .bf16)
      = fun j => Cert.GluIdeal.Ffn.glu (Cert.GluIdeal.Ffn.factor x y j) (Cert.GluIdeal.Ffn.factor x z j) := by
  funext j
  rw [← fac_eq, ← fac_eq]
  unfold Cert.GluIdeal.Ffn.glu Ideal.logistic
  rw [← Cert.Attn.ofBits_one.trans EReal.coe_one]
  rfl
end

theorem algebraic : Cert.algebraic_GluIdeal_GluReferenceIdeal := by
  pair_intro
  · run_from (Cert.GluIdeal.Value.run_blocks m g)
  · run_from (Cert.GluReferenceIdeal.Value.run m' g')
    · rw [Cert.GluIdeal.Ffn.a_arr]
      exact fac_eq _ _
    · rw [Cert.GluIdeal.Ffn.b_arr]
      exact fac_eq _ _
    · rw [Cert.GluIdeal.Ffn.act_arr]
      exact act_eq _ _ _

theorem frame_ideal : Cert.quiescent_GluIdeal := fun m g _ => Cert.GluIdeal.Gen.frame m g

theorem defs₀_eq : @Cert.Glu.defs₀ Bits _ Cert.Glu.Gen.facts = @Cert.GluIdeal.defs₀ Bits _ Cert.GluIdeal.Gen.facts := by
  unfold Cert.Glu.defs₀ Cert.GluIdeal.defs₀
  refine congrArg Defs.onTc ?_
  funext n a
  match n, a with
  | 0, (t, s) => rfl
  | ⟨_ + 1, h⟩, _ => exact absurd h (Nat.not_lt.2 (Nat.le_add_left _ _))

theorem defs_eq : @Cert.Glu.defs Bits _ Cert.Glu.Gen.facts = @Cert.GluIdeal.defs Bits _ Cert.GluIdeal.Gen.facts :=
  congrArg (Pipeline.defs Cert.Glu.pcfgs) defs₀_eq

theorem main_eq : @Cert.Glu.main Bits _ Cert.Glu.Gen.facts = @Cert.GluIdeal.main Bits _ Cert.GluIdeal.Gen.facts := rfl

theorem frame : Cert.quiescent_Glu := by
  intro m g _
  rw [defs_eq, main_eq]
  exact (θ_run Cert.GluIdeal.defs _ _).mono (fun _ h => h) (Cert.GluIdeal.Gen.frame (F := Bits) m g)

theorem frame_reference : Cert.quiescent_GluReferenceIdeal := by
  intro m g _
  refine (θ_run Cert.GluReferenceIdeal.defs _ _).mono (fun r h => ⟨fun c => (h c).2.2.2, Idealize.ShloMosaic.sem_eq_zero_of_no_sems (by decide) r.2⟩) (Cert.GluReferenceIdeal.Value.run m g)

end Cert.Proof.Glu

end
-- ==== Proof.Ffn.MmDown.lean ====
/- The projection down: what the kernel leaves is, entry by entry, the whole sum, gathered in four stretches. -/
module

public import proofs.«01_k».proof.Proof.Gen.MmDownIdeal.Value
public import proofs.«01_k».proof.Proof.Ffn.Product

@[expose] public section

set_option maxRecDepth 16384

noncomputable section

namespace Cert.MmDownIdeal.Ffn

open Finset (range)
open Idealize.ShloMosaic Idealize.ShloMosaic.TcCoe Idealize.ShloMosaic.Tactic
open Cert.MmDownIdeal Cert.MmDownIdeal.Gen Cert.Ffn

section
variable (c : Dev nD) (i : grid0.Coords) (a3 : Memref sig .tc .vmem S1408x1408 .bf16) (h3 : a3.IsWhole) (a4 : Memref sig .tc .vmem S1408x1024 .bf16) (h4 : a4.IsWhole)
  (a5 : Memref sig .tc .vmem S1408x1024 .f32) (h5 : a5.IsWhole) (a6 : Memref sig .tc .vmem S1408x1024 .f32) (h6 : a6.IsWhole)
  (x0 : FVec Ideal S1408x1408 .bf16) (x1 : FVec Ideal S1408x1024 .bf16) (xs : FVec Ideal S1408x1024 .f32)

/-- The first stretch starts the sum. -/
theorem sout_A (hc0 : cond0_0 i) (hc1 : ¬cond0_1 i) (hc2 : ¬cond0_2 i) :
    sout0_A_0 (F := Ideal) c i a3 h3 a4 h4 a5 h5 a6 h6 hc0 hc1 hc2 x0 x1 = k0_pay1 (F := Ideal) x0 x1 := by
  unfold sout0_A_0
  rw [View.read_writes_eq_canon _ _ _ (scover0_A_0 (F := Ideal) c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S1408x1408) hz, View.ld_unit_zero (S := S1408x1024) hz, shapeCast_self]

/-- A middle stretch adds to it. -/
theorem sout_B (hc0 : ¬cond0_0 i) (hc1 : cond0_1 i) (hc2 : ¬cond0_2 i) :
    sout0_B_0 (F := Ideal) c i a3 h3 a4 h4 a5 h5 a6 h6 hc0 hc1 hc2 x0 x1 xs = addf xs (k0_pay1 (F := Ideal) x0 x1) := by
  unfold sout0_B_0
  rw [View.read_writes_eq_canon _ _ _ (scover0_B_0 (F := Ideal) c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S1408x1408) hz, View.ld_unit_zero (S := S1408x1024) hz, shapeCast_self]

/-- The last adds to it and hands it on. -/
theorem out_C (hc0 : ¬cond0_0 i) (hc1 : cond0_1 i) (hc2 : cond0_2 i) :
    out0_C_2 (F := Ideal) c i a3 h3 a4 h4 a5 h5 a6 h6 hc0 hc1 hc2 x0 x1 xs = addf xs (k0_pay1 (F := Ideal) x0 x1) := by
  unfold out0_C_2
  rw [View.read_writes_eq_canon _ _ _ (cover0_C_2 (F := Ideal) c i a3 h3 a4 h4 a5 h5 a6 h6 hc0 hc1 hc2 x0 x1 xs)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S1408x1408) hz, View.ld_unit_zero (S := S1408x1024) hz, shapeCast_self]
end

theorem pay1_apply (x : FVec Ideal S1408x1408 .bf16) (y : FVec Ideal S1408x1024 .bf16) (j : S1408x1024.Idx) :
    k0_pay1 (F := Ideal) x y j = ∑ l : Fin 1408, x (ValueIdx.ix2 (j 0) l) * y (ValueIdx.ix2 l (j 1)) := by
  unfold k0_pay1
  simp only [shapeCast_self]
  idx_vars j
  pointwise
  rfl

theorem idx : ∀ t : Fin cfg0.N, win0_0.index t = ![t.val / 4 / 2, t.val % 4] ∧ win0_1.index t = ![t.val % 4, t.val / 4 % 2] ∧ win0_2.index t = ![t.val / 4 / 2, t.val / 4 % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x5632 .f32) bitsLt_bf16_f32 : FVec Ideal S4224x5632 .bf16) := by
  simp only [V, List.flatten_cons, List.flatten_nil, List.cons_append, List.nil_append, List.append_nil]
  entry_read
  rfl

theorem V_v1 : V m c main_v1 = (truncf .bf16 (m (c.tc.loc main_arg1) : FVec Ideal S5632x2048 .f32) bitsLt_bf16_f32 : FVec Ideal S5632x2048 .bf16) := by
  simp only [V, List.flatten_cons, List.flatten_nil, List.cons_append, List.nil_append, List.append_nil]
  entry_read
  rfl

theorem iblk_0 (t : Fin cfg0.N) (j : S1408x1408.Idx) : (iblk m c 0 t : FVec Ideal S1408x1408 .bf16) j = (m (c.tc.loc main_arg0) : FVec Ideal S4224x5632 .f32) (((cfg0.win 0).blk t).view.emb j) := by
  show V m c main_v0 (((cfg0.win 0).blk t).view.emb j) = _
  rw [V_v0]
  rfl

theorem iblk_1 (t : Fin cfg0.N) (j : S1408x1024.Idx) : (iblk m c 1 t : FVec Ideal S1408x1024 .bf16) j = (m (c.tc.loc main_arg1) : FVec Ideal S5632x2048 .f32) (((cfg0.win 1).blk t).view.emb j) := by
  show V m c main_v1 (((cfg0.win 1).blk t).view.emb j) = _
  rw [V_v1]
  rfl

/-- The summands of the `q`-th run of points, at its block's place `y`. -/
def summand (y : S1408x1024.Idx) (q l : ℕ) : EReal :=
  term (m (c.tc.loc main_arg0) : FVec Ideal S4224x5632 .f32) (m (c.tc.loc main_arg1) : FVec Ideal S5632x2048 .f32) (1408 * (q / 2) + (y 0).val) (1024 * (q % 2) + (y 1).val) l

/-- A point's product, as a stretch of the whole sum. -/
theorem pay_eq (t : Fin cfg0.N) (y : S1408x1024.Idx) :
    (k0_pay1 (F := Ideal) (iblk m c 0 t) (iblk m c 1 t) y : EReal) = ∑ l ∈ range 1408, summand m c y (t.val / 4) (1408 * (t.val % 4) + l) := by
  have hN : t.val < 24 := lt_of_lt_of_eq t.isLt N_0
  have h0 : (y 0).val < 1408 := (y 0).isLt
  have h1 : (y 1).val < 1024 := (y 1).isLt
  rw [pay1_apply]
  refine (Finset.sum_congr (M := EReal) rfl fun l _ => congrArg₂ (fun u v : EReal => u * v) (iblk_0 m c t _) (iblk_1 m c t _)).trans
    (stretch (m (c.tc.loc main_arg0) : FVec Ideal S4224x5632 .f32) (m (c.tc.loc main_arg1) : FVec Ideal S5632x2048 .f32) 1408 _ _ _ (by omega) (by omega) (by omega) _ _ ?_ ?_ ?_ ?_)
  all_goals intro l; blk_simp [idx t]; exact congrArg (· + _) (Nat.mul_comm _ _)

/-- What the scratch holds after a point that is not the last of its run. -/
theorem scratch (y : S1408x1024.Idx) : ∀ (t : ℕ) (h : t < cfg0.N), ¬t % 4 = 3 →
    ((outsAt0 m c t h).2 y : EReal) = ∑ l ∈ range (1408 * (t % 4 + 1)), summand m c y (t / 4) l := by
  refine runs (summand m c y) 4 1408 (by decide) cfg0.N (fun t h => ((outsAt0 m c t h).2 y : EReal)) (fun t h h0 h3 => ?_) (fun t h h0 h3 => ⟨_, ?_, pay_eq m c ⟨t, h⟩ y⟩)
  · have e := outsAt0_A m c ⟨t, h⟩ h0 (by dsimp only; omega) h3
    dsimp only at e ⊢
    rw [e]
    dsimp only
    rw [sout_A]
    exact pay_eq m c ⟨t, h⟩ y
  · have e := outsAt0_B m c ⟨t, h⟩ h0 (by dsimp only; omega) h3
    dsimp only at e ⊢
    rw [e]
    dsimp only
    rw [sout_B]
    rfl

theorem arr : (dats m 0 c).arrAt 2 cfg0.N = nn (m (c.tc.loc main_arg0) : FVec Ideal S4224x5632 .f32) (m (c.tc.loc main_arg1) : FVec Ideal S5632x2048 .f32) := by
  refine (dats m 0 c).arrAt_eq_of_covers 2 _ (by decide +kernel) fun t hf y => ?_
  show (dats m 0 c).after 2 t y = nn _ _ (((cfg0.win 2).blk t).view.emb y)
  have h3 : t.val % 4 = 3 := (flush0_2 t).1 hf
  have hN : t.val < 24 := lt_of_lt_of_eq t.isLt N_0
  rw [after0_2, outsAt0_C m c t (by omega) (by omega) h3]
  dsimp only
  rw [out_C]
  refine (next_sum (summand m c y) 4 1408 (by decide) t.val (by omega) (scratch m c y (t.val - 1) _ (by omega)) (pay_eq m c t y)).trans ?_
  have r0 : (((cfg0.win 2).blk t).view.emb y 0).val = 1408 * (t.val / 4 / 2) + (y 0).val := by blk_simp [idx t]; exact congrArg (· + _) (Nat.mul_comm _ _)
  have r1 : (((cfg0.win 2).blk t).view.emb y 1).val = 1024 * (t.val / 4 % 2) + (y 1).val := by blk_simp [idx t]; exact congrArg (· + _) (Nat.mul_comm _ _)
  rw [nn_eq, r0, r1, h3]
  rfl

end Cert.MmDownIdeal.Ffn

end
-- ==== Proof.Ffn.MmDownPair.lean ====
/- The projection down, of the kernel and of the reference, equal. -/
module

public import proofs.«01_k».proof.Defs
public import proofs.«01_k».proof.Proof.Ffn.MmDown
public import proofs.«01_k».proof.Proof.Gen.MmDown
public import proofs.«01_k».proof.Proof.Gen.MmDownReferenceIdeal.Run
public import Idealize.ShloMosaic.Lib.Claim

@[expose] public section

set_option maxRecDepth 16384
set_option maxHeartbeats 1600000

noncomputable section

namespace Cert.Proof.MmDown

open Idealize.ShloMosaic Idealize.ShloMosaic.TcCoe Idealize.SL.Sem

section
open Cert.MmDownReferenceIdeal Cert.MmDownReferenceIdeal.Gen
theorem ref_eq (x : FVec Ideal S4224x5632 .f32) (y : FVec Ideal S5632x2048 .f32) :
    (Host.dotGeneral dot_S4224x5632_S5632x2048_S4224x2048_1_0_0_1_n_n none x y : FVec Ideal S4224x2048 .f32) = Cert.Ffn.nn x y := by
  funext j
  unfold Cert.Ffn.nn
  idx_vars j
  pointwise
  rfl
end

theorem algebraic : Cert.algebraic_MmDownIdeal_MmDownReferenceIdeal := by
  pair_intro
  · run_from (Cert.MmDownIdeal.Value.run_blocks m g)
  · run_from (Cert.MmDownReferenceIdeal.Value.run m' g')
    rw [Cert.MmDownIdeal.Ffn.arr]
    exact ref_eq _ _

theorem frame_ideal : Cert.quiescent_MmDownIdeal := fun m g _ => Cert.MmDownIdeal.Gen.frame m g

theorem defs₀_eq : @Cert.MmDown.defs₀ Bits _ Cert.MmDown.Gen.facts = @Cert.MmDownIdeal.defs₀ Bits _ Cert.MmDownIdeal.Gen.facts := by
  unfold Cert.MmDown.defs₀ Cert.MmDownIdeal.defs₀
  refine congrArg Defs.onTc ?_
  funext n a
  match n, a with
  | 0, (t, s) => rfl
  | ⟨_ + 1, h⟩, _ => exact absurd h (Nat.not_lt.2 (Nat.le_add_left _ _))

theorem defs_eq : @Cert.MmDown.defs Bits _ Cert.MmDown.Gen.facts = @Cert.MmDownIdeal.defs Bits _ Cert.MmDownIdeal.Gen.facts :=
  congrArg (Pipeline.defs Cert.MmDown.pcfgs) defs₀_eq

theorem main_eq : @Cert.MmDown.main Bits _ Cert.MmDown.Gen.facts = @Cert.MmDownIdeal.main Bits _ Cert.MmDownIdeal.Gen.facts := rfl

theorem frame : Cert.quiescent_MmDown := by
  intro m g _
  rw [defs_eq, main_eq]
  exact (θ_run Cert.MmDownIdeal.defs _ _).mono (fun _ h => h) (Cert.MmDownIdeal.Gen.frame (F := Bits) m g)

theorem frame_reference : Cert.quiescent_MmDownReferenceIdeal := by
  intro m g _
  refine (θ_run Cert.MmDownReferenceIdeal.defs _ _).mono (fun r h => ⟨fun c => (h c).2, Idealize.ShloMosaic.sem_eq_zero_of_no_sems (by decide) r.2⟩) (Cert.MmDownReferenceIdeal.Value.run m g)

end Cert.Proof.MmDown

end
-- ==== Proof.Ffn.MmIn.lean ====
/- The mixers' common projection: what the kernel leaves, entry by entry. -/
module

public import proofs.«01_k».proof.Proof.Gen.MmInIdeal.Value
public import proofs.«01_k».proof.Proof.Ffn.Product

@[expose] public section

set_option maxRecDepth 16384

noncomputable section

namespace Cert.MmInIdeal.Ffn

open Idealize.ShloMosaic Idealize.ShloMosaic.TcCoe Idealize.ShloMosaic.Tactic
open Cert.MmInIdeal Cert.MmInIdeal.Gen Cert.Ffn

/-- One grid point leaves the product of its two blocks. -/
theorem out_eq (c : Dev nD) (i : grid0.Coords) (a3 : Memref sig .tc .vmem S1408x2048 .bf16) (h3 : a3.IsWhole) (a4 : Memref sig .tc .vmem S768x2048 .bf16) (h4 : a4.IsWhole)
    (a5 : Memref sig .tc .vmem S1408x768 .f32) (h5 : a5.IsWhole) (a6 : Memref sig .tc .vmem S8x128 .f32) (h6 : a6.IsWhole)
    (x : FVec Ideal S1408x2048 .bf16) (y : FVec Ideal S768x2048 .bf16) :
    out0_A_2 (F := Ideal) c i a3 h3 a4 h4 a5 h5 a6 h6 x y = k0_pay1 (F := Ideal) x y := by
  unfold out0_A_2
  rw [View.read_writes_eq_canon _ _ _ (cover0_A_2 (F := Ideal) c i a3 h3 a4 h4 a5 h5 a6 h6 x y)]
  unfold kernelRun0_A
  dsimp only
  rw [View.canon_unit_zero hz]
  simp only [View.readAt_eq_ld, h3.read_unread, h4.read_unread, View.ld_unit_zero (S := S1408x2048) hz, View.ld_unit_zero (S := S768x2048) hz]

theorem pay1_apply (x : FVec Ideal S1408x2048 .bf16) (y : FVec Ideal S768x2048 .bf16) (j : S1408x768.Idx) :
    k0_pay1 (F := Ideal) x y j = ∑ l : Fin 2048, x (ValueIdx.ix2 (j 0) l) * y (ValueIdx.ix2 (j 1) l) := by
  unfold k0_pay1
  simp only [shapeCast_self]
  idx_vars j
  pointwise
  rfl

theorem idx : ∀ t : Fin cfg0.N, win0_0.index t = ![t.val / 6, 0] ∧ win0_1.index t = ![t.val % 6, 0] ∧ win0_2.index t = ![t.val / 6, t.val % 6] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x2048 .f32) bitsLt_bf16_f32 : FVec Ideal S4224x2048 .bf16) := by
  simp only [V, List.flatten_cons, List.flatten_nil, List.cons_append, List.nil_append, List.append_nil]
  entry_read
  rfl

theorem V_v1 : V m c main_v1 = (truncf .bf16 (m (c.tc.loc main_arg1) : FVec Ideal S4608x2048 .f32) bitsLt_bf16_f32 : FVec Ideal S4608x2048 .bf16) := by
  simp only [V, List.flatten_cons, List.flatten_nil, List.cons_append, List.nil_append, List.append_nil]
  entry_read
  rfl

theorem iblk_0 (t : Fin cfg0.N) (j : S1408x2048.Idx) : (iblk m c 0 t : FVec Ideal S1408x2048 .bf16) j = (m (c.tc.loc main_arg0) : FVec Ideal S4224x2048 .f32) (((cfg0.win 0).blk t).view.emb j) := by
  show V m c main_v0 (((cfg0.win 0).blk t).view.emb j) = _
  rw [V_v0]
  rfl

theorem iblk_1 (t : Fin cfg0.N) (j : S768x2048.Idx) : (iblk m c 1 t : FVec Ideal S768x2048 .bf16) j = (m (c.tc.loc main_arg1) : FVec Ideal S4608x2048 .f32) (((cfg0.win 1).blk t).view.emb j) := by
  show V m c main_v1 (((cfg0.win 1).blk t).view.emb j) = _
  rw [V_v1]
  rfl

theorem arr : (dats m 0 c).arrAt 2 cfg0.N = nt (m (c.tc.loc main_arg0)) (m (c.tc.loc main_arg1)) := by
  refine (dats m 0 c).arrAt_eq_of_covers 2 _ (by decide +kernel) fun t hf y => ?_
  show (dats m 0 c).after 2 t y = nt _ _ (((cfg0.win 2).blk t).view.emb y)
  rw [after0_2]
  unfold outsAt0
  rw [out_eq, pay1_apply]
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · show _ = (((cfg0.win 2).blk t).view.emb y 0).val; blk_simp [idx t]
  · blk_simp [idx t]
  · show _ = (((cfg0.win 2).blk t).view.emb y 1).val; blk_simp [idx t]
  · blk_simp [idx t]

end Cert.MmInIdeal.Ffn

end
-- ==== Proof.Ffn.MmInPair.lean ====
/- The mixers' common projection, of the kernel and of the reference, equal. -/
module

public import proofs.«01_k».proof.Defs
public import proofs.«01_k».proof.Proof.Ffn.MmIn
public import proofs.«01_k».proof.Proof.Gen.MmIn
public import proofs.«01_k».proof.Proof.Gen.MmInReferenceIdeal.Run
public import Idealize.ShloMosaic.Lib.Claim

@[expose] public section

set_option maxRecDepth 16384
set_option maxHeartbeats 1600000

noncomputable section

namespace Cert.Proof.MmIn

open Idealize.ShloMosaic Idealize.ShloMosaic.TcCoe Idealize.SL.Sem

section
open Cert.MmInReferenceIdeal Cert.MmInReferenceIdeal.Gen
theorem ref_eq (x : FVec Ideal S4224x2048 .f32) (y : FVec Ideal S4608x2048 .f32) :
    (Host.dotGeneral dot_S4224x2048_S2048x4608_S4224x4608_1_0_0_1_n_n none x (transpose S2048x4608 [1, 0] y transposes_S4608x2048_S2048x4608_1_0) : FVec Ideal S4224x4608 .f32) = Cert.Ffn.nt x y := by
  funext j
  unfold Cert.Ffn.nt
  idx_vars j
  pointwise
  rfl
end

theorem algebraic : Cert.algebraic_MmInIdeal_MmInReferenceIdeal := by
  pair_intro
  · run_from (Cert.MmInIdeal.Value.run_blocks m g)
  · run_from (Cert.MmInReferenceIdeal.Value.run m' g')
    rw [Cert.MmInIdeal.Ffn.arr]
    exact ref_eq _ _

theorem frame_ideal : Cert.quiescent_MmInIdeal := fun m g _ => Cert.MmInIdeal.Gen.frame m g

theorem defs₀_eq : @Cert.MmIn.defs₀ Bits _ Cert.MmIn.Gen.facts = @Cert.MmInIdeal.defs₀ Bits _ Cert.MmInIdeal.Gen.facts := by
  unfold Cert.MmIn.defs₀ Cert.MmInIdeal.defs₀
  refine congrArg Defs.onTc ?_
  funext n a
  match n, a with
  | 0, (t, s) => rfl
  | ⟨_ + 1, h⟩, _ => exact absurd h (Nat.not_lt.2 (Nat.le_add_left _ _))

theorem defs_eq : @Cert.MmIn.defs Bits _ Cert.MmIn.Gen.facts = @Cert.MmInIdeal.defs Bits _ Cert.MmInIdeal.Gen.facts :=
  congrArg (Pipeline.defs Cert.MmIn.pcfgs) defs₀_eq

theorem main_eq : @Cert.MmIn.main Bits _ Cert.MmIn.Gen.facts = @Cert.MmInIdeal.main Bits _ Cert.MmInIdeal.Gen.facts := rfl

theorem frame : Cert.quiescent_MmIn := by
  intro m g _
  rw [defs_eq, main_eq]
  exact (θ_run Cert.MmInIdeal.defs _ _).mono (fun _ h => h) (Cert.MmInIdeal.Gen.frame (F := Bits) m g)

theorem frame_reference : Cert.quiescent_MmInReferenceIdeal := by
  intro m g _
  refine (θ_run Cert.MmInReferenceIdeal.defs _ _).mono (fun r h => ⟨fun c => (h c).2, Idealize.ShloMosaic.sem_eq_zero_of_no_sems (by decide) r.2⟩) (Cert.MmInReferenceIdeal.Value.run m g)

end Cert.Proof.MmIn

end
-- ==== Proof.Ffn.MmOut.lean ====
/- The projection out of the mixers: what the kernel leaves, entry by entry. -/
module

public import proofs.«01_k».proof.Proof.Gen.MmOutIdeal.Value
public import proofs.«01_k».proof.Proof.Ffn.Product

@[expose] public section

set_option maxRecDepth 16384

noncomputable section

namespace Cert.MmOutIdeal.Ffn

open Idealize.ShloMosaic Idealize.ShloMosaic.TcCoe Idealize.ShloMosaic.Tactic
open Cert.MmOutIdeal Cert.MmOutIdeal.Gen Cert.Ffn

/-- One grid point leaves the product of its two blocks. -/
theorem out_eq (c : Dev nD) (i : grid0.Coords) (a3 : Memref sig .tc .vmem S1408x2048 .bf16) (h3 : a3.IsWhole) (a4 : Memref sig .tc .vmem S2048x1024 .bf16) (h4 : a4.IsWhole)
    (a5 : Memref sig .tc .vmem S1408x1024 .f32) (h5 : a5.IsWhole) (a6 : Memref sig .tc .vmem S8x128 .f32) (h6 : a6.IsWhole)
    (x : FVec Ideal S1408x2048 .bf16) (y : FVec Ideal S2048x1024 .bf16) :
    out0_A_2 (F := Ideal) c i a3 h3 a4 h4 a5 h5 a6 h6 x y = k0_pay1 (F := Ideal) x y := by
  unfold out0_A_2
  rw [View.read_writes_eq_canon _ _ _ (cover0_A_2 (F := Ideal) c i a3 h3 a4 h4 a5 h5 a6 h6 x y)]
  unfold kernelRun0_A
  dsimp only
  rw [View.canon_unit_zero hz]
  simp only [View.readAt_eq_ld, h3.read_unread, h4.read_unread, View.ld_unit_zero (S := S1408x2048) hz, View.ld_unit_zero (S := S2048x1024) hz]

theorem pay1_apply (x : FVec Ideal S1408x2048 .bf16) (y : FVec Ideal S2048x1024 .bf16) (j : S1408x1024.Idx) :
    k0_pay1 (F := Ideal) x y j = ∑ l : Fin 2048, x (ValueIdx.ix2 (j 0) l) * y (ValueIdx.ix2 l (j 1)) := by
  unfold k0_pay1
  simp only [shapeCast_self]
  idx_vars j
  pointwise
  rfl

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

theorem V_v0 : V m c main_v0 = (truncf .bf16 (m (c.tc.loc main_arg0) : FVec Ideal S4224x2048 .f32) bitsLt_bf16_f32 : FVec Ideal S4224x2048 .bf16) := by
  simp only [V, List.flatten_cons, List.flatten_nil, List.cons_append, List.nil_append, List.append_nil]
  entry_read
  rfl

theorem V_v1 : V m c main_v1 = (truncf .bf16 (m (c.tc.loc main_arg1) : FVec Ideal S2048x2048 .f32) bitsLt_bf16_f32 : FVec Ideal S2048x2048 .bf16) := by
  simp only [V, List.flatten_cons, List.flatten_nil, List.cons_append, List.nil_append, List.append_nil]
  entry_read
  rfl

theorem iblk_0 (t : Fin cfg0.N) (j : S1408x2048.Idx) : (iblk m c 0 t : FVec Ideal S1408x2048 .bf16) j = (m (c.tc.loc main_arg0) : FVec Ideal S4224x2048 .f32) (((cfg0.win 0).blk t).view.emb j) := by
  show V m c main_v0 (((cfg0.win 0).blk t).view.emb j) = _
  rw [V_v0]
  rfl

theorem iblk_1 (t : Fin cfg0.N) (j : S2048x1024.Idx) : (iblk m c 1 t : FVec Ideal S2048x1024 .bf16) j = (m (c.tc.loc main_arg1) : FVec Ideal S2048x2048 .f32) (((cfg0.win 1).blk t).view.emb j) := by
  show V m c main_v1 (((cfg0.win 1).blk t).view.emb j) = _
  rw [V_v1]
  rfl

theorem arr : (dats m 0 c).arrAt 2 cfg0.N = nn (m (c.tc.loc main_arg0)) (m (c.tc.loc main_arg1)) := by
  refine (dats m 0 c).arrAt_eq_of_covers 2 _ (by decide +kernel) fun t hf y => ?_
  show (dats m 0 c).after 2 t y = nn _ _ (((cfg0.win 2).blk t).view.emb y)
  rw [after0_2]
  unfold outsAt0
  rw [out_eq, pay1_apply]
  refine Finset.sum_congr (M := EReal) rfl fun l _ => congrArg₂ (fun u v : EReal => u * v) ((iblk_0 m c t _).trans (congrArg _ (ext2 ?_ ?_))) ((iblk_1 m c t _).trans (congrArg _ (ext2 ?_ ?_)))
  · show _ = (((cfg0.win 2).blk t).view.emb y 0).val; blk_simp [idx t]
  · blk_simp [idx t]
  · blk_simp [idx t]
  · show _ = (((cfg0.win 2).blk t).view.emb y 1).val; blk_simp [idx t]

end Cert.MmOutIdeal.Ffn

end
-- ==== Proof.Ffn.MmOutPair.lean ====
/- The projection out of the mixers, of the kernel and of the reference, equal. -/
module

public import proofs.«01_k».proof.Defs
public import proofs.«01_k».proof.Proof.Ffn.MmOut
public import proofs.«01_k».proof.Proof.Gen.MmOut
public import proofs.«01_k».proof.Proof.Gen.MmOutReferenceIdeal.Run
public import Idealize.ShloMosaic.Lib.Claim

@[expose] public section

set_option maxRecDepth 16384
set_option maxHeartbeats 1600000

noncomputable section

namespace Cert.Proof.MmOut

open Idealize.ShloMosaic Idealize.ShloMosaic.TcCoe Idealize.SL.Sem

section
open Cert.MmOutReferenceIdeal Cert.MmOutReferenceIdeal.Gen
theorem ref_eq (x : FVec Ideal S4224x2048 .f32) (y : FVec Ideal S2048x2048 .f32) :
    (Host.dotGeneral dot_S4224x2048_S2048x2048_S4224x2048_1_0_0_1_n_n none x y : FVec Ideal S4224x2048 .f32) = Cert.Ffn.nn x y := by
  funext j
  unfold Cert.Ffn.nn
  idx_vars j
  pointwise
  rfl
end

theorem algebraic : Cert.algebraic_MmOutIdeal_MmOutReferenceIdeal := by
  pair_intro
  · run_from (Cert.MmOutIdeal.Value.run_blocks m g)
  · run_from (Cert.MmOutReferenceIdeal.Value.run m' g')
    rw [Cert.MmOutIdeal.Ffn.arr]
    exact ref_eq _ _

theorem frame_ideal : Cert.quiescent_MmOutIdeal := fun m g _ => Cert.MmOutIdeal.Gen.frame m g

theorem defs₀_eq : @Cert.MmOut.defs₀ Bits _ Cert.MmOut.Gen.facts = @Cert.MmOutIdeal.defs₀ Bits _ Cert.MmOutIdeal.Gen.facts := by
  unfold Cert.MmOut.defs₀ Cert.MmOutIdeal.defs₀
  refine congrArg Defs.onTc ?_
  funext n a
  match n, a with
  | 0, (t, s) => rfl
  | ⟨_ + 1, h⟩, _ => exact absurd h (Nat.not_lt.2 (Nat.le_add_left _ _))

theorem defs_eq : @Cert.MmOut.defs Bits _ Cert.MmOut.Gen.facts = @Cert.MmOutIdeal.defs Bits _ Cert.MmOutIdeal.Gen.facts :=
  congrArg (Pipeline.defs Cert.MmOut.pcfgs) defs₀_eq

theorem main_eq : @Cert.MmOut.main Bits _ Cert.MmOut.Gen.facts = @Cert.MmOutIdeal.main Bits _ Cert.MmOutIdeal.Gen.facts := rfl

theorem frame : Cert.quiescent_MmOut := by
  intro m g _
  rw [defs_eq, main_eq]
  exact (θ_run Cert.MmOutIdeal.defs _ _).mono (fun _ h => h) (Cert.MmOutIdeal.Gen.frame (F := Bits) m g)

theorem frame_reference : Cert.quiescent_MmOutReferenceIdeal := by
  intro m g _
  refine (θ_run Cert.MmOutReferenceIdeal.defs _ _).mono (fun r h => ⟨fun c => (h c).2, Idealize.ShloMosaic.sem_eq_zero_of_no_sems (by decide) r.2⟩) (Cert.MmOutReferenceIdeal.Value.run m g)

end Cert.Proof.MmOut

end
-- ==== Proof.Ffn.NormRow.lean ====
/- The gradient of a row divided by the root of its mean square: two ways of writing it, equal for every row, infinite entries included. -/
module

public import Idealize.ShloMosaic.Lib.Pipeline.ValueKit

@[expose] public section

noncomputable section

namespace Cert.Ffn

open Idealize.ShloMosaic

/-- A row's length, the small number under the root and minus one half, as the programs write them. -/
def len : EReal := (Scalar.ofBits .f32 0x45000000#32 : Ideal .f32)
def eps : EReal := (Scalar.ofBits .f32 0x358637BD#32 : Ideal .f32)
def mhalf : EReal := (Scalar.ofBits .f32 0xBF000000#32 : Ideal .f32)

theorem len_eq : len = ((2048 : ℝ) : EReal) := by
  show Ideal.ofBits .f32 0x45000000#32 = _
  simp [Ideal.ofBits, Ideal.ieee, -EReal.coe_mul]; norm_num

theorem mhalf_eq : mhalf = ((-(1 / 2) : ℝ) : EReal) := by
  show Ideal.ofBits .f32 0xBF000000#32 = _
  simp [Ideal.ofBits, Ideal.ieee, -EReal.coe_mul]; norm_num

theorem eps_eq : ∃ e : ℝ, 0 < e ∧ eps = (e : EReal) := by
  refine ⟨(8796093 : ℝ) * 2 ^ (-43 : ℤ), by positivity, ?_⟩
  show Ideal.ofBits .f32 0x358637BD#32 = _
  simp [Ideal.ofBits, Ideal.ieee, -EReal.coe_mul]

theorem div_real (y : EReal) {a : ℝ} (ha : a ≠ 0) : Ideal.div y (a : EReal) = y * ((a⁻¹ : ℝ) : EReal) := by
  unfold Ideal.div
  rw [if_neg (by exact_mod_cast ha), ← EReal.coe_inv]

/-- Minus a positive multiple is twice minus its half. -/
theorem neg_eq_halves (p : EReal) {k : ℝ} (hk : 0 < k) : -(p * (k : EReal)) = p * ((-(k / 2) : ℝ) : EReal) + p * ((-(k / 2) : ℝ) : EReal) := by
  have hn : -(k / 2) < 0 := by linarith
  induction p with
  | bot => rw [EReal.bot_mul_coe_of_pos hk, EReal.bot_mul_coe_of_neg hn]; rfl
  | coe p => norm_cast; ring
  | top => rw [EReal.top_mul_coe_of_pos hk, EReal.top_mul_coe_of_neg hn]; rfl

section
variable {n : ℕ} (x d : Fin n → EReal)

/-- The mean of a row's squares, made a little larger, and one over its root. -/
def msq : EReal := Ideal.div (∑ k, x k * x k) len + eps
def rs : EReal := Ideal.rsqrt (msq x)

theorem sq_nonneg (a : EReal) : 0 ≤ a * a := by
  induction a with
  | bot => simp
  | coe a => exact_mod_cast mul_self_nonneg a
  | top => simp

theorem msq_cases : msq x = ⊤ ∨ ∃ a : ℝ, 0 < a ∧ msq x = (a : EReal) := by
  have h : 0 ≤ ∑ k, x k * x k := Finset.sum_nonneg fun k _ => sq_nonneg (x k)
  obtain ⟨e, he, hee⟩ := eps_eq
  unfold msq
  rw [len_eq, div_real _ (by norm_num : (2048 : ℝ) ≠ 0), hee]
  generalize (∑ k, x k * x k) = s at h ⊢
  induction s with
  | bot => exact absurd h (by simp)
  | coe s =>
    have hs : 0 ≤ s := by exact_mod_cast h
    exact .inr ⟨s * 2048⁻¹ + e, by positivity, by norm_cast⟩
  | top =>
    refine .inl ?_
    rw [EReal.top_mul_coe_of_pos (by norm_num)]
    rfl

/-- The part of the gradient that comes through the root, as the kernel writes it, and half of it, as the reference does. -/
def through (l : Fin n) : EReal := x l * (rs x * rs x * rs x) * Ideal.div (∑ k, x k * d k) len
def half : EReal := Ideal.div ((∑ k, x k * d k) * (mhalf * Ideal.div (rs x) (msq x))) len

theorem neg_through (l : Fin n) : -through x d l = x l * half x d + half x d * x l := by
  unfold through half
  generalize (∑ k, x k * d k) = s
  rw [mul_comm (Ideal.div _ _) (x l), len_eq, div_real _ (by norm_num : (2048 : ℝ) ≠ 0), div_real _ (by norm_num : (2048 : ℝ) ≠ 0), mhalf_eq]
  unfold rs
  rcases msq_cases x with h | ⟨a, ha, h⟩
  · rw [h]
    have h0 : Ideal.rsqrt ⊤ = 0 := rfl
    have h1 : Ideal.div 0 ⊤ = 0 := by
      unfold Ideal.div
      rw [if_neg (by simp), zero_mul]
    rw [h0, h1]
    simp
  · rw [h]
    have h0 : Ideal.rsqrt (a : EReal) = (((√a)⁻¹ : ℝ) : EReal) := by
      show (if a < 0 then (⊥ : EReal) else if a = 0 then ⊤ else _) = _
      rw [if_neg (by linarith), if_neg (by linarith)]
    have hr : 0 < (√a)⁻¹ := inv_pos.2 (Real.sqrt_pos.2 ha)
    have hq : (√a)⁻¹ * (√a)⁻¹ = a⁻¹ := by rw [← mul_inv, Real.mul_self_sqrt ha.le]
    rw [h0, div_real _ ha.ne']
    generalize (√a)⁻¹ = r at hr hq
    have hk : 0 < r * r * r * (2048 : ℝ)⁻¹ := by positivity
    have e1 : x l * ((r : EReal) * r * r) * (s * ((2048⁻¹ : ℝ) : EReal)) = x l * s * ((r * r * r * (2048 : ℝ)⁻¹ : ℝ) : EReal) := by
      simp only [EReal.coe_mul]
      ac_rfl
    have e2 : x l * (s * (((-(1 / 2) : ℝ) : EReal) * ((r : EReal) * ((a⁻¹ : ℝ) : EReal))) * ((2048⁻¹ : ℝ) : EReal)) = x l * s * ((-(r * r * r * (2048 : ℝ)⁻¹ / 2) : ℝ) : EReal) := by
      rw [show -(r * r * r * (2048 : ℝ)⁻¹ / 2) = -(1 / 2) * (r * a⁻¹) * (2048 : ℝ)⁻¹ by rw [← hq]; ring]
      simp only [EReal.coe_mul]
      ac_rfl
    rw [e1, e2]
    exact neg_eq_halves _ hk

/-- The whole gradient of the row. -/
def down (l : Fin n) : EReal := rs x * d l - through x d l

theorem down_eq (l : Fin n) : down x d l = d l * rs x + x l * half x d + half x d * x l := by
  unfold down
  rw [sub_eq_add_neg, neg_through, mul_comm (rs x), add_assoc]
end

section
variable {m n : ℕ}

/-- One row of a matrix. -/
def row (x : (⟨2, ![m, n]⟩ : Shape).Idx → EReal) (r : Fin m) (l : Fin n) : EReal := x (ValueIdx.ix2 r l)

variable (x d : (⟨2, ![m, n]⟩ : Shape).Idx → EReal) (g : (⟨2, ![1, n]⟩ : Shape).Idx → EReal)

/-- The gradient of the input, row by row. -/
def dx (j : (⟨2, ![m, n]⟩ : Shape).Idx) : EReal := down (row x (j 0)) (fun l => row d (j 0) l * row g 0 l) (j 1)

/-- What one row adds to the gradient of the scale. -/
def dgRow (r : Fin m) (l : Fin n) : EReal := row d r l * row x r l * rs (row x r)

/-- The gradient of the scale. -/
def dg (j : (⟨2, ![1, n]⟩ : Shape).Idx) : EReal := ∑ r : Fin m, dgRow x d r (j 1)

/-- What the row at a natural place adds. -/
def dgAt (l : Fin n) (r : ℕ) : EReal := if h : r < m then dgRow x d ⟨r, h⟩ l else 0

theorem dg_eq (j : (⟨2, ![1, n]⟩ : Shape).Idx) : dg x d j = ∑ r ∈ Finset.range m, dgAt x d (j 1) r := by
  rw [← Fin.sum_univ_eq_sum_range (fun r => dgAt x d (j 1) r)]
  refine Finset.sum_congr rfl fun r _ => ?_
  unfold dgAt
  rw [dif_pos r.isLt]

/-- What the rows of a block add, if the block's rows are the whole's from `s` on. -/
theorem dg_block {b : ℕ} (x' d' : (⟨2, ![b, n]⟩ : Shape).Idx → EReal) (s : ℕ) (hs : s + b ≤ m)
    (hx : ∀ r : Fin b, row x' r = row x ⟨s + r.val, by omega⟩) (hd : ∀ r : Fin b, row d' r = row d ⟨s + r.val, by omega⟩) (j : (⟨2, ![1, n]⟩ : Shape).Idx) :
    dg x' d' j = ∑ r ∈ Finset.range b, dgAt x d (j 1) (s + r) := by
  rw [← Fin.sum_univ_eq_sum_range (fun r => dgAt x d (j 1) (s + r))]
  refine Finset.sum_congr rfl fun r _ => ?_
  unfold dgAt dgRow
  rw [dif_pos (by omega), hx, hd]

/-- What is gathered after each point, `b` summands a point. -/
theorem gather (f : ℕ → EReal) (b N : ℕ) (acc : ∀ t, t < N → EReal) (first : ∀ h, acc 0 h = ∑ l ∈ Finset.range b, f (b * 0 + l))
    (next : ∀ t (h : t + 1 < N), acc (t + 1) h = acc t (by omega) + ∑ l ∈ Finset.range b, f (b * (t + 1) + l)) :
    ∀ t (h : t < N), acc t h = ∑ l ∈ Finset.range (b * (t + 1)), f l := by
  intro t
  induction t with
  | zero =>
    intro h
    rw [first]
    simp
  | succ t ih =>
    intro h
    rw [next, ih, Nat.mul_add b (t + 1) 1, Nat.mul_one, Finset.sum_range_add]
end

end Cert.Ffn

end
-- ==== Proof.Ffn.NormRes.lean ====
/- The gradient of a norm whose input is carried on beside it: what the kernel leaves, entry by entry. -/
module

public import proofs.«01_k».proof.Proof.Gen.NormResIdeal.Value
public import proofs.«01_k».proof.Proof.Ffn.Product
public import proofs.«01_k».proof.Proof.Ffn.NormRow

@[expose] public section

set_option maxRecDepth 16384

noncomputable section

namespace Cert.NormResIdeal.Ffn

open Idealize.ShloMosaic Idealize.ShloMosaic.TcCoe Idealize.ShloMosaic.Tactic
open Cert.NormResIdeal Cert.NormResIdeal.Gen Cert.Ffn

theorem pay2_apply (x : FVec Ideal S384x2048 .f32) (j : S384x1.Idx) : k0_pay2 (F := Ideal) x j = rs (row x (j 0)) := by
  unfold k0_pay2
  idx_vars j
  pointwise
  rfl

theorem pay3_apply (x d : FVec Ideal S384x2048 .f32) (j : S1x2048.Idx) : k0_pay3 (F := Ideal) x d j = dg x d j := by
  unfold k0_pay3
  idx_vars j
  pointwise
  simp only [pay2_apply]
  rfl

theorem pay4_apply (x : FVec Ideal S384x2048 .f32) (g : FVec Ideal S1x2048 .f32) (d e : FVec Ideal S384x2048 .f32) (j : S384x2048.Idx) :
    k0_pay4 (F := Ideal) x g d e j = dx x d g j + e j := by
  unfold k0_pay4
  idx_vars j
  pointwise
  simp only [pay2_apply]
  rfl

theorem pay1_apply (x y : FVec Ideal S1x2048 .f32) (j : S1x2048.Idx) : k0_pay1 (F := Ideal) x y j = y j + x j := by
  unfold k0_pay1
  simp only [shapeCast_self]
  rfl

theorem pay5_apply (j : S1x2048.Idx) : k0_pay5 (F := Ideal) j = (0 : EReal) := Ideal.ofBits_zero_f32

section
variable (c : Dev nD) (i : grid0.Coords) (a1 : Memref sig .tc .vmem S384x2048 .f32) (h1 : a1.IsWhole) (a2 : Memref sig .tc .vmem S1x2048 .f32) (h2 : a2.IsWhole)
  (a3 : Memref sig .tc .vmem S384x2048 .f32) (h3 : a3.IsWhole) (a4 : Memref sig .tc .vmem S384x2048 .f32) (h4 : a4.IsWhole)
  (a5 : Memref sig .tc .vmem S384x2048 .f32) (h5 : a5.IsWhole) (a6 : Memref sig .tc .vmem S1x2048 .f32) (h6 : a6.IsWhole)
  (x : FVec Ideal S384x2048 .f32) (g : FVec Ideal S1x2048 .f32) (d e : FVec Ideal S384x2048 .f32) (p : FVec Ideal S1x2048 .f32)

theorem out_A_4 (hc : cond0_0 i) : out0_A_4 (F := Ideal) c i a1 h1 a2 h2 a3 h3 a4 h4 a5 h5 a6 h6 hc x g d e = k0_pay4 (F := Ideal) x g d e := by
  unfold out0_A_4
  rw [View.read_writes_eq_canon _ _ _ (cover0_A_4 (F := Ideal) c i a1 h1 a2 h2 a3 h3 a4 h4 a5 h5 a6 h6 hc x g d e)]
  unfold kernelRun0_A
  dsimp only
  rw [View.canon_unit_zero hz]
  simp only [View.readAt_eq_ld, h1.read_unread, h2.read_unread, h3.read_unread, h4.read_unread, View.ld_unit_zero (S := S384x2048) hz, View.ld_unit_zero (S := S1x2048) hz]

theorem out_B_4 (hc : ¬cond0_0 i) : out0_B_4 (F := Ideal) c i a1 h1 a2 h2 a3 h3 a4 h4 a5 h5 a6 h6 hc x g d e p = k0_pay4 (F := Ideal) x g d e := by
  unfold out0_B_4
  rw [View.read_writes_eq_canon _ _ _ (cover0_B_4 (F := Ideal) c i a1 h1 a2 h2 a3 h3 a4 h4 a5 h5 a6 h6 hc x g d e p)]
  unfold kernelRun0_B
  dsimp only
  rw [View.canon_unit_zero hz]
  simp only [View.readAt_eq_ld, h1.read_unread, h2.read_unread, h3.read_unread, h4.read_unread, View.ld_unit_zero (S := S384x2048) hz, View.ld_unit_zero (S := S1x2048) hz]

theorem out_A_5 (hc : cond0_0 i) (j : S1x2048.Idx) : out0_A_5 (F := Ideal) c i a1 h1 a2 h2 a3 h3 a4 h4 a5 h5 a6 h6 hc x g d e j = dg x d j := by
  unfold out0_A_5
  rw [View.read_writes_eq_canon _ _ _ (cover0_A_5 (F := Ideal) c i a1 h1 a2 h2 a3 h3 a4 h4 a5 h5 a6 h6 hc x g d e)]
  unfold kernelRun0_A
  dsimp only
  sl_unfold_words
  rw [View.canon_cons_unit_zero (S := S1x2048) hz]
  simp only [View.readAt_eq_ld, h1.read_unread, h3.read_unread, View.ld_unit_zero (S := S384x2048) hz]
  rw [View.readCov_unit_zero (S := S1x2048) _ hz, pay1_apply, pay5_apply, pay3_apply, zero_add]

theorem out_B_5 (hc : ¬cond0_0 i) (j : S1x2048.Idx) : out0_B_5 (F := Ideal) c i a1 h1 a2 h2 a3 h3 a4 h4 a5 h5 a6 h6 hc x g d e p j = p j + dg x d j := by
  unfold out0_B_5
  rw [View.read_writes_eq_canon _ _ _ (cover0_B_5 (F := Ideal) c i a1 h1 a2 h2 a3 h3 a4 h4 a5 h5 a6 h6 hc x g d e p)]
  unfold kernelRun0_B
  dsimp only
  sl_unfold_words
  rw [View.canon_unit_zero hz]
  simp only [View.readAt_eq_ld, h1.read_unread, h3.read_unread, h6.read_unread, View.ld_unit_zero (S := S384x2048) hz, View.ld_unit_zero (S := S1x2048) hz]
  rw [pay1_apply, pay3_apply]
end

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

variable (m : (ℓ : Loc nD τ sig) → Buf (Elt Ideal) ℓ) (c : Dev nD)

theorem row_0 (t : Fin cfg0.N) (r : Fin 384) (R : Fin 4224) (h : R.val = 384 * t.val + r.val) :
    row (iblk m c 0 t : FVec Ideal S384x2048 .f32) r = row (m (c.tc.loc main_arg0) : FVec Ideal S4224x2048 .f32) R := by
  funext l
  show V m c main_arg0 (((cfg0.win 0).blk t).view.emb (ValueIdx.ix2 r l)) = _
  rw [V_main_arg0]
  refine congrArg _ (ext2 ?_ ?_)
  · show _ = R.val
    rw [h]
    blk_simp [idx t]
    exact congrArg (· + _) (Nat.mul_comm _ _)
  · blk_simp [idx t]

theorem row_2 (t : Fin cfg0.N) (r : Fin 384) (R : Fin 4224) (h : R.val = 384 * t.val + r.val) :
    row (iblk m c 2 t : FVec Ideal S384x2048 .f32) r = row (m (c.tc.loc main_arg2) : FVec Ideal S4224x2048 .f32) R := by
  funext l
  show V m c main_arg2 (((cfg0.win 2).blk t).view.emb (ValueIdx.ix2 r l)) = _
  rw [V_main_arg2]
  refine congrArg _ (ext2 ?_ ?_)
  · show _ = R.val
    rw [h]
    blk_simp [idx t]
    exact congrArg (· + _) (Nat.mul_comm _ _)
  · blk_simp [idx t]

theorem row_1 (t : Fin cfg0.N) : row (iblk m c 1 t : FVec Ideal S1x2048 .f32) 0 = row (m (c.tc.loc main_arg1) : FVec Ideal S1x2048 .f32) 0 := by
  funext l
  show V m c main_arg1 (((cfg0.win 1).blk t).view.emb (ValueIdx.ix2 0 l)) = _
  rw [V_main_arg1]
  refine congrArg _ (ext2 ?_ ?_) <;> blk_simp [idx t]

theorem dx_block (t : Fin cfg0.N) (y : S384x2048.Idx) :
    dx (iblk m c 0 t : FVec Ideal S384x2048 .f32) (iblk m c 2 t : FVec Ideal S384x2048 .f32) (iblk m c 1 t : FVec Ideal S1x2048 .f32) y + (iblk m c 3 t : FVec Ideal S384x2048 .f32) y
      = dx (m (c.tc.loc main_arg0) : FVec Ideal S4224x2048 .f32) (m (c.tc.loc main_arg2) : FVec Ideal S4224x2048 .f32) (m (c.tc.loc main_arg1) : FVec Ideal S1x2048 .f32) (((cfg0.win 4).blk t).view.emb y)
        + (m (c.tc.loc main_arg3) : FVec Ideal S4224x2048 .f32) (((cfg0.win 4).blk t).view.emb y) := by
  have hR : (((cfg0.win 4).blk t).view.emb y 0).val = 384 * t.val + (y 0).val := by
    blk_simp [idx t]
    exact congrArg (· + _) (Nat.mul_comm _ _)
  have hl : ((cfg0.win 4).blk t).view.emb y 1 = y 1 := Fin.ext (by blk_simp [idx t])
  refine congrArg₂ (fun u v : EReal => u + v) ?_ ?_
  · unfold dx
    rw [row_0 m c t _ _ hR, row_2 m c t _ _ hR, row_1, hl]
  · show V m c main_arg3 (((cfg0.win 3).blk t).view.emb y) = _
    rw [V_main_arg3]
    refine congrArg _ (ext2 ?_ ?_) <;> blk_simp [idx t]

theorem dx_arr : (dats m 0 c).arrAt 4 cfg0.N = fun j => dx (m (c.tc.loc main_arg0) : FVec Ideal S4224x2048 .f32) (m (c.tc.loc main_arg2) : FVec Ideal S4224x2048 .f32) (m (c.tc.loc main_arg1) : FVec Ideal S1x2048 .f32) j
    + (m (c.tc.loc main_arg3) : FVec Ideal S4224x2048 .f32) j := by
  refine (dats m 0 c).arrAt_eq_of_covers 4 _ (by decide +kernel) fun t hf y => ?_
  show (dats m 0 c).after 4 t y = dx _ _ _ (((cfg0.win 4).blk t).view.emb y) + _
  rw [after0_4, ← dx_block, ← pay4_apply]
  by_cases h0 : t.val % 11 = 0
  · rw [outsAt0_A m c t h0]
    dsimp only
    rw [out_A_4]
  · rw [outsAt0_B m c t h0]
    dsimp only
    rw [out_B_4]

theorem dg_point (t : Fin cfg0.N) (j : S1x2048.Idx) : dg (iblk m c 0 t : FVec Ideal S384x2048 .f32) (iblk m c 2 t : FVec Ideal S384x2048 .f32) j
    = ∑ l ∈ Finset.range 384, dgAt (m (c.tc.loc main_arg0) : FVec Ideal S4224x2048 .f32) (m (c.tc.loc main_arg2) : FVec Ideal S4224x2048 .f32) (j 1) (384 * t.val + l) := by
  have ht : t.val < 11 := t.isLt
  exact dg_block _ _ _ _ (384 * t.val) (by omega) (fun r => row_0 m c t r _ rfl) (fun r => row_2 m c t r _ rfl) j

theorem gathered (j : S1x2048.Idx) : ∀ t (h : t < cfg0.N), (outsAt0 m c t h).2 j
    = ∑ l ∈ Finset.range (384 * (t + 1)), dgAt (m (c.tc.loc main_arg0) : FVec Ideal S4224x2048 .f32) (m (c.tc.loc main_arg2) : FVec Ideal S4224x2048 .f32) (j 1) l := by
  refine gather _ 384 cfg0.N (fun t h => (outsAt0 m c t h).2 j) (fun h => ?_) fun t h => ?_
  · rw [outsAt0_A m c ⟨0, h⟩ rfl]
    dsimp only
    rw [out_A_5, dg_point]
  · have h11 : t + 1 < 11 := h
    rw [outsAt0_B m c ⟨t + 1, h⟩ (show ¬(t + 1) % 11 = 0 by omega)]
    dsimp only
    rw [out_B_5, dg_point]
    rfl

theorem last : ∀ t : Fin cfg0.N, (cfg0.win 5).flush t = true → t.val = 10 := (by decide +kernel : ∀ t : Fin grid0.N, _)

theorem dg_arr : (dats m 0 c).arrAt 5 cfg0.N = dg (m (c.tc.loc main_arg0) : FVec Ideal S4224x2048 .f32) (m (c.tc.loc main_arg2) : FVec Ideal S4224x2048 .f32) := by
  refine (dats m 0 c).arrAt_eq_of_covers 5 _ (by decide +kernel) fun t hf y => ?_
  show (dats m 0 c).after 5 t y = dg _ _ (((cfg0.win 5).blk t).view.emb y)
  have e : ((cfg0.win 5).blk t).view.emb y = y := by refine ext2 ?_ ?_ <;> blk_simp [idx t]
  rw [after0_5, gathered, dg_eq, e, last t hf]

end Cert.NormResIdeal.Ffn

end
-- ==== Proof.Ffn.Norm.lean ====
/- The gradient of a norm: what the kernel leaves, entry by entry. -/
module

public import proofs.«01_k».proof.Proof.Gen.NormIdeal.Value
public import proofs.«01_k».proof.Proof.Ffn.NormRes

@[expose] public section

set_option maxRecDepth 16384

noncomputable section

namespace Cert.NormIdeal.Ffn

open Idealize.ShloMosaic Idealize.ShloMosaic.TcCoe Idealize.ShloMosaic.Tactic
open Cert.NormIdeal Cert.NormIdeal.Gen Cert.Ffn

theorem pay3_apply (x d : FVec Ideal S384x2048 .f32) (j : S1x2048.Idx) : k0_pay3 (F := Ideal) x d j = dg x d j :=
  Cert.NormResIdeal.Ffn.pay3_apply x d j

theorem pay4_apply (x : FVec Ideal S384x2048 .f32) (g : FVec Ideal S1x2048 .f32) (d : FVec Ideal S384x2048 .f32) (j : S384x2048.Idx) :
    k0_pay4 (F := Ideal) x g d j = dx x d g j := by
  have h2 (j : S384x1.Idx) : k0_pay2 (F := Ideal) x j = rs (row x (j 0)) := Cert.NormResIdeal.Ffn.pay2_apply x j
  unfold k0_pay4
  idx_vars j
  pointwise
  simp only [h2]
  rfl

section
variable (c : Dev nD) (i : grid0.Coords) (a1 : Memref sig .tc .vmem S384x2048 .f32) (h1 : a1.IsWhole) (a2 : Memref sig .tc .vmem S1x2048 .f32) (h2 : a2.IsWhole)
  (a3 : Memref sig .tc .vmem S384x2048 .f32) (h3 : a3.IsWhole) (a4 : Memref sig .tc .vmem S384x2048 .bf16) (h4 : a4.IsWhole)
  (a5 : Memref sig .tc .vmem S1x2048 .f32) (h5 : a5.IsWhole)
  (x : FVec Ideal S384x2048 .f32) (g : FVec Ideal S1x2048 .f32) (d : FVec Ideal S384x2048 .f32) (p : FVec Ideal S1x2048 .f32)

theorem out_A_3 (hc : cond0_0 i) : out0_A_3 (F := Ideal) c i a1 h1 a2 h2 a3 h3 a4 h4 a5 h5 hc x g d = k0_pay4 (F := Ideal) x g d := by
  unfold out0_A_3
  rw [View.read_writes_eq_canon _ _ _ (cover0_A_3 (F := Ideal) c i a1 h1 a2 h2 a3 h3 a4 h4 a5 h5 hc x g d)]
  unfold kernelRun0_A
  dsimp only
  rw [View.canon_unit_zero hz]
  simp only [View.readAt_eq_ld, h1.read_unread, h2.read_unread, h3.read_unread, View.ld_unit_zero (S := S384x2048) hz, View.ld_unit_zero (S := S1x2048) hz]

theorem out_B_3 (hc : ¬cond0_0 i) : out0_B_3 (F := Ideal) c i a1 h1 a2 h2 a3 h3 a4 h4 a5 h5 hc x g d p = k0_pay4 (F := Ideal) x g d := by
  unfold out0_B_3
  rw [View.read_writes_eq_canon _ _ _ (cover0_B_3 (F := Ideal) c i a1 h1 a2 h2 a3 h3 a4 h4 a5 h5 hc x g d p)]
  unfold kernelRun0_B
  dsimp only
  rw [View.canon_unit_zero hz]
  simp only [View.readAt_eq_ld, h1.read_unread, h2.read_unread, h3.read_unread, View.ld_unit_zero (S := S384x2048) hz, View.ld_unit_zero (S := S1x2048) hz]

theorem out_A_4 (hc : cond0_0 i) (j : S1x2048.Idx) : out0_A_4 (F := Ideal) c i a1 h1 a2 h2 a3 h3 a4 h4 a5 h5 hc x g d j = dg x d j := by
  unfold out0_A_4
  rw [View.read_writes_eq_canon _ _ _ (cover0_A_4 (F := Ideal) c i a1 h1 a2 h2 a3 h3 a4 h4 a5 h5 hc x g d)]
  unfold kernelRun0_A
  dsimp only
  sl_unfold_words
  rw [View.canon_cons_unit_zero (S := S1x2048) hz]
  simp only [View.readAt_eq_ld, h1.read_unread, h3.read_unread, View.ld_unit_zero (S := S384x2048) hz]
  rw [View.readCov_unit_zero (S := S1x2048) _ hz]
  unfold k0_pay1 k0_pay6
  simp only [shapeCast_self]
  refine Eq.trans ?_ ((congrArg (fun u : EReal => u + _) (Ideal.ofBits_zero_f32)).trans ((zero_add _).trans (pay3_apply x d j)))
  rfl

theorem out_B_4 (hc : ¬cond0_0 i) (j : S1x2048.Idx) : out0_B_4 (F := Ideal) c i a1 h1 a2 h2 a3 h3 a4 h4 a5 h5 hc x g d p j = p j + dg x d j := by
  unfold out0_B_4
  rw [View.read_writes_eq_canon _ _ _ (cover0_B_4 (F := Ideal) c i a1 h1 a2 h2 a3 h3 a4 h4 a5 h5 hc x g d p)]
  unfold kernelRun0_B
  dsimp only
  sl_unfold_words
  rw [View.canon_unit_zero hz]
  simp only [View.readAt_eq_ld, h1.read_unread, h3.read_unread, h5.read_unread, View.ld_unit_zero (S := S384x2048) hz, View.ld_unit_zero (S := S1x2048) hz]
  unfold k0_pay1 k0_pay6
  simp only [shapeCast_self]
  exact congrArg (fun u : EReal => p j + u) (pay3_apply x d j)
end

theorem idx : ∀ t : Fin cfg0.N, win0_0.index t = ![t.val, 0] ∧ win0_1.index t = ![0, 0] ∧ win0_2.index t = ![t.val, 0] ∧ win0_3.index t = ![t.val, 0]
    ∧ win0_4.index t = ![0, 0] :=
  (by decide +kernel : ∀ t : Fin grid0.N, _)

variable (m : (ℓ : Loc nD τ sig) → Buf (Elt Ideal) ℓ) (c : Dev nD)

theorem row_0 (t : Fin cfg0.N) (r : Fin 384) (R : Fin 4224) (h : R.val = 384 * t.val + r.val) :
    row (iblk m c 0 t : FVec Ideal S384x2048 .f32) r = row (m (c.tc.loc main_arg0) : FVec Ideal S4224x2048 .f32) R := by
  funext l
  show V m c main_arg0 (((cfg0.win 0).blk t).view.emb (ValueIdx.ix2 r l)) = _
  rw [V_main_arg0]
  refine congrArg _ (ext2 ?_ ?_)
  · show _ = R.val
    rw [h]
    blk_simp [idx t]
    exact congrArg (· + _) (Nat.mul_comm _ _)
  · blk_simp [idx t]

theorem row_2 (t : Fin cfg0.N) (r : Fin 384) (R : Fin 4224) (h : R.val = 384 * t.val + r.val) :
    row (iblk m c 2 t : FVec Ideal S384x2048 .f32) r = row (m (c.tc.loc main_arg2) : FVec Ideal S4224x2048 .f32) R := by
  funext l
  show V m c main_arg2 (((cfg0.win 2).blk t).view.emb (ValueIdx.ix2 r l)) = _
  rw [V_main_arg2]
  refine congrArg _ (ext2 ?_ ?_)
  · show _ = R.val
    rw [h]
    blk_simp [idx t]
    exact congrArg (· + _) (Nat.mul_comm _ _)
  · blk_simp [idx t]

theorem row_1 (t : Fin cfg0.N) : row (iblk m c 1 t : FVec Ideal S1x2048 .f32) 0 = row (m (c.tc.loc main_arg1) : FVec Ideal S1x2048 .f32) 0 := by
  funext l
  show V m c main_arg1 (((cfg0.win 1).blk t).view.emb (ValueIdx.ix2 0 l)) = _
  rw [V_main_arg1]
  refine congrArg _ (ext2 ?_ ?_) <;> blk_simp [idx t]

theorem dx_block (t : Fin cfg0.N) (y : S384x2048.Idx) :
    dx (iblk m c 0 t : FVec Ideal S384x2048 .f32) (iblk m c 2 t : FVec Ideal S384x2048 .f32) (iblk m c 1 t : FVec Ideal S1x2048 .f32) y
      = dx (m (c.tc.loc main_arg0) : FVec Ideal S4224x2048 .f32) (m (c.tc.loc main_arg2) : FVec Ideal S4224x2048 .f32) (m (c.tc.loc main_arg1) : FVec Ideal S1x2048 .f32) (((cfg0.win 3).blk t).view.emb y) := by
  have hR : (((cfg0.win 3).blk t).view.emb y 0).val = 384 * t.val + (y 0).val := by
    blk_simp [idx t]
    exact congrArg (· + _) (Nat.mul_comm _ _)
  have hl : ((cfg0.win 3).blk t).view.emb y 1 = y 1 := Fin.ext (by blk_simp [idx t])
  unfold dx
  rw [row_0 m c t _ _ hR, row_2 m c t _ _ hR, row_1, hl]

theorem dx_arr : (dats m 0 c).arrAt 3 cfg0.N = fun j => dx (m (c.tc.loc main_arg0) : FVec Ideal S4224x2048 .f32) (m (c.tc.loc main_arg2) : FVec Ideal S4224x2048 .f32) (m (c.tc.loc main_arg1) : FVec Ideal S1x2048 .f32) j := by
  refine (dats m 0 c).arrAt_eq_of_covers 3 _ (by decide +kernel) fun t hf y => ?_
  show (dats m 0 c).after 3 t y = dx _ _ _ (((cfg0.win 3).blk t).view.emb y)
  rw [after0_3, ← dx_block, ← pay4_apply]
  by_cases h0 : t.val % 11 = 0
  · rw [outsAt0_A m c t h0]
    dsimp only
    rw [out_A_3]
  · rw [outsAt0_B m c t h0]
    dsimp only
    rw [out_B_3]

theorem dg_point (t : Fin cfg0.N) (j : S1x2048.Idx) : dg (iblk m c 0 t : FVec Ideal S384x2048 .f32) (iblk m c 2 t : FVec Ideal S384x2048 .f32) j
    = ∑ l ∈ Finset.range 384, dgAt (m (c.tc.loc main_arg0) : FVec Ideal S4224x2048 .f32) (m (c.tc.loc main_arg2) : FVec Ideal S4224x2048 .f32) (j 1) (384 * t.val + l) := by
  have ht : t.val < 11 := t.isLt
  exact dg_block _ _ _ _ (384 * t.val) (by omega) (fun r => row_0 m c t r _ rfl) (fun r => row_2 m c t r _ rfl) j

theorem gathered (j : S1x2048.Idx) : ∀ t (h : t < cfg0.N), (outsAt0 m c t h).2 j
    = ∑ l ∈ Finset.range (384 * (t + 1)), dgAt (m (c.tc.loc main_arg0) : FVec Ideal S4224x2048 .f32) (m (c.tc.loc main_arg2) : FVec Ideal S4224x2048 .f32) (j 1) l := by
  refine gather _ 384 cfg0.N (fun t h => (outsAt0 m c t h).2 j) (fun h => ?_) fun t h => ?_
  · rw [outsAt0_A m c ⟨0, h⟩ rfl]
    dsimp only
    rw [out_A_4, dg_point]
  · have h11 : t + 1 < 11 := h
    rw [outsAt0_B m c ⟨t + 1, h⟩ (show ¬(t + 1) % 11 = 0 by omega)]
    dsimp only
    rw [out_B_4, dg_point]
    rfl

theorem last : ∀ t : Fin cfg0.N, (cfg0.win 4).flush t = true → t.val = 10 := (by decide +kernel : ∀ t : Fin grid0.N, _)

theorem dg_arr : (dats m 0 c).arrAt 4 cfg0.N = dg (m (c.tc.loc main_arg0) : FVec Ideal S4224x2048 .f32) (m (c.tc.loc main_arg2) : FVec Ideal S4224x2048 .f32) := by
  refine (dats m 0 c).arrAt_eq_of_covers 4 _ (by decide +kernel) fun t hf y => ?_
  show (dats m 0 c).after 4 t y = dg _ _ (((cfg0.win 4).blk t).view.emb y)
  have e : ((cfg0.win 4).blk t).view.emb y = y := by refine ext2 ?_ ?_ <;> blk_simp [idx t]
  rw [after0_4, gathered, dg_eq, e, last t hf]

end Cert.NormIdeal.Ffn

end
-- ==== Proof.Ffn.NormRef.lean ====
/- The gradient of a norm as the reference computes it, entry by entry. -/
module

public import proofs.«01_k».proof.Proof.Gen.NormResReferenceIdeal.Run
public import proofs.«01_k».proof.Proof.Ffn.NormRow

@[expose] public section

set_option maxRecDepth 16384

noncomputable section

namespace Cert.NormResReferenceIdeal.Ffn

open Idealize.ShloMosaic Idealize.ShloMosaic.TcCoe Idealize.ShloMosaic.Tactic
open Cert.NormResReferenceIdeal Cert.NormResReferenceIdeal.Gen Cert.Ffn

variable (x d : FVec Ideal S4224x2048 .f32) (g : FVec Ideal S1x2048 .f32)

/-- The mean of the squares of each row, made a little larger. -/
def mean : FVec Ideal S4224x1 .f32 :=
  addf (Host.divf (broadcastInDim S4224x1 ![0] bcast_S4224_S4224x1_0 (Host.reduceAdd (mulf x x) (constant S_ .f32 0x00000000#32) reducesTo_S4224x2048_S4224_d1 h_S_))
    (broadcastInDim S4224x1 ![] bcast_S_S4224x1 (constant S_ .f32 0x45000000#32))) (broadcastInDim S4224x1 ![] bcast_S_S4224x1 (constant S_ .f32 0x358637BD#32))

theorem mean_apply (j : S4224x1.Idx) : mean x j = msq (row x (j 0)) := by
  unfold mean
  idx_vars j
  pointwise
  rfl

/-- The gradient at the norm's output, scaled. -/
def scaled : FVec Ideal S4224x2048 .f32 := mulf d (broadcastInDim S4224x2048 ![0, 1] bcast_S1x2048_S4224x2048_0_1 g)

/-- The part of the gradient that goes around the root. -/
def direct : FVec Ideal S4224x2048 .f32 := mulf (scaled d g) (broadcastInDim S4224x2048 ![0, 1] bcast_S4224x1_S4224x2048_0_1 (Host.rsqrt (mean x)))

theorem direct_apply (j : S4224x2048.Idx) : direct x d g j = row d (j 0) (j 1) * row g 0 (j 1) * rs (row x (j 0)) := by
  unfold direct scaled
  idx_vars j
  pointwise
  simp only [mean_apply]
  rfl

/-- Half of what comes through the root, but for the row's own entry. -/
def root : FVec Ideal S4224 .f32 :=
  Host.reduceAdd (Host.divf (mulf (shapeCast _ (Host.reduceAdd (mulf x (scaled d g)) (constant S_ .f32 0x00000000#32) reducesTo_S4224x2048_S4224_d1 h_S_) shapeCasts_S4224_S4224x1)
      (mulf (broadcastInDim S4224x1 ![] bcast_S_S4224x1 (constant S_ .f32 0xBF000000#32)) (Host.divf (Host.rsqrt (mean x)) (mean x))))
    (broadcastInDim S4224x1 ![] bcast_S_S4224x1 (constant S_ .f32 0x45000000#32))) (constant S_ .f32 0x00000000#32) reducesTo_S4224x1_S4224_d1 h_S_

theorem root_apply (j : S4224.Idx) : root x d g j = half (row x (j 0)) (fun l => row d (j 0) l * row g 0 l) := by
  unfold root scaled
  idx_vars j
  pointwise
  simp only [mean_apply]
  exact (Fin.sum_univ_one _).trans rfl

/-- The three parts of the gradient together. -/
theorem parts (j : S4224x2048.Idx) (e : EReal) :
    e + direct x d g j + x j * (broadcastInDim S4224x2048 ![0] bcast_S4224_S4224x2048_0 (root x d g) : FVec Ideal S4224x2048 .f32) j
      + (broadcastInDim S4224x2048 ![0] bcast_S4224_S4224x2048_0 (root x d g) : FVec Ideal S4224x2048 .f32) j * x j = dx x d g j + e := by
  have turn : ∀ p q r : EReal, e + p + q + r = p + q + r + e := fun p q r => by ac_rfl
  idx_vars j
  refine (turn _ _ _).trans (congrArg (fun u : EReal => u + e) (Eq.trans ?_ (down_eq (row x j0) (fun l => row d j0 l * row g 0 l) j1).symm))
  pointwise
  simp only [root_apply, direct_apply]
  rfl

/-- The gradient of the scale. -/
def scale : FVec Ideal S1x2048 .f32 :=
  shapeCast _ (Host.reduceAdd (mulf (mulf x (broadcastInDim S4224x2048 ![0, 1] bcast_S4224x1_S4224x2048_0_1 (Host.rsqrt (mean x)))) d) (constant S_ .f32 0x00000000#32) reducesTo_S4224x2048_S2048_d0 h_S_) shapeCasts_S2048_S1x2048

theorem scale_eq : scale x d = dg x d := by
  funext j
  unfold scale dg
  idx_vars j
  pointwise
  simp only [mean_apply]
  refine Finset.sum_congr (M := EReal) rfl fun r _ => ?_
  exact (mul_right_comm _ _ _).trans (congrArg (fun u : EReal => u * _) (mul_comm _ _))

end Cert.NormResReferenceIdeal.Ffn

end
-- ==== Proof.Ffn.NormPair.lean ====
/- The gradient of a norm, of the kernel and of the reference, equal. -/
module

public import proofs.«01_k».proof.Defs
public import proofs.«01_k».proof.Proof.Ffn.Norm
public import proofs.«01_k».proof.Proof.Ffn.NormRef
public import proofs.«01_k».proof.Proof.Gen.Norm
public import proofs.«01_k».proof.Proof.Gen.NormReferenceIdeal.Run
public import Idealize.ShloMosaic.Lib.Claim

@[expose] public section

set_option maxRecDepth 16384
set_option maxHeartbeats 1600000

noncomputable section

namespace Cert.Proof.Norm

open Idealize.ShloMosaic Idealize.ShloMosaic.TcCoe Idealize.SL.Sem

section
open Cert.NormReferenceIdeal Cert.NormReferenceIdeal.Gen Cert.NormResReferenceIdeal.Ffn
/-- The reference's gradient of the input. -/
theorem dx_eq (x d : FVec Ideal S4224x2048 .f32) (g : FVec Ideal S1x2048 .f32) :
    (truncf .bf16 (addf (addf (direct x d g) (mulf x (broadcastInDim S4224x2048 ![0] bcast_S4224_S4224x2048_0 (root x d g))))
      (mulf (broadcastInDim S4224x2048 ![0] bcast_S4224_S4224x2048_0 (root x d g)) x)) bitsLt_bf16_f32 : FVec Ideal S4224x2048 .bf16)
      = fun j => Cert.Ffn.dx x d g j := by
  funext j
  have h := parts x d g j 0
  rw [zero_add, add_zero] at h
  exact h

/-- The reference's run, its two results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = (fun j => Cert.Ffn.dx (m ((c.tc : Thread nD τ).loc main_arg0) : FVec Ideal S4224x2048 .f32) (m ((c.tc : Thread nD τ).loc main_arg2) : FVec Ideal S4224x2048 .f32) (m ((c.tc : Thread nD τ).loc main_arg1) : FVec Ideal S1x2048 .f32) j)
      ∧ r.2.mem ((c.tc : Thread nD τ).loc main_v17) = Cert.Ffn.dg (m ((c.tc : Thread nD τ).loc main_arg0) : FVec Ideal S4224x2048 .f32) (m ((c.tc : Thread nD τ).loc main_arg2) : FVec Ideal S4224x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Cert.NormReferenceIdeal.Value.run m ρ) fun r h c => ⟨(h c).1.trans (dx_eq (m ((c.tc : Thread nD τ).loc main_arg0)) (m ((c.tc : Thread nD τ).loc main_arg2)) (m ((c.tc : Thread nD τ).loc main_arg1))), (h c).2.1.trans (scale_eq (m ((c.tc : Thread nD τ).loc main_arg0)) (m ((c.tc : Thread nD τ).loc main_arg2))), (h c).2.2⟩
end

theorem algebraic : Cert.algebraic_NormIdeal_NormReferenceIdeal := by
  pair_intro
  · run_from (Cert.NormIdeal.Value.run_blocks m g)
  · run_from (run_entries m' g')
    · rw [Cert.NormIdeal.Ffn.dx_arr]
    · rw [Cert.NormIdeal.Ffn.dg_arr]

theorem frame_ideal : Cert.quiescent_NormIdeal := fun m g _ => Cert.NormIdeal.Gen.frame m g

theorem defs₀_eq : @Cert.Norm.defs₀ Bits _ Cert.Norm.Gen.facts = @Cert.NormIdeal.defs₀ Bits _ Cert.NormIdeal.Gen.facts := by
  unfold Cert.Norm.defs₀ Cert.NormIdeal.defs₀
  refine congrArg Defs.onTc ?_
  funext n a
  match n, a with
  | 0, (t, s) => rfl
  | ⟨_ + 1, h⟩, _ => exact absurd h (Nat.not_lt.2 (Nat.le_add_left _ _))

theorem defs_eq : @Cert.Norm.defs Bits _ Cert.Norm.Gen.facts = @Cert.NormIdeal.defs Bits _ Cert.NormIdeal.Gen.facts :=
  congrArg (Pipeline.defs Cert.Norm.pcfgs) defs₀_eq

theorem main_eq : @Cert.Norm.main Bits _ = @Cert.NormIdeal.main Bits _ := rfl

theorem frame : Cert.quiescent_Norm := by
  intro m g _
  rw [defs_eq, main_eq]
  exact (θ_run Cert.NormIdeal.defs _ _).mono (fun _ h => h) (Cert.NormIdeal.Gen.frame (F := Bits) m g)

theorem frame_reference : Cert.quiescent_NormReferenceIdeal := by
  intro m g _
  refine (θ_run Cert.NormReferenceIdeal.defs _ _).mono (fun r h => ⟨fun c => (h c).2.2, Idealize.ShloMosaic.sem_eq_zero_of_no_sems (by decide) r.2⟩) (Cert.NormReferenceIdeal.Value.run m g)

end Cert.Proof.Norm

end
-- ==== Proof.Ffn.NormResPair.lean ====
/- The gradient of a norm whose input is carried on, of the kernel and of the reference, equal. -/
module

public import proofs.«01_k».proof.Defs
public import proofs.«01_k».proof.Proof.Ffn.NormRes
public import proofs.«01_k».proof.Proof.Ffn.NormRef
public import proofs.«01_k».proof.Proof.Gen.NormRes
public import proofs.«01_k».proof.Proof.Gen.NormResReferenceIdeal.Run
public import Idealize.ShloMosaic.Lib.Claim

@[expose] public section

set_option maxRecDepth 16384
set_option maxHeartbeats 1600000

noncomputable section

namespace Cert.Proof.NormRes

open Idealize.ShloMosaic Idealize.ShloMosaic.TcCoe Idealize.SL.Sem

section
open Cert.NormResReferenceIdeal Cert.NormResReferenceIdeal.Gen Cert.NormResReferenceIdeal.Ffn
/-- The reference's gradient of the input, with the one that came around the norm. -/
theorem dx_eq (x d e : FVec Ideal S4224x2048 .f32) (g : FVec Ideal S1x2048 .f32) :
    (addf (addf (addf e (direct x d g)) (mulf x (broadcastInDim S4224x2048 ![0] bcast_S4224_S4224x2048_0 (root x d g))))
      (mulf (broadcastInDim S4224x2048 ![0] bcast_S4224_S4224x2048_0 (root x d g)) x) : FVec Ideal S4224x2048 .f32)
      = fun j => Cert.Ffn.dx x d g j + e j :=
  funext fun j => parts x d g j (e j)

/-- The reference's run, its two results entry by entry. -/
theorem run_entries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = (fun j => Cert.Ffn.dx (m ((c.tc : Thread nD τ).loc main_arg0) : FVec Ideal S4224x2048 .f32) (m ((c.tc : Thread nD τ).loc main_arg2) : FVec Ideal S4224x2048 .f32) (m ((c.tc : Thread nD τ).loc main_arg1) : FVec Ideal S1x2048 .f32) j + (m ((c.tc : Thread nD τ).loc main_arg3) : FVec Ideal S4224x2048 .f32) j)
      ∧ r.2.mem ((c.tc : Thread nD τ).loc main_v17) = Cert.Ffn.dg (m ((c.tc : Thread nD τ).loc main_arg0) : FVec Ideal S4224x2048 .f32) (m ((c.tc : Thread nD τ).loc main_arg2) : FVec Ideal S4224x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Cert.NormResReferenceIdeal.Value.run m ρ) fun r h c => ⟨(h c).1.trans (dx_eq (m ((c.tc : Thread nD τ).loc main_arg0)) (m ((c.tc : Thread nD τ).loc main_arg2)) (m ((c.tc : Thread nD τ).loc main_arg3)) (m ((c.tc : Thread nD τ).loc main_arg1))), (h c).2.1.trans (scale_eq (m ((c.tc : Thread nD τ).loc main_arg0)) (m ((c.tc : Thread nD τ).loc main_arg2))), (h c).2.2⟩
end

theorem algebraic : Cert.algebraic_NormResIdeal_NormResReferenceIdeal := by
  pair_intro
  · run_from (Cert.NormResIdeal.Value.run_blocks m g)
  · run_from (run_entries m' g')
    · rw [Cert.NormResIdeal.Ffn.dx_arr]
    · rw [Cert.NormResIdeal.Ffn.dg_arr]

theorem frame_ideal : Cert.quiescent_NormResIdeal := fun m g _ => Cert.NormResIdeal.Gen.frame m g

theorem defs₀_eq : @Cert.NormRes.defs₀ Bits _ Cert.NormRes.Gen.facts = @Cert.NormResIdeal.defs₀ Bits _ Cert.NormResIdeal.Gen.facts := by
  unfold Cert.NormRes.defs₀ Cert.NormResIdeal.defs₀
  refine congrArg Defs.onTc ?_
  funext n a
  match n, a with
  | 0, (t, s) => rfl
  | ⟨_ + 1, h⟩, _ => exact absurd h (Nat.not_lt.2 (Nat.le_add_left _ _))

theorem defs_eq : @Cert.NormRes.defs Bits _ Cert.NormRes.Gen.facts = @Cert.NormResIdeal.defs Bits _ Cert.NormResIdeal.Gen.facts :=
  congrArg (Pipeline.defs Cert.NormRes.pcfgs) defs₀_eq

theorem main_eq : @Cert.NormRes.main Bits _ = @Cert.NormResIdeal.main Bits _ := rfl

theorem frame : Cert.quiescent_NormRes := by
  intro m g _
  rw [defs_eq, main_eq]
  exact (θ_run Cert.NormResIdeal.defs _ _).mono (fun _ h => h) (Cert.NormResIdeal.Gen.frame (F := Bits) m g)

theorem frame_reference : Cert.quiescent_NormResReferenceIdeal := by
  intro m g _
  refine (θ_run Cert.NormResReferenceIdeal.defs _ _).mono (fun r h => ⟨fun c => (h c).2.2, Idealize.ShloMosaic.sem_eq_zero_of_no_sems (by decide) r.2⟩) (Cert.NormResReferenceIdeal.Value.run m g)

end Cert.Proof.NormRes

end
-- ==== Proof.lean ====
/- The proof of the claim: the frames, that the idealization rewrites nothing, and the equality of the gradients of the attention, of the
   feed-forward block and of the norms, and of the products with the weights. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic
public import proofs.«01_k».proof.Proof.Gen.Gate
public import proofs.«01_k».proof.Proof.Gen.GateIdeal
public import proofs.«01_k».proof.Proof.Gen.GateReferenceIdeal
public import proofs.«01_k».proof.Proof.Gen.Up
public import proofs.«01_k».proof.Proof.Gen.UpIdeal
public import proofs.«01_k».proof.Proof.Gen.UpReferenceIdeal
public import proofs.«01_k».proof.Proof.Gen.Weight
public import proofs.«01_k».proof.Proof.Gen.WeightIdeal
public import proofs.«01_k».proof.Proof.Gen.WeightReferenceIdeal
public import proofs.«01_k».proof.Proof.Gen.DownReferenceIdeal
public import proofs.«01_k».proof.Proof.Ffn.GatePair
public import proofs.«01_k».proof.Proof.Ffn.UpPair
public import proofs.«01_k».proof.Proof.Ffn.WeightPair
public import proofs.«01_k».proof.Proof.Ffn.WeightInPair
public import proofs.«01_k».proof.Proof.Ffn.WeightOutPair
public import proofs.«01_k».proof.Proof.Ffn.MergedPair
public import proofs.«01_k».proof.Proof.Ffn.BackInPair
public import proofs.«01_k».proof.Proof.Ffn.GluPair
public import proofs.«01_k».proof.Proof.Ffn.MmDownPair
public import proofs.«01_k».proof.Proof.Ffn.MmInPair
public import proofs.«01_k».proof.Proof.Ffn.MmOutPair
public import proofs.«01_k».proof.Proof.Ffn.NormPair
public import proofs.«01_k».proof.Proof.Ffn.NormResPair

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Gate.Gen.facts, Cert.GateIdeal.Gen.facts, Cert.GateReferenceIdeal.Gen.facts, Cert.Up.Gen.facts, Cert.UpIdeal.Gen.facts, Cert.UpReferenceIdeal.Gen.facts, Cert.Weight.Gen.facts, Cert.WeightIdeal.Gen.facts, Cert.WeightReferenceIdeal.Gen.facts, Cert.DownReferenceIdeal.Gen.facts,
  Cert.WeightIn.Gen.facts, Cert.WeightInIdeal.Gen.facts, Cert.WeightInReferenceIdeal.Gen.facts, Cert.WeightOut.Gen.facts, Cert.WeightOutIdeal.Gen.facts, Cert.WeightOutReferenceIdeal.Gen.facts, Cert.Merged.Gen.facts, Cert.MergedIdeal.Gen.facts, Cert.MergedReferenceIdeal.Gen.facts, Cert.BackIn.Gen.facts, Cert.BackInIdeal.Gen.facts, Cert.BackInReferenceIdeal.Gen.facts, Cert.Glu.Gen.facts, Cert.GluIdeal.Gen.facts, Cert.GluReferenceIdeal.Gen.facts, Cert.MmDown.Gen.facts, Cert.MmDownIdeal.Gen.facts, Cert.MmDownReferenceIdeal.Gen.facts, Cert.MmIn.Gen.facts, Cert.MmInIdeal.Gen.facts, Cert.MmInReferenceIdeal.Gen.facts, Cert.MmOut.Gen.facts, Cert.MmOutIdeal.Gen.facts, Cert.MmOutReferenceIdeal.Gen.facts, Cert.Norm.Gen.facts, Cert.NormIdeal.Gen.facts, Cert.NormReferenceIdeal.Gen.facts, Cert.NormRes.Gen.facts, Cert.NormResIdeal.Gen.facts, Cert.NormResReferenceIdeal.Gen.facts,
  facts_finite, Gate.facts_finite,
  frame_kernel, frame_kernelIdeal, fun m g _ => frame_kernelIdeal m g trivial, frame_reference, fun m g _ => frame_reference m g trivial,
  Gate.frame, Gate.frame_ideal, fun m g _ => Gate.frame_ideal m g trivial, Gate.frame_reference, fun m g _ => Gate.frame_reference m g trivial,
  Up.frame, Up.frame_ideal, Up.frame_reference, Weight.frame, Weight.frame_ideal, Weight.frame_up, Weight.frame_down,
  WeightIn.frame, WeightIn.frame_ideal, WeightIn.frame_reference, WeightOut.frame, WeightOut.frame_ideal, WeightOut.frame_reference, Merged.frame, Merged.frame_ideal, Merged.frame_reference, BackIn.frame, BackIn.frame_ideal, BackIn.frame_reference, Glu.frame, Glu.frame_ideal, Glu.frame_reference, MmDown.frame, MmDown.frame_ideal, MmDown.frame_reference, MmIn.frame, MmIn.frame_ideal, MmIn.frame_reference, MmOut.frame, MmOut.frame_ideal, MmOut.frame_reference, Norm.frame, Norm.frame_ideal, Norm.frame_reference, NormRes.frame, NormRes.frame_ideal, NormRes.frame_reference,
  trivial, algebraic, trivial, Gate.algebraic, trivial, Up.algebraic, trivial, Weight.algebraic, Weight.algebraic_down,
  trivial, WeightIn.algebraic, trivial, WeightOut.algebraic, trivial, Merged.algebraic, trivial, BackIn.algebraic, trivial, Glu.algebraic, trivial, MmDown.algebraic, trivial, MmIn.algebraic, trivial, MmOut.algebraic, trivial, Norm.algebraic, trivial, NormRes.algebraic⟩

end Cert.Proof

end
